-- ==== Defs.lean ====
def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnRefIdeal (m : (ℓ : Loc Cert.GdnRefIdeal.nD Cert.GdnRefIdeal.τ Cert.GdnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Zproj (m : (ℓ : Loc Cert.Zproj.nD Cert.Zproj.τ Cert.Zproj.sig) → Buf (Elt Bits) ℓ) : Prop :=
  True

def Pre_ZprojIdeal (m : (ℓ : Loc Cert.ZprojIdeal.nD Cert.ZprojIdeal.τ Cert.ZprojIdeal.sig) → Buf (Elt Ideal) ℓ) : Prop :=
  True

def Pre_ZprojRefIdeal (m : (ℓ : Loc Cert.ZprojRefIdeal.nD Cert.ZprojRefIdeal.τ Cert.ZprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Wina (m : (ℓ : Loc Cert.Wina.nD Cert.Wina.τ Cert.Wina.sig) → Buf (Elt Bits) ℓ) : Prop :=
  True

def Pre_WinaIdeal (m : (ℓ : Loc Cert.WinaIdeal.nD Cert.WinaIdeal.τ Cert.WinaIdeal.sig) → Buf (Elt Ideal) ℓ) : Prop :=
  True

def Pre_WinaRefIdeal (m : (ℓ : Loc Cert.WinaRefIdeal.nD Cert.WinaRefIdeal.τ Cert.WinaRefIdeal.sig) → Buf (Elt Ideal) ℓ) : Prop :=
  True

def Pre_Winb (m : (ℓ : Loc Cert.Winb.nD Cert.Winb.τ Cert.Winb.sig) → Buf (Elt Bits) ℓ) : Prop :=
  True

def Pre_WinbIdeal (m : (ℓ : Loc Cert.WinbIdeal.nD Cert.WinbIdeal.τ Cert.WinbIdeal.sig) → Buf (Elt Ideal) ℓ) : Prop :=
  True

def Pre_WinbRefIdeal (m : (ℓ : Loc Cert.WinbRefIdeal.nD Cert.WinbRefIdeal.τ Cert.WinbRefIdeal.sig) → Buf (Elt Ideal) ℓ) : Prop :=
  True

def Pre_Winc (m : (ℓ : Loc Cert.Winc.nD Cert.Winc.τ Cert.Winc.sig) → Buf (Elt Bits) ℓ) : Prop :=
  True

def Pre_WincIdeal (m : (ℓ : Loc Cert.WincIdeal.nD Cert.WincIdeal.τ Cert.WincIdeal.sig) → Buf (Elt Ideal) ℓ) : Prop :=
  True

def Pre_WincRefIdeal (m : (ℓ : Loc Cert.WincRefIdeal.nD Cert.WincRefIdeal.τ Cert.WincRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_first_scores [hPre_first_scores : Cert.Pre_first_scores.Facts] (m : (ℓ : Loc Cert.SwaIdeal.nD Cert.SwaIdeal.τ Cert.SwaIdeal.sig) → Buf (Elt Ideal) ℓ) : Prop :=
  ∀ c : Dev Cert.SwaIdeal.nD,
    (Cert.Pre_first_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7)) (m ((c.tc : Thread Cert.SwaIdeal.nD Cert.SwaIdeal.τ).loc Cert.SwaIdeal.main_arg8)) (m ((c.tc : Thread Cert.SwaIdeal.nD Cert.SwaIdeal.τ).loc Cert.SwaIdeal.main_arg9))).1 = (fun _ => 1#1)
    ∧ (Cert.Pre_first_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7)) (m ((c.tc : Thread Cert.SwaIdeal.nD Cert.SwaIdeal.τ).loc Cert.SwaIdeal.main_arg8)) (m ((c.tc : Thread Cert.SwaIdeal.nD Cert.SwaIdeal.τ).loc Cert.SwaIdeal.main_arg9))).2.1 = (fun _ => 1#1)
    ∧ (Cert.Pre_first_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7)) (m ((c.tc : Thread Cert.SwaIdeal.nD Cert.SwaIdeal.τ).loc Cert.SwaIdeal.main_arg8)) (m ((c.tc : Thread Cert.SwaIdeal.nD Cert.SwaIdeal.τ).loc Cert.SwaIdeal.main_arg9))).2.2.1 = (fun _ => 1#1)
    ∧ (Cert.Pre_first_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7)) (m ((c.tc : Thread Cert.SwaIdeal.nD Cert.SwaIdeal.τ).loc Cert.SwaIdeal.main_arg8)) (m ((c.tc : Thread Cert.SwaIdeal.nD Cert.SwaIdeal.τ).loc Cert.SwaIdeal.main_arg9))).2.2.2.1 = (fun _ => 1#1)
    ∧ (Cert.Pre_first_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7)) (m ((c.tc : Thread Cert.SwaIdeal.nD Cert.SwaIdeal.τ).loc Cert.SwaIdeal.main_arg8)) (m ((c.tc : Thread Cert.SwaIdeal.nD Cert.SwaIdeal.τ).loc Cert.SwaIdeal.main_arg9))).2.2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_first_scores [hPre_first_scores : Cert.Pre_first_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_first_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7)) (m ((c.tc : Thread Cert.SwaRefIdeal.nD Cert.SwaRefIdeal.τ).loc Cert.SwaRefIdeal.main_arg8)) (m ((c.tc : Thread Cert.SwaRefIdeal.nD Cert.SwaRefIdeal.τ).loc Cert.SwaRefIdeal.main_arg9))).1 = (fun _ => 1#1)
    ∧ (Cert.Pre_first_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7)) (m ((c.tc : Thread Cert.SwaRefIdeal.nD Cert.SwaRefIdeal.τ).loc Cert.SwaRefIdeal.main_arg8)) (m ((c.tc : Thread Cert.SwaRefIdeal.nD Cert.SwaRefIdeal.τ).loc Cert.SwaRefIdeal.main_arg9))).2.1 = (fun _ => 1#1)
    ∧ (Cert.Pre_first_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7)) (m ((c.tc : Thread Cert.SwaRefIdeal.nD Cert.SwaRefIdeal.τ).loc Cert.SwaRefIdeal.main_arg8)) (m ((c.tc : Thread Cert.SwaRefIdeal.nD Cert.SwaRefIdeal.τ).loc Cert.SwaRefIdeal.main_arg9))).2.2.1 = (fun _ => 1#1)
    ∧ (Cert.Pre_first_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7)) (m ((c.tc : Thread Cert.SwaRefIdeal.nD Cert.SwaRefIdeal.τ).loc Cert.SwaRefIdeal.main_arg8)) (m ((c.tc : Thread Cert.SwaRefIdeal.nD Cert.SwaRefIdeal.τ).loc Cert.SwaRefIdeal.main_arg9))).2.2.2.1 = (fun _ => 1#1)
    ∧ (Cert.Pre_first_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7)) (m ((c.tc : Thread Cert.SwaRefIdeal.nD Cert.SwaRefIdeal.τ).loc Cert.SwaRefIdeal.main_arg8)) (m ((c.tc : Thread Cert.SwaRefIdeal.nD Cert.SwaRefIdeal.τ).loc Cert.SwaRefIdeal.main_arg9))).2.2.2.2 = (fun _ => 1#1)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6)
      ∧ r.2.mem ((c.tc : Thread Cert.GdnRefIdeal.nD Cert.GdnRefIdeal.τ).loc Cert.GdnRefIdeal.main_arg7) = m ((c.tc : Thread Cert.GdnRefIdeal.nD Cert.GdnRefIdeal.τ).loc Cert.GdnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Zproj [hZproj : Cert.Zproj.Facts] : Prop :=
  ∀ (m : (ℓ : Loc Cert.Zproj.nD Cert.Zproj.τ Cert.Zproj.sig) → Buf (Elt Bits) ℓ) (g : Dev Cert.Zproj.nD → PrngReg), Pre_Zproj m →
    θ_run (Cert.Zproj.defs (F := Bits)) (onTc (τ := Cert.Zproj.τ) (Cert.Zproj.main (F := Bits))) ⟨m, fun _ => 0, g⟩ (fun r => (∀ c : Dev Cert.Zproj.nD,
      r.2.mem ((c.tc : Thread Cert.Zproj.nD Cert.Zproj.τ).loc Cert.Zproj.main_arg0) = m ((c.tc : Thread Cert.Zproj.nD Cert.Zproj.τ).loc Cert.Zproj.main_arg0)
      ∧ r.2.mem ((c.tc : Thread Cert.Zproj.nD Cert.Zproj.τ).loc Cert.Zproj.main_arg1) = m ((c.tc : Thread Cert.Zproj.nD Cert.Zproj.τ).loc Cert.Zproj.main_arg1))
      ∧ r.2.sem = fun _ => 0)

def quiescent_ZprojIdeal [hZprojIdeal : Cert.ZprojIdeal.Facts] : Prop :=
  ∀ (m : (ℓ : Loc Cert.ZprojIdeal.nD Cert.ZprojIdeal.τ Cert.ZprojIdeal.sig) → Buf (Elt Ideal) ℓ) (g : Dev Cert.ZprojIdeal.nD → PrngReg), Pre_ZprojIdeal m →
    θ_run (Cert.ZprojIdeal.defs (F := Ideal)) (onTc (τ := Cert.ZprojIdeal.τ) (Cert.ZprojIdeal.main (F := Ideal))) ⟨m, fun _ => 0, g⟩ (fun r => (∀ c : Dev Cert.ZprojIdeal.nD,
      r.2.mem ((c.tc : Thread Cert.ZprojIdeal.nD Cert.ZprojIdeal.τ).loc Cert.ZprojIdeal.main_arg0) = m ((c.tc : Thread Cert.ZprojIdeal.nD Cert.ZprojIdeal.τ).loc Cert.ZprojIdeal.main_arg0)
      ∧ r.2.mem ((c.tc : Thread Cert.ZprojIdeal.nD Cert.ZprojIdeal.τ).loc Cert.ZprojIdeal.main_arg1) = m ((c.tc : Thread Cert.ZprojIdeal.nD Cert.ZprojIdeal.τ).loc Cert.ZprojIdeal.main_arg1))
      ∧ r.2.sem = fun _ => 0)

def quiescent_ZprojRefIdeal [hZprojRefIdeal : Cert.ZprojRefIdeal.Facts] : Prop :=
  ∀ (m : (ℓ : Loc Cert.ZprojRefIdeal.nD Cert.ZprojRefIdeal.τ Cert.ZprojRefIdeal.sig) → Buf (Elt Ideal) ℓ) (g : Dev Cert.ZprojRefIdeal.nD → PrngReg), Pre_ZprojRefIdeal m →
    θ_run (Cert.ZprojRefIdeal.defs (F := Ideal)) (onTc (τ := Cert.ZprojRefIdeal.τ) (Cert.ZprojRefIdeal.main (F := Ideal))) ⟨m, fun _ => 0, g⟩ (fun r => (∀ c : Dev Cert.ZprojRefIdeal.nD,
      r.2.mem ((c.tc : Thread Cert.ZprojRefIdeal.nD Cert.ZprojRefIdeal.τ).loc Cert.ZprojRefIdeal.main_arg0) = m ((c.tc : Thread Cert.ZprojRefIdeal.nD Cert.ZprojRefIdeal.τ).loc Cert.ZprojRefIdeal.main_arg0)
      ∧ r.2.mem ((c.tc : Thread Cert.ZprojRefIdeal.nD Cert.ZprojRefIdeal.τ).loc Cert.ZprojRefIdeal.main_arg1) = m ((c.tc : Thread Cert.ZprojRefIdeal.nD Cert.ZprojRefIdeal.τ).loc Cert.ZprojRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Wina [hWina : Cert.Wina.Facts] : Prop :=
  ∀ (m : (ℓ : Loc Cert.Wina.nD Cert.Wina.τ Cert.Wina.sig) → Buf (Elt Bits) ℓ) (g : Dev Cert.Wina.nD → PrngReg), Pre_Wina m →
    θ_run (Cert.Wina.defs (F := Bits)) (onTc (τ := Cert.Wina.τ) (Cert.Wina.main (F := Bits))) ⟨m, fun _ => 0, g⟩ (fun r => (∀ c : Dev Cert.Wina.nD,
      r.2.mem ((c.tc : Thread Cert.Wina.nD Cert.Wina.τ).loc Cert.Wina.main_arg0) = m ((c.tc : Thread Cert.Wina.nD Cert.Wina.τ).loc Cert.Wina.main_arg0)
      ∧ r.2.mem ((c.tc : Thread Cert.Wina.nD Cert.Wina.τ).loc Cert.Wina.main_arg1) = m ((c.tc : Thread Cert.Wina.nD Cert.Wina.τ).loc Cert.Wina.main_arg1))
      ∧ r.2.sem = fun _ => 0)

def quiescent_WinaIdeal [hWinaIdeal : Cert.WinaIdeal.Facts] : Prop :=
  ∀ (m : (ℓ : Loc Cert.WinaIdeal.nD Cert.WinaIdeal.τ Cert.WinaIdeal.sig) → Buf (Elt Ideal) ℓ) (g : Dev Cert.WinaIdeal.nD → PrngReg), Pre_WinaIdeal m →
    θ_run (Cert.WinaIdeal.defs (F := Ideal)) (onTc (τ := Cert.WinaIdeal.τ) (Cert.WinaIdeal.main (F := Ideal))) ⟨m, fun _ => 0, g⟩ (fun r => (∀ c : Dev Cert.WinaIdeal.nD,
      r.2.mem ((c.tc : Thread Cert.WinaIdeal.nD Cert.WinaIdeal.τ).loc Cert.WinaIdeal.main_arg0) = m ((c.tc : Thread Cert.WinaIdeal.nD Cert.WinaIdeal.τ).loc Cert.WinaIdeal.main_arg0)
      ∧ r.2.mem ((c.tc : Thread Cert.WinaIdeal.nD Cert.WinaIdeal.τ).loc Cert.WinaIdeal.main_arg1) = m ((c.tc : Thread Cert.WinaIdeal.nD Cert.WinaIdeal.τ).loc Cert.WinaIdeal.main_arg1))
      ∧ r.2.sem = fun _ => 0)

def quiescent_WinaRefIdeal [hWinaRefIdeal : Cert.WinaRefIdeal.Facts] : Prop :=
  ∀ (m : (ℓ : Loc Cert.WinaRefIdeal.nD Cert.WinaRefIdeal.τ Cert.WinaRefIdeal.sig) → Buf (Elt Ideal) ℓ) (g : Dev Cert.WinaRefIdeal.nD → PrngReg), Pre_WinaRefIdeal m →
    θ_run (Cert.WinaRefIdeal.defs (F := Ideal)) (onTc (τ := Cert.WinaRefIdeal.τ) (Cert.WinaRefIdeal.main (F := Ideal))) ⟨m, fun _ => 0, g⟩ (fun r => (∀ c : Dev Cert.WinaRefIdeal.nD,
      r.2.mem ((c.tc : Thread Cert.WinaRefIdeal.nD Cert.WinaRefIdeal.τ).loc Cert.WinaRefIdeal.main_arg0) = m ((c.tc : Thread Cert.WinaRefIdeal.nD Cert.WinaRefIdeal.τ).loc Cert.WinaRefIdeal.main_arg0)
      ∧ r.2.mem ((c.tc : Thread Cert.WinaRefIdeal.nD Cert.WinaRefIdeal.τ).loc Cert.WinaRefIdeal.main_arg1) = m ((c.tc : Thread Cert.WinaRefIdeal.nD Cert.WinaRefIdeal.τ).loc Cert.WinaRefIdeal.main_arg1))
      ∧ r.2.sem = fun _ => 0)

def quiescent_Winb [hWinb : Cert.Winb.Facts] : Prop :=
  ∀ (m : (ℓ : Loc Cert.Winb.nD Cert.Winb.τ Cert.Winb.sig) → Buf (Elt Bits) ℓ) (g : Dev Cert.Winb.nD → PrngReg), Pre_Winb m →
    θ_run (Cert.Winb.defs (F := Bits)) (onTc (τ := Cert.Winb.τ) (Cert.Winb.main (F := Bits))) ⟨m, fun _ => 0, g⟩ (fun r => (∀ c : Dev Cert.Winb.nD,
      r.2.mem ((c.tc : Thread Cert.Winb.nD Cert.Winb.τ).loc Cert.Winb.main_arg0) = m ((c.tc : Thread Cert.Winb.nD Cert.Winb.τ).loc Cert.Winb.main_arg0)
      ∧ r.2.mem ((c.tc : Thread Cert.Winb.nD Cert.Winb.τ).loc Cert.Winb.main_arg1) = m ((c.tc : Thread Cert.Winb.nD Cert.Winb.τ).loc Cert.Winb.main_arg1))
      ∧ r.2.sem = fun _ => 0)

def quiescent_WinbIdeal [hWinbIdeal : Cert.WinbIdeal.Facts] : Prop :=
  ∀ (m : (ℓ : Loc Cert.WinbIdeal.nD Cert.WinbIdeal.τ Cert.WinbIdeal.sig) → Buf (Elt Ideal) ℓ) (g : Dev Cert.WinbIdeal.nD → PrngReg), Pre_WinbIdeal m →
    θ_run (Cert.WinbIdeal.defs (F := Ideal)) (onTc (τ := Cert.WinbIdeal.τ) (Cert.WinbIdeal.main (F := Ideal))) ⟨m, fun _ => 0, g⟩ (fun r => (∀ c : Dev Cert.WinbIdeal.nD,
      r.2.mem ((c.tc : Thread Cert.WinbIdeal.nD Cert.WinbIdeal.τ).loc Cert.WinbIdeal.main_arg0) = m ((c.tc : Thread Cert.WinbIdeal.nD Cert.WinbIdeal.τ).loc Cert.WinbIdeal.main_arg0)
      ∧ r.2.mem ((c.tc : Thread Cert.WinbIdeal.nD Cert.WinbIdeal.τ).loc Cert.WinbIdeal.main_arg1) = m ((c.tc : Thread Cert.WinbIdeal.nD Cert.WinbIdeal.τ).loc Cert.WinbIdeal.main_arg1))
      ∧ r.2.sem = fun _ => 0)

def quiescent_WinbRefIdeal [hWinbRefIdeal : Cert.WinbRefIdeal.Facts] : Prop :=
  ∀ (m : (ℓ : Loc Cert.WinbRefIdeal.nD Cert.WinbRefIdeal.τ Cert.WinbRefIdeal.sig) → Buf (Elt Ideal) ℓ) (g : Dev Cert.WinbRefIdeal.nD → PrngReg), Pre_WinbRefIdeal m →
    θ_run (Cert.WinbRefIdeal.defs (F := Ideal)) (onTc (τ := Cert.WinbRefIdeal.τ) (Cert.WinbRefIdeal.main (F := Ideal))) ⟨m, fun _ => 0, g⟩ (fun r => (∀ c : Dev Cert.WinbRefIdeal.nD,
      r.2.mem ((c.tc : Thread Cert.WinbRefIdeal.nD Cert.WinbRefIdeal.τ).loc Cert.WinbRefIdeal.main_arg0) = m ((c.tc : Thread Cert.WinbRefIdeal.nD Cert.WinbRefIdeal.τ).loc Cert.WinbRefIdeal.main_arg0)
      ∧ r.2.mem ((c.tc : Thread Cert.WinbRefIdeal.nD Cert.WinbRefIdeal.τ).loc Cert.WinbRefIdeal.main_arg1) = m ((c.tc : Thread Cert.WinbRefIdeal.nD Cert.WinbRefIdeal.τ).loc Cert.WinbRefIdeal.main_arg1))
      ∧ r.2.sem = fun _ => 0)

def quiescent_Winc [hWinc : Cert.Winc.Facts] : Prop :=
  ∀ (m : (ℓ : Loc Cert.Winc.nD Cert.Winc.τ Cert.Winc.sig) → Buf (Elt Bits) ℓ) (g : Dev Cert.Winc.nD → PrngReg), Pre_Winc m →
    θ_run (Cert.Winc.defs (F := Bits)) (onTc (τ := Cert.Winc.τ) (Cert.Winc.main (F := Bits))) ⟨m, fun _ => 0, g⟩ (fun r => (∀ c : Dev Cert.Winc.nD,
      r.2.mem ((c.tc : Thread Cert.Winc.nD Cert.Winc.τ).loc Cert.Winc.main_arg0) = m ((c.tc : Thread Cert.Winc.nD Cert.Winc.τ).loc Cert.Winc.main_arg0)
      ∧ r.2.mem ((c.tc : Thread Cert.Winc.nD Cert.Winc.τ).loc Cert.Winc.main_arg1) = m ((c.tc : Thread Cert.Winc.nD Cert.Winc.τ).loc Cert.Winc.main_arg1))
      ∧ r.2.sem = fun _ => 0)

def quiescent_WincIdeal [hWincIdeal : Cert.WincIdeal.Facts] : Prop :=
  ∀ (m : (ℓ : Loc Cert.WincIdeal.nD Cert.WincIdeal.τ Cert.WincIdeal.sig) → Buf (Elt Ideal) ℓ) (g : Dev Cert.WincIdeal.nD → PrngReg), Pre_WincIdeal m →
    θ_run (Cert.WincIdeal.defs (F := Ideal)) (onTc (τ := Cert.WincIdeal.τ) (Cert.WincIdeal.main (F := Ideal))) ⟨m, fun _ => 0, g⟩ (fun r => (∀ c : Dev Cert.WincIdeal.nD,
      r.2.mem ((c.tc : Thread Cert.WincIdeal.nD Cert.WincIdeal.τ).loc Cert.WincIdeal.main_arg0) = m ((c.tc : Thread Cert.WincIdeal.nD Cert.WincIdeal.τ).loc Cert.WincIdeal.main_arg0)
      ∧ r.2.mem ((c.tc : Thread Cert.WincIdeal.nD Cert.WincIdeal.τ).loc Cert.WincIdeal.main_arg1) = m ((c.tc : Thread Cert.WincIdeal.nD Cert.WincIdeal.τ).loc Cert.WincIdeal.main_arg1))
      ∧ r.2.sem = fun _ => 0)

def quiescent_WincRefIdeal [hWincRefIdeal : Cert.WincRefIdeal.Facts] : Prop :=
  ∀ (m : (ℓ : Loc Cert.WincRefIdeal.nD Cert.WincRefIdeal.τ Cert.WincRefIdeal.sig) → Buf (Elt Ideal) ℓ) (g : Dev Cert.WincRefIdeal.nD → PrngReg), Pre_WincRefIdeal m →
    θ_run (Cert.WincRefIdeal.defs (F := Ideal)) (onTc (τ := Cert.WincRefIdeal.τ) (Cert.WincRefIdeal.main (F := Ideal))) ⟨m, fun _ => 0, g⟩ (fun r => (∀ c : Dev Cert.WincRefIdeal.nD,
      r.2.mem ((c.tc : Thread Cert.WincRefIdeal.nD Cert.WincRefIdeal.τ).loc Cert.WincRefIdeal.main_arg0) = m ((c.tc : Thread Cert.WincRefIdeal.nD Cert.WincRefIdeal.τ).loc Cert.WincRefIdeal.main_arg0)
      ∧ r.2.mem ((c.tc : Thread Cert.WincRefIdeal.nD Cert.WincRefIdeal.τ).loc Cert.WincRefIdeal.main_arg1) = m ((c.tc : Thread Cert.WincRefIdeal.nD Cert.WincRefIdeal.τ).loc Cert.WincRefIdeal.main_arg1))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6)
      ∧ r.2.mem ((c.tc : Thread Cert.Swa.nD Cert.Swa.τ).loc Cert.Swa.main_arg7) = m ((c.tc : Thread Cert.Swa.nD Cert.Swa.τ).loc Cert.Swa.main_arg7)
      ∧ r.2.mem ((c.tc : Thread Cert.Swa.nD Cert.Swa.τ).loc Cert.Swa.main_arg8) = m ((c.tc : Thread Cert.Swa.nD Cert.Swa.τ).loc Cert.Swa.main_arg8)
      ∧ r.2.mem ((c.tc : Thread Cert.Swa.nD Cert.Swa.τ).loc Cert.Swa.main_arg9) = m ((c.tc : Thread Cert.Swa.nD Cert.Swa.τ).loc Cert.Swa.main_arg9))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7)
      ∧ r.2.mem ((c.tc : Thread Cert.SwaIdeal.nD Cert.SwaIdeal.τ).loc Cert.SwaIdeal.main_arg8) = m ((c.tc : Thread Cert.SwaIdeal.nD Cert.SwaIdeal.τ).loc Cert.SwaIdeal.main_arg8)
      ∧ r.2.mem ((c.tc : Thread Cert.SwaIdeal.nD Cert.SwaIdeal.τ).loc Cert.SwaIdeal.main_arg9) = m ((c.tc : Thread Cert.SwaIdeal.nD Cert.SwaIdeal.τ).loc Cert.SwaIdeal.main_arg9))
      ∧ r.2.sem = fun _ => 0)

def quiescent_SwaIdeal_pre_first_scores [hSwaIdeal : Cert.SwaIdeal.Facts] [hPre_first_scores : Cert.Pre_first_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_first_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7)
      ∧ r.2.mem ((c.tc : Thread Cert.SwaIdeal.nD Cert.SwaIdeal.τ).loc Cert.SwaIdeal.main_arg8) = m ((c.tc : Thread Cert.SwaIdeal.nD Cert.SwaIdeal.τ).loc Cert.SwaIdeal.main_arg8)
      ∧ r.2.mem ((c.tc : Thread Cert.SwaIdeal.nD Cert.SwaIdeal.τ).loc Cert.SwaIdeal.main_arg9) = m ((c.tc : Thread Cert.SwaIdeal.nD Cert.SwaIdeal.τ).loc Cert.SwaIdeal.main_arg9))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6)
      ∧ r.2.mem ((c.tc : Thread Cert.SwaRefIdeal.nD Cert.SwaRefIdeal.τ).loc Cert.SwaRefIdeal.main_arg7) = m ((c.tc : Thread Cert.SwaRefIdeal.nD Cert.SwaRefIdeal.τ).loc Cert.SwaRefIdeal.main_arg7)
      ∧ r.2.mem ((c.tc : Thread Cert.SwaRefIdeal.nD Cert.SwaRefIdeal.τ).loc Cert.SwaRefIdeal.main_arg8) = m ((c.tc : Thread Cert.SwaRefIdeal.nD Cert.SwaRefIdeal.τ).loc Cert.SwaRefIdeal.main_arg8)
      ∧ r.2.mem ((c.tc : Thread Cert.SwaRefIdeal.nD Cert.SwaRefIdeal.τ).loc Cert.SwaRefIdeal.main_arg9) = m ((c.tc : Thread Cert.SwaRefIdeal.nD Cert.SwaRefIdeal.τ).loc Cert.SwaRefIdeal.main_arg9))
      ∧ r.2.sem = fun _ => 0)

def quiescent_SwaRefIdeal_pre_first_scores [hSwaRefIdeal : Cert.SwaRefIdeal.Facts] [hPre_first_scores : Cert.Pre_first_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_first_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6)
      ∧ r.2.mem ((c.tc : Thread Cert.SwaRefIdeal.nD Cert.SwaRefIdeal.τ).loc Cert.SwaRefIdeal.main_arg7) = m ((c.tc : Thread Cert.SwaRefIdeal.nD Cert.SwaRefIdeal.τ).loc Cert.SwaRefIdeal.main_arg7)
      ∧ r.2.mem ((c.tc : Thread Cert.SwaRefIdeal.nD Cert.SwaRefIdeal.τ).loc Cert.SwaRefIdeal.main_arg8) = m ((c.tc : Thread Cert.SwaRefIdeal.nD Cert.SwaRefIdeal.τ).loc Cert.SwaRefIdeal.main_arg8)
      ∧ r.2.mem ((c.tc : Thread Cert.SwaRefIdeal.nD Cert.SwaRefIdeal.τ).loc Cert.SwaRefIdeal.main_arg9) = m ((c.tc : Thread Cert.SwaRefIdeal.nD Cert.SwaRefIdeal.τ).loc Cert.SwaRefIdeal.main_arg9))
      ∧ r.2.sem = fun _ => 0)

def preserves_Gdn_GdnIdeal : Prop :=
  True

def algebraic_GdnIdeal_GdnRefIdeal [hGdnIdeal : Cert.GdnIdeal.Facts] [hGdnRefIdeal : Cert.GdnRefIdeal.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)
      ∧ m' ((c.tc : Thread Cert.GdnRefIdeal.nD Cert.GdnRefIdeal.τ).loc Cert.GdnRefIdeal.main_arg5) = m ((c.tc : Thread Cert.GdnIdeal.nD Cert.GdnIdeal.τ).loc Cert.GdnIdeal.main_arg5)
      ∧ m' ((c.tc : Thread Cert.GdnRefIdeal.nD Cert.GdnRefIdeal.τ).loc Cert.GdnRefIdeal.main_arg6) = m ((c.tc : Thread Cert.GdnIdeal.nD Cert.GdnIdeal.τ).loc Cert.GdnIdeal.main_arg6)
      ∧ m' ((c.tc : Thread Cert.GdnRefIdeal.nD Cert.GdnRefIdeal.τ).loc Cert.GdnRefIdeal.main_arg7) = m ((c.tc : Thread Cert.GdnIdeal.nD Cert.GdnIdeal.τ).loc Cert.GdnIdeal.main_arg7)) →
    ∃ (v0 : (c : Dev Cert.GdnIdeal.nD) → Buf (Elt Ideal) ((c.tc : Thread Cert.GdnIdeal.nD Cert.GdnIdeal.τ).loc Cert.GdnIdeal.main_v8_0)) (v1 : (c : Dev Cert.GdnIdeal.nD) → Buf (Elt Ideal) ((c.tc : Thread Cert.GdnIdeal.nD Cert.GdnIdeal.τ).loc Cert.GdnIdeal.main_v8_1)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v8_0) = v0 c
          ∧ r.2.mem ((c.tc : Thread Cert.GdnIdeal.nD Cert.GdnIdeal.τ).loc Cert.GdnIdeal.main_v8_1) = v1 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
          ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
          ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v199) = v0 c
          ∧ r.2.mem ((c.tc : Thread Cert.GdnRefIdeal.nD Cert.GdnRefIdeal.τ).loc Cert.GdnRefIdeal.main_v202) = v1 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4)
          ∧ r.2.mem ((c.tc : Thread Cert.GdnRefIdeal.nD Cert.GdnRefIdeal.τ).loc Cert.GdnRefIdeal.main_arg5) = m' ((c.tc : Thread Cert.GdnRefIdeal.nD Cert.GdnRefIdeal.τ).loc Cert.GdnRefIdeal.main_arg5)
          ∧ r.2.mem ((c.tc : Thread Cert.GdnRefIdeal.nD Cert.GdnRefIdeal.τ).loc Cert.GdnRefIdeal.main_arg6) = m' ((c.tc : Thread Cert.GdnRefIdeal.nD Cert.GdnRefIdeal.τ).loc Cert.GdnRefIdeal.main_arg6)
          ∧ r.2.mem ((c.tc : Thread Cert.GdnRefIdeal.nD Cert.GdnRefIdeal.τ).loc Cert.GdnRefIdeal.main_arg7) = m' ((c.tc : Thread Cert.GdnRefIdeal.nD Cert.GdnRefIdeal.τ).loc Cert.GdnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Zproj_ZprojIdeal : Prop :=
  True

def algebraic_ZprojIdeal_ZprojRefIdeal [hZprojIdeal : Cert.ZprojIdeal.Facts] [hZprojRefIdeal : Cert.ZprojRefIdeal.Facts] : Prop :=
  ∀ (m : (ℓ : Loc Cert.ZprojIdeal.nD Cert.ZprojIdeal.τ Cert.ZprojIdeal.sig) → Buf (Elt Ideal) ℓ) (g : Dev Cert.ZprojIdeal.nD → PrngReg)
    (m' : (ℓ : Loc Cert.ZprojRefIdeal.nD Cert.ZprojRefIdeal.τ Cert.ZprojRefIdeal.sig) → Buf (Elt Ideal) ℓ) (g' : Dev Cert.ZprojRefIdeal.nD → PrngReg), Pre_ZprojIdeal m →
    (∀ c : Dev Cert.ZprojIdeal.nD,
      m' ((c.tc : Thread Cert.ZprojRefIdeal.nD Cert.ZprojRefIdeal.τ).loc Cert.ZprojRefIdeal.main_arg0) = m ((c.tc : Thread Cert.ZprojIdeal.nD Cert.ZprojIdeal.τ).loc Cert.ZprojIdeal.main_arg0)
      ∧ m' ((c.tc : Thread Cert.ZprojRefIdeal.nD Cert.ZprojRefIdeal.τ).loc Cert.ZprojRefIdeal.main_arg1) = m ((c.tc : Thread Cert.ZprojIdeal.nD Cert.ZprojIdeal.τ).loc Cert.ZprojIdeal.main_arg1)) →
    ∃ (v0 : (c : Dev Cert.ZprojIdeal.nD) → Buf (Elt Ideal) ((c.tc : Thread Cert.ZprojIdeal.nD Cert.ZprojIdeal.τ).loc Cert.ZprojIdeal.main_v3)),
      θ_run (Cert.ZprojIdeal.defs (F := Ideal)) (onTc (τ := Cert.ZprojIdeal.τ) (Cert.ZprojIdeal.main (F := Ideal))) ⟨m, fun _ => 0, g⟩ (fun r => ∀ c : Dev Cert.ZprojIdeal.nD,
          r.2.mem ((c.tc : Thread Cert.ZprojIdeal.nD Cert.ZprojIdeal.τ).loc Cert.ZprojIdeal.main_v3) = v0 c
          ∧ r.2.mem ((c.tc : Thread Cert.ZprojIdeal.nD Cert.ZprojIdeal.τ).loc Cert.ZprojIdeal.main_arg0) = m ((c.tc : Thread Cert.ZprojIdeal.nD Cert.ZprojIdeal.τ).loc Cert.ZprojIdeal.main_arg0)
          ∧ r.2.mem ((c.tc : Thread Cert.ZprojIdeal.nD Cert.ZprojIdeal.τ).loc Cert.ZprojIdeal.main_arg1) = m ((c.tc : Thread Cert.ZprojIdeal.nD Cert.ZprojIdeal.τ).loc Cert.ZprojIdeal.main_arg1))
      ∧ θ_run (Cert.ZprojRefIdeal.defs (F := Ideal)) (onTc (τ := Cert.ZprojRefIdeal.τ) (Cert.ZprojRefIdeal.main (F := Ideal))) ⟨m', fun _ => 0, g'⟩ (fun r => ∀ c : Dev Cert.ZprojRefIdeal.nD,
          r.2.mem ((c.tc : Thread Cert.ZprojRefIdeal.nD Cert.ZprojRefIdeal.τ).loc Cert.ZprojRefIdeal.main_v2) = v0 c
          ∧ r.2.mem ((c.tc : Thread Cert.ZprojRefIdeal.nD Cert.ZprojRefIdeal.τ).loc Cert.ZprojRefIdeal.main_arg0) = m' ((c.tc : Thread Cert.ZprojRefIdeal.nD Cert.ZprojRefIdeal.τ).loc Cert.ZprojRefIdeal.main_arg0)
          ∧ r.2.mem ((c.tc : Thread Cert.ZprojRefIdeal.nD Cert.ZprojRefIdeal.τ).loc Cert.ZprojRefIdeal.main_arg1) = m' ((c.tc : Thread Cert.ZprojRefIdeal.nD Cert.ZprojRefIdeal.τ).loc Cert.ZprojRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Wina_WinaIdeal : Prop :=
  True

def algebraic_WinaIdeal_WinaRefIdeal [hWinaIdeal : Cert.WinaIdeal.Facts] [hWinaRefIdeal : Cert.WinaRefIdeal.Facts] : Prop :=
  ∀ (m : (ℓ : Loc Cert.WinaIdeal.nD Cert.WinaIdeal.τ Cert.WinaIdeal.sig) → Buf (Elt Ideal) ℓ) (g : Dev Cert.WinaIdeal.nD → PrngReg)
    (m' : (ℓ : Loc Cert.WinaRefIdeal.nD Cert.WinaRefIdeal.τ Cert.WinaRefIdeal.sig) → Buf (Elt Ideal) ℓ) (g' : Dev Cert.WinaRefIdeal.nD → PrngReg), Pre_WinaIdeal m →
    (∀ c : Dev Cert.WinaIdeal.nD,
      m' ((c.tc : Thread Cert.WinaRefIdeal.nD Cert.WinaRefIdeal.τ).loc Cert.WinaRefIdeal.main_arg0) = m ((c.tc : Thread Cert.WinaIdeal.nD Cert.WinaIdeal.τ).loc Cert.WinaIdeal.main_arg0)
      ∧ m' ((c.tc : Thread Cert.WinaRefIdeal.nD Cert.WinaRefIdeal.τ).loc Cert.WinaRefIdeal.main_arg1) = m ((c.tc : Thread Cert.WinaIdeal.nD Cert.WinaIdeal.τ).loc Cert.WinaIdeal.main_arg1)) →
    ∃ (v0 : (c : Dev Cert.WinaIdeal.nD) → Buf (Elt Ideal) ((c.tc : Thread Cert.WinaIdeal.nD Cert.WinaIdeal.τ).loc Cert.WinaIdeal.main_v2)),
      θ_run (Cert.WinaIdeal.defs (F := Ideal)) (onTc (τ := Cert.WinaIdeal.τ) (Cert.WinaIdeal.main (F := Ideal))) ⟨m, fun _ => 0, g⟩ (fun r => ∀ c : Dev Cert.WinaIdeal.nD,
          r.2.mem ((c.tc : Thread Cert.WinaIdeal.nD Cert.WinaIdeal.τ).loc Cert.WinaIdeal.main_v2) = v0 c
          ∧ r.2.mem ((c.tc : Thread Cert.WinaIdeal.nD Cert.WinaIdeal.τ).loc Cert.WinaIdeal.main_arg0) = m ((c.tc : Thread Cert.WinaIdeal.nD Cert.WinaIdeal.τ).loc Cert.WinaIdeal.main_arg0)
          ∧ r.2.mem ((c.tc : Thread Cert.WinaIdeal.nD Cert.WinaIdeal.τ).loc Cert.WinaIdeal.main_arg1) = m ((c.tc : Thread Cert.WinaIdeal.nD Cert.WinaIdeal.τ).loc Cert.WinaIdeal.main_arg1))
      ∧ θ_run (Cert.WinaRefIdeal.defs (F := Ideal)) (onTc (τ := Cert.WinaRefIdeal.τ) (Cert.WinaRefIdeal.main (F := Ideal))) ⟨m', fun _ => 0, g'⟩ (fun r => ∀ c : Dev Cert.WinaRefIdeal.nD,
          r.2.mem ((c.tc : Thread Cert.WinaRefIdeal.nD Cert.WinaRefIdeal.τ).loc Cert.WinaRefIdeal.main_v22) = v0 c
          ∧ r.2.mem ((c.tc : Thread Cert.WinaRefIdeal.nD Cert.WinaRefIdeal.τ).loc Cert.WinaRefIdeal.main_arg0) = m' ((c.tc : Thread Cert.WinaRefIdeal.nD Cert.WinaRefIdeal.τ).loc Cert.WinaRefIdeal.main_arg0)
          ∧ r.2.mem ((c.tc : Thread Cert.WinaRefIdeal.nD Cert.WinaRefIdeal.τ).loc Cert.WinaRefIdeal.main_arg1) = m' ((c.tc : Thread Cert.WinaRefIdeal.nD Cert.WinaRefIdeal.τ).loc Cert.WinaRefIdeal.main_arg1))

def preserves_Winb_WinbIdeal : Prop :=
  True

def algebraic_WinbIdeal_WinbRefIdeal [hWinbIdeal : Cert.WinbIdeal.Facts] [hWinbRefIdeal : Cert.WinbRefIdeal.Facts] : Prop :=
  ∀ (m : (ℓ : Loc Cert.WinbIdeal.nD Cert.WinbIdeal.τ Cert.WinbIdeal.sig) → Buf (Elt Ideal) ℓ) (g : Dev Cert.WinbIdeal.nD → PrngReg)
    (m' : (ℓ : Loc Cert.WinbRefIdeal.nD Cert.WinbRefIdeal.τ Cert.WinbRefIdeal.sig) → Buf (Elt Ideal) ℓ) (g' : Dev Cert.WinbRefIdeal.nD → PrngReg), Pre_WinbIdeal m →
    (∀ c : Dev Cert.WinbIdeal.nD,
      m' ((c.tc : Thread Cert.WinbRefIdeal.nD Cert.WinbRefIdeal.τ).loc Cert.WinbRefIdeal.main_arg0) = m ((c.tc : Thread Cert.WinbIdeal.nD Cert.WinbIdeal.τ).loc Cert.WinbIdeal.main_arg0)
      ∧ m' ((c.tc : Thread Cert.WinbRefIdeal.nD Cert.WinbRefIdeal.τ).loc Cert.WinbRefIdeal.main_arg1) = m ((c.tc : Thread Cert.WinbIdeal.nD Cert.WinbIdeal.τ).loc Cert.WinbIdeal.main_arg1)) →
    ∃ (v0 : (c : Dev Cert.WinbIdeal.nD) → Buf (Elt Ideal) ((c.tc : Thread Cert.WinbIdeal.nD Cert.WinbIdeal.τ).loc Cert.WinbIdeal.main_v2)),
      θ_run (Cert.WinbIdeal.defs (F := Ideal)) (onTc (τ := Cert.WinbIdeal.τ) (Cert.WinbIdeal.main (F := Ideal))) ⟨m, fun _ => 0, g⟩ (fun r => ∀ c : Dev Cert.WinbIdeal.nD,
          r.2.mem ((c.tc : Thread Cert.WinbIdeal.nD Cert.WinbIdeal.τ).loc Cert.WinbIdeal.main_v2) = v0 c
          ∧ r.2.mem ((c.tc : Thread Cert.WinbIdeal.nD Cert.WinbIdeal.τ).loc Cert.WinbIdeal.main_arg0) = m ((c.tc : Thread Cert.WinbIdeal.nD Cert.WinbIdeal.τ).loc Cert.WinbIdeal.main_arg0)
          ∧ r.2.mem ((c.tc : Thread Cert.WinbIdeal.nD Cert.WinbIdeal.τ).loc Cert.WinbIdeal.main_arg1) = m ((c.tc : Thread Cert.WinbIdeal.nD Cert.WinbIdeal.τ).loc Cert.WinbIdeal.main_arg1))
      ∧ θ_run (Cert.WinbRefIdeal.defs (F := Ideal)) (onTc (τ := Cert.WinbRefIdeal.τ) (Cert.WinbRefIdeal.main (F := Ideal))) ⟨m', fun _ => 0, g'⟩ (fun r => ∀ c : Dev Cert.WinbRefIdeal.nD,
          r.2.mem ((c.tc : Thread Cert.WinbRefIdeal.nD Cert.WinbRefIdeal.τ).loc Cert.WinbRefIdeal.main_v22) = v0 c
          ∧ r.2.mem ((c.tc : Thread Cert.WinbRefIdeal.nD Cert.WinbRefIdeal.τ).loc Cert.WinbRefIdeal.main_arg0) = m' ((c.tc : Thread Cert.WinbRefIdeal.nD Cert.WinbRefIdeal.τ).loc Cert.WinbRefIdeal.main_arg0)
          ∧ r.2.mem ((c.tc : Thread Cert.WinbRefIdeal.nD Cert.WinbRefIdeal.τ).loc Cert.WinbRefIdeal.main_arg1) = m' ((c.tc : Thread Cert.WinbRefIdeal.nD Cert.WinbRefIdeal.τ).loc Cert.WinbRefIdeal.main_arg1))

def preserves_Winc_WincIdeal : Prop :=
  True

def algebraic_WincIdeal_WincRefIdeal [hWincIdeal : Cert.WincIdeal.Facts] [hWincRefIdeal : Cert.WincRefIdeal.Facts] : Prop :=
  ∀ (m : (ℓ : Loc Cert.WincIdeal.nD Cert.WincIdeal.τ Cert.WincIdeal.sig) → Buf (Elt Ideal) ℓ) (g : Dev Cert.WincIdeal.nD → PrngReg)
    (m' : (ℓ : Loc Cert.WincRefIdeal.nD Cert.WincRefIdeal.τ Cert.WincRefIdeal.sig) → Buf (Elt Ideal) ℓ) (g' : Dev Cert.WincRefIdeal.nD → PrngReg), Pre_WincIdeal m →
    (∀ c : Dev Cert.WincIdeal.nD,
      m' ((c.tc : Thread Cert.WincRefIdeal.nD Cert.WincRefIdeal.τ).loc Cert.WincRefIdeal.main_arg0) = m ((c.tc : Thread Cert.WincIdeal.nD Cert.WincIdeal.τ).loc Cert.WincIdeal.main_arg0)
      ∧ m' ((c.tc : Thread Cert.WincRefIdeal.nD Cert.WincRefIdeal.τ).loc Cert.WincRefIdeal.main_arg1) = m ((c.tc : Thread Cert.WincIdeal.nD Cert.WincIdeal.τ).loc Cert.WincIdeal.main_arg1)) →
    ∃ (v0 : (c : Dev Cert.WincIdeal.nD) → Buf (Elt Ideal) ((c.tc : Thread Cert.WincIdeal.nD Cert.WincIdeal.τ).loc Cert.WincIdeal.main_v2)),
      θ_run (Cert.WincIdeal.defs (F := Ideal)) (onTc (τ := Cert.WincIdeal.τ) (Cert.WincIdeal.main (F := Ideal))) ⟨m, fun _ => 0, g⟩ (fun r => ∀ c : Dev Cert.WincIdeal.nD,
          r.2.mem ((c.tc : Thread Cert.WincIdeal.nD Cert.WincIdeal.τ).loc Cert.WincIdeal.main_v2) = v0 c
          ∧ r.2.mem ((c.tc : Thread Cert.WincIdeal.nD Cert.WincIdeal.τ).loc Cert.WincIdeal.main_arg0) = m ((c.tc : Thread Cert.WincIdeal.nD Cert.WincIdeal.τ).loc Cert.WincIdeal.main_arg0)
          ∧ r.2.mem ((c.tc : Thread Cert.WincIdeal.nD Cert.WincIdeal.τ).loc Cert.WincIdeal.main_arg1) = m ((c.tc : Thread Cert.WincIdeal.nD Cert.WincIdeal.τ).loc Cert.WincIdeal.main_arg1))
      ∧ θ_run (Cert.WincRefIdeal.defs (F := Ideal)) (onTc (τ := Cert.WincRefIdeal.τ) (Cert.WincRefIdeal.main (F := Ideal))) ⟨m', fun _ => 0, g'⟩ (fun r => ∀ c : Dev Cert.WincRefIdeal.nD,
          r.2.mem ((c.tc : Thread Cert.WincRefIdeal.nD Cert.WincRefIdeal.τ).loc Cert.WincRefIdeal.main_v20) = v0 c
          ∧ r.2.mem ((c.tc : Thread Cert.WincRefIdeal.nD Cert.WincRefIdeal.τ).loc Cert.WincRefIdeal.main_arg0) = m' ((c.tc : Thread Cert.WincRefIdeal.nD Cert.WincRefIdeal.τ).loc Cert.WincRefIdeal.main_arg0)
          ∧ r.2.mem ((c.tc : Thread Cert.WincRefIdeal.nD Cert.WincRefIdeal.τ).loc Cert.WincRefIdeal.main_arg1) = m' ((c.tc : Thread Cert.WincRefIdeal.nD Cert.WincRefIdeal.τ).loc Cert.WincRefIdeal.main_arg1))

def preserves_Swa_SwaIdeal : Prop :=
  True

def algebraic_SwaIdeal_SwaRefIdeal_pre_first_scores [hSwaIdeal : Cert.SwaIdeal.Facts] [hSwaRefIdeal : Cert.SwaRefIdeal.Facts] [hPre_first_scores : Cert.Pre_first_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_first_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)
      ∧ m' ((c.tc : Thread Cert.SwaRefIdeal.nD Cert.SwaRefIdeal.τ).loc Cert.SwaRefIdeal.main_arg6) = m ((c.tc : Thread Cert.SwaIdeal.nD Cert.SwaIdeal.τ).loc Cert.SwaIdeal.main_arg6)
      ∧ m' ((c.tc : Thread Cert.SwaRefIdeal.nD Cert.SwaRefIdeal.τ).loc Cert.SwaRefIdeal.main_arg7) = m ((c.tc : Thread Cert.SwaIdeal.nD Cert.SwaIdeal.τ).loc Cert.SwaIdeal.main_arg7)
      ∧ m' ((c.tc : Thread Cert.SwaRefIdeal.nD Cert.SwaRefIdeal.τ).loc Cert.SwaRefIdeal.main_arg8) = m ((c.tc : Thread Cert.SwaIdeal.nD Cert.SwaIdeal.τ).loc Cert.SwaIdeal.main_arg8)
      ∧ m' ((c.tc : Thread Cert.SwaRefIdeal.nD Cert.SwaRefIdeal.τ).loc Cert.SwaRefIdeal.main_arg9) = m ((c.tc : Thread Cert.SwaIdeal.nD Cert.SwaIdeal.τ).loc Cert.SwaIdeal.main_arg9)) →
    ∃ (v0 : (c : Dev Cert.SwaIdeal.nD) → Buf (Elt Ideal) ((c.tc : Thread Cert.SwaIdeal.nD Cert.SwaIdeal.τ).loc Cert.SwaIdeal.main_v40)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v40) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
          ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
          ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7)
          ∧ r.2.mem ((c.tc : Thread Cert.SwaIdeal.nD Cert.SwaIdeal.τ).loc Cert.SwaIdeal.main_arg8) = m ((c.tc : Thread Cert.SwaIdeal.nD Cert.SwaIdeal.τ).loc Cert.SwaIdeal.main_arg8)
          ∧ r.2.mem ((c.tc : Thread Cert.SwaIdeal.nD Cert.SwaIdeal.τ).loc Cert.SwaIdeal.main_arg9) = m ((c.tc : Thread Cert.SwaIdeal.nD Cert.SwaIdeal.τ).loc Cert.SwaIdeal.main_arg9))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v129) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5)
          ∧ r.2.mem ((c.tc : Thread Cert.SwaRefIdeal.nD Cert.SwaRefIdeal.τ).loc Cert.SwaRefIdeal.main_arg6) = m' ((c.tc : Thread Cert.SwaRefIdeal.nD Cert.SwaRefIdeal.τ).loc Cert.SwaRefIdeal.main_arg6)
          ∧ r.2.mem ((c.tc : Thread Cert.SwaRefIdeal.nD Cert.SwaRefIdeal.τ).loc Cert.SwaRefIdeal.main_arg7) = m' ((c.tc : Thread Cert.SwaRefIdeal.nD Cert.SwaRefIdeal.τ).loc Cert.SwaRefIdeal.main_arg7)
          ∧ r.2.mem ((c.tc : Thread Cert.SwaRefIdeal.nD Cert.SwaRefIdeal.τ).loc Cert.SwaRefIdeal.main_arg8) = m' ((c.tc : Thread Cert.SwaRefIdeal.nD Cert.SwaRefIdeal.τ).loc Cert.SwaRefIdeal.main_arg8)
          ∧ r.2.mem ((c.tc : Thread Cert.SwaRefIdeal.nD Cert.SwaRefIdeal.τ).loc Cert.SwaRefIdeal.main_arg9) = m' ((c.tc : Thread Cert.SwaRefIdeal.nD Cert.SwaRefIdeal.τ).loc Cert.SwaRefIdeal.main_arg9))

def Claim : Prop :=
  ∃ (hGdn : Cert.Gdn.Facts) (hGdnIdeal : Cert.GdnIdeal.Facts) (hGdnRefIdeal : Cert.GdnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hZproj : Cert.Zproj.Facts) (hZprojIdeal : Cert.ZprojIdeal.Facts) (hZprojRefIdeal : Cert.ZprojRefIdeal.Facts) (hMerge : Cert.Merge.Facts) (hMergeIdeal : Cert.MergeIdeal.Facts) (hMergeRefIdeal : Cert.MergeRefIdeal.Facts) (hWina : Cert.Wina.Facts) (hWinaIdeal : Cert.WinaIdeal.Facts) (hWinaRefIdeal : Cert.WinaRefIdeal.Facts) (hWinb : Cert.Winb.Facts) (hWinbIdeal : Cert.WinbIdeal.Facts) (hWinbRefIdeal : Cert.WinbRefIdeal.Facts) (hWinc : Cert.Winc.Facts) (hWincIdeal : Cert.WincIdeal.Facts) (hWincRefIdeal : Cert.WincRefIdeal.Facts) (hSwa : Cert.Swa.Facts) (hSwaIdeal : Cert.SwaIdeal.Facts) (hSwaRefIdeal : Cert.SwaRefIdeal.Facts) (hPre_first_scores : Cert.Pre_first_scores.Facts),
    quiescent_Gdn (hGdn := hGdn)
    ∧ quiescent_GdnIdeal (hGdnIdeal := hGdnIdeal)
    ∧ quiescent_GdnRefIdeal (hGdnRefIdeal := hGdnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Zproj (hZproj := hZproj)
    ∧ quiescent_ZprojIdeal (hZprojIdeal := hZprojIdeal)
    ∧ quiescent_ZprojRefIdeal (hZprojRefIdeal := hZprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Wina (hWina := hWina)
    ∧ quiescent_WinaIdeal (hWinaIdeal := hWinaIdeal)
    ∧ quiescent_WinaRefIdeal (hWinaRefIdeal := hWinaRefIdeal)
    ∧ quiescent_Winb (hWinb := hWinb)
    ∧ quiescent_WinbIdeal (hWinbIdeal := hWinbIdeal)
    ∧ quiescent_WinbRefIdeal (hWinbRefIdeal := hWinbRefIdeal)
    ∧ quiescent_Winc (hWinc := hWinc)
    ∧ quiescent_WincIdeal (hWincIdeal := hWincIdeal)
    ∧ quiescent_WincRefIdeal (hWincRefIdeal := hWincRefIdeal)
    ∧ quiescent_Swa (hSwa := hSwa)
    ∧ quiescent_SwaIdeal (hSwaIdeal := hSwaIdeal)
    ∧ quiescent_SwaIdeal_pre_first_scores (hSwaIdeal := hSwaIdeal) (hPre_first_scores := hPre_first_scores)
    ∧ quiescent_SwaRefIdeal (hSwaRefIdeal := hSwaRefIdeal)
    ∧ quiescent_SwaRefIdeal_pre_first_scores (hSwaRefIdeal := hSwaRefIdeal) (hPre_first_scores := hPre_first_scores)
    ∧ preserves_Gdn_GdnIdeal
    ∧ algebraic_GdnIdeal_GdnRefIdeal (hGdnIdeal := hGdnIdeal) (hGdnRefIdeal := hGdnRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Zproj_ZprojIdeal
    ∧ algebraic_ZprojIdeal_ZprojRefIdeal (hZprojIdeal := hZprojIdeal) (hZprojRefIdeal := hZprojRefIdeal)
    ∧ preserves_Merge_MergeIdeal
    ∧ algebraic_MergeIdeal_MergeRefIdeal (hMergeIdeal := hMergeIdeal) (hMergeRefIdeal := hMergeRefIdeal)
    ∧ preserves_Wina_WinaIdeal
    ∧ algebraic_WinaIdeal_WinaRefIdeal (hWinaIdeal := hWinaIdeal) (hWinaRefIdeal := hWinaRefIdeal)
    ∧ preserves_Winb_WinbIdeal
    ∧ algebraic_WinbIdeal_WinbRefIdeal (hWinbIdeal := hWinbIdeal) (hWinbRefIdeal := hWinbRefIdeal)
    ∧ preserves_Winc_WincIdeal
    ∧ algebraic_WincIdeal_WincRefIdeal (hWincIdeal := hWincIdeal) (hWincRefIdeal := hWincRefIdeal)
    ∧ preserves_Swa_SwaIdeal
    ∧ algebraic_SwaIdeal_SwaRefIdeal_pre_first_scores (hSwaIdeal := hSwaIdeal) (hSwaRefIdeal := hSwaRefIdeal) (hPre_first_scores := hPre_first_scores)
-- ==== Pre_first_scores.lean ====
abbrev S1024x9216 : Shape := ⟨2, ![1024, 9216]⟩
abbrev S2x128x128x2x16x64 : Shape := ⟨6, ![2, 128, 128, 2, 16, 64]⟩
abbrev S2x128x512x2x16x64 : Shape := ⟨6, ![2, 128, 512, 2, 16, 64]⟩
abbrev S2x128x2048x2x16x64 : Shape := ⟨6, ![2, 128, 2048, 2, 16, 64]⟩
abbrev S16x8x128 : Shape := ⟨3, ![16, 8, 128]⟩
abbrev S16x8x512 : Shape := ⟨3, ![16, 8, 512]⟩
abbrev S16x8x2048 : Shape := ⟨3, ![16, 8, 2048]⟩
abbrev S16x8x8 : Shape := ⟨3, ![16, 8, 8]⟩
abbrev S_ : Shape := ⟨0, ![]⟩
abbrev S8 : Shape := ⟨1, ![8]⟩
abbrev S1x1x8 : Shape := ⟨3, ![1, 1, 8]⟩

class Facts : Prop where
  bcast_S_S1024x9216 : S_.BroadcastsInDim S1024x9216 (![] : Fin 0 → Fin S1024x9216.rank)
  bcast_S_S2x128x128x2x16x64 : S_.BroadcastsInDim S2x128x128x2x16x64 (![] : Fin 0 → Fin S2x128x128x2x16x64.rank)
  bcast_S_S16x8x128 : S_.BroadcastsInDim S16x8x128 (![] : Fin 0 → Fin S16x8x128.rank)
  bcast_S_S16x8x8 : S_.BroadcastsInDim S16x8x8 (![] : Fin 0 → Fin S16x8x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S16x8x8_0_1_2 : S1x1x8.BroadcastsInDim S16x8x8 (![0, 1, 2] : Fin 3 → Fin S16x8x8.rank)

variable [Facts]

def fn {F : FTy → Type} [FloatOps F] (main_arg0 : FVec F S1024x9216 .f32) (main_arg1 : FVec F S2x128x128x2x16x64 .f32) (main_arg2 : FVec F S2x128x512x2x16x64 .f32) (main_arg3 : FVec F S2x128x2048x2x16x64 .f32) (main_arg4 : FVec F S16x8x128 .f32) (main_arg5 : FVec F S16x8x512 .f32) (main_arg6 : FVec F S16x8x2048 .f32) (main_arg7 : FVec F S16x8x8 .f32) (main_arg8 : FVec F S16x8x8 .f32) (main_arg9 : FVec F S16x8x8 .f32) : IVec S1024x9216 1 × IVec S2x128x128x2x16x64 1 × IVec S16x8x128 1 × IVec S16x8x8 1 × IVec S16x8x8 1 :=
  let main_v0 : FVec F S1024x9216 .f32 := Host.absf main_arg0
  let main_cst : FVec F S_ .f32 := constant S_ .f32 0x7F800000#32
  let main_v1 : FVec F S1024x9216 .f32 := broadcastInDim S1024x9216 ![] bcast_S_S1024x9216 main_cst
  let main_v2 : IVec S1024x9216 1 := cmpf .olt main_v0 main_v1
  let main_v3 : FVec F S2x128x128x2x16x64 .f32 := Host.absf main_arg1
  let main_cst_0 : FVec F S_ .f32 := constant S_ .f32 0x7F800000#32
  let main_v4 : FVec F S2x128x128x2x16x64 .f32 := broadcastInDim S2x128x128x2x16x64 ![] bcast_S_S2x128x128x2x16x64 main_cst_0
  let main_v5 : IVec S2x128x128x2x16x64 1 := cmpf .olt main_v3 main_v4
  let main_cst_1 : FVec F S_ .f32 := constant S_ .f32 0x7F800000#32
  let main_v6 : FVec F S16x8x128 .f32 := broadcastInDim S16x8x128 ![] bcast_S_S16x8x128 main_cst_1
  let main_v7 : IVec S16x8x128 1 := cmpf .olt main_arg4 main_v6
  let main_cst_2 : FVec F S_ .f32 := constant S_ .f32 0x7F800000#32
  let main_v8 : FVec F S16x8x8 .f32 := broadcastInDim S16x8x8 ![] bcast_S_S16x8x8 main_cst_2
  let main_v9 : IVec S16x8x8 1 := cmpf .olt main_arg7 main_v8
  let main_cst_3 : FVec F S_ .f32 := constant S_ .f32 0xFF800000#32
  let main_v10 : FVec F S16x8x8 .f32 := broadcastInDim S16x8x8 ![] bcast_S_S16x8x8 main_cst_3
  let main_v11 : IVec S16x8x8 1 := cmpf .ogt main_arg7 main_v10
  let main_v12 : IVec S8 32 := iotaInDim S8 32 0
  let main_c : IVec S_ 32 := constantI S_ 32 0#32
  let main_v13 : IVec S8 32 := broadcastInDim S8 ![] bcast_S_S8 main_c
  let main_v14 : IVec S8 1 := cmpi .sgt main_v12 main_v13
  let main_v15 : IVec S1x1x8 1 := broadcastInDim S1x1x8 ![2] bcast_S8_S1x1x8_2 main_v14
  let main_v16 : IVec S16x8x8 1 := broadcastInDim S16x8x8 ![0, 1, 2] bcast_S1x1x8_S16x8x8_0_1_2 main_v15
  let main_v17 : IVec S16x8x8 1 := ori main_v11 main_v16
  (main_v2, main_v5, main_v7, main_v9, main_v17)
-- ==== Gdn.lean ====
abbrev S128x4x6144 : Shape := ⟨3, ![128, 4, 6144]⟩
abbrev S128x3x4096 : Shape := ⟨3, ![128, 3, 4096]⟩
abbrev S128x4x16 : Shape := ⟨3, ![128, 4, 16]⟩
abbrev S4x4096 : Shape := ⟨2, ![4, 4096]⟩
abbrev S128 : Shape := ⟨1, ![128]⟩
abbrev S2x128x16x128x128 : Shape := ⟨5, ![2, 128, 16, 128, 128]⟩
abbrev S_ : Shape := ⟨0, ![]⟩
abbrev S128x8x6144 : Shape := ⟨3, ![128, 8, 6144]⟩
abbrev S1024x6144 : Shape := ⟨2, ![1024, 6144]⟩
abbrev S128x4x32 : Shape := ⟨3, ![128, 4, 32]⟩
abbrev S128x8x128 : Shape := ⟨3, ![128, 8, 128]⟩
abbrev S128x8x4096 : Shape := ⟨3, ![128, 8, 4096]⟩
abbrev S1024x4096 : Shape := ⟨2, ![1024, 4096]⟩
abbrev S1024x128 : Shape := ⟨2, ![1024, 128]⟩
abbrev S1x128 : Shape := ⟨2, ![1, 128]⟩
abbrev S1024x2048 : Shape := ⟨2, ![1024, 2048]⟩
abbrev S64x128 : Shape := ⟨2, ![64, 128]⟩
abbrev S64x256 : Shape := ⟨2, ![64, 256]⟩
abbrev S4x128 : Shape := ⟨2, ![4, 128]⟩
abbrev S4x256 : Shape := ⟨2, ![4, 256]⟩
abbrev S1x8x2x128x128 : Shape := ⟨5, ![1, 8, 2, 128, 128]⟩
abbrev S64x1 : Shape := ⟨2, ![64, 1]⟩
abbrev S8x1 : Shape := ⟨2, ![8, 1]⟩
abbrev S64 : Shape := ⟨1, ![64]⟩
abbrev S1x256 : Shape := ⟨2, ![1, 256]⟩
abbrev S112x128 : Shape := ⟨2, ![112, 128]⟩
abbrev S8x128 : Shape := ⟨2, ![8, 128]⟩
abbrev S8x256 : Shape := ⟨2, ![8, 256]⟩
abbrev S128x128 : Shape := ⟨2, ![128, 128]⟩
abbrev S8 : Shape := ⟨1, ![8]⟩
abbrev S1x1x1x128x128 : Shape := ⟨5, ![1, 1, 1, 128, 128]⟩
abbrev S1x1 : Shape := ⟨2, ![1, 1]⟩
abbrev S128x1 : Shape := ⟨2, ![128, 1]⟩

abbrev nBuf : Space → Nat
  | .hbm => 24
  | .vmem => 33
  | .smem => 0
  | _ => 0

abbrev bufTy : (tb : Table) → Fin (tcTables nBuf tb) → BufTy
  | .hbm, ⟨0, _⟩ => ⟨S128x4x6144, .f32⟩
  | .hbm, ⟨1, _⟩ => ⟨S128x3x4096, .f32⟩
  | .hbm, ⟨2, _⟩ => ⟨S128x4x16, .f32⟩
  | .hbm, ⟨3, _⟩ => ⟨S128x4x16, .f32⟩
  | .hbm, ⟨4, _⟩ => ⟨S4x4096, .f32⟩
  | .hbm, ⟨5, _⟩ => ⟨S128, .f32⟩
  | .hbm, ⟨6, _⟩ => ⟨S2x128x16x128x128, .f32⟩
  | .hbm, ⟨7, _⟩ => ⟨S2x128x16x128x128, .f32⟩
  | .hbm, ⟨8, _⟩ => ⟨S_, .i32⟩
  | .hbm, ⟨9, _⟩ => ⟨S_, .f32⟩
  | .hbm, ⟨10, _⟩ => ⟨S128x8x6144, .f32⟩
  | .hbm, ⟨11, _⟩ => ⟨S1024x6144, .f32⟩
  | .hbm, ⟨12, _⟩ => ⟨S128x4x32, .f32⟩
  | .hbm, ⟨13, _⟩ => ⟨S_, .i32⟩
  | .hbm, ⟨14, _⟩ => ⟨S_, .f32⟩
  | .hbm, ⟨15, _⟩ => ⟨S128x8x128, .f32⟩
  | .hbm, ⟨16, _⟩ => ⟨S_, .i32⟩
  | .hbm, ⟨17, _⟩ => ⟨S_, .f32⟩
  | .hbm, ⟨18, _⟩ => ⟨S128x8x4096, .f32⟩
  | .hbm, ⟨19, _⟩ => ⟨S1024x4096, .f32⟩
  | .hbm, ⟨20, _⟩ => ⟨S1024x128, .f32⟩
  | .hbm, ⟨21, _⟩ => ⟨S1x128, .f32⟩
  | .hbm, ⟨22, _⟩ => ⟨S1024x2048, .bf16⟩
  | .hbm, ⟨23, _⟩ => ⟨S2x128x16x128x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x256, .f32⟩
  | .local _ .vmem, ⟨13, _⟩ => ⟨S64x256, .f32⟩
  | .local _ .vmem, ⟨14, _⟩ => ⟨S64x128, .f32⟩
  | .local _ .vmem, ⟨15, _⟩ => ⟨S64x128, .f32⟩
  | .local _ .vmem, ⟨16, _⟩ => ⟨S4x128, .f32⟩
  | .local _ .vmem, ⟨17, _⟩ => ⟨S4x128, .f32⟩
  | .local _ .vmem, ⟨18, _⟩ => ⟨S4x128, .f32⟩
  | .local _ .vmem, ⟨19, _⟩ => ⟨S4x128, .f32⟩
  | .local _ .vmem, ⟨20, _⟩ => ⟨S4x256, .f32⟩
  | .local _ .vmem, ⟨21, _⟩ => ⟨S4x256, .f32⟩
  | .local _ .vmem, ⟨22, _⟩ => ⟨S1x128, .f32⟩
  | .local _ .vmem, ⟨23, _⟩ => ⟨S1x8x2x128x128, .f32⟩
  | .local _ .vmem, ⟨24, _⟩ => ⟨S1x8x2x128x128, .f32⟩
  | .local _ .vmem, ⟨25, _⟩ => ⟨S64x256, .bf16⟩
  | .local _ .vmem, ⟨26, _⟩ => ⟨S64x256, .bf16⟩
  | .local _ .vmem, ⟨27, _⟩ => ⟨S1x8x2x128x128, .f32⟩
  | .local _ .vmem, ⟨28, _⟩ => ⟨S1x8x2x128x128, .f32⟩
  | .local _ .vmem, ⟨29, _⟩ => ⟨S64x128, .f32⟩
  | .local _ .vmem, ⟨30, _⟩ => ⟨S64x128, .f32⟩
  | .local _ .vmem, ⟨31, _⟩ => ⟨S64x256, .f32⟩
  | .local _ .vmem, ⟨32, _⟩ => ⟨S64x256, .f32⟩
  | _, _ => ⟨S128x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_82 : BitVec 32 := 0#32
  let c2_i32_83 : BitVec 32 := 2#32
  let v241 : BitVec 32 := Scalar.addi c0_i32_82 c2_i32_83
  let c1_i32_84 : BitVec 32 := 1#32
  ⟨c0_i32_82, v241, c1_i32_84⟩
def k0_mult1 (k0_t1 : Fin k0_t1_loop.trips) : BitVec 32 :=
  let c0_i32_82 : BitVec 32 := 0#32
  let c1_i32_84 : BitVec 32 := 1#32
  let arg22 : BitVec 32 := Scf.iv c0_i32_82 c1_i32_84 k0_t1
  let c4_i32 : BitVec 32 := 4#32
  let v245 : BitVec 32 := Scalar.muli arg22 c4_i32
  let c0_i32_90 : BitVec 32 := 0#32
  let v246 : BitVec 32 := Scalar.addi v245 c0_i32_90
  let c8_i32_91 : BitVec 32 := 8#32
  let v247 : BitVec 32 := Scalar.muli v246 c8_i32_91
  v247
def k0_off1 (k0_t1 : Fin k0_t1_loop.trips) (c0_i32_90 : BitVec 32) : Fin 2 → Nat :=
  let c0_i32_82 : BitVec 32 := 0#32
  let c1_i32_84 : BitVec 32 := 1#32
  let arg22 : BitVec 32 := Scf.iv c0_i32_82 c1_i32_84 k0_t1
  let c4_i32 : BitVec 32 := 4#32
  let v245 : BitVec 32 := Scalar.muli arg22 c4_i32
  let v246 : BitVec 32 := Scalar.addi v245 c0_i32_90
  let c8_i32_91 : BitVec 32 := 8#32
  let v247 : BitVec 32 := Scalar.muli v246 c8_i32_91
  let v248 : BitVec 32 := v247
  let v249 : Index := Scalar.indexCast v248
  let c0_92 : Index := 0#32
  ![v249.toNat, 0]
def k0_off2 (k0_t1 : Fin k0_t1_loop.trips) (c0_i32_90 : BitVec 32) : Fin 2 → Nat :=
  let c0_i32_82 : BitVec 32 := 0#32
  let c1_i32_84 : BitVec 32 := 1#32
  let arg22 : BitVec 32 := Scf.iv c0_i32_82 c1_i32_84 k0_t1
  let c4_i32 : BitVec 32 := 4#32
  let v245 : BitVec 32 := Scalar.muli arg22 c4_i32
  let v246 : BitVec 32 := Scalar.addi v245 c0_i32_90
  let c8_i32_91 : BitVec 32 := 8#32
  let v247 : BitVec 32 := Scalar.muli v246 c8_i32_91
  let v248 : BitVec 32 := v247
  let v253 : Index := Scalar.indexCast v248
  let c0_94 : Index := 0#32
  ![v253.toNat, 0]
def k0_off3 (k0_t1 : Fin k0_t1_loop.trips) (c0_i32_90 : BitVec 32) : Fin 5 → Nat :=
  let c0_102 : Index := 0#32
  let c0_i32_82 : BitVec 32 := 0#32
  let c1_i32_84 : BitVec 32 := 1#32
  let arg22 : BitVec 32 := Scf.iv c0_i32_82 c1_i32_84 k0_t1
  let c4_i32 : BitVec 32 := 4#32
  let v245 : BitVec 32 := Scalar.muli arg22 c4_i32
  let v246 : BitVec 32 := Scalar.addi v245 c0_i32_90
  let v281 : Index := Scalar.indexCast v246
  let c0_103 : Index := 0#32
  let c0_104 : Index := 0#32
  let c0_105 : Index := 0#32
  ![0, v281.toNat, 0, 0, 0]
def k0_off4 (k0_t1 : Fin k0_t1_loop.trips) (c0_i32_90 : BitVec 32) : Fin 5 → Nat :=
  let c0_115 : Index := 0#32
  let c0_i32_82 : BitVec 32 := 0#32
  let c1_i32_84 : BitVec 32 := 1#32
  let arg22 : BitVec 32 := Scf.iv c0_i32_82 c1_i32_84 k0_t1
  let c4_i32 : BitVec 32 := 4#32
  let v245 : BitVec 32 := Scalar.muli arg22 c4_i32
  let v246 : BitVec 32 := Scalar.addi v245 c0_i32_90
  let v306 : Index := Scalar.indexCast v246
  let c1 : Index := 1#32
  let c0_116 : Index := 0#32
  let c0_117 : Index := 0#32
  ![0, v306.toNat, 1, 0, 0]
def k0_mult2 (k0_t1 : Fin k0_t1_loop.trips) : BitVec 32 :=
  let c0_i32_82 : BitVec 32 := 0#32
  let c1_i32_84 : BitVec 32 := 1#32
  let arg22 : BitVec 32 := Scf.iv c0_i32_82 c1_i32_84 k0_t1
  let c4_i32_119 : BitVec 32 := 4#32
  let v310 : BitVec 32 := Scalar.muli arg22 c4_i32_119
  let c1_i32_120 : BitVec 32 := 1#32
  let v311 : BitVec 32 := Scalar.addi v310 c1_i32_120
  let c8_i32_121 : BitVec 32 := 8#32
  let v312 : BitVec 32 := Scalar.muli v311 c8_i32_121
  v312
def k0_mult3 (k0_t1 : Fin k0_t1_loop.trips) : BitVec 32 :=
  let c0_i32_82 : BitVec 32 := 0#32
  let c1_i32_84 : BitVec 32 := 1#32
  let arg22 : BitVec 32 := Scf.iv c0_i32_82 c1_i32_84 k0_t1
  let c4_i32_152 : BitVec 32 := 4#32
  let v375 : BitVec 32 := Scalar.muli arg22 c4_i32_152
  let c2_i32_153 : BitVec 32 := 2#32
  let v376 : BitVec 32 := Scalar.addi v375 c2_i32_153
  let c8_i32_154 : BitVec 32 := 8#32
  let v377 : BitVec 32 := Scalar.muli v376 c8_i32_154
  v377
def k0_mult4 (k0_t1 : Fin k0_t1_loop.trips) : BitVec 32 :=
  let c0_i32_82 : BitVec 32 := 0#32
  let c1_i32_84 : BitVec 32 := 1#32
  let arg22 : BitVec 32 := Scf.iv c0_i32_82 c1_i32_84 k0_t1
  let c4_i32_185 : BitVec 32 := 4#32
  let v440 : BitVec 32 := Scalar.muli arg22 c4_i32_185
  let c3_i32_186 : BitVec 32 := 3#32
  let v441 : BitVec 32 := Scalar.addi v440 c3_i32_186
  let c8_i32_187 : BitVec 32 := 8#32
  let v442 : BitVec 32 := Scalar.muli v441 c8_i32_187
  v442
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x2x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x2x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== GdnRefIdeal.lean ====
abbrev S128x4x6144 : Shape := ⟨3, ![128, 4, 6144]⟩
abbrev S128x3x4096 : Shape := ⟨3, ![128, 3, 4096]⟩
abbrev S128x4x16 : Shape := ⟨3, ![128, 4, 16]⟩
abbrev S4x4096 : Shape := ⟨2, ![4, 4096]⟩
abbrev S128 : Shape := ⟨1, ![128]⟩
abbrev S2x128x16x128x128 : Shape := ⟨5, ![2, 128, 16, 128, 128]⟩
abbrev S128x4x4096 : Shape := ⟨3, ![128, 4, 4096]⟩
abbrev S128x4x2048 : Shape := ⟨3, ![128, 4, 2048]⟩
abbrev S128x7x4096 : Shape := ⟨3, ![128, 7, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S128x4x1024 : Shape := ⟨3, ![128, 4, 1024]⟩
abbrev S128x4x8x128 : Shape := ⟨4, ![128, 4, 8, 128]⟩
abbrev S128x4x16x128 : Shape := ⟨4, ![128, 4, 16, 128]⟩
abbrev S128x4x8 : Shape := ⟨3, ![128, 4, 8]⟩
abbrev S128x4x8x1 : Shape := ⟨4, ![128, 4, 8, 1]⟩
abbrev S128x4x8x2x128 : Shape := ⟨5, ![128, 4, 8, 2, 128]⟩
abbrev S1x128x16x128x128 : Shape := ⟨5, ![1, 128, 16, 128, 128]⟩
abbrev S128x16x128x128 : Shape := ⟨4, ![128, 16, 128, 128]⟩
abbrev S128x1x16 : Shape := ⟨3, ![128, 1, 16]⟩
abbrev S128x16 : Shape := ⟨2, ![128, 16]⟩
abbrev S128x16x1x1 : Shape := ⟨4, ![128, 16, 1, 1]⟩
abbrev S128x1x16x128 : Shape := ⟨4, ![128, 1, 16, 128]⟩
abbrev S128x16x128 : Shape := ⟨3, ![128, 16, 128]⟩
abbrev S128x16x1 : Shape := ⟨3, ![128, 16, 1]⟩
abbrev S128x16x128x1 : Shape := ⟨4, ![128, 16, 128, 1]⟩
abbrev S128x16x1x128 : Shape := ⟨4, ![128, 16, 1, 128]⟩
abbrev S128x4x16x1 : Shape := ⟨4, ![128, 4, 16, 1]⟩
abbrev S1x1x1x128 : Shape := ⟨4, ![1, 1, 1, 128]⟩
abbrev S128x8x2048 : Shape := ⟨3, ![128, 8, 2048]⟩
abbrev S1024x2048 : Shape := ⟨2, ![1024, 2048]⟩

abbrev nBuf : Space → Nat
  | .hbm => 238
  | .vmem => 0
  | .smem => 0
  | _ => 0

abbrev hbmTy0_0 (i : Nat) : BufTy := match i % 128 with
  | 0 => ⟨S128x4x6144, .f32⟩
  | 1 => ⟨S128x3x4096, .f32⟩
  | 2 => ⟨S128x4x16, .f32⟩
  | 3 => ⟨S128x4x16, .f32⟩
  | 4 => ⟨S4x4096, .f32⟩
  | 5 => ⟨S128, .f32⟩
  | 6 => ⟨S2x128x16x128x128, .f32⟩
  | 7 => ⟨S2x128x16x128x128, .f32⟩
  | 8 => ⟨S128x4x4096, .f32⟩
  | 9 => ⟨S128x4x2048, .f32⟩
  | 10 => ⟨S128x7x4096, .f32⟩
  | 11 => ⟨S128x4x4096, .f32⟩
  | 12 => ⟨S1x4096, .f32⟩
  | 13 => ⟨S4096, .f32⟩
  | 14 => ⟨S1x1x4096, .f32⟩
  | 15 => ⟨S128x4x4096, .f32⟩
  | 16 => ⟨S128x4x4096, .f32⟩
  | 17 => ⟨S_, .f32⟩
  | 18 => ⟨S128x4x4096, .f32⟩
  | 19 => ⟨S128x4x4096, .f32⟩
  | 20 => ⟨S128x4x4096, .f32⟩
  | 21 => ⟨S1x4096, .f32⟩
  | 22 => ⟨S4096, .f32⟩
  | 23 => ⟨S1x1x4096, .f32⟩
  | 24 => ⟨S128x4x4096, .f32⟩
  | 25 => ⟨S128x4x4096, .f32⟩
  | 26 => ⟨S128x4x4096, .f32⟩
  | 27 => ⟨S128x4x4096, .f32⟩
  | 28 => ⟨S1x4096, .f32⟩
  | 29 => ⟨S4096, .f32⟩
  | 30 => ⟨S1x1x4096, .f32⟩
  | 31 => ⟨S128x4x4096, .f32⟩
  | 32 => ⟨S128x4x4096, .f32⟩
  | 33 => ⟨S128x4x4096, .f32⟩
  | 34 => ⟨S128x4x4096, .f32⟩
  | 35 => ⟨S1x4096, .f32⟩
  | 36 => ⟨S4096, .f32⟩
  | 37 => ⟨S1x1x4096, .f32⟩
  | 38 => ⟨S128x4x4096, .f32⟩
  | 39 => ⟨S128x4x4096, .f32⟩
  | 40 => ⟨S128x4x4096, .f32⟩
  | 41 => ⟨S128x4x4096, .f32⟩
  | 42 => ⟨S128x4x4096, .f32⟩
  | 43 => ⟨S_, .f32⟩
  | 44 => ⟨S128x4x4096, .f32⟩
  | 45 => ⟨S128x4x4096, .f32⟩
  | 46 => ⟨S_, .f32⟩
  | 47 => ⟨S128x4x4096, .f32⟩
  | 48 => ⟨S128x4x4096, .f32⟩
  | 49 => ⟨S128x4x4096, .f32⟩
  | 50 => ⟨S128x4x1024, .f32⟩
  | 51 => ⟨S128x4x8x128, .f32⟩
  | 52 => ⟨S128x4x1024, .f32⟩
  | 53 => ⟨S128x4x8x128, .f32⟩
  | 54 => ⟨S128x4x2048, .f32⟩
  | 55 => ⟨S128x4x16x128, .f32⟩
  | 56 => ⟨S128x4x8x128, .f32⟩
  | 57 => ⟨S_, .f32⟩
  | 58 => ⟨S128x4x8, .f32⟩
  | 59 => ⟨S128x4x8x1, .f32⟩
  | 60 => ⟨S_, .f32⟩
  | 61 => ⟨S128x4x8x1, .f32⟩
  | 62 => ⟨S128x4x8x1, .f32⟩
  | 63 => ⟨S128x4x8x1, .f32⟩
  | 64 => ⟨S128x4x8x128, .f32⟩
  | 65 => ⟨S128x4x8x128, .f32⟩
  | 66 => ⟨S_, .f32⟩
  | 67 => ⟨S128x4x8x128, .f32⟩
  | 68 => ⟨S128x4x8x128, .f32⟩
  | 69 => ⟨S128x4x8x2x128, .f32⟩
  | 70 => ⟨S128x4x16x128, .f32⟩
  | 71 => ⟨S128x4x8x128, .f32⟩
  | 72 => ⟨S_, .f32⟩
  | 73 => ⟨S128x4x8, .f32⟩
  | 74 => ⟨S128x4x8x1, .f32⟩
  | 75 => ⟨S_, .f32⟩
  | 76 => ⟨S128x4x8x1, .f32⟩
  | 77 => ⟨S128x4x8x1, .f32⟩
  | 78 => ⟨S128x4x8x1, .f32⟩
  | 79 => ⟨S128x4x8x128, .f32⟩
  | 80 => ⟨S128x4x8x128, .f32⟩
  | 81 => ⟨S128x4x8x2x128, .f32⟩
  | 82 => ⟨S128x4x16x128, .f32⟩
  | 83 => ⟨S1x128x16x128x128, .f32⟩
  | 84 => ⟨S128x16x128x128, .f32⟩
  | 85 => ⟨S128x1x16, .f32⟩
  | 86 => ⟨S128x16, .f32⟩
  | 87 => ⟨S128x16, .f32⟩
  | 88 => ⟨S128x16x1x1, .f32⟩
  | 89 => ⟨S128x16x128x128, .f32⟩
  | 90 => ⟨S128x16x128x128, .f32⟩
  | 91 => ⟨S128x1x16x128, .f32⟩
  | 92 => ⟨S128x16x128, .f32⟩
  | 93 => ⟨S128x1x16x128, .f32⟩
  | 94 => ⟨S128x16x128, .f32⟩
  | 95 => ⟨S128x16x128, .f32⟩
  | 96 => ⟨S128x16x128, .f32⟩
  | 97 => ⟨S128x1x16, .f32⟩
  | 98 => ⟨S128x16, .f32⟩
  | 99 => ⟨S128x16x1, .f32⟩
  | 100 => ⟨S128x16x128, .f32⟩
  | 101 => ⟨S128x16x128, .f32⟩
  | 102 => ⟨S128x1x16x128, .f32⟩
  | 103 => ⟨S128x16x128, .f32⟩
  | 104 => ⟨S128x16x128x1, .f32⟩
  | 105 => ⟨S128x16x1x128, .f32⟩
  | 106 => ⟨S128x16x128x128, .f32⟩
  | 107 => ⟨S128x16x128x128, .f32⟩
  | 108 => ⟨S128x16x128x128, .f32⟩
  | 109 => ⟨S128x16x128x128, .f32⟩
  | 110 => ⟨S128x1x16x128, .f32⟩
  | 111 => ⟨S128x16x128, .f32⟩
  | 112 => ⟨S128x16x128, .f32⟩
  | 113 => ⟨S128x1x16, .f32⟩
  | 114 => ⟨S128x16, .f32⟩
  | 115 => ⟨S128x16, .f32⟩
  | 116 => ⟨S128x16x1x1, .f32⟩
  | 117 => ⟨S128x16x128x128, .f32⟩
  | 118 => ⟨S128x16x128x128, .f32⟩
  | 119 => ⟨S128x1x16x128, .f32⟩
  | 120 => ⟨S128x16x128, .f32⟩
  | 121 => ⟨S128x1x16x128, .f32⟩
  | 122 => ⟨S128x16x128, .f32⟩
  | 123 => ⟨S128x16x128, .f32⟩
  | 124 => ⟨S128x16x128, .f32⟩
  | 125 => ⟨S128x1x16, .f32⟩
  | 126 => ⟨S128x16, .f32⟩
  | 127 => ⟨S128x16x1, .f32⟩
  | _ => ⟨S128x4x6144, .f32⟩

abbrev hbmTy0_1 (i : Nat) : BufTy := match i % 128 with
  | 0 => ⟨S128x16x128, .f32⟩
  | 1 => ⟨S128x16x128, .f32⟩
  | 2 => ⟨S128x1x16x128, .f32⟩
  | 3 => ⟨S128x16x128, .f32⟩
  | 4 => ⟨S128x16x128x1, .f32⟩
  | 5 => ⟨S128x16x1x128, .f32⟩
  | 6 => ⟨S128x16x128x128, .f32⟩
  | 7 => ⟨S128x16x128x128, .f32⟩
  | 8 => ⟨S128x16x128x128, .f32⟩
  | 9 => ⟨S128x16x128x128, .f32⟩
  | 10 => ⟨S128x1x16x128, .f32⟩
  | 11 => ⟨S128x16x128, .f32⟩
  | 12 => ⟨S128x16x128, .f32⟩
  | 13 => ⟨S128x1x16, .f32⟩
  | 14 => ⟨S128x16, .f32⟩
  | 15 => ⟨S128x16, .f32⟩
  | 16 => ⟨S128x16x1x1, .f32⟩
  | 17 => ⟨S128x16x128x128, .f32⟩
  | 18 => ⟨S128x16x128x128, .f32⟩
  | 19 => ⟨S128x1x16x128, .f32⟩
  | 20 => ⟨S128x16x128, .f32⟩
  | 21 => ⟨S128x1x16x128, .f32⟩
  | 22 => ⟨S128x16x128, .f32⟩
  | 23 => ⟨S128x16x128, .f32⟩
  | 24 => ⟨S128x16x128, .f32⟩
  | 25 => ⟨S128x1x16, .f32⟩
  | 26 => ⟨S128x16, .f32⟩
  | 27 => ⟨S128x16x1, .f32⟩
  | 28 => ⟨S128x16x128, .f32⟩
  | 29 => ⟨S128x16x128, .f32⟩
  | 30 => ⟨S128x1x16x128, .f32⟩
  | 31 => ⟨S128x16x128, .f32⟩
  | 32 => ⟨S128x16x128x1, .f32⟩
  | 33 => ⟨S128x16x1x128, .f32⟩
  | 34 => ⟨S128x16x128x128, .f32⟩
  | 35 => ⟨S128x16x128x128, .f32⟩
  | 36 => ⟨S128x16x128x128, .f32⟩
  | 37 => ⟨S128x16x128x128, .f32⟩
  | 38 => ⟨S128x1x16x128, .f32⟩
  | 39 => ⟨S128x16x128, .f32⟩
  | 40 => ⟨S128x16x128, .f32⟩
  | 41 => ⟨S128x1x16, .f32⟩
  | 42 => ⟨S128x16, .f32⟩
  | 43 => ⟨S128x16, .f32⟩
  | 44 => ⟨S128x16x1x1, .f32⟩
  | 45 => ⟨S128x16x128x128, .f32⟩
  | 46 => ⟨S128x16x128x128, .f32⟩
  | 47 => ⟨S128x1x16x128, .f32⟩
  | 48 => ⟨S128x16x128, .f32⟩
  | 49 => ⟨S128x1x16x128, .f32⟩
  | 50 => ⟨S128x16x128, .f32⟩
  | 51 => ⟨S128x16x128, .f32⟩
  | 52 => ⟨S128x16x128, .f32⟩
  | 53 => ⟨S128x1x16, .f32⟩
  | 54 => ⟨S128x16, .f32⟩
  | 55 => ⟨S128x16x1, .f32⟩
  | 56 => ⟨S128x16x128, .f32⟩
  | 57 => ⟨S128x16x128, .f32⟩
  | 58 => ⟨S128x1x16x128, .f32⟩
  | 59 => ⟨S128x16x128, .f32⟩
  | 60 => ⟨S128x16x128x1, .f32⟩
  | 61 => ⟨S128x16x1x128, .f32⟩
  | 62 => ⟨S128x16x128x128, .f32⟩
  | 63 => ⟨S128x16x128x128, .f32⟩
  | 64 => ⟨S128x16x128x128, .f32⟩
  | 65 => ⟨S128x16x128x128, .f32⟩
  | 66 => ⟨S128x1x16x128, .f32⟩
  | 67 => ⟨S128x16x128, .f32⟩
  | 68 => ⟨S128x16x128, .f32⟩
  | 69 => ⟨S128x1x16x128, .f32⟩
  | 70 => ⟨S128x1x16x128, .f32⟩
  | 71 => ⟨S128x1x16x128, .f32⟩
  | 72 => ⟨S128x1x16x128, .f32⟩
  | 73 => ⟨S128x4x16x128, .f32⟩
  | 74 => ⟨S128x4x16x128, .f32⟩
  | 75 => ⟨S_, .f32⟩
  | 76 => ⟨S128x4x16, .f32⟩
  | 77 => ⟨S128x4x16x1, .f32⟩
  | 78 => ⟨S_, .f32⟩
  | 79 => ⟨S128x4x16x1, .f32⟩
  | 80 => ⟨S128x4x16x1, .f32⟩
  | 81 => ⟨S_, .f32⟩
  | 82 => ⟨S128x4x16x1, .f32⟩
  | 83 => ⟨S128x4x16x1, .f32⟩
  | 84 => ⟨S128x4x16x1, .f32⟩
  | 85 => ⟨S128x4x16x128, .f32⟩
  | 86 => ⟨S128x4x16x128, .f32⟩
  | 87 => ⟨S1x1x1x128, .f32⟩
  | 88 => ⟨S128x4x16x128, .f32⟩
  | 89 => ⟨S128x4x16x128, .f32⟩
  | 90 => ⟨S128x4x16x128, .f32⟩
  | 91 => ⟨S128x4x16x128, .f32⟩
  | 92 => ⟨S128x4x16x128, .f32⟩
  | 93 => ⟨S_, .f32⟩
  | 94 => ⟨S128x4x16x128, .f32⟩
  | 95 => ⟨S128x4x16x128, .f32⟩
  | 96 => ⟨S_, .f32⟩
  | 97 => ⟨S128x4x16x128, .f32⟩
  | 98 => ⟨S128x4x16x128, .f32⟩
  | 99 => ⟨S128x4x16x128, .f32⟩
  | 100 => ⟨S128x4x16x128, .f32⟩
  | 101 => ⟨S128x4x2048, .f32⟩
  | 102 => ⟨S_, .i32⟩
  | 103 => ⟨S_, .f32⟩
  | 104 => ⟨S128x8x2048, .f32⟩
  | 105 => ⟨S1024x2048, .f32⟩
  | 106 => ⟨S1024x2048, .bf16⟩
  | 107 => ⟨S1x128x16x128x128, .f32⟩
  | 108 => ⟨S1x128x16x128x128, .f32⟩
  | 109 => ⟨S2x128x16x128x128, .f32⟩
  | _ => ⟨S128x4x6144, .f32⟩

abbrev hbmTy (i : Nat) : BufTy := match i / 128 with
  | 0 => hbmTy0_0 i
  | 1 => hbmTy0_1 i
  | _ => ⟨S128x4x6144, .f32⟩

abbrev bufTy : (tb : Table) → Fin (tcTables nBuf tb) → BufTy
  | .hbm, ⟨i, _⟩ => hbmTy i
  | _, _ => ⟨S128x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_2 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_cst_5 : Ref sig .tc := ⟨.hbm, 203, rfl⟩
abbrev main_v181 : Ref sig .tc := ⟨.hbm, 204, rfl⟩
abbrev main_v182 : Ref sig .tc := ⟨.hbm, 205, rfl⟩
abbrev main_cst_6 : Ref sig .tc := ⟨.hbm, 206, rfl⟩
abbrev main_v183 : Ref sig .tc := ⟨.hbm, 207, rfl⟩
abbrev main_v184 : Ref sig .tc := ⟨.hbm, 208, rfl⟩
abbrev main_cst_7 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_call1_v0 : Ref sig .tc := ⟨.hbm, 219, rfl⟩
abbrev main_call1_v1 : Ref sig .tc := ⟨.hbm, 220, rfl⟩
abbrev main_call1_cst : Ref sig .tc := ⟨.hbm, 221, rfl⟩
abbrev main_call1_v2 : Ref sig .tc := ⟨.hbm, 222, rfl⟩
abbrev main_call1_v3 : Ref sig .tc := ⟨.hbm, 223, rfl⟩
abbrev main_call1_cst_0 : Ref sig .tc := ⟨.hbm, 224, rfl⟩
abbrev main_call1_v4 : Ref sig .tc := ⟨.hbm, 225, rfl⟩
abbrev main_call1_v5 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_c : Ref sig .tc := ⟨.hbm, 230, rfl⟩
abbrev main_call2_v0 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩

abbrev nD : Nat := 1
abbrev τ : Topo := Topo.v7x

variable {F : FTy → Type} [FloatOps F]
-- ==== Ffn.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S256x2816 : Shape := ⟨2, ![256, 2816]⟩
abbrev S256 : Shape := ⟨1, ![256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  v1
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S8x2048x5632 : Shape := ⟨3, ![8, 2048, 5632]⟩
abbrev S8x2048x2816 : Shape := ⟨3, ![8, 2048, 2816]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8x2048x5632, .f32⟩
  | .hbm, ⟨6, _⟩ => ⟨S8x2048x2816, .f32⟩
  | .hbm, ⟨7, _⟩ => ⟨S8x2048x2816, .f32⟩
  | .hbm, ⟨8, _⟩ => ⟨S8x2048x2816, .f32⟩
  | .hbm, ⟨9, _⟩ => ⟨S_, .f32⟩
  | .hbm, ⟨10, _⟩ => ⟨S8x2048x2816, .f32⟩
  | .hbm, ⟨11, _⟩ => ⟨S8x2048x2816, .f32⟩
  | .hbm, ⟨12, _⟩ => ⟨S_, .f32⟩
  | .hbm, ⟨13, _⟩ => ⟨S8x2048x2816, .f32⟩
  | .hbm, ⟨14, _⟩ => ⟨S8x2048x2816, .f32⟩
  | .hbm, ⟨15, _⟩ => ⟨S8x2048x2816, .f32⟩
  | .hbm, ⟨16, _⟩ => ⟨S8x2048x2816, .f32⟩
  | .hbm, ⟨17, _⟩ => ⟨S8x2048x2816, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proj.lean ====
abbrev S8x2048x1024 : Shape := ⟨3, ![8, 2048, 1024]⟩
abbrev S1024x9216 : Shape := ⟨2, ![1024, 9216]⟩
abbrev S16384x1024 : Shape := ⟨2, ![16384, 1024]⟩
abbrev S16384x9216 : Shape := ⟨2, ![16384, 9216]⟩
abbrev S256x1024 : Shape := ⟨2, ![256, 1024]⟩
abbrev S256x9216 : Shape := ⟨2, ![256, 9216]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024x9216, .f32⟩
  | .hbm, ⟨2, _⟩ => ⟨S16384x1024, .f32⟩
  | .hbm, ⟨3, _⟩ => ⟨S1024x9216, .bf16⟩
  | .hbm, ⟨4, _⟩ => ⟨S16384x9216, .f32⟩
  | .local _ .vmem, ⟨0, _⟩ => ⟨S256x1024, .f32⟩
  | .local _ .vmem, ⟨1, _⟩ => ⟨S256x1024, .f32⟩
  | .local _ .vmem, ⟨2, _⟩ => ⟨S1024x9216, .bf16⟩
  | .local _ .vmem, ⟨3, _⟩ => ⟨S256x9216, .f32⟩
  | .local _ .vmem, ⟨4, _⟩ => ⟨S256x9216, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x9216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S8x2048x1024 : Shape := ⟨3, ![8, 2048, 1024]⟩
abbrev S1024x9216 : Shape := ⟨2, ![1024, 9216]⟩
abbrev S8x2048x9216 : Shape := ⟨3, ![8, 2048, 9216]⟩
abbrev S16384x9216 : Shape := ⟨2, ![16384, 9216]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x9216, .f32⟩
  | .hbm, ⟨2, _⟩ => ⟨S8x2048x9216, .f32⟩
  | .hbm, ⟨3, _⟩ => ⟨S16384x9216, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S16384x2048 : Shape := ⟨2, ![16384, 2048]⟩
abbrev S2048x1024 : Shape := ⟨2, ![2048, 1024]⟩
abbrev S8x2048x1024 : Shape := ⟨3, ![8, 2048, 1024]⟩
abbrev S1024 : Shape := ⟨1, ![1024]⟩
abbrev S16384x1024 : Shape := ⟨2, ![16384, 1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x2048 : Shape := ⟨2, ![16384, 2048]⟩
abbrev S2048x1024 : Shape := ⟨2, ![2048, 1024]⟩
abbrev S8x2048x1024 : Shape := ⟨3, ![8, 2048, 1024]⟩
abbrev S1024 : Shape := ⟨1, ![1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x2048, .f32⟩
  | .hbm, ⟨6, _⟩ => ⟨S8x2048x2048, .f32⟩
  | .hbm, ⟨7, _⟩ => ⟨S8x2048x1024, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Zproj.lean ====
abbrev S8x2048x1024 : Shape := ⟨3, ![8, 2048, 1024]⟩
abbrev S1024x6176 : Shape := ⟨2, ![1024, 6176]⟩
abbrev S16384x1024 : Shape := ⟨2, ![16384, 1024]⟩
abbrev S1024x6144 : Shape := ⟨2, ![1024, 6144]⟩
abbrev S16384x6144 : Shape := ⟨2, ![16384, 6144]⟩
abbrev S256x1024 : Shape := ⟨2, ![256, 1024]⟩
abbrev S256x6144 : Shape := ⟨2, ![256, 6144]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024x6176, .f32⟩
  | .hbm, ⟨2, _⟩ => ⟨S16384x1024, .f32⟩
  | .hbm, ⟨3, _⟩ => ⟨S1024x6144, .f32⟩
  | .hbm, ⟨4, _⟩ => ⟨S1024x6144, .bf16⟩
  | .hbm, ⟨5, _⟩ => ⟨S16384x6144, .f32⟩
  | .local _ .vmem, ⟨0, _⟩ => ⟨S256x1024, .f32⟩
  | .local _ .vmem, ⟨1, _⟩ => ⟨S256x1024, .f32⟩
  | .local _ .vmem, ⟨2, _⟩ => ⟨S1024x6144, .bf16⟩
  | .local _ .vmem, ⟨3, _⟩ => ⟨S256x6144, .f32⟩
  | .local _ .vmem, ⟨4, _⟩ => ⟨S256x6144, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ZprojRefIdeal.lean ====
abbrev S8x2048x1024 : Shape := ⟨3, ![8, 2048, 1024]⟩
abbrev S1024x6176 : Shape := ⟨2, ![1024, 6176]⟩
abbrev S8x2048x6176 : Shape := ⟨3, ![8, 2048, 6176]⟩
abbrev S8x2048x6144 : Shape := ⟨3, ![8, 2048, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x6176, .f32⟩
  | .hbm, ⟨2, _⟩ => ⟨S8x2048x6176, .f32⟩
  | .hbm, ⟨3, _⟩ => ⟨S8x2048x6144, .f32⟩
  | .hbm, ⟨4, _⟩ => ⟨S16384x6144, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S16384x1024 : Shape := ⟨2, ![16384, 1024]⟩
abbrev S1024x1024 : Shape := ⟨2, ![1024, 1024]⟩
abbrev S8x2048x1024 : Shape := ⟨3, ![8, 2048, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeRefIdeal.lean ====
abbrev S16384x1024 : Shape := ⟨2, ![16384, 1024]⟩
abbrev S1024x1024 : Shape := ⟨2, ![1024, 1024]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Wina.lean ====
abbrev S8x2048x9216 : Shape := ⟨3, ![8, 2048, 9216]⟩
abbrev S16384x9216 : Shape := ⟨2, ![16384, 9216]⟩
abbrev S2x8x2x1024x128 : Shape := ⟨5, ![2, 8, 2, 1024, 128]⟩
abbrev S128x1024 : Shape := ⟨2, ![128, 1024]⟩
abbrev S1x1x1x1024x128 : Shape := ⟨5, ![1, 1, 1, 1024, 128]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S16384x9216, .f32⟩
  | .hbm, ⟨3, _⟩ => ⟨S16384x9216, .f32⟩
  | .hbm, ⟨4, _⟩ => ⟨S2x8x2x1024x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1x1x1024x128, .f32⟩
  | .local _ .vmem, ⟨5, _⟩ => ⟨S1x1x1x1024x128, .f32⟩
  | _, _ => ⟨S8x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 2, 1], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c16_i32 : BitVec 32 := 16#32
  let v1 : BitVec 32 := Scalar.muli arg1 c16_i32
  let c15_i32 : BitVec 32 := 15#32
  let v2 : BitVec 32 := Scalar.addi v1 c15_i32
  let v3 : BitVec 32 := Scalar.addi v2 arg3
  let c15_i32_0 : BitVec 32 := 15#32
  let v4 : BitVec 32 := Scalar.select v0 v3 c15_i32_0
  let c0_i32_1 : BitVec 32 := 0#32
  let v5 : BitVec 1 := Scalar.cmpi .eq arg0 c0_i32_1
  let c0_i32_2 : BitVec 32 := 0#32
  let v6 : BitVec 32 := Scalar.select v5 arg2 c0_i32_2
  let c1_i32 : BitVec 32 := 1#32
  let v7 : BitVec 32 := Scalar.addi c1_i32 v6
  let c0_i32_3 : BitVec 32 := 0#32
  ![v4.toNat, v7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .eq arg0 c1_i32
  let c16_i32 : BitVec 32 := 16#32
  let v1 : BitVec 32 := Scalar.muli arg1 c16_i32
  let c15_i32 : BitVec 32 := 15#32
  let v2 : BitVec 32 := Scalar.addi v1 c15_i32
  let v3 : BitVec 32 := Scalar.addi v2 arg3
  let c15_i32_0 : BitVec 32 := 15#32
  let v4 : BitVec 32 := Scalar.select v0 v3 c15_i32_0
  let c1_i32_1 : BitVec 32 := 1#32
  let v5 : BitVec 1 := Scalar.cmpi .eq arg0 c1_i32_1
  let c0_i32 : BitVec 32 := 0#32
  let v6 : BitVec 32 := Scalar.select v5 arg2 c0_i32
  let c1_i32_2 : BitVec 32 := 1#32
  let v7 : BitVec 32 := Scalar.addi c1_i32_2 v6
  let c0_i32_3 : BitVec 32 := 0#32
  ![v4.toNat, v7.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat, arg3.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== WinaIdeal.lean ====
abbrev S8x2048x9216 : Shape := ⟨3, ![8, 2048, 9216]⟩
abbrev S16384x9216 : Shape := ⟨2, ![16384, 9216]⟩
abbrev S2x8x2x1024x128 : Shape := ⟨5, ![2, 8, 2, 1024, 128]⟩
abbrev S128x1024 : Shape := ⟨2, ![128, 1024]⟩
abbrev S1x1x1x1024x128 : Shape := ⟨5, ![1, 1, 1, 1024, 128]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S16384x9216, .f32⟩
  | .hbm, ⟨3, _⟩ => ⟨S16384x9216, .f32⟩
  | .hbm, ⟨4, _⟩ => ⟨S2x8x2x1024x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1x1x1024x128, .f32⟩
  | .local _ .vmem, ⟨5, _⟩ => ⟨S1x1x1x1024x128, .f32⟩
  | _, _ => ⟨S8x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 2, 1], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c16_i32 : BitVec 32 := 16#32
  let v1 : BitVec 32 := Scalar.muli arg1 c16_i32
  let c15_i32 : BitVec 32 := 15#32
  let v2 : BitVec 32 := Scalar.addi v1 c15_i32
  let v3 : BitVec 32 := Scalar.addi v2 arg3
  let c15_i32_0 : BitVec 32 := 15#32
  let v4 : BitVec 32 := Scalar.select v0 v3 c15_i32_0
  let c0_i32_1 : BitVec 32 := 0#32
  let v5 : BitVec 1 := Scalar.cmpi .eq arg0 c0_i32_1
  let c0_i32_2 : BitVec 32 := 0#32
  let v6 : BitVec 32 := Scalar.select v5 arg2 c0_i32_2
  let c1_i32 : BitVec 32 := 1#32
  let v7 : BitVec 32 := Scalar.addi c1_i32 v6
  let c0_i32_3 : BitVec 32 := 0#32
  ![v4.toNat, v7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .eq arg0 c1_i32
  let c16_i32 : BitVec 32 := 16#32
  let v1 : BitVec 32 := Scalar.muli arg1 c16_i32
  let c15_i32 : BitVec 32 := 15#32
  let v2 : BitVec 32 := Scalar.addi v1 c15_i32
  let v3 : BitVec 32 := Scalar.addi v2 arg3
  let c15_i32_0 : BitVec 32 := 15#32
  let v4 : BitVec 32 := Scalar.select v0 v3 c15_i32_0
  let c1_i32_1 : BitVec 32 := 1#32
  let v5 : BitVec 1 := Scalar.cmpi .eq arg0 c1_i32_1
  let c0_i32 : BitVec 32 := 0#32
  let v6 : BitVec 32 := Scalar.select v5 arg2 c0_i32
  let c1_i32_2 : BitVec 32 := 1#32
  let v7 : BitVec 32 := Scalar.addi c1_i32_2 v6
  let c0_i32_3 : BitVec 32 := 0#32
  ![v4.toNat, v7.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat, arg3.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== WinaRefIdeal.lean ====
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x16x64 : Shape := ⟨5, ![8, 2048, 1, 16, 64]⟩
abbrev S8x2048x2x16x64 : Shape := ⟨5, ![8, 2048, 2, 16, 64]⟩
abbrev S8x128x2x16x64 : Shape := ⟨5, ![8, 128, 2, 16, 64]⟩
abbrev S1x8x128x2x16x64 : Shape := ⟨6, ![1, 8, 128, 2, 16, 64]⟩
abbrev S2x8x128x2x16x64 : Shape := ⟨6, ![2, 8, 128, 2, 16, 64]⟩
abbrev S2x8x2x16x64x128 : Shape := ⟨6, ![2, 8, 2, 16, 64, 128]⟩
abbrev S2x8x2x1024x128 : Shape := ⟨5, ![2, 8, 2, 1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S8x2048x3x3x16x64, .f32⟩
  | .hbm, ⟨3, _⟩ => ⟨S8x2048x1x1x16x64, .f32⟩
  | .hbm, ⟨4, _⟩ => ⟨S8x2048x16x64, .f32⟩
  | .hbm, ⟨5, _⟩ => ⟨S8x2048x1x1x16x64, .f32⟩
  | .hbm, ⟨6, _⟩ => ⟨S8x2048x16x64, .f32⟩
  | .hbm, ⟨7, _⟩ => ⟨S8x2048x1x16x64, .f32⟩
  | .hbm, ⟨8, _⟩ => ⟨S8x2048x1x16x64, .f32⟩
  | .hbm, ⟨9, _⟩ => ⟨S8x2048x2x16x64, .f32⟩
  | .hbm, ⟨10, _⟩ => ⟨S8x128x2x16x64, .f32⟩
  | .hbm, ⟨11, _⟩ => ⟨S8x2048x3x3x16x64, .f32⟩
  | .hbm, ⟨12, _⟩ => ⟨S8x2048x1x1x16x64, .f32⟩
  | .hbm, ⟨13, _⟩ => ⟨S8x2048x16x64, .f32⟩
  | .hbm, ⟨14, _⟩ => ⟨S8x2048x1x1x16x64, .f32⟩
  | .hbm, ⟨15, _⟩ => ⟨S8x2048x16x64, .f32⟩
  | .hbm, ⟨16, _⟩ => ⟨S8x2048x1x16x64, .f32⟩
  | .hbm, ⟨17, _⟩ => ⟨S8x2048x1x16x64, .f32⟩
  | .hbm, ⟨18, _⟩ => ⟨S8x2048x2x16x64, .f32⟩
  | .hbm, ⟨19, _⟩ => ⟨S8x128x2x16x64, .f32⟩
  | .hbm, ⟨20, _⟩ => ⟨S1x8x128x2x16x64, .f32⟩
  | .hbm, ⟨21, _⟩ => ⟨S1x8x128x2x16x64, .f32⟩
  | .hbm, ⟨22, _⟩ => ⟨S2x8x128x2x16x64, .f32⟩
  | .hbm, ⟨23, _⟩ => ⟨S2x8x2x16x64x128, .f32⟩
  | .hbm, ⟨24, _⟩ => ⟨S2x8x2x1024x128, .f32⟩
  | _, _ => ⟨S8x2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Winb.lean ====
abbrev S8x2048x9216 : Shape := ⟨3, ![8, 2048, 9216]⟩
abbrev S16384x9216 : Shape := ⟨2, ![16384, 9216]⟩
abbrev S2x8x2x1024x512 : Shape := ⟨5, ![2, 8, 2, 1024, 512]⟩
abbrev S512x1024 : Shape := ⟨2, ![512, 1024]⟩
abbrev S1x1x1x1024x512 : Shape := ⟨5, ![1, 1, 1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S16384x9216, .f32⟩
  | .hbm, ⟨3, _⟩ => ⟨S16384x9216, .f32⟩
  | .hbm, ⟨4, _⟩ => ⟨S2x8x2x1024x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1x1024x512, .f32⟩
  | .local _ .vmem, ⟨5, _⟩ => ⟨S1x1x1x1024x512, .f32⟩
  | _, _ => ⟨S8x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 2, 1], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c4_i32 : BitVec 32 := 4#32
  let v1 : BitVec 32 := Scalar.muli arg1 c4_i32
  let c3_i32 : BitVec 32 := 3#32
  let v2 : BitVec 32 := Scalar.addi v1 c3_i32
  let v3 : BitVec 32 := Scalar.addi v2 arg3
  let c3_i32_0 : BitVec 32 := 3#32
  let v4 : BitVec 32 := Scalar.select v0 v3 c3_i32_0
  let c0_i32_1 : BitVec 32 := 0#32
  let v5 : BitVec 1 := Scalar.cmpi .eq arg0 c0_i32_1
  let c0_i32_2 : BitVec 32 := 0#32
  let v6 : BitVec 32 := Scalar.select v5 arg2 c0_i32_2
  let c4_i32_3 : BitVec 32 := 4#32
  let v7 : BitVec 32 := Scalar.addi c4_i32_3 v6
  let c0_i32_4 : BitVec 32 := 0#32
  ![v4.toNat, v7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .eq arg0 c1_i32
  let c4_i32 : BitVec 32 := 4#32
  let v1 : BitVec 32 := Scalar.muli arg1 c4_i32
  let c3_i32 : BitVec 32 := 3#32
  let v2 : BitVec 32 := Scalar.addi v1 c3_i32
  let v3 : BitVec 32 := Scalar.addi v2 arg3
  let c3_i32_0 : BitVec 32 := 3#32
  let v4 : BitVec 32 := Scalar.select v0 v3 c3_i32_0
  let c1_i32_1 : BitVec 32 := 1#32
  let v5 : BitVec 1 := Scalar.cmpi .eq arg0 c1_i32_1
  let c0_i32 : BitVec 32 := 0#32
  let v6 : BitVec 32 := Scalar.select v5 arg2 c0_i32
  let c4_i32_2 : BitVec 32 := 4#32
  let v7 : BitVec 32 := Scalar.addi c4_i32_2 v6
  let c0_i32_3 : BitVec 32 := 0#32
  ![v4.toNat, v7.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat, arg3.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== WinbIdeal.lean ====
abbrev S8x2048x9216 : Shape := ⟨3, ![8, 2048, 9216]⟩
abbrev S16384x9216 : Shape := ⟨2, ![16384, 9216]⟩
abbrev S2x8x2x1024x512 : Shape := ⟨5, ![2, 8, 2, 1024, 512]⟩
abbrev S512x1024 : Shape := ⟨2, ![512, 1024]⟩
abbrev S1x1x1x1024x512 : Shape := ⟨5, ![1, 1, 1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S16384x9216, .f32⟩
  | .hbm, ⟨3, _⟩ => ⟨S16384x9216, .f32⟩
  | .hbm, ⟨4, _⟩ => ⟨S2x8x2x1024x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1x1024x512, .f32⟩
  | .local _ .vmem, ⟨5, _⟩ => ⟨S1x1x1x1024x512, .f32⟩
  | _, _ => ⟨S8x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 2, 1], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c4_i32 : BitVec 32 := 4#32
  let v1 : BitVec 32 := Scalar.muli arg1 c4_i32
  let c3_i32 : BitVec 32 := 3#32
  let v2 : BitVec 32 := Scalar.addi v1 c3_i32
  let v3 : BitVec 32 := Scalar.addi v2 arg3
  let c3_i32_0 : BitVec 32 := 3#32
  let v4 : BitVec 32 := Scalar.select v0 v3 c3_i32_0
  let c0_i32_1 : BitVec 32 := 0#32
  let v5 : BitVec 1 := Scalar.cmpi .eq arg0 c0_i32_1
  let c0_i32_2 : BitVec 32 := 0#32
  let v6 : BitVec 32 := Scalar.select v5 arg2 c0_i32_2
  let c4_i32_3 : BitVec 32 := 4#32
  let v7 : BitVec 32 := Scalar.addi c4_i32_3 v6
  let c0_i32_4 : BitVec 32 := 0#32
  ![v4.toNat, v7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .eq arg0 c1_i32
  let c4_i32 : BitVec 32 := 4#32
  let v1 : BitVec 32 := Scalar.muli arg1 c4_i32
  let c3_i32 : BitVec 32 := 3#32
  let v2 : BitVec 32 := Scalar.addi v1 c3_i32
  let v3 : BitVec 32 := Scalar.addi v2 arg3
  let c3_i32_0 : BitVec 32 := 3#32
  let v4 : BitVec 32 := Scalar.select v0 v3 c3_i32_0
  let c1_i32_1 : BitVec 32 := 1#32
  let v5 : BitVec 1 := Scalar.cmpi .eq arg0 c1_i32_1
  let c0_i32 : BitVec 32 := 0#32
  let v6 : BitVec 32 := Scalar.select v5 arg2 c0_i32
  let c4_i32_2 : BitVec 32 := 4#32
  let v7 : BitVec 32 := Scalar.addi c4_i32_2 v6
  let c0_i32_3 : BitVec 32 := 0#32
  ![v4.toNat, v7.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat, arg3.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== WinbRefIdeal.lean ====
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x16x64 : Shape := ⟨5, ![8, 2048, 1, 16, 64]⟩
abbrev S8x2048x2x16x64 : Shape := ⟨5, ![8, 2048, 2, 16, 64]⟩
abbrev S8x512x2x16x64 : Shape := ⟨5, ![8, 512, 2, 16, 64]⟩
abbrev S1x8x512x2x16x64 : Shape := ⟨6, ![1, 8, 512, 2, 16, 64]⟩
abbrev S2x8x512x2x16x64 : Shape := ⟨6, ![2, 8, 512, 2, 16, 64]⟩
abbrev S2x8x2x16x64x512 : Shape := ⟨6, ![2, 8, 2, 16, 64, 512]⟩
abbrev S2x8x2x1024x512 : Shape := ⟨5, ![2, 8, 2, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S8x2048x3x3x16x64, .f32⟩
  | .hbm, ⟨3, _⟩ => ⟨S8x2048x1x1x16x64, .f32⟩
  | .hbm, ⟨4, _⟩ => ⟨S8x2048x16x64, .f32⟩
  | .hbm, ⟨5, _⟩ => ⟨S8x2048x1x1x16x64, .f32⟩
  | .hbm, ⟨6, _⟩ => ⟨S8x2048x16x64, .f32⟩
  | .hbm, ⟨7, _⟩ => ⟨S8x2048x1x16x64, .f32⟩
  | .hbm, ⟨8, _⟩ => ⟨S8x2048x1x16x64, .f32⟩
  | .hbm, ⟨9, _⟩ => ⟨S8x2048x2x16x64, .f32⟩
  | .hbm, ⟨10, _⟩ => ⟨S8x512x2x16x64, .f32⟩
  | .hbm, ⟨11, _⟩ => ⟨S8x2048x3x3x16x64, .f32⟩
  | .hbm, ⟨12, _⟩ => ⟨S8x2048x1x1x16x64, .f32⟩
  | .hbm, ⟨13, _⟩ => ⟨S8x2048x16x64, .f32⟩
  | .hbm, ⟨14, _⟩ => ⟨S8x2048x1x1x16x64, .f32⟩
  | .hbm, ⟨15, _⟩ => ⟨S8x2048x16x64, .f32⟩
  | .hbm, ⟨16, _⟩ => ⟨S8x2048x1x16x64, .f32⟩
  | .hbm, ⟨17, _⟩ => ⟨S8x2048x1x16x64, .f32⟩
  | .hbm, ⟨18, _⟩ => ⟨S8x2048x2x16x64, .f32⟩
  | .hbm, ⟨19, _⟩ => ⟨S8x512x2x16x64, .f32⟩
  | .hbm, ⟨20, _⟩ => ⟨S1x8x512x2x16x64, .f32⟩
  | .hbm, ⟨21, _⟩ => ⟨S1x8x512x2x16x64, .f32⟩
  | .hbm, ⟨22, _⟩ => ⟨S2x8x512x2x16x64, .f32⟩
  | .hbm, ⟨23, _⟩ => ⟨S2x8x2x16x64x512, .f32⟩
  | .hbm, ⟨24, _⟩ => ⟨S2x8x2x1024x512, .f32⟩
  | _, _ => ⟨S8x2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Winc.lean ====
abbrev S8x2048x9216 : Shape := ⟨3, ![8, 2048, 9216]⟩
abbrev S16384x9216 : Shape := ⟨2, ![16384, 9216]⟩
abbrev S2x8x2x1024x2048 : Shape := ⟨5, ![2, 8, 2, 1024, 2048]⟩
abbrev S512x1024 : Shape := ⟨2, ![512, 1024]⟩
abbrev S1x1x1x1024x512 : Shape := ⟨5, ![1, 1, 1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S16384x9216, .f32⟩
  | .hbm, ⟨3, _⟩ => ⟨S16384x9216, .f32⟩
  | .hbm, ⟨4, _⟩ => ⟨S2x8x2x1024x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1x1024x512, .f32⟩
  | .local _ .vmem, ⟨5, _⟩ => ⟨S1x1x1x1024x512, .f32⟩
  | _, _ => ⟨S8x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 2, 4], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c4_i32 : BitVec 32 := 4#32
  let v1 : BitVec 32 := Scalar.muli arg1 c4_i32
  let c0_i32_0 : BitVec 32 := 0#32
  let v2 : BitVec 32 := Scalar.addi v1 c0_i32_0
  let v3 : BitVec 32 := Scalar.addi v2 arg3
  let c0_i32_1 : BitVec 32 := 0#32
  let v4 : BitVec 32 := Scalar.select v0 v3 c0_i32_1
  let c0_i32_2 : BitVec 32 := 0#32
  let v5 : BitVec 1 := Scalar.cmpi .eq arg0 c0_i32_2
  let c0_i32_3 : BitVec 32 := 0#32
  let v6 : BitVec 32 := Scalar.select v5 arg2 c0_i32_3
  let c7_i32 : BitVec 32 := 7#32
  let v7 : BitVec 32 := Scalar.addi c7_i32 v6
  let c0_i32_4 : BitVec 32 := 0#32
  ![v4.toNat, v7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .eq arg0 c1_i32
  let c4_i32 : BitVec 32 := 4#32
  let v1 : BitVec 32 := Scalar.muli arg1 c4_i32
  let c0_i32 : BitVec 32 := 0#32
  let v2 : BitVec 32 := Scalar.addi v1 c0_i32
  let v3 : BitVec 32 := Scalar.addi v2 arg3
  let c0_i32_0 : BitVec 32 := 0#32
  let v4 : BitVec 32 := Scalar.select v0 v3 c0_i32_0
  let c1_i32_1 : BitVec 32 := 1#32
  let v5 : BitVec 1 := Scalar.cmpi .eq arg0 c1_i32_1
  let c0_i32_2 : BitVec 32 := 0#32
  let v6 : BitVec 32 := Scalar.select v5 arg2 c0_i32_2
  let c7_i32 : BitVec 32 := 7#32
  let v7 : BitVec 32 := Scalar.addi c7_i32 v6
  let c0_i32_3 : BitVec 32 := 0#32
  ![v4.toNat, v7.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat, arg3.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]
-- ==== WincRefIdeal.lean ====
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x16x64 : Shape := ⟨5, ![8, 2048, 1, 16, 64]⟩
abbrev S8x2048x2x16x64 : Shape := ⟨5, ![8, 2048, 2, 16, 64]⟩
abbrev S1x8x2048x2x16x64 : Shape := ⟨6, ![1, 8, 2048, 2, 16, 64]⟩
abbrev S2x8x2048x2x16x64 : Shape := ⟨6, ![2, 8, 2048, 2, 16, 64]⟩
abbrev S2x8x2x16x64x2048 : Shape := ⟨6, ![2, 8, 2, 16, 64, 2048]⟩
abbrev S2x8x2x1024x2048 : Shape := ⟨5, ![2, 8, 2, 1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x9216, .f32⟩
  | .hbm, ⟨1, _⟩ => ⟨S8x2048x9216, .f32⟩
  | .hbm, ⟨2, _⟩ => ⟨S8x2048x3x3x16x64, .f32⟩
  | .hbm, ⟨3, _⟩ => ⟨S8x2048x1x1x16x64, .f32⟩
  | .hbm, ⟨4, _⟩ => ⟨S8x2048x16x64, .f32⟩
  | .hbm, ⟨5, _⟩ => ⟨S8x2048x1x1x16x64, .f32⟩
  | .hbm, ⟨6, _⟩ => ⟨S8x2048x16x64, .f32⟩
  | .hbm, ⟨7, _⟩ => ⟨S8x2048x1x16x64, .f32⟩
  | .hbm, ⟨8, _⟩ => ⟨S8x2048x1x16x64, .f32⟩
  | .hbm, ⟨9, _⟩ => ⟨S8x2048x2x16x64, .f32⟩
  | .hbm, ⟨10, _⟩ => ⟨S8x2048x3x3x16x64, .f32⟩
  | .hbm, ⟨11, _⟩ => ⟨S8x2048x1x1x16x64, .f32⟩
  | .hbm, ⟨12, _⟩ => ⟨S8x2048x16x64, .f32⟩
  | .hbm, ⟨13, _⟩ => ⟨S8x2048x1x1x16x64, .f32⟩
  | .hbm, ⟨14, _⟩ => ⟨S8x2048x16x64, .f32⟩
  | .hbm, ⟨15, _⟩ => ⟨S8x2048x1x16x64, .f32⟩
  | .hbm, ⟨16, _⟩ => ⟨S8x2048x1x16x64, .f32⟩
  | .hbm, ⟨17, _⟩ => ⟨S8x2048x2x16x64, .f32⟩
  | .hbm, ⟨18, _⟩ => ⟨S1x8x2048x2x16x64, .f32⟩
  | .hbm, ⟨19, _⟩ => ⟨S1x8x2048x2x16x64, .f32⟩
  | .hbm, ⟨20, _⟩ => ⟨S2x8x2048x2x16x64, .f32⟩
  | .hbm, ⟨21, _⟩ => ⟨S2x8x2x16x64x2048, .f32⟩
  | .hbm, ⟨22, _⟩ => ⟨S2x8x2x1024x2048, .f32⟩
  | _, _ => ⟨S8x2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Swa.lean ====
abbrev S1024x9216 : Shape := ⟨2, ![1024, 9216]⟩
abbrev S2x128x128x2x16x64 : Shape := ⟨6, ![2, 128, 128, 2, 16, 64]⟩
abbrev S2x128x512x2x16x64 : Shape := ⟨6, ![2, 128, 512, 2, 16, 64]⟩
abbrev S2x128x2048x2x16x64 : Shape := ⟨6, ![2, 128, 2048, 2, 16, 64]⟩
abbrev S16x8x128 : Shape := ⟨3, ![16, 8, 128]⟩
abbrev S16x8x512 : Shape := ⟨3, ![16, 8, 512]⟩
abbrev S16x8x2048 : Shape := ⟨3, ![16, 8, 2048]⟩
abbrev S16x8x8 : Shape := ⟨3, ![16, 8, 8]⟩
abbrev S2x128x2x16x64x128 : Shape := ⟨6, ![2, 128, 2, 16, 64, 128]⟩
abbrev S2x128x2x16x64x512 : Shape := ⟨6, ![2, 128, 2, 16, 64, 512]⟩
abbrev S2x128x2x16x64x2048 : Shape := ⟨6, ![2, 128, 2, 16, 64, 2048]⟩
abbrev S128x128 : Shape := ⟨2, ![128, 128]⟩
abbrev S128x512 : Shape := ⟨2, ![128, 512]⟩
abbrev S128x2048 : Shape := ⟨2, ![128, 2048]⟩
abbrev S16x16 : Shape := ⟨2, ![16, 16]⟩
abbrev S_ : Shape := ⟨0, ![]⟩
abbrev S16x1x16x1 : Shape := ⟨4, ![16, 1, 16, 1]⟩
abbrev S16x8x1x8 : Shape := ⟨4, ![16, 8, 1, 8]⟩
abbrev S16x8x16x8 : Shape := ⟨4, ![16, 8, 16, 8]⟩
abbrev S64x64 : Shape := ⟨2, ![64, 64]⟩
abbrev S1x64x64 : Shape := ⟨3, ![1, 64, 64]⟩
abbrev S2x64x64 : Shape := ⟨3, ![2, 64, 64]⟩
abbrev S2x1x64x64 : Shape := ⟨4, ![2, 1, 64, 64]⟩
abbrev S2x3x64x64 : Shape := ⟨4, ![2, 3, 64, 64]⟩
abbrev S1024x1024 : Shape := ⟨2, ![1024, 1024]⟩
abbrev S8x512 : Shape := ⟨2, ![8, 512]⟩
abbrev S1x1x2x8x64x128 : Shape := ⟨6, ![1, 1, 2, 8, 64, 128]⟩
abbrev S1x1x2x8x64x512 : Shape := ⟨6, ![1, 1, 2, 8, 64, 512]⟩
abbrev S1x1x2x8x64x2048 : Shape := ⟨6, ![1, 1, 2, 8, 64, 2048]⟩
abbrev S64x128 : Shape := ⟨2, ![64, 128]⟩
abbrev S64x512 : Shape := ⟨2, ![64, 512]⟩
abbrev S64x2048 : Shape := ⟨2, ![64, 2048]⟩
abbrev S1x3x64x64 : Shape := ⟨4, ![1, 3, 64, 64]⟩
abbrev S8x64 : Shape := ⟨2, ![8, 64]⟩
abbrev S1x1x1x1x64x128 : Shape := ⟨6, ![1, 1, 1, 1, 64, 128]⟩
abbrev S8x128 : Shape := ⟨2, ![8, 128]⟩
abbrev S1x1x1x1x64x512 : Shape := ⟨6, ![1, 1, 1, 1, 64, 512]⟩
abbrev S1x1x1x1x64x2048 : Shape := ⟨6, ![1, 1, 1, 1, 64, 2048]⟩
abbrev S8x2048 : Shape := ⟨2, ![8, 2048]⟩
abbrev S1x1x64x64 : Shape := ⟨4, ![1, 1, 64, 64]⟩
abbrev S64 : Shape := ⟨1, ![64]⟩
abbrev S64x1 : Shape := ⟨2, ![64, 1]⟩

abbrev nBuf : Space → Nat
  | .hbm => 67
  | .vmem => 34
  | .smem => 0
  | _ => 0

abbrev bufTy : (tb : Table) → Fin (tcTables nBuf tb) → BufTy
  | .hbm, ⟨0, _⟩ => ⟨S1024x9216, .f32⟩
  | .hbm, ⟨1, _⟩ => ⟨S2x128x128x2x16x64, .f32⟩
  | .hbm, ⟨2, _⟩ => ⟨S2x128x512x2x16x64, .f32⟩
  | .hbm, ⟨3, _⟩ => ⟨S2x128x2048x2x16x64, .f32⟩
  | .hbm, ⟨4, _⟩ => ⟨S16x8x128, .f32⟩
  | .hbm, ⟨5, _⟩ => ⟨S16x8x512, .f32⟩
  | .hbm, ⟨6, _⟩ => ⟨S16x8x2048, .f32⟩
  | .hbm, ⟨7, _⟩ => ⟨S16x8x8, .f32⟩
  | .hbm, ⟨8, _⟩ => ⟨S16x8x8, .f32⟩
  | .hbm, ⟨9, _⟩ => ⟨S16x8x8, .f32⟩
  | .hbm, ⟨10, _⟩ => ⟨S2x128x2x16x64x128, .f32⟩
  | .hbm, ⟨11, _⟩ => ⟨S2x128x2x16x64x512, .f32⟩
  | .hbm, ⟨12, _⟩ => ⟨S2x128x2x16x64x2048, .f32⟩
  | .hbm, ⟨13, _⟩ => ⟨S128x128, .f32⟩
  | .hbm, ⟨14, _⟩ => ⟨S128x512, .f32⟩
  | .hbm, ⟨15, _⟩ => ⟨S128x2048, .f32⟩
  | .hbm, ⟨16, _⟩ => ⟨S16x16, .i32⟩
  | .hbm, ⟨17, _⟩ => ⟨S16x16, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S16x1x16x1, .i1⟩
  | .hbm, ⟨23, _⟩ => ⟨S16x8x1x8, .f32⟩
  | .hbm, ⟨24, _⟩ => ⟨S_, .f32⟩
  | .hbm, ⟨25, _⟩ => ⟨S_, .f32⟩
  | .hbm, ⟨26, _⟩ => ⟨S16x8x16x8, .i1⟩
  | .hbm, ⟨27, _⟩ => ⟨S16x8x16x8, .f32⟩
  | .hbm, ⟨28, _⟩ => ⟨S16x8x16x8, .f32⟩
  | .hbm, ⟨29, _⟩ => ⟨S16x8x16x8, .f32⟩
  | .hbm, ⟨30, _⟩ => ⟨S128x128, .f32⟩
  | .hbm, ⟨31, _⟩ => ⟨S64x64, .f32⟩
  | .hbm, ⟨32, _⟩ => ⟨S64x64, .f32⟩
  | .hbm, ⟨33, _⟩ => ⟨S1x64x64, .f32⟩
  | .hbm, ⟨34, _⟩ => ⟨S1x64x64, .f32⟩
  | .hbm, ⟨35, _⟩ => ⟨S2x64x64, .f32⟩
  | .hbm, ⟨36, _⟩ => ⟨S16x8x1x8, .f32⟩
  | .hbm, ⟨37, _⟩ => ⟨S_, .f32⟩
  | .hbm, ⟨38, _⟩ => ⟨S_, .f32⟩
  | .hbm, ⟨39, _⟩ => ⟨S16x8x16x8, .i1⟩
  | .hbm, ⟨40, _⟩ => ⟨S16x8x16x8, .f32⟩
  | .hbm, ⟨41, _⟩ => ⟨S16x8x16x8, .f32⟩
  | .hbm, ⟨42, _⟩ => ⟨S16x8x16x8, .f32⟩
  | .hbm, ⟨43, _⟩ => ⟨S128x128, .f32⟩
  | .hbm, ⟨44, _⟩ => ⟨S64x64, .f32⟩
  | .hbm, ⟨45, _⟩ => ⟨S64x64, .f32⟩
  | .hbm, ⟨46, _⟩ => ⟨S1x64x64, .f32⟩
  | .hbm, ⟨47, _⟩ => ⟨S1x64x64, .f32⟩
  | .hbm, ⟨48, _⟩ => ⟨S2x64x64, .f32⟩
  | .hbm, ⟨49, _⟩ => ⟨S16x8x1x8, .f32⟩
  | .hbm, ⟨50, _⟩ => ⟨S_, .f32⟩
  | .hbm, ⟨51, _⟩ => ⟨S_, .f32⟩
  | .hbm, ⟨52, _⟩ => ⟨S16x8x16x8, .i1⟩
  | .hbm, ⟨53, _⟩ => ⟨S16x8x16x8, .f32⟩
  | .hbm, ⟨54, _⟩ => ⟨S16x8x16x8, .f32⟩
  | .hbm, ⟨55, _⟩ => ⟨S16x8x16x8, .f32⟩
  | .hbm, ⟨56, _⟩ => ⟨S128x128, .f32⟩
  | .hbm, ⟨57, _⟩ => ⟨S64x64, .f32⟩
  | .hbm, ⟨58, _⟩ => ⟨S64x64, .f32⟩
  | .hbm, ⟨59, _⟩ => ⟨S1x64x64, .f32⟩
  | .hbm, ⟨60, _⟩ => ⟨S1x64x64, .f32⟩
  | .hbm, ⟨61, _⟩ => ⟨S2x64x64, .f32⟩
  | .hbm, ⟨62, _⟩ => ⟨S2x1x64x64, .f32⟩
  | .hbm, ⟨63, _⟩ => ⟨S2x1x64x64, .f32⟩
  | .hbm, ⟨64, _⟩ => ⟨S2x1x64x64, .f32⟩
  | .hbm, ⟨65, _⟩ => ⟨S2x3x64x64, .f32⟩
  | .hbm, ⟨66, _⟩ => ⟨S1024x1024, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S1x1x2x8x64x128, .f32⟩
  | .local _ .vmem, ⟨19, _⟩ => ⟨S1x1x2x8x64x128, .f32⟩
  | .local _ .vmem, ⟨20, _⟩ => ⟨S1x1x2x8x64x512, .f32⟩
  | .local _ .vmem, ⟨21, _⟩ => ⟨S1x1x2x8x64x512, .f32⟩
  | .local _ .vmem, ⟨22, _⟩ => ⟨S1x1x2x8x64x2048, .f32⟩
  | .local _ .vmem, ⟨23, _⟩ => ⟨S1x1x2x8x64x2048, .f32⟩
  | .local _ .vmem, ⟨24, _⟩ => ⟨S64x128, .f32⟩
  | .local _ .vmem, ⟨25, _⟩ => ⟨S64x128, .f32⟩
  | .local _ .vmem, ⟨26, _⟩ => ⟨S64x512, .f32⟩
  | .local _ .vmem, ⟨27, _⟩ => ⟨S64x512, .f32⟩
  | .local _ .vmem, ⟨28, _⟩ => ⟨S64x2048, .f32⟩
  | .local _ .vmem, ⟨29, _⟩ => ⟨S64x2048, .f32⟩
  | .local _ .vmem, ⟨30, _⟩ => ⟨S1x3x64x64, .f32⟩
  | .local _ .vmem, ⟨31, _⟩ => ⟨S1x3x64x64, .f32⟩
  | .local _ .vmem, ⟨32, _⟩ => ⟨S8x512, .f32⟩
  | .local _ .vmem, ⟨33, _⟩ => ⟨S8x512, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_9 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, arg0.toNat, c0_i32_1.toNat, c0_i32_2.toNat]

def cc0_transform_10 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, arg0.toNat, c0_i32_1.toNat, c0_i32_2.toNat]

def cc0_transform_11 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, arg0.toNat, c0_i32_1.toNat, c0_i32_2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x8x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x8x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x3x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SwaRefIdeal.lean ====
abbrev S1024x9216 : Shape := ⟨2, ![1024, 9216]⟩
abbrev S2x128x128x2x16x64 : Shape := ⟨6, ![2, 128, 128, 2, 16, 64]⟩
abbrev S2x128x512x2x16x64 : Shape := ⟨6, ![2, 128, 512, 2, 16, 64]⟩
abbrev S2x128x2048x2x16x64 : Shape := ⟨6, ![2, 128, 2048, 2, 16, 64]⟩
abbrev S16x8x128 : Shape := ⟨3, ![16, 8, 128]⟩
abbrev S16x8x512 : Shape := ⟨3, ![16, 8, 512]⟩
abbrev S16x8x2048 : Shape := ⟨3, ![16, 8, 2048]⟩
abbrev S16x8x8 : Shape := ⟨3, ![16, 8, 8]⟩
abbrev S128x8x3x3x16x64 : Shape := ⟨6, ![128, 8, 3, 3, 16, 64]⟩
abbrev S128x8x1x1x16x64 : Shape := ⟨6, ![128, 8, 1, 1, 16, 64]⟩
abbrev S128x8x16x64 : Shape := ⟨4, ![128, 8, 16, 64]⟩
abbrev S1x128x128x2x16x64 : Shape := ⟨6, ![1, 128, 128, 2, 16, 64]⟩
abbrev S128x128x2x16x64 : Shape := ⟨5, ![128, 128, 2, 16, 64]⟩
abbrev S16x8x136 : Shape := ⟨3, ![16, 8, 136]⟩
abbrev S128x8x1x16x64 : Shape := ⟨5, ![128, 8, 1, 16, 64]⟩
abbrev S128x8x2x16x64 : Shape := ⟨5, ![128, 8, 2, 16, 64]⟩
abbrev S128x136x2x16x64 : Shape := ⟨5, ![128, 136, 2, 16, 64]⟩
abbrev S_ : Shape := ⟨0, ![]⟩
abbrev S128x136x1x16x64 : Shape := ⟨5, ![128, 136, 1, 16, 64]⟩
abbrev S128x136x16x64 : Shape := ⟨4, ![128, 136, 16, 64]⟩
abbrev S128x16x8x136 : Shape := ⟨4, ![128, 16, 8, 136]⟩
abbrev S1x16x8x136 : Shape := ⟨4, ![1, 16, 8, 136]⟩
abbrev S128x16x8 : Shape := ⟨3, ![128, 16, 8]⟩
abbrev S128x16x8x1 : Shape := ⟨4, ![128, 16, 8, 1]⟩
abbrev S128x16x8x64 : Shape := ⟨4, ![128, 16, 8, 64]⟩
abbrev S1x128x512x2x16x64 : Shape := ⟨6, ![1, 128, 512, 2, 16, 64]⟩
abbrev S128x512x2x16x64 : Shape := ⟨5, ![128, 512, 2, 16, 64]⟩
abbrev S16x8x520 : Shape := ⟨3, ![16, 8, 520]⟩
abbrev S128x520x2x16x64 : Shape := ⟨5, ![128, 520, 2, 16, 64]⟩
abbrev S128x520x1x16x64 : Shape := ⟨5, ![128, 520, 1, 16, 64]⟩
abbrev S128x520x16x64 : Shape := ⟨4, ![128, 520, 16, 64]⟩
abbrev S128x16x8x520 : Shape := ⟨4, ![128, 16, 8, 520]⟩
abbrev S1x16x8x520 : Shape := ⟨4, ![1, 16, 8, 520]⟩
abbrev S1x128x2048x2x16x64 : Shape := ⟨6, ![1, 128, 2048, 2, 16, 64]⟩
abbrev S128x2048x2x16x64 : Shape := ⟨5, ![128, 2048, 2, 16, 64]⟩
abbrev S16x8x2056 : Shape := ⟨3, ![16, 8, 2056]⟩
abbrev S128x2056x2x16x64 : Shape := ⟨5, ![128, 2056, 2, 16, 64]⟩
abbrev S128x2056x1x16x64 : Shape := ⟨5, ![128, 2056, 1, 16, 64]⟩
abbrev S128x2056x16x64 : Shape := ⟨4, ![128, 2056, 16, 64]⟩
abbrev S128x16x8x2056 : Shape := ⟨4, ![128, 16, 8, 2056]⟩
abbrev S1x16x8x2056 : Shape := ⟨4, ![1, 16, 8, 2056]⟩
abbrev S1x128x16x8 : Shape := ⟨4, ![1, 128, 16, 8]⟩
abbrev S3x128x16x8 : Shape := ⟨4, ![3, 128, 16, 8]⟩
abbrev S1x128x16x8x64 : Shape := ⟨5, ![1, 128, 16, 8, 64]⟩
abbrev S3x128x16x8x64 : Shape := ⟨5, ![3, 128, 16, 8, 64]⟩
abbrev S1024x1024 : Shape := ⟨2, ![1024, 1024]⟩

abbrev nBuf : Space → Nat
  | .hbm => 152
  | .vmem => 0
  | .smem => 0
  | _ => 0

abbrev hbmTy0_0 (i : Nat) : BufTy := match i % 128 with
  | 0 => ⟨S1024x9216, .f32⟩
  | 1 => ⟨S2x128x128x2x16x64, .f32⟩
  | 2 => ⟨S2x128x512x2x16x64, .f32⟩
  | 3 => ⟨S2x128x2048x2x16x64, .f32⟩
  | 4 => ⟨S16x8x128, .f32⟩
  | 5 => ⟨S16x8x512, .f32⟩
  | 6 => ⟨S16x8x2048, .f32⟩
  | 7 => ⟨S16x8x8, .f32⟩
  | 8 => ⟨S16x8x8, .f32⟩
  | 9 => ⟨S16x8x8, .f32⟩
  | 10 => ⟨S128x8x3x3x16x64, .f32⟩
  | 11 => ⟨S128x8x1x1x16x64, .f32⟩
  | 12 => ⟨S128x8x16x64, .f32⟩
  | 13 => ⟨S128x8x1x1x16x64, .f32⟩
  | 14 => ⟨S128x8x16x64, .f32⟩
  | 15 => ⟨S128x8x1x1x16x64, .f32⟩
  | 16 => ⟨S128x8x16x64, .f32⟩
  | 17 => ⟨S1x128x128x2x16x64, .f32⟩
  | 18 => ⟨S128x128x2x16x64, .f32⟩
  | 19 => ⟨S16x8x136, .f32⟩
  | 20 => ⟨S128x8x1x16x64, .f32⟩
  | 21 => ⟨S128x8x1x16x64, .f32⟩
  | 22 => ⟨S128x8x2x16x64, .f32⟩
  | 23 => ⟨S128x136x2x16x64, .f32⟩
  | 24 => ⟨S_, .f32⟩
  | 25 => ⟨S128x8x16x64, .f32⟩
  | 26 => ⟨S128x8x16x64, .f32⟩
  | 27 => ⟨S128x136x1x16x64, .f32⟩
  | 28 => ⟨S128x136x16x64, .f32⟩
  | 29 => ⟨S128x16x8x136, .f32⟩
  | 30 => ⟨S1x16x8x136, .f32⟩
  | 31 => ⟨S128x16x8x136, .f32⟩
  | 32 => ⟨S128x16x8x136, .f32⟩
  | 33 => ⟨S_, .f32⟩
  | 34 => ⟨S128x16x8, .f32⟩
  | 35 => ⟨S128x16x8x1, .f32⟩
  | 36 => ⟨S128x16x8x136, .f32⟩
  | 37 => ⟨S128x16x8x136, .f32⟩
  | 38 => ⟨S128x16x8x136, .f32⟩
  | 39 => ⟨S_, .f32⟩
  | 40 => ⟨S128x16x8, .f32⟩
  | 41 => ⟨S128x136x1x16x64, .f32⟩
  | 42 => ⟨S128x136x16x64, .f32⟩
  | 43 => ⟨S128x16x8x64, .f32⟩
  | 44 => ⟨S128x16x8x1, .f32⟩
  | 45 => ⟨S128x16x8x64, .f32⟩
  | 46 => ⟨S128x16x8x64, .f32⟩
  | 47 => ⟨S128x16x8, .f32⟩
  | 48 => ⟨S128x16x8, .f32⟩
  | 49 => ⟨S128x16x8, .f32⟩
  | 50 => ⟨S128x8x1x1x16x64, .f32⟩
  | 51 => ⟨S128x8x16x64, .f32⟩
  | 52 => ⟨S128x8x1x1x16x64, .f32⟩
  | 53 => ⟨S128x8x16x64, .f32⟩
  | 54 => ⟨S128x8x1x1x16x64, .f32⟩
  | 55 => ⟨S128x8x16x64, .f32⟩
  | 56 => ⟨S1x128x512x2x16x64, .f32⟩
  | 57 => ⟨S128x512x2x16x64, .f32⟩
  | 58 => ⟨S16x8x520, .f32⟩
  | 59 => ⟨S128x8x1x16x64, .f32⟩
  | 60 => ⟨S128x8x1x16x64, .f32⟩
  | 61 => ⟨S128x8x2x16x64, .f32⟩
  | 62 => ⟨S128x520x2x16x64, .f32⟩
  | 63 => ⟨S_, .f32⟩
  | 64 => ⟨S128x8x16x64, .f32⟩
  | 65 => ⟨S128x8x16x64, .f32⟩
  | 66 => ⟨S128x520x1x16x64, .f32⟩
  | 67 => ⟨S128x520x16x64, .f32⟩
  | 68 => ⟨S128x16x8x520, .f32⟩
  | 69 => ⟨S1x16x8x520, .f32⟩
  | 70 => ⟨S128x16x8x520, .f32⟩
  | 71 => ⟨S128x16x8x520, .f32⟩
  | 72 => ⟨S_, .f32⟩
  | 73 => ⟨S128x16x8, .f32⟩
  | 74 => ⟨S128x16x8x1, .f32⟩
  | 75 => ⟨S128x16x8x520, .f32⟩
  | 76 => ⟨S128x16x8x520, .f32⟩
  | 77 => ⟨S128x16x8x520, .f32⟩
  | 78 => ⟨S_, .f32⟩
  | 79 => ⟨S128x16x8, .f32⟩
  | 80 => ⟨S128x520x1x16x64, .f32⟩
  | 81 => ⟨S128x520x16x64, .f32⟩
  | 82 => ⟨S128x16x8x64, .f32⟩
  | 83 => ⟨S128x16x8x1, .f32⟩
  | 84 => ⟨S128x16x8x64, .f32⟩
  | 85 => ⟨S128x16x8x64, .f32⟩
  | 86 => ⟨S128x16x8, .f32⟩
  | 87 => ⟨S128x16x8, .f32⟩
  | 88 => ⟨S128x16x8, .f32⟩
  | 89 => ⟨S128x8x1x1x16x64, .f32⟩
  | 90 => ⟨S128x8x16x64, .f32⟩
  | 91 => ⟨S128x8x1x1x16x64, .f32⟩
  | 92 => ⟨S128x8x16x64, .f32⟩
  | 93 => ⟨S128x8x1x1x16x64, .f32⟩
  | 94 => ⟨S128x8x16x64, .f32⟩
  | 95 => ⟨S1x128x2048x2x16x64, .f32⟩
  | 96 => ⟨S128x2048x2x16x64, .f32⟩
  | 97 => ⟨S16x8x2056, .f32⟩
  | 98 => ⟨S128x8x1x16x64, .f32⟩
  | 99 => ⟨S128x8x1x16x64, .f32⟩
  | 100 => ⟨S128x8x2x16x64, .f32⟩
  | 101 => ⟨S128x2056x2x16x64, .f32⟩
  | 102 => ⟨S_, .f32⟩
  | 103 => ⟨S128x8x16x64, .f32⟩
  | 104 => ⟨S128x8x16x64, .f32⟩
  | 105 => ⟨S128x2056x1x16x64, .f32⟩
  | 106 => ⟨S128x2056x16x64, .f32⟩
  | 107 => ⟨S128x16x8x2056, .f32⟩
  | 108 => ⟨S1x16x8x2056, .f32⟩
  | 109 => ⟨S128x16x8x2056, .f32⟩
  | 110 => ⟨S128x16x8x2056, .f32⟩
  | 111 => ⟨S_, .f32⟩
  | 112 => ⟨S128x16x8, .f32⟩
  | 113 => ⟨S128x16x8x1, .f32⟩
  | 114 => ⟨S128x16x8x2056, .f32⟩
  | 115 => ⟨S128x16x8x2056, .f32⟩
  | 116 => ⟨S128x16x8x2056, .f32⟩
  | 117 => ⟨S_, .f32⟩
  | 118 => ⟨S128x16x8, .f32⟩
  | 119 => ⟨S128x2056x1x16x64, .f32⟩
  | 120 => ⟨S128x2056x16x64, .f32⟩
  | 121 => ⟨S128x16x8x64, .f32⟩
  | 122 => ⟨S128x16x8x1, .f32⟩
  | 123 => ⟨S128x16x8x64, .f32⟩
  | 124 => ⟨S128x16x8x64, .f32⟩
  | 125 => ⟨S128x16x8, .f32⟩
  | 126 => ⟨S128x16x8, .f32⟩
  | 127 => ⟨S128x16x8, .f32⟩
  | _ => ⟨S1024x9216, .f32⟩

abbrev hbmTy0_1 (i : Nat) : BufTy := match i % 128 with
  | 0 => ⟨S1x128x16x8, .f32⟩
  | 1 => ⟨S1x128x16x8, .f32⟩
  | 2 => ⟨S1x128x16x8, .f32⟩
  | 3 => ⟨S3x128x16x8, .f32⟩
  | 4 => ⟨S_, .f32⟩
  | 5 => ⟨S128x16x8, .f32⟩
  | 6 => ⟨S_, .f32⟩
  | 7 => ⟨S128x16x8, .f32⟩
  | 8 => ⟨S128x16x8, .f32⟩
  | 9 => ⟨S1x128x16x8, .f32⟩
  | 10 => ⟨S3x128x16x8, .f32⟩
  | 11 => ⟨S3x128x16x8, .f32⟩
  | 12 => ⟨S3x128x16x8, .f32⟩
  | 13 => ⟨S_, .f32⟩
  | 14 => ⟨S128x16x8, .f32⟩
  | 15 => ⟨S1x128x16x8, .f32⟩
  | 16 => ⟨S3x128x16x8, .f32⟩
  | 17 => ⟨S3x128x16x8, .f32⟩
  | 18 => ⟨S1x128x16x8x64, .f32⟩
  | 19 => ⟨S1x128x16x8x64, .f32⟩
  | 20 => ⟨S1x128x16x8x64, .f32⟩
  | 21 => ⟨S3x128x16x8x64, .f32⟩
  | 22 => ⟨S128x8x16x64, .f32⟩
  | 23 => ⟨S1024x1024, .f32⟩
  | _ => ⟨S1024x9216, .f32⟩

abbrev hbmTy (i : Nat) : BufTy := match i / 128 with
  | 0 => hbmTy0_0 i
  | 1 => hbmTy0_1 i
  | _ => ⟨S1024x9216, .f32⟩

abbrev bufTy : (tb : Table) → Fin (tcTables nBuf tb) → BufTy
  | .hbm, ⟨i, _⟩ => hbmTy i
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_2 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_5 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_6 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_7 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_8 : Ref sig .tc := ⟨.hbm, 132, rfl⟩
abbrev main_v113 : Ref sig .tc := ⟨.hbm, 133, rfl⟩
abbrev main_cst_9 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_10 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩

abbrev nD : Nat := 1
abbrev τ : Topo := Topo.v7x

variable {F : FTy → Type} [FloatOps F]
-- ==== Proof.Wina.lean ====
/-
  The window buffers of the group of dilation 1: the array that the kernel leaves is the reference's, the last keys and
  values of both layers' projections with the positions last.
-/
module

public import proofs.«01_k».proof.Defs
public import proofs.«01_k».proof.Proof.Gen.WinaIdeal.Value
public import proofs.«01_k».proof.Proof.Gen.WinaRefIdeal.Run
public import proofs.«01_k».proof.Proof.Gen.WinaRefIdeal.Read
public import Idealize.ShloMosaic.Lib.Pipeline.ValueKit.Point
public import Idealize.ShloMosaic.Lib.Pointwise
public import Idealize.ShloMosaic.Lib.ValueIdxRank6

@[expose] public section

set_option maxRecDepth 16384

noncomputable section

namespace Cert.Proof.Wina

open Idealize.ShloMosaic Idealize.ShloMosaic.TcCoe Idealize.SL.Sem
open Cert.WinaIdeal Cert.WinaIdeal.Gen

variable (m : (ℓ : Loc nD τ sig) → Buf (Elt Ideal) ℓ) (ρ : Dev nD → PrngReg)

/-- The first layer's points read its rows of the request and the columns of keys or of values; the others a fixed block. -/
theorem index_p : ∀ t : Fin cfg0.N, t.val < 16 → win0_0.index t = ![t.val / 2 * 16 + 15, 1 + t.val % 2] :=
  (by decide +kernel : ∀ t : Fin grid0.N, t.val < 16 → win0_0.index t = ![t.val / 2 * 16 + 15, 1 + t.val % 2])

/-- The second layer's points read its rows of the request and the columns of keys or of values. -/
theorem index_q : ∀ t : Fin cfg0.N, 16 ≤ t.val → win0_1.index t = ![(t.val - 16) / 2 * 16 + 15, 1 + t.val % 2] :=
  (by decide +kernel : ∀ t : Fin grid0.N, 16 ≤ t.val → win0_1.index t = ![(t.val - 16) / 2 * 16 + 15, 1 + t.val % 2])

/-- A point writes the block of its layer, its request and keys or values. -/
theorem index_o : ∀ t : Fin cfg0.N, win0_2.index t = ![t.val / 16, t.val / 2 % 8, t.val % 2, 0, 0] :=
  (by decide +kernel : ∀ t : Fin grid0.N, win0_2.index t = ![t.val / 16, t.val / 2 % 8, t.val % 2, 0, 0])

theorem entry_p (c : Dev nD) : V m c main_v0 = shapeCast _ (m ((c : Thread nD τ).loc main_arg0)) shapeCasts_S8x2048x9216_S16384x9216 := by
  entry_read
  rfl

theorem entry_q (c : Dev nD) : V m c main_v1 = shapeCast _ (m ((c : Thread nD τ).loc main_arg1)) shapeCasts_S8x2048x9216_S16384x9216 := by
  entry_read
  rfl

/-- Row `r` of the window: position `1920 + r`; channel `k` of keys or values `s`. -/
def row (x : S8x2048x9216.Idx → EReal) (b : Fin 8) (s : Fin 2) (k : Fin 1024) (r : Fin 128) : EReal :=
  x (ix3 b ⟨1920 + r.val, by omega⟩ ⟨(1 + s.val) * 1024 + k.val, by omega⟩)

/-- The two layers' windows. -/
def win (x x' : S8x2048x9216.Idx → EReal) : S2x8x2x1024x128.Idx → EReal :=
  fun y => if (y 0).val = 0 then row x (y 1) (y 2) (y 3) (y 4) else row x' (y 1) (y 2) (y 3) (y 4)

theorem pblk (c : Dev nD) (t : Fin cfg0.N) (h : t.val < 16) (b : Fin 8) (s : Fin 2) (hb : t.val / 2 = b.val) (hs : t.val % 2 = s.val)
    (r : Fin 128) (k : Fin 1024) : iblk m c 0 t (ix2 r k) = row (m ((c : Thread nD τ).loc main_arg0)) b s k r := by
  have e : (win0_0.blk t).view.emb (ix2 r k)
      = (ix2 ⟨(b.val * 16 + 15) * 128 + r.val, by omega⟩ ⟨(1 + s.val) * 1024 + k.val, by omega⟩ : S16384x9216.Idx) := by
    blk_ext [index_p t h, hb, hs]
  blk_simp [iblk]
  rw [entry_p, e]
  refine shapeCast_apply _ _ _ (ix3 b ⟨1920 + r.val, by omega⟩ ⟨(1 + s.val) * 1024 + k.val, by omega⟩) ?_
  rw [Shape.rowMajor_val_three, Shape.rowMajor_val_two]
  show (b.val * 2048 + (1920 + r.val)) * 9216 + ((1 + s.val) * 1024 + k.val) = ((b.val * 16 + 15) * 128 + r.val) * 9216 + ((1 + s.val) * 1024 + k.val)
  omega

theorem qblk (c : Dev nD) (t : Fin cfg0.N) (h : 16 ≤ t.val) (b : Fin 8) (s : Fin 2) (hb : (t.val - 16) / 2 = b.val) (hs : t.val % 2 = s.val)
    (r : Fin 128) (k : Fin 1024) : iblk m c 1 t (ix2 r k) = row (m ((c : Thread nD τ).loc main_arg1)) b s k r := by
  have e : (win0_1.blk t).view.emb (ix2 r k)
      = (ix2 ⟨(b.val * 16 + 15) * 128 + r.val, by omega⟩ ⟨(1 + s.val) * 1024 + k.val, by omega⟩ : S16384x9216.Idx) := by
    blk_ext [index_q t h, hb, hs]
  blk_simp [iblk]
  rw [entry_q, e]
  refine shapeCast_apply _ _ _ (ix3 b ⟨1920 + r.val, by omega⟩ ⟨(1 + s.val) * 1024 + k.val, by omega⟩) ?_
  rw [Shape.rowMajor_val_three, Shape.rowMajor_val_two]
  show (b.val * 2048 + (1920 + r.val)) * 9216 + ((1 + s.val) * 1024 + k.val) = ((b.val * 16 + 15) * 128 + r.val) * 9216 + ((1 + s.val) * 1024 + k.val)
  omega

section
variable (c : Dev nD) (i : grid0.Coords) (arg4 : Memref sig .tc .vmem S128x1024 .f32) (harg4 : arg4.IsWhole)
  (arg5 : Memref sig .tc .vmem S128x1024 .f32) (harg5 : arg5.IsWhole) (arg6 : Memref sig .tc .vmem S1x1x1x1024x128 .f32) (harg6 : arg6.IsWhole)
  (x0 x1 : Vec Ideal S128x1024 .f32) (k : Fin 1024) (r : Fin 128) (u0 u1 u2 : Fin 1)

/-- The first layer's body leaves its block transposed. -/
theorem out_A (hc0 : cond0_0 i) (hc1 : ¬cond0_1 i) :
    out0_A_2 c i arg4 harg4 arg5 harg5 arg6 harg6 hc0 hc1 x0 x1 (ix5 u0 u1 u2 k r) = x0 (ix2 r k) := by
  have h2 : (![0, 0] : Fin 2 → Nat) = fun _ => 0 := funext fun a => by fin_cases a <;> rfl
  have h5 : (![0, 0, 0, 0, 0] : Fin 5 → Nat) = fun _ => 0 := funext fun a => by fin_cases a <;> rfl
  unfold out0_A_2
  rw [View.read_writes_eq_canon _ _ _ (cover0_A_2 c i arg4 harg4 arg5 harg5 arg6 harg6 hc0 hc1 x0 x1)]
  unfold kernelRun0_A
  dsimp only
  sl_unfold_words
  simp only [View.readAt_eq_ld, harg4.read_unread]
  rw [View.ld_unit_zero h2 _ x0]
  refine (congrFun (View.canon_unit_zero h5 _ _) _).trans ?_
  pointwise [k0_pay1]

/-- The second layer's body leaves its block transposed. -/
theorem out_B (hc0 : ¬cond0_0 i) (hc1 : cond0_1 i) :
    out0_B_2 c i arg4 harg4 arg5 harg5 arg6 harg6 hc0 hc1 x0 x1 (ix5 u0 u1 u2 k r) = x1 (ix2 r k) := by
  have h2 : (![0, 0] : Fin 2 → Nat) = fun _ => 0 := funext fun a => by fin_cases a <;> rfl
  have h5 : (![0, 0, 0, 0, 0] : Fin 5 → Nat) = fun _ => 0 := funext fun a => by fin_cases a <;> rfl
  unfold out0_B_2
  rw [View.read_writes_eq_canon _ _ _ (cover0_B_2 c i arg4 harg4 arg5 harg5 arg6 harg6 hc0 hc1 x0 x1)]
  unfold kernelRun0_B
  dsimp only
  sl_unfold_words
  simp only [View.readAt_eq_ld, harg5.read_unread]
  rw [View.ld_unit_zero h2 _ x1]
  refine (congrFun (View.canon_unit_zero h5 _ _) _).trans ?_
  pointwise [k0_pay2]
end

set_option maxHeartbeats 1000000 in
/-- The array after the run. -/
theorem final (c : Dev nD) : (dats m 0 c).arrAt 2 cfg0.N
    = win (m ((c : Thread nD τ).loc main_arg0)) (m ((c : Thread nD τ).loc main_arg1)) := by
  refine (dats m 0 c).arrAt_eq_of_covers 2 _ (by decide +kernel) fun t hf y => ?_
  blk_simp
  rw [after0_2]
  have e0 : ((win0_2.blk t).view.emb y 0).val = t.val / 16 + (y 0).val := by blk_simp [index_o t]
  have e1 : ((win0_2.blk t).view.emb y 1).val = t.val / 2 % 8 + (y 1).val := by blk_simp [index_o t]
  have e2 : ((win0_2.blk t).view.emb y 2).val = t.val % 2 + (y 2).val := by blk_simp [index_o t]
  have e3 : ((win0_2.blk t).view.emb y 3).val = (y 3).val := by blk_simp [index_o t]
  have e4 : ((win0_2.blk t).view.emb y 4).val = (y 4).val := by blk_simp [index_o t]
  generalize (win0_2.blk t).view.emb y = z at e0 e1 e2 e3 e4 ⊢
  idx_vars y
  idx_vars z
  have ht : t.val < 32 := t.isLt
  have hy0 : y0.val < 1 := y0.isLt
  have hy1 : y1.val < 1 := y1.isLt
  have hy2 : y2.val < 1 := y2.isLt
  by_cases h0 : t.val < 16
  · rw [outsAt0_A m c t h0 (by omega)]
    have key := pblk m c t h0 z1 z2 (by omega) (by omega) y4 y3
    refine (out_A c _ _ _ _ _ _ _ _ _ y3 y4 y0 y1 y2 _ _).trans (key.trans ?_)
    obtain rfl : z3 = y3 := Fin.ext e3
    obtain rfl : z4 = y4 := Fin.ext e4
    exact (if_pos (show z0.val = 0 by omega)).symm
  · rw [outsAt0_B m c t h0 (by omega)]
    have key := qblk m c t (by omega) z1 z2 (by omega) (by omega) y4 y3
    refine (out_B c _ _ _ _ _ _ _ _ _ y3 y4 y0 y1 y2 _ _).trans (key.trans ?_)
    obtain rfl : z3 = y3 := Fin.ext e3
    obtain rfl : z4 = y4 := Fin.ext e4
    exact (if_neg (show ¬z0.val = 0 by omega)).symm

/-- The split of a projection's columns into groups, queries, keys and values, heads and channels. -/
theorem split_apply (x : S8x2048x9216.Idx → EReal) (b : Fin 8) (r : Fin 2048) (g s : Fin 3) (h : Fin 16) (e : Fin 64) (hc : Cert.WinaRefIdeal.S8x2048x9216.ShapeCasts Cert.WinaRefIdeal.S8x2048x3x3x16x64) :
    shapeCast Cert.WinaRefIdeal.S8x2048x3x3x16x64 x hc (ix6 b r g s h e)
      = x (ix3 b r ⟨g.val * 3072 + s.val * 1024 + h.val * 64 + e.val, by omega⟩) := by
  refine shapeCast_apply _ _ _ _ ?_
  rw [Shape.rowMajor_val_three, Shape.rowMajor_val_six]
  show (b.val * 2048 + r.val) * 9216 + (g.val * 3072 + s.val * 1024 + h.val * 64 + e.val)
    = ((((b.val * 2048 + r.val) * 3 + g.val) * 3 + s.val) * 16 + h.val) * 64 + e.val
  omega

open Cert.WinaRefIdeal.Read in
/-- The keys' channels of a projection. -/
theorem keys (x : S8x2048x9216.Idx → EReal) (b : Fin 8) (r : Fin 2048) (u : Fin 1) (h : Fin 16) (e : Fin 64) :
    val_main_v5 (F := Ideal) x (ix5 b r u h e) = x (ix3 b r ⟨1024 + h.val * 64 + e.val, by omega⟩) := by
  pointwise [val_main_v5]
  unfold val_main_v2
  refine (shapeCast_apply _ _ _ (ix6 b r 0 0 h e) ?_).trans ?_
  · rw [Shape.rowMajor_val_four, Shape.rowMajor_val_six]
    show ((((b.val * 2048 + r.val) * 1 + 0) * 1 + 0) * 16 + h.val) * 64 + e.val = ((b.val * 2048 + r.val) * 16 + h.val) * 64 + e.val
    omega
  pointwise [val_main_v1]
  unfold val_main_v0
  refine (split_apply x b r 0 1 h e _).trans (congrArg x ?_)
  exact congrArg (ix3 b r) (Fin.ext (show 0 * 3072 + 1 * 1024 + h.val * 64 + e.val = 1024 + h.val * 64 + e.val by omega))

open Cert.WinaRefIdeal.Read in
/-- The values' channels of a projection. -/
theorem vals (x : S8x2048x9216.Idx → EReal) (b : Fin 8) (r : Fin 2048) (u : Fin 1) (h : Fin 16) (e : Fin 64) :
    val_main_v6 (F := Ideal) x (ix5 b r u h e) = x (ix3 b r ⟨2048 + h.val * 64 + e.val, by omega⟩) := by
  pointwise [val_main_v6]
  unfold val_main_v4
  refine (shapeCast_apply _ _ _ (ix6 b r 0 0 h e) ?_).trans ?_
  · rw [Shape.rowMajor_val_four, Shape.rowMajor_val_six]
    show ((((b.val * 2048 + r.val) * 1 + 0) * 1 + 0) * 16 + h.val) * 64 + e.val = ((b.val * 2048 + r.val) * 16 + h.val) * 64 + e.val
    omega
  pointwise [val_main_v3]
  unfold val_main_v0
  refine (split_apply x b r 0 2 h e _).trans (congrArg x ?_)
  exact congrArg (ix3 b r) (Fin.ext (show 0 * 3072 + 2 * 1024 + h.val * 64 + e.val = 2048 + h.val * 64 + e.val by omega))

open Cert.WinaRefIdeal.Read in
/-- A projection's last keys and values. -/
theorem tail_apply (x : S8x2048x9216.Idx → EReal) (b : Fin 8) (r : Fin 128) (s : Fin 2) (k : Fin 1024) :
    val_main_v8 (F := Ideal) x (ix5 b r s ⟨k.val / 64, by omega⟩ ⟨k.val % 64, by omega⟩) = row x b s k r := by
  pointwise [val_main_v8, val_main_v7]
  rw [row]
  by_cases h : s.val < 1
  · refine (dif_pos h).trans ((keys x b _ _ _ _).trans (congrArg x ?_))
    exact congrArg (ix3 b _) (Fin.ext (show 1024 + k.val / 64 * 64 + k.val % 64 = (1 + s.val) * 1024 + k.val by omega))
  · refine (dif_neg h).trans ((vals x b _ _ _ _).trans (congrArg x ?_))
    exact congrArg (ix3 b _) (Fin.ext (show 2048 + k.val / 64 * 64 + k.val % 64 = (1 + s.val) * 1024 + k.val by omega))

open Cert.WinaRefIdeal.Read in
/-- The reference's windows. -/
theorem ref_eq (x x' : S8x2048x9216.Idx → EReal) : val_main_v22 (F := Ideal) x x' = win x x' := by
  funext y
  idx_vars y
  unfold val_main_v22
  refine (shapeCast_apply _ _ _ (ix6 y0 y1 y2 ⟨y3.val / 64, by omega⟩ ⟨y3.val % 64, by omega⟩ y4) ?_).trans ?_
  · rw [Shape.rowMajor_val_five, Shape.rowMajor_val_six]
    show ((((y0.val * 8 + y1.val) * 2 + y2.val) * 16 + y3.val / 64) * 64 + y3.val % 64) * 128 + y4.val
      = (((y0.val * 8 + y1.val) * 2 + y2.val) * 1024 + y3.val) * 128 + y4.val
    omega
  pointwise [val_main_v21, val_main_v20, val_main_v19, val_main_v18]
  have a := tail_apply x y1 y4 y2 y3
  have b := tail_apply x' y1 y4 y2 y3
  have hy : y0.val < 2 := y0.isLt
  by_cases h : y0.val < 1
  · exact (dif_pos h).trans (a.trans (if_pos (show y0.val = 0 by omega)).symm)
  · exact (dif_neg h).trans (b.trans (if_neg (show ¬y0.val = 0 by omega)).symm)

/-- The two programs from equal arguments end with equal results. -/
theorem algebraic : Cert.algebraic_WinaIdeal_WinaRefIdeal (hWinaIdeal := Cert.WinaIdeal.Gen.facts)
    (hWinaRefIdeal := Cert.WinaRefIdeal.Gen.facts) := by
  intro m ρ m' ρ' _ hag
  refine ⟨fun c => win (m ((c : Thread nD τ).loc main_arg0)) (m ((c : Thread nD τ).loc main_arg1)), ?_, ?_⟩
  · exact (θ_run _ _ _).mono (fun r h c => ⟨(h c).1.trans (final m c), (h c).2⟩) (Cert.WinaIdeal.Value.run_blocks m ρ)
  · refine (θ_run _ _ _).mono (fun r h c => ⟨(h c).1.trans ?_, (h c).2⟩) (Cert.WinaRefIdeal.Value.run m' ρ')
    rw [(hag c).1, (hag c).2]
    exact ref_eq _ _

end Cert.Proof.Wina

end
-- ==== Proof.Winb.lean ====
/-
  The window buffers of the group of dilation 4: the array that the kernel leaves is the reference's, the last keys and
  values of both layers' projections with the positions last.
-/
module

public import proofs.«01_k».proof.Defs
public import proofs.«01_k».proof.Proof.Gen.WinbIdeal.Value
public import proofs.«01_k».proof.Proof.Gen.WinbRefIdeal.Run
public import proofs.«01_k».proof.Proof.Gen.WinbRefIdeal.Read
public import Idealize.ShloMosaic.Lib.Pipeline.ValueKit.Point
public import Idealize.ShloMosaic.Lib.Pointwise
public import Idealize.ShloMosaic.Lib.ValueIdxRank6

@[expose] public section

set_option maxRecDepth 16384

noncomputable section

namespace Cert.Proof.Winb

open Idealize.ShloMosaic Idealize.ShloMosaic.TcCoe Idealize.SL.Sem
open Cert.WinbIdeal Cert.WinbIdeal.Gen

variable (m : (ℓ : Loc nD τ sig) → Buf (Elt Ideal) ℓ) (ρ : Dev nD → PrngReg)

/-- The first layer's points read its rows of the request and the columns of keys or of values; the others a fixed block. -/
theorem index_p : ∀ t : Fin cfg0.N, t.val < 16 → win0_0.index t = ![t.val / 2 * 4 + 3, 4 + t.val % 2] :=
  (by decide +kernel : ∀ t : Fin grid0.N, t.val < 16 → win0_0.index t = ![t.val / 2 * 4 + 3, 4 + t.val % 2])

/-- The second layer's points read its rows of the request and the columns of keys or of values. -/
theorem index_q : ∀ t : Fin cfg0.N, 16 ≤ t.val → win0_1.index t = ![(t.val - 16) / 2 * 4 + 3, 4 + t.val % 2] :=
  (by decide +kernel : ∀ t : Fin grid0.N, 16 ≤ t.val → win0_1.index t = ![(t.val - 16) / 2 * 4 + 3, 4 + t.val % 2])

/-- A point writes the block of its layer, its request and keys or values. -/
theorem index_o : ∀ t : Fin cfg0.N, win0_2.index t = ![t.val / 16, t.val / 2 % 8, t.val % 2, 0, 0] :=
  (by decide +kernel : ∀ t : Fin grid0.N, win0_2.index t = ![t.val / 16, t.val / 2 % 8, t.val % 2, 0, 0])

theorem entry_p (c : Dev nD) : V m c main_v0 = shapeCast _ (m ((c : Thread nD τ).loc main_arg0)) shapeCasts_S8x2048x9216_S16384x9216 := by
  entry_read
  rfl

theorem entry_q (c : Dev nD) : V m c main_v1 = shapeCast _ (m ((c : Thread nD τ).loc main_arg1)) shapeCasts_S8x2048x9216_S16384x9216 := by
  entry_read
  rfl

/-- Row `r` of the window: position `1536 + r`; channel `k` of keys or values `s`. -/
def row (x : S8x2048x9216.Idx → EReal) (b : Fin 8) (s : Fin 2) (k : Fin 1024) (r : Fin 512) : EReal :=
  x (ix3 b ⟨1536 + r.val, by omega⟩ ⟨(4 + s.val) * 1024 + k.val, by omega⟩)

/-- The two layers' windows. -/
def win (x x' : S8x2048x9216.Idx → EReal) : S2x8x2x1024x512.Idx → EReal :=
  fun y => if (y 0).val = 0 then row x (y 1) (y 2) (y 3) (y 4) else row x' (y 1) (y 2) (y 3) (y 4)

theorem pblk (c : Dev nD) (t : Fin cfg0.N) (h : t.val < 16) (b : Fin 8) (s : Fin 2) (hb : t.val / 2 = b.val) (hs : t.val % 2 = s.val)
    (r : Fin 512) (k : Fin 1024) : iblk m c 0 t (ix2 r k) = row (m ((c : Thread nD τ).loc main_arg0)) b s k r := by
  have e : (win0_0.blk t).view.emb (ix2 r k)
      = (ix2 ⟨(b.val * 4 + 3) * 512 + r.val, by omega⟩ ⟨(4 + s.val) * 1024 + k.val, by omega⟩ : S16384x9216.Idx) := by
    blk_ext [index_p t h, hb, hs]
  blk_simp [iblk]
  rw [entry_p, e]
  refine shapeCast_apply _ _ _ (ix3 b ⟨1536 + r.val, by omega⟩ ⟨(4 + s.val) * 1024 + k.val, by omega⟩) ?_
  rw [Shape.rowMajor_val_three, Shape.rowMajor_val_two]
  show (b.val * 2048 + (1536 + r.val)) * 9216 + ((4 + s.val) * 1024 + k.val) = ((b.val * 4 + 3) * 512 + r.val) * 9216 + ((4 + s.val) * 1024 + k.val)
  omega

theorem qblk (c : Dev nD) (t : Fin cfg0.N) (h : 16 ≤ t.val) (b : Fin 8) (s : Fin 2) (hb : (t.val - 16) / 2 = b.val) (hs : t.val % 2 = s.val)
    (r : Fin 512) (k : Fin 1024) : iblk m c 1 t (ix2 r k) = row (m ((c : Thread nD τ).loc main_arg1)) b s k r := by
  have e : (win0_1.blk t).view.emb (ix2 r k)
      = (ix2 ⟨(b.val * 4 + 3) * 512 + r.val, by omega⟩ ⟨(4 + s.val) * 1024 + k.val, by omega⟩ : S16384x9216.Idx) := by
    blk_ext [index_q t h, hb, hs]
  blk_simp [iblk]
  rw [entry_q, e]
  refine shapeCast_apply _ _ _ (ix3 b ⟨1536 + r.val, by omega⟩ ⟨(4 + s.val) * 1024 + k.val, by omega⟩) ?_
  rw [Shape.rowMajor_val_three, Shape.rowMajor_val_two]
  show (b.val * 2048 + (1536 + r.val)) * 9216 + ((4 + s.val) * 1024 + k.val) = ((b.val * 4 + 3) * 512 + r.val) * 9216 + ((4 + s.val) * 1024 + k.val)
  omega

section
variable (c : Dev nD) (i : grid0.Coords) (arg4 : Memref sig .tc .vmem S512x1024 .f32) (harg4 : arg4.IsWhole)
  (arg5 : Memref sig .tc .vmem S512x1024 .f32) (harg5 : arg5.IsWhole) (arg6 : Memref sig .tc .vmem S1x1x1x1024x512 .f32) (harg6 : arg6.IsWhole)
  (x0 x1 : Vec Ideal S512x1024 .f32) (k : Fin 1024) (r : Fin 512) (u0 u1 u2 : Fin 1)

/-- The first layer's body leaves its block transposed. -/
theorem out_A (hc0 : cond0_0 i) (hc1 : ¬cond0_1 i) :
    out0_A_2 c i arg4 harg4 arg5 harg5 arg6 harg6 hc0 hc1 x0 x1 (ix5 u0 u1 u2 k r) = x0 (ix2 r k) := by
  have h2 : (![0, 0] : Fin 2 → Nat) = fun _ => 0 := funext fun a => by fin_cases a <;> rfl
  have h5 : (![0, 0, 0, 0, 0] : Fin 5 → Nat) = fun _ => 0 := funext fun a => by fin_cases a <;> rfl
  unfold out0_A_2
  rw [View.read_writes_eq_canon _ _ _ (cover0_A_2 c i arg4 harg4 arg5 harg5 arg6 harg6 hc0 hc1 x0 x1)]
  unfold kernelRun0_A
  dsimp only
  sl_unfold_words
  simp only [View.readAt_eq_ld, harg4.read_unread]
  rw [View.ld_unit_zero h2 _ x0]
  refine (congrFun (View.canon_unit_zero h5 _ _) _).trans ?_
  pointwise [k0_pay1]

/-- The second layer's body leaves its block transposed. -/
theorem out_B (hc0 : ¬cond0_0 i) (hc1 : cond0_1 i) :
    out0_B_2 c i arg4 harg4 arg5 harg5 arg6 harg6 hc0 hc1 x0 x1 (ix5 u0 u1 u2 k r) = x1 (ix2 r k) := by
  have h2 : (![0, 0] : Fin 2 → Nat) = fun _ => 0 := funext fun a => by fin_cases a <;> rfl
  have h5 : (![0, 0, 0, 0, 0] : Fin 5 → Nat) = fun _ => 0 := funext fun a => by fin_cases a <;> rfl
  unfold out0_B_2
  rw [View.read_writes_eq_canon _ _ _ (cover0_B_2 c i arg4 harg4 arg5 harg5 arg6 harg6 hc0 hc1 x0 x1)]
  unfold kernelRun0_B
  dsimp only
  sl_unfold_words
  simp only [View.readAt_eq_ld, harg5.read_unread]
  rw [View.ld_unit_zero h2 _ x1]
  refine (congrFun (View.canon_unit_zero h5 _ _) _).trans ?_
  pointwise [k0_pay2]
end

set_option maxHeartbeats 1000000 in
/-- The array after the run. -/
theorem final (c : Dev nD) : (dats m 0 c).arrAt 2 cfg0.N
    = win (m ((c : Thread nD τ).loc main_arg0)) (m ((c : Thread nD τ).loc main_arg1)) := by
  refine (dats m 0 c).arrAt_eq_of_covers 2 _ (by decide +kernel) fun t hf y => ?_
  blk_simp
  rw [after0_2]
  have e0 : ((win0_2.blk t).view.emb y 0).val = t.val / 16 + (y 0).val := by blk_simp [index_o t]
  have e1 : ((win0_2.blk t).view.emb y 1).val = t.val / 2 % 8 + (y 1).val := by blk_simp [index_o t]
  have e2 : ((win0_2.blk t).view.emb y 2).val = t.val % 2 + (y 2).val := by blk_simp [index_o t]
  have e3 : ((win0_2.blk t).view.emb y 3).val = (y 3).val := by blk_simp [index_o t]
  have e4 : ((win0_2.blk t).view.emb y 4).val = (y 4).val := by blk_simp [index_o t]
  generalize (win0_2.blk t).view.emb y = z at e0 e1 e2 e3 e4 ⊢
  idx_vars y
  idx_vars z
  have ht : t.val < 32 := t.isLt
  have hy0 : y0.val < 1 := y0.isLt
  have hy1 : y1.val < 1 := y1.isLt
  have hy2 : y2.val < 1 := y2.isLt
  by_cases h0 : t.val < 16
  · rw [outsAt0_A m c t h0 (by omega)]
    have key := pblk m c t h0 z1 z2 (by omega) (by omega) y4 y3
    refine (out_A c _ _ _ _ _ _ _ _ _ y3 y4 y0 y1 y2 _ _).trans (key.trans ?_)
    obtain rfl : z3 = y3 := Fin.ext e3
    obtain rfl : z4 = y4 := Fin.ext e4
    exact (if_pos (show z0.val = 0 by omega)).symm
  · rw [outsAt0_B m c t h0 (by omega)]
    have key := qblk m c t (by omega) z1 z2 (by omega) (by omega) y4 y3
    refine (out_B c _ _ _ _ _ _ _ _ _ y3 y4 y0 y1 y2 _ _).trans (key.trans ?_)
    obtain rfl : z3 = y3 := Fin.ext e3
    obtain rfl : z4 = y4 := Fin.ext e4
    exact (if_neg (show ¬z0.val = 0 by omega)).symm

/-- The split of a projection's columns into groups, queries, keys and values, heads and channels. -/
theorem split_apply (x : S8x2048x9216.Idx → EReal) (b : Fin 8) (r : Fin 2048) (g s : Fin 3) (h : Fin 16) (e : Fin 64) (hc : Cert.WinbRefIdeal.S8x2048x9216.ShapeCasts Cert.WinbRefIdeal.S8x2048x3x3x16x64) :
    shapeCast Cert.WinbRefIdeal.S8x2048x3x3x16x64 x hc (ix6 b r g s h e)
      = x (ix3 b r ⟨g.val * 3072 + s.val * 1024 + h.val * 64 + e.val, by omega⟩) := by
  refine shapeCast_apply _ _ _ _ ?_
  rw [Shape.rowMajor_val_three, Shape.rowMajor_val_six]
  show (b.val * 2048 + r.val) * 9216 + (g.val * 3072 + s.val * 1024 + h.val * 64 + e.val)
    = ((((b.val * 2048 + r.val) * 3 + g.val) * 3 + s.val) * 16 + h.val) * 64 + e.val
  omega

open Cert.WinbRefIdeal.Read in
/-- The keys' channels of a projection. -/
theorem keys (x : S8x2048x9216.Idx → EReal) (b : Fin 8) (r : Fin 2048) (u : Fin 1) (h : Fin 16) (e : Fin 64) :
    val_main_v5 (F := Ideal) x (ix5 b r u h e) = x (ix3 b r ⟨4096 + h.val * 64 + e.val, by omega⟩) := by
  pointwise [val_main_v5]
  unfold val_main_v2
  refine (shapeCast_apply _ _ _ (ix6 b r 0 0 h e) ?_).trans ?_
  · rw [Shape.rowMajor_val_four, Shape.rowMajor_val_six]
    show ((((b.val * 2048 + r.val) * 1 + 0) * 1 + 0) * 16 + h.val) * 64 + e.val = ((b.val * 2048 + r.val) * 16 + h.val) * 64 + e.val
    omega
  pointwise [val_main_v1]
  unfold val_main_v0
  refine (split_apply x b r 1 1 h e _).trans (congrArg x ?_)
  exact congrArg (ix3 b r) (Fin.ext (show 1 * 3072 + 1 * 1024 + h.val * 64 + e.val = 4096 + h.val * 64 + e.val by omega))

open Cert.WinbRefIdeal.Read in
/-- The values' channels of a projection. -/
theorem vals (x : S8x2048x9216.Idx → EReal) (b : Fin 8) (r : Fin 2048) (u : Fin 1) (h : Fin 16) (e : Fin 64) :
    val_main_v6 (F := Ideal) x (ix5 b r u h e) = x (ix3 b r ⟨5120 + h.val * 64 + e.val, by omega⟩) := by
  pointwise [val_main_v6]
  unfold val_main_v4
  refine (shapeCast_apply _ _ _ (ix6 b r 0 0 h e) ?_).trans ?_
  · rw [Shape.rowMajor_val_four, Shape.rowMajor_val_six]
    show ((((b.val * 2048 + r.val) * 1 + 0) * 1 + 0) * 16 + h.val) * 64 + e.val = ((b.val * 2048 + r.val) * 16 + h.val) * 64 + e.val
    omega
  pointwise [val_main_v3]
  unfold val_main_v0
  refine (split_apply x b r 1 2 h e _).trans (congrArg x ?_)
  exact congrArg (ix3 b r) (Fin.ext (show 1 * 3072 + 2 * 1024 + h.val * 64 + e.val = 5120 + h.val * 64 + e.val by omega))

open Cert.WinbRefIdeal.Read in
/-- A projection's last keys and values. -/
theorem tail_apply (x : S8x2048x9216.Idx → EReal) (b : Fin 8) (r : Fin 512) (s : Fin 2) (k : Fin 1024) :
    val_main_v8 (F := Ideal) x (ix5 b r s ⟨k.val / 64, by omega⟩ ⟨k.val % 64, by omega⟩) = row x b s k r := by
  pointwise [val_main_v8, val_main_v7]
  rw [row]
  by_cases h : s.val < 1
  · refine (dif_pos h).trans ((keys x b _ _ _ _).trans (congrArg x ?_))
    exact congrArg (ix3 b _) (Fin.ext (show 4096 + k.val / 64 * 64 + k.val % 64 = (4 + s.val) * 1024 + k.val by omega))
  · refine (dif_neg h).trans ((vals x b _ _ _ _).trans (congrArg x ?_))
    exact congrArg (ix3 b _) (Fin.ext (show 5120 + k.val / 64 * 64 + k.val % 64 = (4 + s.val) * 1024 + k.val by omega))

open Cert.WinbRefIdeal.Read in
/-- The reference's windows. -/
theorem ref_eq (x x' : S8x2048x9216.Idx → EReal) : val_main_v22 (F := Ideal) x x' = win x x' := by
  funext y
  idx_vars y
  unfold val_main_v22
  refine (shapeCast_apply _ _ _ (ix6 y0 y1 y2 ⟨y3.val / 64, by omega⟩ ⟨y3.val % 64, by omega⟩ y4) ?_).trans ?_
  · rw [Shape.rowMajor_val_five, Shape.rowMajor_val_six]
    show ((((y0.val * 8 + y1.val) * 2 + y2.val) * 16 + y3.val / 64) * 64 + y3.val % 64) * 512 + y4.val
      = (((y0.val * 8 + y1.val) * 2 + y2.val) * 1024 + y3.val) * 512 + y4.val
    omega
  pointwise [val_main_v21, val_main_v20, val_main_v19, val_main_v18]
  have a := tail_apply x y1 y4 y2 y3
  have b := tail_apply x' y1 y4 y2 y3
  have hy : y0.val < 2 := y0.isLt
  by_cases h : y0.val < 1
  · exact (dif_pos h).trans (a.trans (if_pos (show y0.val = 0 by omega)).symm)
  · exact (dif_neg h).trans (b.trans (if_neg (show ¬y0.val = 0 by omega)).symm)

/-- The two programs from equal arguments end with equal results. -/
theorem algebraic : Cert.algebraic_WinbIdeal_WinbRefIdeal (hWinbIdeal := Cert.WinbIdeal.Gen.facts)
    (hWinbRefIdeal := Cert.WinbRefIdeal.Gen.facts) := by
  intro m ρ m' ρ' _ hag
  refine ⟨fun c => win (m ((c : Thread nD τ).loc main_arg0)) (m ((c : Thread nD τ).loc main_arg1)), ?_, ?_⟩
  · exact (θ_run _ _ _).mono (fun r h c => ⟨(h c).1.trans (final m c), (h c).2⟩) (Cert.WinbIdeal.Value.run_blocks m ρ)
  · refine (θ_run _ _ _).mono (fun r h c => ⟨(h c).1.trans ?_, (h c).2⟩) (Cert.WinbRefIdeal.Value.run m' ρ')
    rw [(hag c).1, (hag c).2]
    exact ref_eq _ _

end Cert.Proof.Winb

end
-- ==== Proof.Winc.lean ====
/-
  The window buffers of the group of dilation 16: the array that the kernel leaves is the reference's, the last keys and
  values of both layers' projections with the positions last.
-/
module

public import proofs.«01_k».proof.Defs
public import proofs.«01_k».proof.Proof.Gen.WincIdeal.Value
public import proofs.«01_k».proof.Proof.Gen.WincRefIdeal.Run
public import proofs.«01_k».proof.Proof.Gen.WincRefIdeal.Read
public import Idealize.ShloMosaic.Lib.Pipeline.ValueKit.Point
public import Idealize.ShloMosaic.Lib.Pointwise
public import Idealize.ShloMosaic.Lib.ValueIdxRank6

@[expose] public section

set_option maxRecDepth 16384

noncomputable section

namespace Cert.Proof.Winc

open Idealize.ShloMosaic Idealize.ShloMosaic.TcCoe Idealize.SL.Sem
open Cert.WincIdeal Cert.WincIdeal.Gen

variable (m : (ℓ : Loc nD τ sig) → Buf (Elt Ideal) ℓ) (ρ : Dev nD → PrngReg)

/-- The first layer's points read its rows of the request and the columns of keys or of values; the others a fixed block. -/
theorem index_p : ∀ t : Fin cfg0.N, t.val < 64 → win0_0.index t = ![t.val / 8 * 4 + t.val % 4, 7 + t.val / 4 % 2] :=
  (by decide +kernel : ∀ t : Fin grid0.N, t.val < 64 → win0_0.index t = ![t.val / 8 * 4 + t.val % 4, 7 + t.val / 4 % 2])

/-- The second layer's points read its rows of the request and the columns of keys or of values. -/
theorem index_q : ∀ t : Fin cfg0.N, 64 ≤ t.val → win0_1.index t = ![(t.val - 64) / 8 * 4 + t.val % 4, 7 + t.val / 4 % 2] :=
  (by decide +kernel : ∀ t : Fin grid0.N, 64 ≤ t.val → win0_1.index t = ![(t.val - 64) / 8 * 4 + t.val % 4, 7 + t.val / 4 % 2])

/-- A point writes the block of its layer, its request, keys or values and its quarter of the window. -/
theorem index_o : ∀ t : Fin cfg0.N, win0_2.index t = ![t.val / 64, t.val / 8 % 8, t.val / 4 % 2, 0, t.val % 4] :=
  (by decide +kernel : ∀ t : Fin grid0.N, win0_2.index t = ![t.val / 64, t.val / 8 % 8, t.val / 4 % 2, 0, t.val % 4])

theorem entry_p (c : Dev nD) : V m c main_v0 = shapeCast _ (m ((c : Thread nD τ).loc main_arg0)) shapeCasts_S8x2048x9216_S16384x9216 := by
  entry_read
  rfl

theorem entry_q (c : Dev nD) : V m c main_v1 = shapeCast _ (m ((c : Thread nD τ).loc main_arg1)) shapeCasts_S8x2048x9216_S16384x9216 := by
  entry_read
  rfl

/-- Row `r` of the window: position `r`; channel `k` of keys or values `s`. -/
def row (x : S8x2048x9216.Idx → EReal) (b : Fin 8) (s : Fin 2) (k : Fin 1024) (r : Fin 2048) : EReal :=
  x (ix3 b r ⟨(7 + s.val) * 1024 + k.val, by omega⟩)

/-- The two layers' windows. -/
def win (x x' : S8x2048x9216.Idx → EReal) : S2x8x2x1024x2048.Idx → EReal :=
  fun y => if (y 0).val = 0 then row x (y 1) (y 2) (y 3) (y 4) else row x' (y 1) (y 2) (y 3) (y 4)

theorem pblk (c : Dev nD) (t : Fin cfg0.N) (h : t.val < 64) (b : Fin 8) (s : Fin 2) (hb : t.val / 8 = b.val) (hs : t.val / 4 % 2 = s.val)
    (r : Fin 512) (k : Fin 1024) (q : Fin 2048) (hq : q.val = t.val % 4 * 512 + r.val) : iblk m c 0 t (ix2 r k) = row (m ((c : Thread nD τ).loc main_arg0)) b s k q := by
  have e : (win0_0.blk t).view.emb (ix2 r k)
      = (ix2 ⟨(b.val * 4 + t.val % 4) * 512 + r.val, by omega⟩ ⟨(7 + s.val) * 1024 + k.val, by omega⟩ : S16384x9216.Idx) := by
    blk_ext [index_p t h, hb, hs]
  blk_simp [iblk]
  rw [entry_p, e]
  refine shapeCast_apply _ _ _ (ix3 b q ⟨(7 + s.val) * 1024 + k.val, by omega⟩) ?_
  rw [Shape.rowMajor_val_three, Shape.rowMajor_val_two]
  show (b.val * 2048 + q.val) * 9216 + ((7 + s.val) * 1024 + k.val) = ((b.val * 4 + t.val % 4) * 512 + r.val) * 9216 + ((7 + s.val) * 1024 + k.val)
  omega

theorem qblk (c : Dev nD) (t : Fin cfg0.N) (h : 64 ≤ t.val) (b : Fin 8) (s : Fin 2) (hb : (t.val - 64) / 8 = b.val) (hs : t.val / 4 % 2 = s.val)
    (r : Fin 512) (k : Fin 1024) (q : Fin 2048) (hq : q.val = t.val % 4 * 512 + r.val) : iblk m c 1 t (ix2 r k) = row (m ((c : Thread nD τ).loc main_arg1)) b s k q := by
  have e : (win0_1.blk t).view.emb (ix2 r k)
      = (ix2 ⟨(b.val * 4 + t.val % 4) * 512 + r.val, by omega⟩ ⟨(7 + s.val) * 1024 + k.val, by omega⟩ : S16384x9216.Idx) := by
    blk_ext [index_q t h, hb, hs]
  blk_simp [iblk]
  rw [entry_q, e]
  refine shapeCast_apply _ _ _ (ix3 b q ⟨(7 + s.val) * 1024 + k.val, by omega⟩) ?_
  rw [Shape.rowMajor_val_three, Shape.rowMajor_val_two]
  show (b.val * 2048 + q.val) * 9216 + ((7 + s.val) * 1024 + k.val) = ((b.val * 4 + t.val % 4) * 512 + r.val) * 9216 + ((7 + s.val) * 1024 + k.val)
  omega

section
variable (c : Dev nD) (i : grid0.Coords) (arg4 : Memref sig .tc .vmem S512x1024 .f32) (harg4 : arg4.IsWhole)
  (arg5 : Memref sig .tc .vmem S512x1024 .f32) (harg5 : arg5.IsWhole) (arg6 : Memref sig .tc .vmem S1x1x1x1024x512 .f32) (harg6 : arg6.IsWhole)
  (x0 x1 : Vec Ideal S512x1024 .f32) (k : Fin 1024) (r : Fin 512) (u0 u1 u2 : Fin 1)

/-- The first layer's body leaves its block transposed. -/
theorem out_A (hc0 : cond0_0 i) (hc1 : ¬cond0_1 i) :
    out0_A_2 c i arg4 harg4 arg5 harg5 arg6 harg6 hc0 hc1 x0 x1 (ix5 u0 u1 u2 k r) = x0 (ix2 r k) := by
  have h2 : (![0, 0] : Fin 2 → Nat) = fun _ => 0 := funext fun a => by fin_cases a <;> rfl
  have h5 : (![0, 0, 0, 0, 0] : Fin 5 → Nat) = fun _ => 0 := funext fun a => by fin_cases a <;> rfl
  unfold out0_A_2
  rw [View.read_writes_eq_canon _ _ _ (cover0_A_2 c i arg4 harg4 arg5 harg5 arg6 harg6 hc0 hc1 x0 x1)]
  unfold kernelRun0_A
  dsimp only
  sl_unfold_words
  simp only [View.readAt_eq_ld, harg4.read_unread]
  rw [View.ld_unit_zero h2 _ x0]
  refine (congrFun (View.canon_unit_zero h5 _ _) _).trans ?_
  pointwise [k0_pay1]

/-- The second layer's body leaves its block transposed. -/
theorem out_B (hc0 : ¬cond0_0 i) (hc1 : cond0_1 i) :
    out0_B_2 c i arg4 harg4 arg5 harg5 arg6 harg6 hc0 hc1 x0 x1 (ix5 u0 u1 u2 k r) = x1 (ix2 r k) := by
  have h2 : (![0, 0] : Fin 2 → Nat) = fun _ => 0 := funext fun a => by fin_cases a <;> rfl
  have h5 : (![0, 0, 0, 0, 0] : Fin 5 → Nat) = fun _ => 0 := funext fun a => by fin_cases a <;> rfl
  unfold out0_B_2
  rw [View.read_writes_eq_canon _ _ _ (cover0_B_2 c i arg4 harg4 arg5 harg5 arg6 harg6 hc0 hc1 x0 x1)]
  unfold kernelRun0_B
  dsimp only
  sl_unfold_words
  simp only [View.readAt_eq_ld, harg5.read_unread]
  rw [View.ld_unit_zero h2 _ x1]
  refine (congrFun (View.canon_unit_zero h5 _ _) _).trans ?_
  pointwise [k0_pay2]
end

set_option maxHeartbeats 1000000 in
/-- The array after the run. -/
theorem final (c : Dev nD) : (dats m 0 c).arrAt 2 cfg0.N
    = win (m ((c : Thread nD τ).loc main_arg0)) (m ((c : Thread nD τ).loc main_arg1)) := by
  refine (dats m 0 c).arrAt_eq_of_covers 2 _ (by decide +kernel) fun t hf y => ?_
  blk_simp
  rw [after0_2]
  have e0 : ((win0_2.blk t).view.emb y 0).val = t.val / 64 + (y 0).val := by blk_simp [index_o t]
  have e1 : ((win0_2.blk t).view.emb y 1).val = t.val / 8 % 8 + (y 1).val := by blk_simp [index_o t]
  have e2 : ((win0_2.blk t).view.emb y 2).val = t.val / 4 % 2 + (y 2).val := by blk_simp [index_o t]
  have e3 : ((win0_2.blk t).view.emb y 3).val = (y 3).val := by blk_simp [index_o t]
  have e4 : ((win0_2.blk t).view.emb y 4).val = t.val % 4 * 512 + (y 4).val := by blk_simp [index_o t]
  generalize (win0_2.blk t).view.emb y = z at e0 e1 e2 e3 e4 ⊢
  idx_vars y
  idx_vars z
  have ht : t.val < 128 := t.isLt
  have hy0 : y0.val < 1 := y0.isLt
  have hy1 : y1.val < 1 := y1.isLt
  have hy2 : y2.val < 1 := y2.isLt
  by_cases h0 : t.val < 64
  · rw [outsAt0_A m c t h0 (by omega)]
    have key := pblk m c t h0 z1 z2 (by omega) (by omega) y4 y3 z4 e4
    refine (out_A c _ _ _ _ _ _ _ _ _ y3 y4 y0 y1 y2 _ _).trans (key.trans ?_)
    obtain rfl : z3 = y3 := Fin.ext e3
    exact (if_pos (show z0.val = 0 by omega)).symm
  · rw [outsAt0_B m c t h0 (by omega)]
    have key := qblk m c t (by omega) z1 z2 (by omega) (by omega) y4 y3 z4 e4
    refine (out_B c _ _ _ _ _ _ _ _ _ y3 y4 y0 y1 y2 _ _).trans (key.trans ?_)
    obtain rfl : z3 = y3 := Fin.ext e3
    exact (if_neg (show ¬z0.val = 0 by omega)).symm

/-- The split of a projection's columns into groups, queries, keys and values, heads and channels. -/
theorem split_apply (x : S8x2048x9216.Idx → EReal) (b : Fin 8) (r : Fin 2048) (g s : Fin 3) (h : Fin 16) (e : Fin 64) (hc : Cert.WincRefIdeal.S8x2048x9216.ShapeCasts Cert.WincRefIdeal.S8x2048x3x3x16x64) :
    shapeCast Cert.WincRefIdeal.S8x2048x3x3x16x64 x hc (ix6 b r g s h e)
      = x (ix3 b r ⟨g.val * 3072 + s.val * 1024 + h.val * 64 + e.val, by omega⟩) := by
  refine shapeCast_apply _ _ _ _ ?_
  rw [Shape.rowMajor_val_three, Shape.rowMajor_val_six]
  show (b.val * 2048 + r.val) * 9216 + (g.val * 3072 + s.val * 1024 + h.val * 64 + e.val)
    = ((((b.val * 2048 + r.val) * 3 + g.val) * 3 + s.val) * 16 + h.val) * 64 + e.val
  omega

open Cert.WincRefIdeal.Read in
/-- The keys' channels of a projection. -/
theorem keys (x : S8x2048x9216.Idx → EReal) (b : Fin 8) (r : Fin 2048) (u : Fin 1) (h : Fin 16) (e : Fin 64) :
    val_main_v5 (F := Ideal) x (ix5 b r u h e) = x (ix3 b r ⟨7168 + h.val * 64 + e.val, by omega⟩) := by
  pointwise [val_main_v5]
  unfold val_main_v2
  refine (shapeCast_apply _ _ _ (ix6 b r 0 0 h e) ?_).trans ?_
  · rw [Shape.rowMajor_val_four, Shape.rowMajor_val_six]
    show ((((b.val * 2048 + r.val) * 1 + 0) * 1 + 0) * 16 + h.val) * 64 + e.val = ((b.val * 2048 + r.val) * 16 + h.val) * 64 + e.val
    omega
  pointwise [val_main_v1]
  unfold val_main_v0
  refine (split_apply x b r 2 1 h e _).trans (congrArg x ?_)
  exact congrArg (ix3 b r) (Fin.ext (show 2 * 3072 + 1 * 1024 + h.val * 64 + e.val = 7168 + h.val * 64 + e.val by omega))

open Cert.WincRefIdeal.Read in
/-- The values' channels of a projection. -/
theorem vals (x : S8x2048x9216.Idx → EReal) (b : Fin 8) (r : Fin 2048) (u : Fin 1) (h : Fin 16) (e : Fin 64) :
    val_main_v6 (F := Ideal) x (ix5 b r u h e) = x (ix3 b r ⟨8192 + h.val * 64 + e.val, by omega⟩) := by
  pointwise [val_main_v6]
  unfold val_main_v4
  refine (shapeCast_apply _ _ _ (ix6 b r 0 0 h e) ?_).trans ?_
  · rw [Shape.rowMajor_val_four, Shape.rowMajor_val_six]
    show ((((b.val * 2048 + r.val) * 1 + 0) * 1 + 0) * 16 + h.val) * 64 + e.val = ((b.val * 2048 + r.val) * 16 + h.val) * 64 + e.val
    omega
  pointwise [val_main_v3]
  unfold val_main_v0
  refine (split_apply x b r 2 2 h e _).trans (congrArg x ?_)
  exact congrArg (ix3 b r) (Fin.ext (show 2 * 3072 + 2 * 1024 + h.val * 64 + e.val = 8192 + h.val * 64 + e.val by omega))

open Cert.WincRefIdeal.Read in
/-- A projection's last keys and values. -/
theorem tail_apply (x : S8x2048x9216.Idx → EReal) (b : Fin 8) (r : Fin 2048) (s : Fin 2) (k : Fin 1024) :
    val_main_v7 (F := Ideal) x (ix5 b r s ⟨k.val / 64, by omega⟩ ⟨k.val % 64, by omega⟩) = row x b s k r := by
  pointwise [val_main_v7]
  rw [row]
  by_cases h : s.val < 1
  · refine (dif_pos h).trans ((keys x b _ _ _ _).trans (congrArg x ?_))
    exact congrArg (ix3 b _) (Fin.ext (show 7168 + k.val / 64 * 64 + k.val % 64 = (7 + s.val) * 1024 + k.val by omega))
  · refine (dif_neg h).trans ((vals x b _ _ _ _).trans (congrArg x ?_))
    exact congrArg (ix3 b _) (Fin.ext (show 8192 + k.val / 64 * 64 + k.val % 64 = (7 + s.val) * 1024 + k.val by omega))

open Cert.WincRefIdeal.Read in
/-- The reference's windows. -/
theorem ref_eq (x x' : S8x2048x9216.Idx → EReal) : val_main_v20 (F := Ideal) x x' = win x x' := by
  funext y
  idx_vars y
  unfold val_main_v20
  refine (shapeCast_apply _ _ _ (ix6 y0 y1 y2 ⟨y3.val / 64, by omega⟩ ⟨y3.val % 64, by omega⟩ y4) ?_).trans ?_
  · rw [Shape.rowMajor_val_five, Shape.rowMajor_val_six]
    show ((((y0.val * 8 + y1.val) * 2 + y2.val) * 16 + y3.val / 64) * 64 + y3.val % 64) * 2048 + y4.val
      = (((y0.val * 8 + y1.val) * 2 + y2.val) * 1024 + y3.val) * 2048 + y4.val
    omega
  pointwise [val_main_v19, val_main_v18, val_main_v17, val_main_v16]
  have a := tail_apply x y1 y4 y2 y3
  have b := tail_apply x' y1 y4 y2 y3
  have hy : y0.val < 2 := y0.isLt
  by_cases h : y0.val < 1
  · exact (dif_pos h).trans (a.trans (if_pos (show y0.val = 0 by omega)).symm)
  · exact (dif_neg h).trans (b.trans (if_neg (show ¬y0.val = 0 by omega)).symm)

/-- The two programs from equal arguments end with equal results. -/
theorem algebraic : Cert.algebraic_WincIdeal_WincRefIdeal (hWincIdeal := Cert.WincIdeal.Gen.facts)
    (hWincRefIdeal := Cert.WincRefIdeal.Gen.facts) := by
  intro m ρ m' ρ' _ hag
  refine ⟨fun c => win (m ((c : Thread nD τ).loc main_arg0)) (m ((c : Thread nD τ).loc main_arg1)), ?_, ?_⟩
  · exact (θ_run _ _ _).mono (fun r h c => ⟨(h c).1.trans (final m c), (h c).2⟩) (Cert.WincIdeal.Value.run_blocks m ρ)
  · refine (θ_run _ _ _).mono (fun r h c => ⟨(h c).1.trans ?_, (h c).2⟩) (Cert.WincRefIdeal.Value.run m' ρ')
    rw [(hag c).1, (hag c).2]
    exact ref_eq _ _

end Cert.Proof.Winc

end
-- ==== Proof.SwaBody.lean ====
/-
  The body of the attention of the sample tokens: what each of its intermediate arrays holds at a head's row, read off the
  blocks that a point is given.
-/
module

public import proofs.«01_k».proof.Defs
public import proofs.«01_k».proof.Proof.Gen.SwaIdeal.Value
public import Idealize.ShloMosaic.Lib.Pipeline.ValueKit.Point
public import Idealize.ShloMosaic.Lib.Pointwise
public import Idealize.ShloMosaic.Lib.ValueIdxRank6

@[expose] public section

set_option maxRecDepth 16384
set_option maxHeartbeats 8000000

noncomputable section

namespace Cert.Proof.Swa

open Idealize.ShloMosaic Idealize.ShloMosaic.TcCoe Idealize.SL.Sem
open Cert.SwaIdeal Cert.SwaIdeal.Gen

variable (x0 x1 x2 x3 x4 x5 x6 x7 x8 : Vec Ideal S8x512 .f32) (x9 : Vec Ideal S1x1x2x8x64x128 .f32) (x10 : Vec Ideal S1x1x2x8x64x512 .f32)
  (x11 : Vec Ideal S1x1x2x8x64x2048 .f32) (x12 : Vec Ideal S64x128 .f32) (x13 : Vec Ideal S64x512 .f32) (x14 : Vec Ideal S64x2048 .f32)
  (x15 : Vec Ideal S1x3x64x64 .f32)

theorem h2 : (![0, 0] : Fin 2 → Nat) = fun _ => 0 := funext fun a => by fin_cases a <;> rfl

/-- Row `8 h + r` of the heads' rows. -/
def hrow (h r : Fin 8) : Fin 64 := ⟨8 * h.val + r.val, by omega⟩
/-- Channel `e` of head `h`. -/
def hcol (h : Fin 8) (e : Fin 64) : Fin 512 := ⟨64 * h.val + e.val, by omega⟩
/-- The scale of the queries, one eighth. -/
def c8 : EReal := Ideal.ofBits FTy.f32 0x3E000000#32

/-- Eight blocks of eight rows under each other, read at row `r` of block `k`. -/
@[pointwise high] theorem rows8 {n : Nat} (a0 a1 a2 a3 a4 a5 a6 a7 : (⟨2, ![8, n]⟩ : Shape).Idx → EReal)
    (h : Shape.Concatenates [⟨2, ![8, n]⟩, ⟨2, ![8, n]⟩, ⟨2, ![8, n]⟩, ⟨2, ![8, n]⟩, ⟨2, ![8, n]⟩, ⟨2, ![8, n]⟩, ⟨2, ![8, n]⟩, ⟨2, ![8, n]⟩] ⟨2, ![64, n]⟩ 0)
    (k r : Fin 8) (c : Fin n) :
    concatenate (⟨2, ![64, n]⟩ : Shape) 0 [⟨⟨2, ![8, n]⟩, a0⟩, ⟨⟨2, ![8, n]⟩, a1⟩, ⟨⟨2, ![8, n]⟩, a2⟩, ⟨⟨2, ![8, n]⟩, a3⟩, ⟨⟨2, ![8, n]⟩, a4⟩,
      ⟨⟨2, ![8, n]⟩, a5⟩, ⟨⟨2, ![8, n]⟩, a6⟩, ⟨⟨2, ![8, n]⟩, a7⟩] h (ix2 (hrow k r) c) = ![a0, a1, a2, a3, a4, a5, a6, a7] k (ix2 r c) :=
  concatenate_ofFn_apply (t := ⟨2, ![64, n]⟩) (s₁ := ⟨2, ![8, n]⟩) 0 ![a0, a1, a2, a3, a4, a5, a6, a7] h rfl 8 rfl (ix2 (hrow k r) c) k
    (by show (8 * k.val + r.val) / 8 = k.val; omega) (ix2 r c) (by show r.val = (8 * k.val + r.val) % 8; omega)
    (fun b hb => by fin_cases b; exacts [absurd rfl hb, rfl])

theorem q0_apply (v : Vec Ideal S8x512 .f32) (h r : Fin 8) (e : Fin 64) : k0_pay2 v (ix2 (hrow h r) e) = v (ix2 r (hcol h e)) * c8 := by
  pointwise [k0_pay2, c8]
  obtain ⟨h, hh⟩ := h
  interval_cases h <;> pointwise [hcol]

theorem q1_apply (v : Vec Ideal S8x512 .f32) (h r : Fin 8) (e : Fin 64) : k0_pay8 v (ix2 (hrow h r) e) = v (ix2 r (hcol h e)) * c8 := by
  pointwise [k0_pay8, c8]
  obtain ⟨h, hh⟩ := h
  interval_cases h <;> pointwise [hcol]

theorem q2_apply (v : Vec Ideal S8x512 .f32) (h r : Fin 8) (e : Fin 64) : k0_pay14 v (ix2 (hrow h r) e) = v (ix2 r (hcol h e)) * c8 := by
  pointwise [k0_pay14, c8]
  obtain ⟨h, hh⟩ := h
  interval_cases h <;> pointwise [hcol]

theorem sc0_apply (h r : Fin 8) (c : Fin 128) : k0_pay72 x0 x1 x2 x3 x4 x5 x6 x7 x8 x9 x10 x11 x12 x13 x14 x15 (ix2 (hrow h r) c)
    = ∑ e : Fin 64, k0_pay2 x0 (ix2 (hrow h r) e) * x9 (ix6 0 0 0 h e c) + x12 (ix2 (hrow h r) c) := by
  unfold k0_pay72 k0_pay71
  rw [View.ld_unit_zero h2 _ x0]
  pointwise [k0_pay7, View.ld_unit]
  obtain ⟨h, hh⟩ := h
  interval_cases h <;> pointwise [k0_pay3, k0_pay4, k0_pay5, k0_pay6, View.ld_unit, hrow]

theorem sc1_apply (h r : Fin 8) (c : Fin 512) : k0_pay74 x0 x1 x2 x3 x4 x5 x6 x7 x8 x9 x10 x11 x12 x13 x14 x15 (ix2 (hrow h r) c)
    = ∑ e : Fin 64, k0_pay8 x3 (ix2 (hrow h r) e) * x10 (ix6 0 0 0 h e c) + x13 (ix2 (hrow h r) c) := by
  unfold k0_pay74 k0_pay73
  rw [View.ld_unit_zero h2 _ x3]
  pointwise [k0_pay13, View.ld_unit]
  obtain ⟨h, hh⟩ := h
  interval_cases h <;> pointwise [k0_pay9, k0_pay10, k0_pay11, k0_pay12, View.ld_unit, hrow]

theorem sc2_apply (h r : Fin 8) (c : Fin 2048) : k0_pay76 x0 x1 x2 x3 x4 x5 x6 x7 x8 x9 x10 x11 x12 x13 x14 x15 (ix2 (hrow h r) c)
    = ∑ e : Fin 64, k0_pay14 x6 (ix2 (hrow h r) e) * x11 (ix6 0 0 0 h e c) + x14 (ix2 (hrow h r) c) := by
  unfold k0_pay76 k0_pay75
  rw [View.ld_unit_zero h2 _ x6]
  pointwise [k0_pay20, View.ld_unit]
  obtain ⟨h, hh⟩ := h
  interval_cases h <;> pointwise [k0_pay15, k0_pay16, k0_pay17, k0_pay18, k0_pay19, View.ld_unit, hrow]

/-! ### The scores over the new keys, every head's beside each other -/

theorem sn0_apply (R : Fin 64) (h j : Fin 8) : k0_pay77 x0 x1 x2 x3 x4 x5 x6 x7 x8 x9 x10 x11 x12 x13 x14 x15 (ix2 R (hrow h j))
    = ∑ e : Fin 64, k0_pay2 x0 (ix2 R e) * x1 (ix2 j (hcol h e)) + x15 (ix4 0 0 R (hrow h j)) := by
  unfold k0_pay77 k0_pay71
  rw [View.ld_unit_zero h2 _ x0, View.ld_unit_zero h2 _ x1]
  pointwise [k0_pay22, k0_pay21, View.ld_unit]
  obtain ⟨h, hh⟩ := h
  interval_cases h <;> pointwise [hcol]

theorem sn1_apply (R : Fin 64) (h j : Fin 8) : k0_pay78 x0 x1 x2 x3 x4 x5 x6 x7 x8 x9 x10 x11 x12 x13 x14 x15 (ix2 R (hrow h j))
    = ∑ e : Fin 64, k0_pay8 x3 (ix2 R e) * x4 (ix2 j (hcol h e)) + x15 (ix4 0 1 R (hrow h j)) := by
  unfold k0_pay78 k0_pay73
  rw [View.ld_unit_zero h2 _ x3, View.ld_unit_zero h2 _ x4]
  pointwise [k0_pay23, View.ld_unit]
  obtain ⟨h, hh⟩ := h
  interval_cases h <;> pointwise [hcol]

theorem sn2_apply (R : Fin 64) (h j : Fin 8) : k0_pay25 (k0_pay79 x0 x1 x2 x3 x4 x5 x6 x7 x8 x9 x10 x11 x12 x13 x14 x15) (View.ld x15 r0_30) (ix2 R (hrow h j))
    = ∑ e : Fin 64, k0_pay14 x6 (ix2 R e) * x7 (ix2 j (hcol h e)) + x15 (ix4 0 2 R (hrow h j)) := by
  unfold k0_pay79 k0_pay75
  rw [View.ld_unit_zero h2 _ x6, View.ld_unit_zero h2 _ x7]
  pointwise [k0_pay24, k0_pay25, View.ld_unit]
  obtain ⟨h, hh⟩ := h
  interval_cases h <;> pointwise [hcol]

/-! ### The weighted values -/

theorem cv0_apply (w : FVec Ideal S64x128 .bf16) (h r : Fin 8) (e : Fin 64) :
    k0_pay49 w (k0_pay44 w (View.ld x9 r0_31)) (k0_pay45 w (View.ld x9 r0_32)) (k0_pay46 w (View.ld x9 r0_33)) (k0_pay47 w (View.ld x9 r0_34))
        (k0_pay48 w) (View.ld x9 r0_35) (View.ld x9 r0_36) (View.ld x9 r0_37) (View.ld x9 r0_38) (ix2 (hrow h r) e)
      = ∑ c : Fin 128, w (ix2 (hrow h r) c) * x9 (ix6 0 0 1 h e c) := by
  pointwise [k0_pay49, View.ld_unit]
  obtain ⟨h, hh⟩ := h
  interval_cases h <;> pointwise [k0_pay44, k0_pay45, k0_pay46, k0_pay47, k0_pay48, View.ld_unit, hrow]

theorem cv1_apply (w : FVec Ideal S64x512 .bf16) (h r : Fin 8) (e : Fin 64) :
    k0_pay58 w (k0_pay50 w (View.ld x10 r0_39)) (k0_pay52 (k0_pay51 w) (View.ld x10 r0_40)) (k0_pay53 w (View.ld x10 r0_41))
        (k0_pay54 w (View.ld x10 r0_42)) (k0_pay55 w (View.ld x10 r0_43)) (k0_pay56 w (View.ld x10 r0_44)) (k0_pay57 w)
        (View.ld x10 r0_45) (View.ld x10 r0_46) (ix2 (hrow h r) e)
      = ∑ c : Fin 512, w (ix2 (hrow h r) c) * x10 (ix6 0 0 1 h e c) := by
  pointwise [k0_pay58, View.ld_unit]
  obtain ⟨h, hh⟩ := h
  interval_cases h <;> pointwise [k0_pay50, k0_pay51, k0_pay52, k0_pay53, k0_pay54, k0_pay55, k0_pay56, k0_pay57, View.ld_unit, hrow]

theorem cv2_apply (w : FVec Ideal S64x2048 .bf16) (h r : Fin 8) (e : Fin 64) :
    k0_pay63 w (k0_pay59 w (View.ld x11 r0_47)) (k0_pay60 w (View.ld x11 r0_48)) (k0_pay61 w (View.ld x11 r0_49)) (k0_pay62 w)
        (View.ld x11 r0_50) (View.ld x11 r0_51) (View.ld x11 r0_52) (View.ld x11 r0_53) (View.ld x11 r0_54) (ix2 (hrow h r) e)
      = ∑ c : Fin 2048, w (ix2 (hrow h r) c) * x11 (ix6 0 0 1 h e c) := by
  pointwise [k0_pay63, View.ld_unit]
  obtain ⟨h, hh⟩ := h
  interval_cases h <;> pointwise [k0_pay59, k0_pay60, k0_pay61, k0_pay62, View.ld_unit, hrow]

/-- The heads' channels of eight rows under each other. -/
def stack (x : Vec Ideal S8x512 .f32) : S64x64.Idx → EReal :=
  fun y => x (ix2 ⟨(y 0).val % 8, by omega⟩ ⟨64 * ((y 0).val / 8) + (y 1).val, by have := (y 0).isLt; have := (y 1).isLt; simp at *; omega⟩)

theorem exists_hrow (R : Fin 64) : ∃ k j : Fin 8, R = hrow k j :=
  ⟨⟨R.val / 8, by omega⟩, ⟨R.val % 8, by omega⟩, Fin.ext (by show R.val = 8 * (R.val / 8) + R.val % 8; omega)⟩

theorem stack_apply (x : Vec Ideal S8x512 .f32) (k j : Fin 8) (e : Fin 64) : stack x (ix2 (hrow k j) e) = x (ix2 j (hcol k e)) := by
  unfold stack
  congr 2
  · exact Fin.ext (by show (8 * k.val + j.val) % 8 = j.val; omega)
  · exact Fin.ext (by show 64 * ((8 * k.val + j.val) / 8) + e.val = 64 * k.val + e.val; omega)

theorem stack_eq (x : Vec Ideal S8x512 .f32) (h0 h1 h2 h3 h4 h5 h6 h7 h) :
    concatenate S64x64 0 [⟨S8x64, extractStridedSlice S8x64 ![0, 0] x h0⟩, ⟨S8x64, extractStridedSlice S8x64 ![0, 64] x h1⟩,
      ⟨S8x64, extractStridedSlice S8x64 ![0, 128] x h2⟩, ⟨S8x64, extractStridedSlice S8x64 ![0, 192] x h3⟩,
      ⟨S8x64, extractStridedSlice S8x64 ![0, 256] x h4⟩, ⟨S8x64, extractStridedSlice S8x64 ![0, 320] x h5⟩,
      ⟨S8x64, extractStridedSlice S8x64 ![0, 384] x h6⟩, ⟨S8x64, extractStridedSlice S8x64 ![0, 448] x h7⟩] h = stack x := by
  funext y
  idx_vars y
  obtain ⟨k, j, rfl⟩ := exists_hrow y0
  rw [stack_apply, rows8]
  obtain ⟨k, hk⟩ := k
  interval_cases k <;> pointwise [hcol]

theorem sum_heads (f : Fin 64 → EReal) : ∑ J : Fin 64, f J = ∑ k : Fin 8, ∑ j : Fin 8, f (hrow k j) := by
  rw [← Finset.sum_product', Finset.univ_product_univ]
  refine (Fintype.sum_equiv (finProdFinEquiv (m := 8) (n := 8)) (fun x => f (hrow x.1 x.2)) f fun x => congrArg f (Fin.ext ?_)).symm
  show 8 * x.1.val + x.2.val = x.2.val + 8 * x.1.val
  omega

theorem o0_apply (d : FVec Ideal S64x1 .f32) (w : FVec Ideal S64x64 .bf16) (v : FVec Ideal S64x64 .f32) (R e : Fin 64) :
    k0_pay64 d w v x2 (ix2 R e) = Ideal.div (v (ix2 R e) + ∑ k : Fin 8, ∑ j : Fin 8, w (ix2 R (hrow k j)) * x2 (ix2 j (hcol k e))) (d (ix2 R 0)) := by
  unfold k0_pay64
  rw [stack_eq]
  pointwise
  rw [sum_heads]
  simp only [stack_apply]

theorem o1_apply (d : FVec Ideal S64x1 .f32) (w : FVec Ideal S64x64 .bf16) (v : FVec Ideal S64x64 .f32) (R e : Fin 64) :
    k0_pay65 d w v x5 (ix2 R e) = Ideal.div (v (ix2 R e) + ∑ k : Fin 8, ∑ j : Fin 8, w (ix2 R (hrow k j)) * x5 (ix2 j (hcol k e))) (d (ix2 R 0)) := by
  unfold k0_pay65
  rw [stack_eq]
  pointwise
  rw [sum_heads]
  simp only [stack_apply]

theorem o2_apply (d : FVec Ideal S64x1 .f32) (w : FVec Ideal S64x64 .bf16) (v : FVec Ideal S64x64 .f32) (R e : Fin 64) :
    k0_pay66 d w v x8 (ix2 R e) = Ideal.div (v (ix2 R e) + ∑ k : Fin 8, ∑ j : Fin 8, w (ix2 R (hrow k j)) * x8 (ix2 j (hcol k e))) (d (ix2 R 0)) := by
  unfold k0_pay66
  rw [stack_eq]
  pointwise
  rw [sum_heads]
  simp only [stack_apply]

end Cert.Proof.Swa
-- ==== Proof.SwaSpec.lean ====
module

public import Idealize.ShloMosaic.Lib.Pointwise

/-! One head's attention over a group's cached and fresh positions, and the merge of the groups. -/

set_option maxRecDepth 16384

@[expose] public section

noncomputable section

namespace Cert.Proof.Swa

open Idealize.ShloMosaic
open scoped BigOperators

/-- The largest score. -/
def top {n : Nat} (sc : Fin n → EReal) (sf : Fin 8 → EReal) : EReal := max (Finset.univ.sup sc) (Finset.univ.sup sf)

/-- The sum of the exponentials. -/
def den {n : Nat} (sc : Fin n → EReal) (sf : Fin 8 → EReal) : EReal :=
  ∑ c, Ideal.exp (sc c - top sc sf) + ∑ j, Ideal.exp (sf j - top sc sf)

/-- The logarithm of the sum of the scores' exponentials. -/
def lse {n : Nat} (sc : Fin n → EReal) (sf : Fin 8 → EReal) : EReal := top sc sf + Ideal.log (den sc sf)

/-- The values averaged by the exponentials. -/
def att {n : Nat} (sc : Fin n → EReal) (sf : Fin 8 → EReal) (vc : Fin n → EReal) (vf : Fin 8 → EReal) : EReal :=
  Ideal.div (∑ c, Ideal.exp (sc c - top sc sf) * vc c + ∑ j, Ideal.exp (sf j - top sc sf) * vf j) (den sc sf)

/-- The groups' averages merged by their weights. -/
def merge (p q w a b c : EReal) : EReal :=
  Ideal.div (Ideal.exp (a - max (max a b) c) * p + Ideal.exp (b - max (max a b) c) * q + Ideal.exp (c - max (max a b) c) * w)
    (Ideal.exp (a - max (max a b) c) + Ideal.exp (b - max (max a b) c) + Ideal.exp (c - max (max a b) c))

theorem bot_eq : Ideal.ofBits FTy.f32 0xFF800000#32 = (⊥ : EReal) := by
  simp [Ideal.ofBits, Ideal.ieee]

theorem fold_eq {ι : Type} [Fintype ι] (f : ι → EReal) :
    Finset.fold max (Ideal.ofBits FTy.f32 0xFF800000#32) f Finset.univ = Finset.univ.sup f := by
  rw [bot_eq]; rfl

theorem exp_bot : Ideal.exp (⊥ : EReal) = 0 := rfl
theorem exp_top : Ideal.exp (⊤ : EReal) = ⊤ := rfl
theorem exp_coe (r : ℝ) : Ideal.exp (r : EReal) = (Real.exp r : ℝ) := rfl
theorem log_coe (r : ℝ) : Ideal.log (r : EReal) = if r ≤ 0 then ⊥ else ((Real.log r : ℝ) : EReal) := rfl

theorem bot_sub (x : EReal) : (⊥ : EReal) - x = ⊥ := by
  rw [sub_eq_add_neg]; exact EReal.bot_add _

theorem exp_nonneg (x : EReal) : 0 ≤ Ideal.exp x := by
  induction x with
  | bot => rw [exp_bot]
  | top => rw [exp_top]; exact le_top
  | coe r => rw [exp_coe]; exact_mod_cast (Real.exp_pos r).le

theorem exp_le_one {x : EReal} (h : x ≤ 0) : Ideal.exp x ≤ 1 := by
  induction x with
  | bot => rw [exp_bot]; exact zero_le_one
  | top => exact absurd h (by simp)
  | coe r =>
    have hr : r ≤ 0 := by exact_mod_cast h
    rw [exp_coe]
    exact_mod_cast Real.exp_le_one_iff.mpr hr

theorem exp_zero : Ideal.exp (0 : EReal) = 1 := by
  show Ideal.exp ((0 : ℝ) : EReal) = 1
  rw [exp_coe, Real.exp_zero, EReal.coe_one]

/-- A largest score, of scores listed together. -/
theorem sup_split {n : Nat} (s : Fin (n + 8) → EReal) :
    Finset.univ.sup s = top (fun c : Fin n => s (Fin.castAdd 8 c)) (fun j : Fin 8 => s (Fin.natAdd n j)) := by
  apply le_antisymm
  · refine Finset.sup_le fun i _ => ?_
    refine Fin.addCases (fun c => ?_) (fun j => ?_) i
    · exact le_trans (Finset.le_sup (f := fun c : Fin n => s (Fin.castAdd 8 c)) (Finset.mem_univ c)) (le_max_left _ _)
    · exact le_trans (Finset.le_sup (f := fun j : Fin 8 => s (Fin.natAdd n j)) (Finset.mem_univ j)) (le_max_right _ _)
  · exact max_le (Finset.sup_le fun c _ => Finset.le_sup (f := s) (Finset.mem_univ _))
      (Finset.sup_le fun j _ => Finset.le_sup (f := s) (Finset.mem_univ _))

theorem sub_self_real {x : EReal} (hb : x ≠ ⊥) (ht : x ≠ ⊤) : x - x = 0 := by
  lift x to ℝ using ⟨ht, hb⟩
  rw [← EReal.coe_sub, sub_self, EReal.coe_zero]

theorem sub_top (x : EReal) : x - ⊤ = ⊥ := by
  rw [sub_eq_add_neg, EReal.neg_top]; exact EReal.add_bot x

theorem log_zero : Ideal.log (0 : EReal) = ⊥ := by
  show Ideal.log ((0 : ℝ) : EReal) = ⊥
  rw [log_coe, if_pos le_rfl]

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self _ _)) (ih fun i hi => h i (Finset.mem_insert_of_mem hi))

theorem le_top_left {n : Nat} (sc : Fin n → EReal) (sf : Fin 8 → EReal) (c : Fin n) : sc c ≤ top sc sf :=
  le_trans (Finset.le_sup (f := sc) (Finset.mem_univ c)) (le_max_left _ _)

theorem le_top_right {n : Nat} (sc : Fin n → EReal) (sf : Fin 8 → EReal) (j : Fin 8) : sf j ≤ top sc sf :=
  le_trans (Finset.le_sup (f := sf) (Finset.mem_univ j)) (le_max_right _ _)

theorem ne_top_of_le_one {x : EReal} (h : x ≤ 1) : x ≠ ⊤ :=
  ne_top_of_le_ne_top (by exact EReal.coe_ne_top 1) h

theorem den_ne_top {n : Nat} (sc : Fin n → EReal) (sf : Fin 8 → EReal) (hb : top sc sf ≠ ⊥) (ht : top sc sf ≠ ⊤) : den sc sf ≠ ⊤ := by
  have h : ∀ x, x ≤ top sc sf → Ideal.exp (x - top sc sf) ≠ ⊤ := fun x hx => by
    refine ne_top_of_le_one (exp_le_one ?_)
    calc x - top sc sf ≤ top sc sf - top sc sf := EReal.sub_le_sub hx le_rfl
      _ = 0 := sub_self_real hb ht
  exact EReal.add_ne_top (sum_ne_top _ _ fun c _ => h _ (le_top_left sc sf c)) (sum_ne_top _ _ fun j _ => h _ (le_top_right sc sf j))

theorem log_ne_top {x : EReal} (h : x ≠ ⊤) : Ideal.log x ≠ ⊤ := by
  induction x with
  | bot => exact bot_ne_top
  | top => exact absurd rfl h
  | coe r => rw [log_coe]; by_cases hr : r ≤ 0 <;> simp [hr]

/-- A group's logarithm is never infinite upwards. -/
theorem lse_ne_top {n : Nat} (sc : Fin n → EReal) (sf : Fin 8 → EReal) : lse sc sf ≠ ⊤ := by
  unfold lse
  by_cases ht : top sc sf = ⊤
  · have : den sc sf = 0 := by
      unfold den
      rw [ht]
      simp only [sub_top, exp_bot, Finset.sum_const_zero, add_zero]
    rw [this, log_zero]
    simp
  · by_cases hb : top sc sf = ⊥
    · rw [hb]; simp
    · exact EReal.add_ne_top ht (log_ne_top (den_ne_top sc sf hb ht))

/-- A group's logarithm is a number where its largest score is one. -/
theorem lse_ne_bot {n : Nat} (sc : Fin n → EReal) (sf : Fin 8 → EReal) (hb : top sc sf ≠ ⊥) (ht : top sc sf ≠ ⊤) (j : Fin 8) (hj : sf j ≠ ⊥) : lse sc sf ≠ ⊥ := by
  have hd : den sc sf ≠ ⊤ := den_ne_top sc sf hb ht
  have hp : 0 < Ideal.exp (sf j - top sc sf) := by
    have hjt : sf j ≠ ⊤ := ne_top_of_le_ne_top ht (le_top_right sc sf j)
    generalize sf j = a at hj hjt ⊢
    generalize top sc sf = b at hb ht ⊢
    lift a to ℝ using ⟨hjt, hj⟩
    lift b to ℝ using ⟨ht, hb⟩
    rw [← EReal.coe_sub]
    rw [exp_coe]
    exact_mod_cast Real.exp_pos (a - b)
  have hpos : 0 < den sc sf := by
    refine lt_of_lt_of_le hp ?_
    refine le_trans (Finset.single_le_sum (f := fun j => Ideal.exp (sf j - top sc sf)) (fun i _ => exp_nonneg _) (Finset.mem_univ j)) ?_
    exact le_add_of_nonneg_left (Finset.sum_nonneg fun i _ => exp_nonneg _)
  unfold lse
  generalize den sc sf = d at hd hpos ⊢
  generalize top sc sf = b at hb ht ⊢
  lift d to ℝ using ⟨hd, (lt_of_le_of_lt bot_le hpos).ne'⟩
  lift b to ℝ using ⟨ht, hb⟩
  have hr : 0 < d := by exact_mod_cast hpos
  rw [log_coe, if_neg (not_le.mpr hr)]
  rw [← EReal.coe_add]
  exact EReal.coe_ne_bot _

/-- Weighting by normalised weights is normalising the weighted sum. -/
theorem merge_eq (p q w a b c : EReal) (ha : a ≠ ⊥) (hat : a ≠ ⊤) (hb : b ≠ ⊤) (hc : c ≠ ⊤) :
    p * Ideal.div (Ideal.exp (a - max (max a b) c)) (Ideal.exp (a - max (max a b) c) + Ideal.exp (b - max (max a b) c) + Ideal.exp (c - max (max a b) c))
      + q * Ideal.div (Ideal.exp (b - max (max a b) c)) (Ideal.exp (a - max (max a b) c) + Ideal.exp (b - max (max a b) c) + Ideal.exp (c - max (max a b) c))
      + w * Ideal.div (Ideal.exp (c - max (max a b) c)) (Ideal.exp (a - max (max a b) c) + Ideal.exp (b - max (max a b) c) + Ideal.exp (c - max (max a b) c))
      = merge p q w a b c := by
  unfold merge
  have hMb : max (max a b) c ≠ ⊥ := (lt_of_lt_of_le (bot_lt_iff_ne_bot.mpr ha) (le_trans (le_max_left a b) (le_max_left _ _))).ne'
  have hMt : max (max a b) c ≠ ⊤ := by
    rcases max_choice (max a b) c with h | h <;> rw [h]
    · rcases max_choice a b with h | h <;> rw [h] <;> assumption
    · exact hc
  have one : Ideal.exp (max (max a b) c - max (max a b) c) = 1 := by rw [sub_self_real hMb hMt, exp_zero]
  have hW : 0 < Ideal.exp (a - max (max a b) c) + Ideal.exp (b - max (max a b) c) + Ideal.exp (c - max (max a b) c) := by
    have n1 := exp_nonneg (a - max (max a b) c)
    have n2 := exp_nonneg (b - max (max a b) c)
    have n3 := exp_nonneg (c - max (max a b) c)
    refine lt_of_lt_of_le zero_lt_one ?_
    rcases max_choice (max a b) c with h | h
    · rcases max_choice a b with h' | h'
      · have e : Ideal.exp (a - max (max a b) c) = 1 := by
          have : max (max a b) c = a := h.trans h'
          rw [this] at one ⊢; exact one
        rw [e] at n1 ⊢
        exact le_add_of_le_of_nonneg (le_add_of_nonneg_right n2) n3
      · have e : Ideal.exp (b - max (max a b) c) = 1 := by
          have : max (max a b) c = b := h.trans h'
          rw [this] at one ⊢; exact one
        rw [e] at n2 ⊢
        exact le_add_of_le_of_nonneg (le_add_of_nonneg_left n1) n3
    · have e : Ideal.exp (c - max (max a b) c) = 1 := by
        rw [h] at one ⊢; exact one
      rw [e] at n3 ⊢
      exact le_add_of_nonneg_left (add_nonneg n1 n2)
  generalize Ideal.exp (a - max (max a b) c) + Ideal.exp (b - max (max a b) c) + Ideal.exp (c - max (max a b) c) = W at hW ⊢
  generalize Ideal.exp (a - max (max a b) c) = x
  generalize Ideal.exp (b - max (max a b) c) = y
  generalize Ideal.exp (c - max (max a b) c) = z
  have hW0 : W ≠ 0 := hW.ne'
  have hi : 0 ≤ W⁻¹ := EReal.inv_nonneg_of_nonneg hW.le
  have hit : W⁻¹ ≠ ⊤ := by
    induction W with
    | bot => simp
    | top => simp
    | coe r => rw [← EReal.coe_inv]; exact EReal.coe_ne_top _
  simp only [Ideal.div, if_neg hW0]
  rw [EReal.right_distrib_of_nonneg_of_ne_top hi hit, EReal.right_distrib_of_nonneg_of_ne_top hi hit]
  simp only [mul_comm x p, mul_comm y q, mul_comm z w, mul_assoc]

end Cert.Proof.Swa

end
-- ==== Proof.SwaOut.lean ====
/-
  The block that a point of the sample tokens' attention writes: at a row and a head's channel, the merge of the three
  groups' attentions over the blocks it is given.
-/
module

public import proofs.«01_k».proof.Proof.SwaBody
public import proofs.«01_k».proof.Proof.SwaSpec

@[expose] public section

set_option maxRecDepth 16384
set_option maxHeartbeats 8000000

noncomputable section

namespace Cert.Proof.Swa

open Idealize.ShloMosaic Idealize.ShloMosaic.TcCoe Idealize.SL.Sem
open Cert.SwaIdeal Cert.SwaIdeal.Gen

/-! ### Scores masked to one head -/

section
variable (f : Fin 64 → EReal) (h : Fin 8) (sf : Fin 8 → EReal) (hn : ∀ k j, f (hrow k j) = if k = h then sf j else ⊥)
include hn

theorem sup_mask : Finset.univ.sup f = Finset.univ.sup sf := by
  apply le_antisymm
  · refine Finset.sup_le fun J _ => ?_
    obtain ⟨k, j, rfl⟩ := exists_hrow J
    rw [hn]
    split
    · exact Finset.le_sup (f := sf) (Finset.mem_univ j)
    · exact bot_le
  · refine Finset.sup_le fun j _ => ?_
    have := Finset.le_sup (f := f) (Finset.mem_univ (hrow h j))
    rwa [hn, if_pos rfl] at this

theorem sum_mask_mul (m : EReal) (v : Fin 8 → Fin 8 → EReal) :
    ∑ k : Fin 8, ∑ j : Fin 8, Ideal.exp (f (hrow k j) - m) * v k j = ∑ j : Fin 8, Ideal.exp (sf j - m) * v h j := by
  rw [Finset.sum_eq_single h]
  · refine Finset.sum_congr rfl fun j _ => ?_
    rw [hn, if_pos rfl]
  · intro k _ hk
    refine Finset.sum_eq_zero fun j _ => ?_
    rw [hn, if_neg hk, bot_sub, exp_bot, zero_mul]
  · exact fun hh => absurd (Finset.mem_univ h) hh

theorem sum_mask (m : EReal) : ∑ J : Fin 64, Ideal.exp (f J - m) = ∑ j : Fin 8, Ideal.exp (sf j - m) := by
  have := sum_mask_mul f h sf hn m fun _ _ => 1
  simp only [mul_one] at this
  rw [sum_heads, this]

end

/-! ### A group's largest score, sum, logarithm and average -/

section
variable (SN : FVec Ideal S64x64 .f32) (h r : Fin 8) (sf : Fin 8 → EReal)
  (hn : ∀ k j, SN (ix2 (hrow h r) (hrow k j)) = if k = h then sf j else ⊥)
include hn

theorem m0 (SC : FVec Ideal S64x128 .f32) (u : Fin 1) :
    k0_pay26 SC SN (ix2 (hrow h r) u) = top (fun c => SC (ix2 (hrow h r) c)) sf := by
  have e : k0_pay26 SC SN (ix2 (hrow h r) u) = max (Finset.fold max (Ideal.ofBits FTy.f32 0xFF800000#32) (fun c => SC (ix2 (hrow h r) c)) Finset.univ)
      (Finset.fold max (Ideal.ofBits FTy.f32 0xFF800000#32) (fun c => SN (ix2 (hrow h r) c)) Finset.univ) := by
    pointwise [k0_pay26]
  rw [e, fold_eq, fold_eq, sup_mask _ h sf hn, top]

theorem d0 (SC : FVec Ideal S64x128 .f32) (u : Fin 1) :
    k0_pay29 SC SN (ix2 (hrow h r) u) = den (fun c => SC (ix2 (hrow h r) c)) sf := by
  have e : k0_pay29 SC SN (ix2 (hrow h r) u) = ∑ c, Ideal.exp (SC (ix2 (hrow h r) c) - k0_pay26 SC SN (ix2 (hrow h r) 0))
      + ∑ c, Ideal.exp (SN (ix2 (hrow h r) c) - k0_pay26 SC SN (ix2 (hrow h r) 0)) := by
    pointwise [k0_pay29, k0_pay27, k0_pay28]
  rw [e, m0 SN h r sf hn, sum_mask _ h sf hn, den]

theorem m1 (SC : FVec Ideal S64x512 .f32) (u : Fin 1) :
    k0_pay32 SC SN (ix2 (hrow h r) u) = top (fun c => SC (ix2 (hrow h r) c)) sf := by
  have e : k0_pay32 SC SN (ix2 (hrow h r) u) = max (Finset.fold max (Ideal.ofBits FTy.f32 0xFF800000#32) (fun c => SC (ix2 (hrow h r) c)) Finset.univ)
      (Finset.fold max (Ideal.ofBits FTy.f32 0xFF800000#32) (fun c => SN (ix2 (hrow h r) c)) Finset.univ) := by
    pointwise [k0_pay32]
  rw [e, fold_eq, fold_eq, sup_mask _ h sf hn, top]

theorem d1 (SC : FVec Ideal S64x512 .f32) (u : Fin 1) :
    k0_pay35 SC SN (ix2 (hrow h r) u) = den (fun c => SC (ix2 (hrow h r) c)) sf := by
  have e : k0_pay35 SC SN (ix2 (hrow h r) u) = ∑ c, Ideal.exp (SC (ix2 (hrow h r) c) - k0_pay32 SC SN (ix2 (hrow h r) 0))
      + ∑ c, Ideal.exp (SN (ix2 (hrow h r) c) - k0_pay32 SC SN (ix2 (hrow h r) 0)) := by
    pointwise [k0_pay35, k0_pay33, k0_pay34]
  rw [e, m1 SN h r sf hn, sum_mask _ h sf hn, den]

end

section
variable (A : FVec Ideal S64x64 .f32) (B : Vec Ideal S1x1x64x64 .f32) (h r : Fin 8) (sf : Fin 8 → EReal)
  (hn : ∀ k j, k0_pay25 A B (ix2 (hrow h r) (hrow k j)) = if k = h then sf j else ⊥)
include hn

theorem m2 (SC : FVec Ideal S64x2048 .f32) (u : Fin 1) :
    k0_pay38 SC A B (ix2 (hrow h r) u) = top (fun c => SC (ix2 (hrow h r) c)) sf := by
  have e : k0_pay38 SC A B (ix2 (hrow h r) u) = max (Finset.fold max (Ideal.ofBits FTy.f32 0xFF800000#32) (fun c => SC (ix2 (hrow h r) c)) Finset.univ)
      (Finset.fold max (Ideal.ofBits FTy.f32 0xFF800000#32) (fun c => k0_pay25 A B (ix2 (hrow h r) c)) Finset.univ) := by
    pointwise [k0_pay38]
  rw [e, fold_eq, fold_eq, sup_mask _ h sf hn, top]

theorem d2 (SC : FVec Ideal S64x2048 .f32) (u : Fin 1) :
    k0_pay41 (k0_pay39 SC A B) (k0_pay40 SC A B) (ix2 (hrow h r) u) = den (fun c => SC (ix2 (hrow h r) c)) sf := by
  have e : k0_pay41 (k0_pay39 SC A B) (k0_pay40 SC A B) (ix2 (hrow h r) u) = ∑ c, Ideal.exp (SC (ix2 (hrow h r) c) - k0_pay38 SC A B (ix2 (hrow h r) 0))
      + ∑ c, Ideal.exp (k0_pay25 A B (ix2 (hrow h r) c) - k0_pay38 SC A B (ix2 (hrow h r) 0)) := by
    pointwise [k0_pay41, k0_pay39, k0_pay40]
  rw [e, m2 A B h r sf hn, sum_mask _ h sf hn, den]

end

/-! ### The merge -/

/-- Eight blocks of 64 columns beside each other, read at column `e` of block `k`. -/
theorem cols8 (a0 a1 a2 a3 a4 a5 a6 a7 : S8x64.Idx → EReal)
    (h : Shape.Concatenates [S8x64, S8x64, S8x64, S8x64, S8x64, S8x64, S8x64, S8x64] S8x512 1) (r k : Fin 8) (e : Fin 64) :
    concatenate S8x512 1 [⟨S8x64, a0⟩, ⟨S8x64, a1⟩, ⟨S8x64, a2⟩, ⟨S8x64, a3⟩, ⟨S8x64, a4⟩, ⟨S8x64, a5⟩, ⟨S8x64, a6⟩, ⟨S8x64, a7⟩] h
      (ix2 r (hcol k e)) = ![a0, a1, a2, a3, a4, a5, a6, a7] k (ix2 r e) :=
  concatenate_ofFn_apply (t := S8x512) (s₁ := S8x64) 1 ![a0, a1, a2, a3, a4, a5, a6, a7] h rfl 64 rfl (ix2 r (hcol k e)) k
    (by show (64 * k.val + e.val) / 64 = k.val; omega) (ix2 r e) (by show e.val = (64 * k.val + e.val) % 64; omega)
    (fun b hb => by fin_cases b; exacts [rfl, absurd rfl hb])

theorem merge_apply (p q w : FVec Ideal S64x64 .f32) (a b c d : FVec Ideal S64x1 .f32) (r h : Fin 8) (e : Fin 64)
    (hd : d (ix2 (hrow h r) 0) = max (a (ix2 (hrow h r) 0)) (b (ix2 (hrow h r) 0))) :
    k0_pay1 p q w a b c d (ix2 r (hcol h e))
      = merge (p (ix2 (hrow h r) e)) (q (ix2 (hrow h r) e)) (w (ix2 (hrow h r) e)) (a (ix2 (hrow h r) 0)) (b (ix2 (hrow h r) 0)) (c (ix2 (hrow h r) 0)) := by
  unfold k0_pay1
  refine (cols8 _ _ _ _ _ _ _ _ _ r h e).trans ?_
  rw [merge, ← hd]
  obtain ⟨h, hh⟩ := h
  interval_cases h <;> pointwise [hrow]

/-! ### A group's average -/

section
variable (SN : FVec Ideal S64x64 .f32) (h r : Fin 8) (sf : Fin 8 → EReal)
  (hn : ∀ k j, SN (ix2 (hrow h r) (hrow k j)) = if k = h then sf j else ⊥)
include hn

theorem a0 (SC : FVec Ideal S64x128 .f32) (V : FVec Ideal S64x64 .f32) (x2 : Vec Ideal S8x512 .f32) (e : Fin 64) (vc : Fin 128 → EReal)
    (hV : V (ix2 (hrow h r) e) = ∑ c, k0_pay30 SC SN (ix2 (hrow h r) c) * vc c) :
    k0_pay64 (k0_pay29 SC SN) (k0_pay31 SC SN) V x2 (ix2 (hrow h r) e)
      = att (fun c => SC (ix2 (hrow h r) c)) sf vc (fun j => x2 (ix2 j (hcol h e))) := by
  have ec : ∀ c, k0_pay30 SC SN (ix2 (hrow h r) c) = Ideal.exp (SC (ix2 (hrow h r) c) - k0_pay26 SC SN (ix2 (hrow h r) 0)) := fun c => by
    pointwise [k0_pay30, k0_pay27]
  have en : ∀ J, k0_pay31 SC SN (ix2 (hrow h r) J) = Ideal.exp (SN (ix2 (hrow h r) J) - k0_pay26 SC SN (ix2 (hrow h r) 0)) := fun J => by
    pointwise [k0_pay31, k0_pay28]
  rw [o0_apply, hV, d0 SN h r sf hn]
  simp only [ec, en]
  rw [m0 SN h r sf hn, sum_mask_mul (fun J => SN (ix2 (hrow h r) J)) h sf hn _ (fun k j => x2 (ix2 j (hcol k e))), att]

theorem a1 (SC : FVec Ideal S64x512 .f32) (V : FVec Ideal S64x64 .f32) (x5 : Vec Ideal S8x512 .f32) (e : Fin 64) (vc : Fin 512 → EReal)
    (hV : V (ix2 (hrow h r) e) = ∑ c, k0_pay36 SC SN (ix2 (hrow h r) c) * vc c) :
    k0_pay65 (k0_pay35 SC SN) (k0_pay37 SC SN) V x5 (ix2 (hrow h r) e)
      = att (fun c => SC (ix2 (hrow h r) c)) sf vc (fun j => x5 (ix2 j (hcol h e))) := by
  have ec : ∀ c, k0_pay36 SC SN (ix2 (hrow h r) c) = Ideal.exp (SC (ix2 (hrow h r) c) - k0_pay32 SC SN (ix2 (hrow h r) 0)) := fun c => by
    pointwise [k0_pay36, k0_pay33]
  have en : ∀ J, k0_pay37 SC SN (ix2 (hrow h r) J) = Ideal.exp (SN (ix2 (hrow h r) J) - k0_pay32 SC SN (ix2 (hrow h r) 0)) := fun J => by
    pointwise [k0_pay37, k0_pay34]
  rw [o1_apply, hV, d1 SN h r sf hn]
  simp only [ec, en]
  rw [m1 SN h r sf hn, sum_mask_mul (fun J => SN (ix2 (hrow h r) J)) h sf hn _ (fun k j => x5 (ix2 j (hcol k e))), att]

end

theorem a2 (A : FVec Ideal S64x64 .f32) (B : Vec Ideal S1x1x64x64 .f32) (h r : Fin 8) (sf : Fin 8 → EReal)
    (hn : ∀ k j, k0_pay25 A B (ix2 (hrow h r) (hrow k j)) = if k = h then sf j else ⊥)
    (SC : FVec Ideal S64x2048 .f32) (V : FVec Ideal S64x64 .f32) (x8 : Vec Ideal S8x512 .f32) (e : Fin 64) (vc : Fin 2048 → EReal)
    (hV : V (ix2 (hrow h r) e) = ∑ c, k0_pay42 (k0_pay39 SC A B) (ix2 (hrow h r) c) * vc c) :
    k0_pay66 (k0_pay41 (k0_pay39 SC A B) (k0_pay40 SC A B)) (k0_pay43 (k0_pay40 SC A B)) V x8 (ix2 (hrow h r) e)
      = att (fun c => SC (ix2 (hrow h r) c)) sf vc (fun j => x8 (ix2 j (hcol h e))) := by
  have ec : ∀ c, k0_pay42 (k0_pay39 SC A B) (ix2 (hrow h r) c) = Ideal.exp (SC (ix2 (hrow h r) c) - k0_pay38 SC A B (ix2 (hrow h r) 0)) := fun c => by
    pointwise [k0_pay42, k0_pay39]
  have en : ∀ J, k0_pay43 (k0_pay40 SC A B) (ix2 (hrow h r) J) = Ideal.exp (k0_pay25 A B (ix2 (hrow h r) J) - k0_pay38 SC A B (ix2 (hrow h r) 0)) := fun J => by
    pointwise [k0_pay43, k0_pay40]
  rw [o2_apply, hV, d2 A B h r sf hn]
  simp only [ec, en]
  rw [m2 A B h r sf hn, sum_mask_mul (fun J => k0_pay25 A B (ix2 (hrow h r) J)) h sf hn _ (fun k j => x8 (ix2 j (hcol k e))), att]

/-! ### The block -/

/-- A query's score against a cached position, from the blocks. -/
def bsc {n : Nat} (x : S8x512.Idx → EReal) (cache : (⟨6, ![1, 1, 2, 8, 64, n]⟩ : Shape).Idx → EReal) (tab : (⟨2, ![64, n]⟩ : Shape).Idx → EReal)
    (h r : Fin 8) (c : Fin n) : EReal :=
  ∑ e : Fin 64, (x (ix2 r (hcol h e)) * c8) * cache (ix6 0 0 0 h e c) + tab (ix2 (hrow h r) c)

/-- A query's score against a fresh position, from the blocks. -/
def bsf (x y : S8x512.Idx → EReal) (tab : S1x3x64x64.Idx → EReal) (g : Fin 3) (h r j : Fin 8) : EReal :=
  ∑ e : Fin 64, (x (ix2 r (hcol h e)) * c8) * y (ix2 j (hcol h e)) + tab (ix4 0 g (hrow h r) (hrow h j))

variable (x0 x1 x2 x3 x4 x5 x6 x7 x8 : Vec Ideal S8x512 .f32) (x9 : Vec Ideal S1x1x2x8x64x128 .f32) (x10 : Vec Ideal S1x1x2x8x64x512 .f32)
  (x11 : Vec Ideal S1x1x2x8x64x2048 .f32) (x12 : Vec Ideal S64x128 .f32) (x13 : Vec Ideal S64x512 .f32) (x14 : Vec Ideal S64x2048 .f32)
  (x15 : Vec Ideal S1x3x64x64 .f32)

theorem out_apply (h r : Fin 8) (e : Fin 64) (hx : ∀ (g : Fin 3) (k j : Fin 8), k ≠ h → x15 (ix4 0 g (hrow h r) (hrow k j)) = ⊥) :
    out0_16 x0 x1 x2 x3 x4 x5 x6 x7 x8 x9 x10 x11 x12 x13 x14 x15 (ix2 r (hcol h e))
      = merge (att (bsc x0 x9 x12 h r) (bsf x0 x1 x15 0 h r) (fun c => x9 (ix6 0 0 1 h e c)) (fun j => x2 (ix2 j (hcol h e))))
          (att (bsc x3 x10 x13 h r) (bsf x3 x4 x15 1 h r) (fun c => x10 (ix6 0 0 1 h e c)) (fun j => x5 (ix2 j (hcol h e))))
          (att (bsc x6 x11 x14 h r) (bsf x6 x7 x15 2 h r) (fun c => x11 (ix6 0 0 1 h e c)) (fun j => x8 (ix2 j (hcol h e))))
          (lse (bsc x0 x9 x12 h r) (bsf x0 x1 x15 0 h r)) (lse (bsc x3 x10 x13 h r) (bsf x3 x4 x15 1 h r))
          (lse (bsc x6 x11 x14 h r) (bsf x6 x7 x15 2 h r)) := by
  have c0 : (fun c => k0_pay72 x0 x1 x2 x3 x4 x5 x6 x7 x8 x9 x10 x11 x12 x13 x14 x15 (ix2 (hrow h r) c)) = bsc x0 x9 x12 h r := by
    funext c; rw [sc0_apply]; simp only [q0_apply]; rfl
  have c1 : (fun c => k0_pay74 x0 x1 x2 x3 x4 x5 x6 x7 x8 x9 x10 x11 x12 x13 x14 x15 (ix2 (hrow h r) c)) = bsc x3 x10 x13 h r := by
    funext c; rw [sc1_apply]; simp only [q1_apply]; rfl
  have c2 : (fun c => k0_pay76 x0 x1 x2 x3 x4 x5 x6 x7 x8 x9 x10 x11 x12 x13 x14 x15 (ix2 (hrow h r) c)) = bsc x6 x11 x14 h r := by
    funext c; rw [sc2_apply]; simp only [q2_apply]; rfl
  have n0 : ∀ k j, k0_pay77 x0 x1 x2 x3 x4 x5 x6 x7 x8 x9 x10 x11 x12 x13 x14 x15 (ix2 (hrow h r) (hrow k j)) = if k = h then bsf x0 x1 x15 0 h r j else ⊥ := by
    intro k j
    rw [sn0_apply]
    split
    · next hk => subst hk; simp only [q0_apply]; rfl
    · next hk => rw [hx 0 k j hk, EReal.add_bot]
  have n1 : ∀ k j, k0_pay78 x0 x1 x2 x3 x4 x5 x6 x7 x8 x9 x10 x11 x12 x13 x14 x15 (ix2 (hrow h r) (hrow k j)) = if k = h then bsf x3 x4 x15 1 h r j else ⊥ := by
    intro k j
    rw [sn1_apply]
    split
    · next hk => subst hk; simp only [q1_apply]; rfl
    · next hk => rw [hx 1 k j hk, EReal.add_bot]
  have n2 : ∀ k j, k0_pay25 (k0_pay79 x0 x1 x2 x3 x4 x5 x6 x7 x8 x9 x10 x11 x12 x13 x14 x15) (View.ld x15 r0_30) (ix2 (hrow h r) (hrow k j)) = if k = h then bsf x6 x7 x15 2 h r j else ⊥ := by
    intro k j
    rw [sn2_apply]
    split
    · next hk => subst hk; simp only [q2_apply]; rfl
    · next hk => rw [hx 2 k j hk, EReal.add_bot]
  unfold out0_16
  rw [View.canon_unit_zero h2, View.ld_unit_zero h2 _ x2, View.ld_unit_zero h2 _ x5, View.ld_unit_zero h2 _ x8]
  have l0 : k0_pay67 (k0_pay80 x0 x1 x2 x3 x4 x5 x6 x7 x8 x9 x10 x11 x12 x13 x14 x15) (k0_pay81 x0 x1 x2 x3 x4 x5 x6 x7 x8 x9 x10 x11 x12 x13 x14 x15) (ix2 (hrow h r) 0) = lse (bsc x0 x9 x12 h r) (bsf x0 x1 x15 0 h r) := by
    have e : k0_pay67 (k0_pay80 x0 x1 x2 x3 x4 x5 x6 x7 x8 x9 x10 x11 x12 x13 x14 x15) (k0_pay81 x0 x1 x2 x3 x4 x5 x6 x7 x8 x9 x10 x11 x12 x13 x14 x15) (ix2 (hrow h r) 0) = k0_pay80 x0 x1 x2 x3 x4 x5 x6 x7 x8 x9 x10 x11 x12 x13 x14 x15 (ix2 (hrow h r) 0) + Ideal.log (k0_pay81 x0 x1 x2 x3 x4 x5 x6 x7 x8 x9 x10 x11 x12 x13 x14 x15 (ix2 (hrow h r) 0)) := by
      pointwise [k0_pay67]
    rw [e, k0_pay80, k0_pay81, m0 _ h r _ n0, d0 _ h r _ n0, c0, lse]
  have l1 : k0_pay68 (k0_pay83 x0 x1 x2 x3 x4 x5 x6 x7 x8 x9 x10 x11 x12 x13 x14 x15) (k0_pay84 x0 x1 x2 x3 x4 x5 x6 x7 x8 x9 x10 x11 x12 x13 x14 x15) (ix2 (hrow h r) 0) = lse (bsc x3 x10 x13 h r) (bsf x3 x4 x15 1 h r) := by
    have e : k0_pay68 (k0_pay83 x0 x1 x2 x3 x4 x5 x6 x7 x8 x9 x10 x11 x12 x13 x14 x15) (k0_pay84 x0 x1 x2 x3 x4 x5 x6 x7 x8 x9 x10 x11 x12 x13 x14 x15) (ix2 (hrow h r) 0) = k0_pay83 x0 x1 x2 x3 x4 x5 x6 x7 x8 x9 x10 x11 x12 x13 x14 x15 (ix2 (hrow h r) 0) + Ideal.log (k0_pay84 x0 x1 x2 x3 x4 x5 x6 x7 x8 x9 x10 x11 x12 x13 x14 x15 (ix2 (hrow h r) 0)) := by
      pointwise [k0_pay68]
    rw [e, k0_pay83, k0_pay84, m1 _ h r _ n1, d1 _ h r _ n1, c1, lse]
  have l2 : k0_pay69 (k0_pay38 (k0_pay76 x0 x1 x2 x3 x4 x5 x6 x7 x8 x9 x10 x11 x12 x13 x14 x15) (k0_pay79 x0 x1 x2 x3 x4 x5 x6 x7 x8 x9 x10 x11 x12 x13 x14 x15) (View.ld x15 r0_30)) (k0_pay88 x0 x1 x2 x3 x4 x5 x6 x7 x8 x9 x10 x11 x12 x13 x14 x15) (ix2 (hrow h r) 0) = lse (bsc x6 x11 x14 h r) (bsf x6 x7 x15 2 h r) := by
    have e : k0_pay69 (k0_pay38 (k0_pay76 x0 x1 x2 x3 x4 x5 x6 x7 x8 x9 x10 x11 x12 x13 x14 x15) (k0_pay79 x0 x1 x2 x3 x4 x5 x6 x7 x8 x9 x10 x11 x12 x13 x14 x15) (View.ld x15 r0_30)) (k0_pay88 x0 x1 x2 x3 x4 x5 x6 x7 x8 x9 x10 x11 x12 x13 x14 x15) (ix2 (hrow h r) 0)
        = k0_pay38 (k0_pay76 x0 x1 x2 x3 x4 x5 x6 x7 x8 x9 x10 x11 x12 x13 x14 x15) (k0_pay79 x0 x1 x2 x3 x4 x5 x6 x7 x8 x9 x10 x11 x12 x13 x14 x15) (View.ld x15 r0_30) (ix2 (hrow h r) 0) + Ideal.log (k0_pay88 x0 x1 x2 x3 x4 x5 x6 x7 x8 x9 x10 x11 x12 x13 x14 x15 (ix2 (hrow h r) 0)) := by
      pointwise [k0_pay69]
    rw [e, k0_pay88, k0_pay86, k0_pay87, m2 _ _ h r _ n2, d2 _ _ h r _ n2, c2, lse]
  have p0 := a0 (k0_pay77 x0 x1 x2 x3 x4 x5 x6 x7 x8 x9 x10 x11 x12 x13 x14 x15) h r _ n0 (k0_pay72 x0 x1 x2 x3 x4 x5 x6 x7 x8 x9 x10 x11 x12 x13 x14 x15) _ x2 e (fun c => x9 (ix6 0 0 1 h e c)) (cv0_apply x9 (k0_pay30 (k0_pay72 x0 x1 x2 x3 x4 x5 x6 x7 x8 x9 x10 x11 x12 x13 x14 x15) (k0_pay77 x0 x1 x2 x3 x4 x5 x6 x7 x8 x9 x10 x11 x12 x13 x14 x15)) h r e)
  have p1 := a1 (k0_pay78 x0 x1 x2 x3 x4 x5 x6 x7 x8 x9 x10 x11 x12 x13 x14 x15) h r _ n1 (k0_pay74 x0 x1 x2 x3 x4 x5 x6 x7 x8 x9 x10 x11 x12 x13 x14 x15) _ x5 e (fun c => x10 (ix6 0 0 1 h e c)) (cv1_apply x10 (k0_pay36 (k0_pay74 x0 x1 x2 x3 x4 x5 x6 x7 x8 x9 x10 x11 x12 x13 x14 x15) (k0_pay78 x0 x1 x2 x3 x4 x5 x6 x7 x8 x9 x10 x11 x12 x13 x14 x15)) h r e)
  have p2 := a2 (k0_pay79 x0 x1 x2 x3 x4 x5 x6 x7 x8 x9 x10 x11 x12 x13 x14 x15) (View.ld x15 r0_30) h r _ n2 (k0_pay76 x0 x1 x2 x3 x4 x5 x6 x7 x8 x9 x10 x11 x12 x13 x14 x15) _ x8 e (fun c => x11 (ix6 0 0 1 h e c))
    (cv2_apply x11 (k0_pay42 (k0_pay39 (k0_pay76 x0 x1 x2 x3 x4 x5 x6 x7 x8 x9 x10 x11 x12 x13 x14 x15) (k0_pay79 x0 x1 x2 x3 x4 x5 x6 x7 x8 x9 x10 x11 x12 x13 x14 x15) (View.ld x15 r0_30))) h r e)
  rw [c0] at p0
  rw [c1] at p1
  rw [c2] at p2
  refine (merge_apply _ _ _ _ _ _ _ r h e (by pointwise [k0_pay70])).trans ?_
  rw [l0, l1, l2]
  simp only [k0_pay80, k0_pay81, k0_pay82, k0_pay83, k0_pay84, k0_pay85, k0_pay86, k0_pay87, k0_pay88, k0_pay89]
  rw [p0, p1, p2]

end Cert.Proof.Swa
-- ==== Proof.SwaBlk.lean ====
/-
  The attention of the sample tokens: what the blocks of a point hold of the arguments, and the array after the run.
-/
module

public import proofs.«01_k».proof.Proof.SwaOut

@[expose] public section

set_option maxRecDepth 16384
set_option maxHeartbeats 4000000

noncomputable section

namespace Cert.Proof.Swa

open Idealize.ShloMosaic Idealize.ShloMosaic.TcCoe Idealize.SL.Sem
open Cert.SwaIdeal Cert.SwaIdeal.Gen

/-! ### The result over the arguments -/

section
variable (p : S1024x9216.Idx → EReal) {n : Nat} (cache : (⟨6, ![2, 128, n, 2, 16, 64]⟩ : Shape).Idx → EReal) (tab : (⟨3, ![16, 8, n]⟩ : Shape).Idx → EReal)
  (fr : S16x8x8.Idx → EReal) (g : Fin 3) (b : Fin 128) (t : Fin 8) (h : Fin 16)

/-- Channel `e` of head `h` of a group's query, key or value (`s`) of a request's token. -/
def part (s : Fin 3) (t : Fin 8) (e : Fin 64) : EReal :=
  p (ix2 ⟨b.val * 8 + t.val, by omega⟩ ⟨(g.val * 3 + s.val) * 1024 + h.val * 64 + e.val, by omega⟩)

/-- A query's score against a cached position. -/
def gsc (c : Fin n) : EReal := ∑ e : Fin 64, (part p g b h 0 t e * c8) * cache (ix6 0 b c 0 h e) + tab (ix3 h t c)

/-- A query's score against a fresh position. -/
def gsf (j : Fin 8) : EReal := ∑ e : Fin 64, (part p g b h 0 t e * c8) * part p g b h 1 j e + fr (ix3 h t j)

/-- A group's attention. -/
def gatt (e : Fin 64) : EReal :=
  att (gsc p cache tab g b t h) (gsf p fr g b t h) (fun c => cache (ix6 0 b c 1 h e)) (fun j => part p g b h 2 j e)

/-- A group's logarithm of the sum of exponentials. -/
def glse : EReal := lse (gsc p cache tab g b t h) (gsf p fr g b t h)

end

/-- The merged attention of a request's token. -/
def mixed (p : S1024x9216.Idx → EReal) (k0 : S2x128x128x2x16x64.Idx → EReal) (k1 : S2x128x512x2x16x64.Idx → EReal) (k2 : S2x128x2048x2x16x64.Idx → EReal)
    (t0 : S16x8x128.Idx → EReal) (t1 : S16x8x512.Idx → EReal) (t2 : S16x8x2048.Idx → EReal) (f0 f1 f2 : S16x8x8.Idx → EReal)
    (b : Fin 128) (t : Fin 8) (h : Fin 16) (e : Fin 64) : EReal :=
  merge (gatt p k0 t0 f0 0 b t h e) (gatt p k1 t1 f1 1 b t h e) (gatt p k2 t2 f2 2 b t h e)
    (glse p k0 t0 f0 0 b t h) (glse p k1 t1 f1 1 b t h) (glse p k2 t2 f2 2 b t h)

/-! ### The blocks -/

variable (m : (ℓ : Loc nD τ sig) → Buf (Elt Ideal) ℓ) (c : Dev nD)

theorem index0 : ∀ t : Fin cfg0.N, win0_0.index t = ![t.val % 128, t.val / 128] :=
  (by decide +kernel : ∀ t : Fin grid0.N, win0_0.index t = ![t.val % 128, t.val / 128])
theorem index1 : ∀ t : Fin cfg0.N, win0_1.index t = ![t.val % 128, 2 + t.val / 128] :=
  (by decide +kernel : ∀ t : Fin grid0.N, win0_1.index t = ![t.val % 128, 2 + t.val / 128])
theorem index2 : ∀ t : Fin cfg0.N, win0_2.index t = ![t.val % 128, 4 + t.val / 128] :=
  (by decide +kernel : ∀ t : Fin grid0.N, win0_2.index t = ![t.val % 128, 4 + t.val / 128])
theorem index3 : ∀ t : Fin cfg0.N, win0_3.index t = ![t.val % 128, 6 + t.val / 128] :=
  (by decide +kernel : ∀ t : Fin grid0.N, win0_3.index t = ![t.val % 128, 6 + t.val / 128])
theorem index4 : ∀ t : Fin cfg0.N, win0_4.index t = ![t.val % 128, 8 + t.val / 128] :=
  (by decide +kernel : ∀ t : Fin grid0.N, win0_4.index t = ![t.val % 128, 8 + t.val / 128])
theorem index5 : ∀ t : Fin cfg0.N, win0_5.index t = ![t.val % 128, 10 + t.val / 128] :=
  (by decide +kernel : ∀ t : Fin grid0.N, win0_5.index t = ![t.val % 128, 10 + t.val / 128])
theorem index6 : ∀ t : Fin cfg0.N, win0_6.index t = ![t.val % 128, 12 + t.val / 128] :=
  (by decide +kernel : ∀ t : Fin grid0.N, win0_6.index t = ![t.val % 128, 12 + t.val / 128])
theorem index7 : ∀ t : Fin cfg0.N, win0_7.index t = ![t.val % 128, 14 + t.val / 128] :=
  (by decide +kernel : ∀ t : Fin grid0.N, win0_7.index t = ![t.val % 128, 14 + t.val / 128])
theorem index8 : ∀ t : Fin cfg0.N, win0_8.index t = ![t.val % 128, 16 + t.val / 128] :=
  (by decide +kernel : ∀ t : Fin grid0.N, win0_8.index t = ![t.val % 128, 16 + t.val / 128])
theorem index9 : ∀ t : Fin cfg0.N, win0_9.index t = ![0, t.val % 128, 0, t.val / 128, 0, 0] :=
  (by decide +kernel : ∀ t : Fin grid0.N, win0_9.index t = ![0, t.val % 128, 0, t.val / 128, 0, 0])
theorem index10 : ∀ t : Fin cfg0.N, win0_10.index t = ![0, t.val % 128, 0, t.val / 128, 0, 0] :=
  (by decide +kernel : ∀ t : Fin grid0.N, win0_10.index t = ![0, t.val % 128, 0, t.val / 128, 0, 0])
theorem index11 : ∀ t : Fin cfg0.N, win0_11.index t = ![0, t.val % 128, 0, t.val / 128, 0, 0] :=
  (by decide +kernel : ∀ t : Fin grid0.N, win0_11.index t = ![0, t.val % 128, 0, t.val / 128, 0, 0])
theorem index12 : ∀ t : Fin cfg0.N, win0_12.index t = ![t.val / 128, 0] :=
  (by decide +kernel : ∀ t : Fin grid0.N, win0_12.index t = ![t.val / 128, 0])
theorem index13 : ∀ t : Fin cfg0.N, win0_13.index t = ![t.val / 128, 0] :=
  (by decide +kernel : ∀ t : Fin grid0.N, win0_13.index t = ![t.val / 128, 0])
theorem index14 : ∀ t : Fin cfg0.N, win0_14.index t = ![t.val / 128, 0] :=
  (by decide +kernel : ∀ t : Fin grid0.N, win0_14.index t = ![t.val / 128, 0])
theorem index15 : ∀ t : Fin cfg0.N, win0_15.index t = ![t.val / 128, 0, 0, 0] :=
  (by decide +kernel : ∀ t : Fin grid0.N, win0_15.index t = ![t.val / 128, 0, 0, 0])
theorem index16 : ∀ t : Fin cfg0.N, win0_16.index t = ![t.val % 128, t.val / 128] :=
  (by decide +kernel : ∀ t : Fin grid0.N, win0_16.index t = ![t.val % 128, t.val / 128])

theorem entry_p : V m c main_arg0 = m ((c : Thread nD τ).loc main_arg0) := by
  entry_read
  rfl

theorem entry_k0 : V m c main_v0 = transpose S2x128x2x16x64x128 [0, 1, 3, 4, 5, 2] (m ((c : Thread nD τ).loc main_arg1)) transposes_S2x128x128x2x16x64_S2x128x2x16x64x128_0_1_3_4_5_2 := by
  entry_read
  simp only [hostOps0, hostOps0_1, hostOps0_2, hostOps0_3, hostOps0_4, hostOps0_5, hostOps0_6, List.flatten_cons, List.flatten_nil, List.cons_append, List.nil_append, List.append_nil]
  entry_read
  rfl

theorem entry_k1 : V m c main_v1 = transpose S2x128x2x16x64x512 [0, 1, 3, 4, 5, 2] (m ((c : Thread nD τ).loc main_arg2)) transposes_S2x128x512x2x16x64_S2x128x2x16x64x512_0_1_3_4_5_2 := by
  entry_read
  simp only [hostOps0, hostOps0_1, hostOps0_2, hostOps0_3, hostOps0_4, hostOps0_5, hostOps0_6, List.flatten_cons, List.flatten_nil, List.cons_append, List.nil_append, List.append_nil]
  entry_read
  rfl

theorem entry_k2 : V m c main_v2 = transpose S2x128x2x16x64x2048 [0, 1, 3, 4, 5, 2] (m ((c : Thread nD τ).loc main_arg3)) transposes_S2x128x2048x2x16x64_S2x128x2x16x64x2048_0_1_3_4_5_2 := by
  entry_read
  simp only [hostOps0, hostOps0_1, hostOps0_2, hostOps0_3, hostOps0_4, hostOps0_5, hostOps0_6, List.flatten_cons, List.flatten_nil, List.cons_append, List.nil_append, List.append_nil]
  entry_read
  rfl

theorem entry_t0 : V m c main_v3 = shapeCast S128x128 (m ((c : Thread nD τ).loc main_arg4)) shapeCasts_S16x8x128_S128x128 := by
  entry_read
  simp only [hostOps0, hostOps0_1, hostOps0_2, hostOps0_3, hostOps0_4, hostOps0_5, hostOps0_6, List.flatten_cons, List.flatten_nil, List.cons_append, List.nil_append, List.append_nil]
  entry_read
  rfl

theorem entry_t1 : V m c main_v4 = shapeCast S128x512 (m ((c : Thread nD τ).loc main_arg5)) shapeCasts_S16x8x512_S128x512 := by
  entry_read
  simp only [hostOps0, hostOps0_1, hostOps0_2, hostOps0_3, hostOps0_4, hostOps0_5, hostOps0_6, List.flatten_cons, List.flatten_nil, List.cons_append, List.nil_append, List.append_nil]
  entry_read
  rfl

theorem entry_t2 : V m c main_v5 = shapeCast S128x2048 (m ((c : Thread nD τ).loc main_arg6)) shapeCasts_S16x8x2048_S128x2048 := by
  entry_read
  simp only [hostOps0, hostOps0_1, hostOps0_2, hostOps0_3, hostOps0_4, hostOps0_5, hostOps0_6, List.flatten_cons, List.flatten_nil, List.cons_append, List.nil_append, List.append_nil]
  entry_read
  rfl

/-- Head `h` of a half. -/
def hd (a : Fin 2) (h : Fin 8) : Fin 16 := ⟨8 * a.val + h.val, by omega⟩

/-- The tables of the three groups' fresh positions. -/
def fresh (f0 f1 f2 : S16x8x8.Idx → EReal) (g : Fin 3) : S16x8x8.Idx → EReal := ![f0, f1, f2] g

variable (t : Fin cfg0.N) (b : Fin 128) (a : Fin 2) (hb : t.val % 128 = b.val) (ha : t.val / 128 = a.val)
include hb ha

theorem blk0 (h r : Fin 8) (e : Fin 64) : iblk m c 0 t (ix2 r (hcol h e)) = part (m ((c : Thread nD τ).loc main_arg0)) 0 b (hd a h) 0 r e := by
  have e : (win0_0.blk t).view.emb (ix2 r (hcol h e)) = (ix2 ⟨b.val * 8 + r.val, by omega⟩ ⟨0 * 1024 + (8 * a.val + h.val) * 64 + e.val, by omega⟩ : S1024x9216.Idx) := by
    blk_ext [index0 t, hb, ha, hcol]
  blk_simp [iblk]
  rw [entry_p, e]
  rfl

theorem blk1 (h r : Fin 8) (e : Fin 64) : iblk m c 1 t (ix2 r (hcol h e)) = part (m ((c : Thread nD τ).loc main_arg0)) 0 b (hd a h) 1 r e := by
  have e : (win0_1.blk t).view.emb (ix2 r (hcol h e)) = (ix2 ⟨b.val * 8 + r.val, by omega⟩ ⟨1 * 1024 + (8 * a.val + h.val) * 64 + e.val, by omega⟩ : S1024x9216.Idx) := by
    blk_ext [index1 t, hb, ha, hcol]
  blk_simp [iblk]
  rw [entry_p, e]
  rfl

theorem blk2 (h r : Fin 8) (e : Fin 64) : iblk m c 2 t (ix2 r (hcol h e)) = part (m ((c : Thread nD τ).loc main_arg0)) 0 b (hd a h) 2 r e := by
  have e : (win0_2.blk t).view.emb (ix2 r (hcol h e)) = (ix2 ⟨b.val * 8 + r.val, by omega⟩ ⟨2 * 1024 + (8 * a.val + h.val) * 64 + e.val, by omega⟩ : S1024x9216.Idx) := by
    blk_ext [index2 t, hb, ha, hcol]
  blk_simp [iblk]
  rw [entry_p, e]
  rfl

theorem blk3 (h r : Fin 8) (e : Fin 64) : iblk m c 3 t (ix2 r (hcol h e)) = part (m ((c : Thread nD τ).loc main_arg0)) 1 b (hd a h) 0 r e := by
  have e : (win0_3.blk t).view.emb (ix2 r (hcol h e)) = (ix2 ⟨b.val * 8 + r.val, by omega⟩ ⟨3 * 1024 + (8 * a.val + h.val) * 64 + e.val, by omega⟩ : S1024x9216.Idx) := by
    blk_ext [index3 t, hb, ha, hcol]
  blk_simp [iblk]
  rw [entry_p, e]
  rfl

theorem blk4 (h r : Fin 8) (e : Fin 64) : iblk m c 4 t (ix2 r (hcol h e)) = part (m ((c : Thread nD τ).loc main_arg0)) 1 b (hd a h) 1 r e := by
  have e : (win0_4.blk t).view.emb (ix2 r (hcol h e)) = (ix2 ⟨b.val * 8 + r.val, by omega⟩ ⟨4 * 1024 + (8 * a.val + h.val) * 64 + e.val, by omega⟩ : S1024x9216.Idx) := by
    blk_ext [index4 t, hb, ha, hcol]
  blk_simp [iblk]
  rw [entry_p, e]
  rfl

theorem blk5 (h r : Fin 8) (e : Fin 64) : iblk m c 5 t (ix2 r (hcol h e)) = part (m ((c : Thread nD τ).loc main_arg0)) 1 b (hd a h) 2 r e := by
  have e : (win0_5.blk t).view.emb (ix2 r (hcol h e)) = (ix2 ⟨b.val * 8 + r.val, by omega⟩ ⟨5 * 1024 + (8 * a.val + h.val) * 64 + e.val, by omega⟩ : S1024x9216.Idx) := by
    blk_ext [index5 t, hb, ha, hcol]
  blk_simp [iblk]
  rw [entry_p, e]
  rfl

theorem blk6 (h r : Fin 8) (e : Fin 64) : iblk m c 6 t (ix2 r (hcol h e)) = part (m ((c : Thread nD τ).loc main_arg0)) 2 b (hd a h) 0 r e := by
  have e : (win0_6.blk t).view.emb (ix2 r (hcol h e)) = (ix2 ⟨b.val * 8 + r.val, by omega⟩ ⟨6 * 1024 + (8 * a.val + h.val) * 64 + e.val, by omega⟩ : S1024x9216.Idx) := by
    blk_ext [index6 t, hb, ha, hcol]
  blk_simp [iblk]
  rw [entry_p, e]
  rfl

theorem blk7 (h r : Fin 8) (e : Fin 64) : iblk m c 7 t (ix2 r (hcol h e)) = part (m ((c : Thread nD τ).loc main_arg0)) 2 b (hd a h) 1 r e := by
  have e : (win0_7.blk t).view.emb (ix2 r (hcol h e)) = (ix2 ⟨b.val * 8 + r.val, by omega⟩ ⟨7 * 1024 + (8 * a.val + h.val) * 64 + e.val, by omega⟩ : S1024x9216.Idx) := by
    blk_ext [index7 t, hb, ha, hcol]
  blk_simp [iblk]
  rw [entry_p, e]
  rfl

theorem blk8 (h r : Fin 8) (e : Fin 64) : iblk m c 8 t (ix2 r (hcol h e)) = part (m ((c : Thread nD τ).loc main_arg0)) 2 b (hd a h) 2 r e := by
  have e : (win0_8.blk t).view.emb (ix2 r (hcol h e)) = (ix2 ⟨b.val * 8 + r.val, by omega⟩ ⟨8 * 1024 + (8 * a.val + h.val) * 64 + e.val, by omega⟩ : S1024x9216.Idx) := by
    blk_ext [index8 t, hb, ha, hcol]
  blk_simp [iblk]
  rw [entry_p, e]
  rfl

theorem blk9 (h : Fin 8) (s : Fin 2) (e : Fin 64) (k : Fin 128) : iblk m c 9 t (ix6 0 0 s h e k) = m ((c : Thread nD τ).loc main_arg1) (ix6 0 b k s (hd a h) e) := by
  have e : (win0_9.blk t).view.emb (ix6 0 0 s h e k) = (ix6 0 b s (hd a h) e k : S2x128x2x16x64x128.Idx) := by
    blk_ext [index9 t, hb, ha, hd]
  blk_simp [iblk]
  rw [entry_k0, e]
  pointwise

theorem blk10 (h : Fin 8) (s : Fin 2) (e : Fin 64) (k : Fin 512) : iblk m c 10 t (ix6 0 0 s h e k) = m ((c : Thread nD τ).loc main_arg2) (ix6 0 b k s (hd a h) e) := by
  have e : (win0_10.blk t).view.emb (ix6 0 0 s h e k) = (ix6 0 b s (hd a h) e k : S2x128x2x16x64x512.Idx) := by
    blk_ext [index10 t, hb, ha, hd]
  blk_simp [iblk]
  rw [entry_k1, e]
  pointwise

theorem blk11 (h : Fin 8) (s : Fin 2) (e : Fin 64) (k : Fin 2048) : iblk m c 11 t (ix6 0 0 s h e k) = m ((c : Thread nD τ).loc main_arg3) (ix6 0 b k s (hd a h) e) := by
  have e : (win0_11.blk t).view.emb (ix6 0 0 s h e k) = (ix6 0 b s (hd a h) e k : S2x128x2x16x64x2048.Idx) := by
    blk_ext [index11 t, hb, ha, hd]
  blk_simp [iblk]
  rw [entry_k2, e]
  pointwise

theorem blk12 (h r : Fin 8) (k : Fin 128) : iblk m c 12 t (ix2 (hrow h r) k) = m ((c : Thread nD τ).loc main_arg4) (ix3 (hd a h) r k) := by
  have e : (win0_12.blk t).view.emb (ix2 (hrow h r) k) = (ix2 ⟨64 * a.val + (8 * h.val + r.val), by omega⟩ k : S128x128.Idx) := by
    blk_ext [index12 t, hb, ha, hrow]
  blk_simp [iblk]
  rw [entry_t0, e]
  refine shapeCast_apply _ _ _ (ix3 (hd a h) r k) ?_
  rw [Shape.rowMajor_val_three, Shape.rowMajor_val_two]
  show ((8 * a.val + h.val) * 8 + r.val) * 128 + k.val = (64 * a.val + (8 * h.val + r.val)) * 128 + k.val
  omega

theorem blk13 (h r : Fin 8) (k : Fin 512) : iblk m c 13 t (ix2 (hrow h r) k) = m ((c : Thread nD τ).loc main_arg5) (ix3 (hd a h) r k) := by
  have e : (win0_13.blk t).view.emb (ix2 (hrow h r) k) = (ix2 ⟨64 * a.val + (8 * h.val + r.val), by omega⟩ k : S128x512.Idx) := by
    blk_ext [index13 t, hb, ha, hrow]
  blk_simp [iblk]
  rw [entry_t1, e]
  refine shapeCast_apply _ _ _ (ix3 (hd a h) r k) ?_
  rw [Shape.rowMajor_val_three, Shape.rowMajor_val_two]
  show ((8 * a.val + h.val) * 8 + r.val) * 512 + k.val = (64 * a.val + (8 * h.val + r.val)) * 512 + k.val
  omega

theorem blk14 (h r : Fin 8) (k : Fin 2048) : iblk m c 14 t (ix2 (hrow h r) k) = m ((c : Thread nD τ).loc main_arg6) (ix3 (hd a h) r k) := by
  have e : (win0_14.blk t).view.emb (ix2 (hrow h r) k) = (ix2 ⟨64 * a.val + (8 * h.val + r.val), by omega⟩ k : S128x2048.Idx) := by
    blk_ext [index14 t, hb, ha, hrow]
  blk_simp [iblk]
  rw [entry_t2, e]
  refine shapeCast_apply _ _ _ (ix3 (hd a h) r k) ?_
  rw [Shape.rowMajor_val_three, Shape.rowMajor_val_two]
  show ((8 * a.val + h.val) * 8 + r.val) * 2048 + k.val = (64 * a.val + (8 * h.val + r.val)) * 2048 + k.val
  omega

end Cert.Proof.Swa
-- ==== Proof.SwaPre.lean ====
/-
  The attention of the sample tokens: finite queries and keys, and a first fresh position that is attended, make the first group's logarithm finite.
-/
module

public import proofs.«01_k».proof.Defs
public import proofs.«01_k».proof.Proof.SwaBlk

@[expose] public section

set_option maxRecDepth 16384
set_option maxHeartbeats 4000000

noncomputable section

namespace Cert.Proof.Swa

open Idealize.ShloMosaic Idealize.ShloMosaic.TcCoe Idealize.SL.Sem
open scoped BigOperators

/-- The facts that the precondition's program states. -/
theorem preFacts : Cert.Pre_first_scores.Facts := by
  constructor <;> decide

theorem c8_eq : c8 = (((1 : ℝ) / 8 : ℝ) : EReal) := by
  simp [c8, Ideal.ofBits, Ideal.ieee, -EReal.coe_mul]; norm_num

theorem inf_eq : Ideal.ofBits FTy.f32 0x7F800000#32 = (⊤ : EReal) := by
  simp [Ideal.ofBits, Ideal.ieee]

theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    exact fun hh => (EReal.add_eq_bot_iff.mp hh).elim (h a (Finset.mem_insert_self _ _)) (ih fun i hi => h i (Finset.mem_insert_of_mem hi))

/-- A number that is neither infinity. -/
def Finite (x : EReal) : Prop := x ≠ ⊥ ∧ x ≠ ⊤

theorem prod_finite {x y : EReal} (hx : Finite x) (hy : Finite y) : Finite ((x * c8) * y) := by
  obtain ⟨hx1, hx2⟩ := hx
  obtain ⟨hy1, hy2⟩ := hy
  rw [← EReal.coe_toReal hx2 hx1, ← EReal.coe_toReal hy2 hy1, c8_eq, ← EReal.coe_mul, ← EReal.coe_mul]
  exact ⟨EReal.coe_ne_bot _, EReal.coe_ne_top _⟩

theorem sum_finite (f g : Fin 64 → EReal) (hf : ∀ e, Finite (f e)) (hg : ∀ e, Finite (g e)) : Finite (∑ e, (f e * c8) * g e) :=
  ⟨sum_ne_bot _ _ fun e _ => (prod_finite (hf e) (hg e)).1, sum_ne_top _ _ fun e _ => (prod_finite (hf e) (hg e)).2⟩

theorem sup_ne_top {ι : Type} [Fintype ι] (f : ι → EReal) (h : ∀ i, f i ≠ ⊤) : Finset.univ.sup f ≠ ⊤ :=
  ((Finset.sup_lt_iff bot_lt_top).mpr fun i _ => lt_top_iff_ne_top.mpr (h i)).ne

theorem glse_ne_bot {n : Nat} (p : Cert.SwaIdeal.S1024x9216.Idx → EReal) (cache : (⟨6, ![2, 128, n, 2, 16, 64]⟩ : Shape).Idx → EReal)
    (tab : (⟨3, ![16, 8, n]⟩ : Shape).Idx → EReal) (fr : Cert.SwaIdeal.S16x8x8.Idx → EReal) (g : Fin 3) (b : Fin 128) (t : Fin 8) (h : Fin 16)
    (hp : ∀ i, Finite (p i)) (hk : ∀ i, Finite (cache i)) (ht : ∀ i, tab i ≠ ⊤) (hf : ∀ i, fr i ≠ ⊤) (ho : fr (ix3 h t 0) ≠ ⊥) :
    glse p cache tab fr g b t h ≠ ⊥ := by
  have hq : ∀ s t e, Finite (part p g b h s t e) := fun s t e => hp _
  have hsc : ∀ c, gsc p cache tab g b t h c ≠ ⊤ := fun c =>
    EReal.add_ne_top (sum_finite _ _ (fun e => hq 0 t e) (fun e => hk (ix6 0 b c 0 h e))).2 (ht _)
  have hsf : ∀ j, gsf p fr g b t h j ≠ ⊤ := fun j =>
    EReal.add_ne_top (sum_finite _ _ (fun e => hq 0 t e) (fun e => hq 1 j e)).2 (hf _)
  have hfirst : gsf p fr g b t h 0 ≠ ⊥ := fun hh =>
    (EReal.add_eq_bot_iff.mp hh).elim (sum_finite _ _ (fun e => hq 0 t e) (fun e => hq 1 0 e)).1 ho
  unfold glse
  refine lse_ne_bot _ _ (fun hh => hfirst (le_bot_iff.mp (hh ▸ le_top_right _ _ 0))) ?_ 0 hfirst
  unfold top
  rcases max_choice (Finset.univ.sup (gsc p cache tab g b t h)) (Finset.univ.sup (gsf p fr g b t h)) with hh | hh
  · rw [hh]
    exact sup_ne_top _ hsc
  · rw [hh]
    exact sup_ne_top _ hsf

/-! ### Reading the precondition -/

theorem lt_of_cmp {x y : EReal} (h : Ideal.cmp .olt x y = 1#1) : x < y := by
  by_contra hn
  have : Ideal.cmp .olt x y = 0#1 := by simp [Ideal.cmp, hn]
  rw [this] at h
  exact absurd h (by decide)

theorem gt_of_cmp {x y : EReal} (h : Ideal.cmp .ogt x y = 1#1) : y < x := by
  by_contra hn
  have : Ideal.cmp .ogt x y = 0#1 := by simp [Ideal.cmp, hn]
  rw [this] at h
  exact absurd h (by decide)

theorem finite_of_abs {x : EReal} (h : max x (-x) < ⊤) : Finite x :=
  ⟨fun hx => absurd h (by rw [hx]; simp), fun hx => absurd h (by rw [hx]; simp)⟩

section
open Cert.Pre_first_scores
variable [Cert.Pre_first_scores.Facts] (x0 : S1024x9216.Idx → EReal) (x1 : S2x128x128x2x16x64.Idx → EReal) (x2 : S2x128x512x2x16x64.Idx → EReal)
  (x3 : S2x128x2048x2x16x64.Idx → EReal) (x4 : S16x8x128.Idx → EReal) (x5 : S16x8x512.Idx → EReal) (x6 : S16x8x2048.Idx → EReal) (x7 x8 x9 : S16x8x8.Idx → EReal)

theorem pre_p (h : (fn (F := Ideal) x0 x1 x2 x3 x4 x5 x6 x7 x8 x9).1 = fun _ => 1#1) (i : S1024x9216.Idx) : Finite (x0 i) := by
  have e : Ideal.cmp .olt (max (x0 i) (-x0 i)) (Ideal.ofBits FTy.f32 0x7F800000#32) = 1#1 := congrFun h i
  exact finite_of_abs (inf_eq ▸ lt_of_cmp e)

theorem pre_k (h : (fn (F := Ideal) x0 x1 x2 x3 x4 x5 x6 x7 x8 x9).2.1 = fun _ => 1#1) (i : S2x128x128x2x16x64.Idx) : Finite (x1 i) := by
  have e : Ideal.cmp .olt (max (x1 i) (-x1 i)) (Ideal.ofBits FTy.f32 0x7F800000#32) = 1#1 := congrFun h i
  exact finite_of_abs (inf_eq ▸ lt_of_cmp e)

theorem pre_t (h : (fn (F := Ideal) x0 x1 x2 x3 x4 x5 x6 x7 x8 x9).2.2.1 = fun _ => 1#1) (i : S16x8x128.Idx) : x4 i ≠ ⊤ := by
  have e : Ideal.cmp .olt (x4 i) (Ideal.ofBits FTy.f32 0x7F800000#32) = 1#1 := congrFun h i
  exact (inf_eq ▸ lt_of_cmp e : x4 i < ⊤).ne

theorem pre_f (h : (fn (F := Ideal) x0 x1 x2 x3 x4 x5 x6 x7 x8 x9).2.2.2.1 = fun _ => 1#1) (i : S16x8x8.Idx) : x7 i ≠ ⊤ := by
  have e : Ideal.cmp .olt (x7 i) (Ideal.ofBits FTy.f32 0x7F800000#32) = 1#1 := congrFun h i
  exact (inf_eq ▸ lt_of_cmp e : x7 i < ⊤).ne

theorem pre_first (h : (fn (F := Ideal) x0 x1 x2 x3 x4 x5 x6 x7 x8 x9).2.2.2.2 = fun _ => 1#1) (k : Fin 16) (t : Fin 8) : x7 (ix3 k t 0) ≠ ⊥ := by
  have e : IntOp.ori (Ideal.cmp .ogt (x7 (ix3 k t 0)) (Ideal.ofBits FTy.f32 0xFF800000#32)) (IntOp.cmpi .sgt (BitVec.ofNat 32 0) 0#32) = 1#1 :=
    congrFun h (ix3 k t 0)
  have d : IntOp.cmpi .sgt (BitVec.ofNat 32 0) 0#32 = 0#1 := by decide
  have o : ∀ w : BitVec 1, IntOp.ori w 0#1 = 1#1 → w = 1#1 := by decide
  rw [d] at e
  exact (bot_eq ▸ gt_of_cmp (o _ e) : ⊥ < x7 (ix3 k t 0)).ne'

end

end Cert.Proof.Swa
-- ==== Proof.SwaFresh.lean ====
/-
  The attention of the sample tokens: the table of the fresh positions that the host prepares, over the arguments.
-/
module

public import proofs.«01_k».proof.Proof.SwaBlk

@[expose] public section

set_option maxRecDepth 16384
set_option maxHeartbeats 4000000

noncomputable section

namespace Cert.Proof.Swa

open Idealize.ShloMosaic Idealize.ShloMosaic.TcCoe Idealize.SL.Sem
open Cert.SwaIdeal Cert.SwaIdeal.Gen

variable (m : (ℓ : Loc nD τ sig) → Buf (Elt Ideal) ℓ) (c : Dev nD)

/-- Which rows and columns belong to one head. -/
def same : S16x1x16x1.Idx → BitVec 1 :=
  broadcastInDim S16x1x16x1 ![0, 2] bcast_S16x16_S16x1x16x1_0_2
    (cmpi .eq (addi (iotaInDim S16x16 32 0) (broadcastInDim S16x16 ![] bcast_S_S16x16 (constantI S_ 32 0#32))) (iotaInDim S16x16 32 1))

/-- A table over all heads' rows and columns. -/
def spread (f : S16x8x1x8.Idx → EReal) (d : S16x1x16x1.Idx → BitVec 1) (z : S_.Idx → EReal) : S16x8x16x8.Idx → EReal :=
  select (broadcastInDim S16x8x16x8 ![0, 1, 2, 3] bcast_S16x1x16x1_S16x8x16x8_0_1_2_3 d)
    (broadcastInDim S16x8x16x8 ![0, 1, 2, 3] bcast_S16x8x1x8_S16x8x16x8_0_1_2_3 f) (broadcastInDim S16x8x16x8 ![] bcast_S_S16x8x16x8 z)

/-- The rows of a table's heads. -/
def rows (f : S16x8x8.Idx → EReal) : S16x8x1x8.Idx → EReal := broadcastInDim S16x8x1x8 ![0, 1, 3] bcast_S16x8x8_S16x8x1x8_0_1_3 f

/-- The two diagonal halves of a table. -/
def halves (x : S128x128.Idx → EReal) : S2x64x64.Idx → EReal :=
  concatenate S2x64x64 0
    [⟨S1x64x64, broadcastInDim S1x64x64 ![1, 2] bcast_S64x64_S1x64x64_1_2 (extractStridedSlice S64x64 ![0, 0] x slices_S128x128_S64x64_0_0)⟩,
      ⟨S1x64x64, broadcastInDim S1x64x64 ![1, 2] bcast_S64x64_S1x64x64_1_2 (extractStridedSlice S64x64 ![64, 64] x slices_S128x128_S64x64_64_64)⟩]
    concatenates_S1x64x64_S1x64x64_S2x64x64_d0

/-- The same of a table over all heads' rows and columns. -/
def diag (y : S16x8x16x8.Idx → EReal) : S2x64x64.Idx → EReal := halves (shapeCast S128x128 y shapeCasts_S16x8x16x8_S128x128)

/-- One group's plane. -/
def plane (x : S2x64x64.Idx → EReal) : S2x1x64x64.Idx → EReal := broadcastInDim S2x1x64x64 ![0, 2, 3] bcast_S2x64x64_S2x1x64x64_0_2_3 x

/-- The three groups' planes beside each other. -/
def planes (x y z : S2x64x64.Idx → EReal) : S2x3x64x64.Idx → EReal :=
  concatenate S2x3x64x64 1 [⟨S2x1x64x64, plane x⟩, ⟨S2x1x64x64, plane y⟩, ⟨S2x1x64x64, plane z⟩] concatenates_S2x1x64x64_S2x1x64x64_S2x1x64x64_S2x3x64x64_d1

/-- Minus infinity. -/
def low : S_.Idx → EReal := constant (F := Ideal) S_ .f32 0xFF800000#32

section
variable (σ : Valuation τ sig (Elt Ideal))

theorem s6 : StableHlo.after hostOps0_6 σ (Proc.devRef .tc main_v39) = planes (σ (Proc.devRef .tc main_v19)) (σ (Proc.devRef .tc main_v27)) (diag (σ (Proc.devRef .tc main_v29))) := by
  after_results_simp <;> (try dsimp only [Matrix.cons_val]) <;> (try after_results_simp) <;> rfl
theorem s5 : StableHlo.after hostOps0_5 σ (Proc.devRef .tc main_v29) = spread (σ (Proc.devRef .tc main_v28)) (σ (Proc.devRef .tc main_v11)) (σ (Proc.devRef .tc main_cst_1)) := by
  entry_read
  rfl
theorem k5a : StableHlo.after hostOps0_5 σ (Proc.devRef .tc main_v19) = σ (Proc.devRef .tc main_v19) := by
  entry_read
  rfl
theorem k5b : StableHlo.after hostOps0_5 σ (Proc.devRef .tc main_v27) = σ (Proc.devRef .tc main_v27) := by
  entry_read
  rfl
theorem s4a : StableHlo.after hostOps0_4 σ (Proc.devRef .tc main_v28) = rows (σ (Proc.devRef .tc main_arg9)) := by
  entry_read
  rfl
theorem s4b : StableHlo.after hostOps0_4 σ (Proc.devRef .tc main_cst_1) = low := by
  entry_read
  rfl
theorem s4c : StableHlo.after hostOps0_4 σ (Proc.devRef .tc main_v27) = diag (σ (Proc.devRef .tc main_v21)) := by
  entry_read
  rfl
theorem k4a : StableHlo.after hostOps0_4 σ (Proc.devRef .tc main_v19) = σ (Proc.devRef .tc main_v19) := by
  entry_read
  rfl
theorem k4b : StableHlo.after hostOps0_4 σ (Proc.devRef .tc main_v11) = σ (Proc.devRef .tc main_v11) := by
  entry_read
  rfl
theorem s3 : StableHlo.after hostOps0_3 σ (Proc.devRef .tc main_v21) = spread (σ (Proc.devRef .tc main_v20)) (σ (Proc.devRef .tc main_v11)) (σ (Proc.devRef .tc main_cst_0)) := by
  entry_read
  rfl
theorem k3a : StableHlo.after hostOps0_3 σ (Proc.devRef .tc main_v19) = σ (Proc.devRef .tc main_v19) := by
  entry_read
  rfl
theorem k3b : StableHlo.after hostOps0_3 σ (Proc.devRef .tc main_v11) = σ (Proc.devRef .tc main_v11) := by
  entry_read
  rfl
theorem k3c : StableHlo.after hostOps0_3 σ (Proc.devRef .tc main_arg9) = σ (Proc.devRef .tc main_arg9) := by
  entry_read
  rfl
theorem s2a : StableHlo.after hostOps0_2 σ (Proc.devRef .tc main_v19) = diag (σ (Proc.devRef .tc main_v13)) := by
  entry_read
  rfl
theorem s2b : StableHlo.after hostOps0_2 σ (Proc.devRef .tc main_v20) = rows (σ (Proc.devRef .tc main_arg8)) := by
  entry_read
  rfl
theorem s2c : StableHlo.after hostOps0_2 σ (Proc.devRef .tc main_cst_0) = low := by
  entry_read
  rfl
theorem k2a : StableHlo.after hostOps0_2 σ (Proc.devRef .tc main_v11) = σ (Proc.devRef .tc main_v11) := by
  entry_read
  rfl
theorem k2b : StableHlo.after hostOps0_2 σ (Proc.devRef .tc main_arg9) = σ (Proc.devRef .tc main_arg9) := by
  entry_read
  rfl
theorem s1 : StableHlo.after hostOps0_1 σ (Proc.devRef .tc main_v13) = spread (σ (Proc.devRef .tc main_v12)) (σ (Proc.devRef .tc main_v11)) (σ (Proc.devRef .tc main_cst)) := by
  entry_read
  rfl
theorem k1a : StableHlo.after hostOps0_1 σ (Proc.devRef .tc main_v11) = σ (Proc.devRef .tc main_v11) := by
  entry_read
  rfl
theorem k1b : StableHlo.after hostOps0_1 σ (Proc.devRef .tc main_arg8) = σ (Proc.devRef .tc main_arg8) := by
  entry_read
  rfl
theorem k1c : StableHlo.after hostOps0_1 σ (Proc.devRef .tc main_arg9) = σ (Proc.devRef .tc main_arg9) := by
  entry_read
  rfl
theorem s0a : StableHlo.after hostOps0 σ (Proc.devRef .tc main_v11) = same := by
  entry_read
  rfl
theorem s0b : StableHlo.after hostOps0 σ (Proc.devRef .tc main_v12) = rows (σ (Proc.devRef .tc main_arg7)) := by
  entry_read
  rfl
theorem s0c : StableHlo.after hostOps0 σ (Proc.devRef .tc main_cst) = low := by
  entry_read
  rfl
theorem k0a : StableHlo.after hostOps0 σ (Proc.devRef .tc main_arg8) = σ (Proc.devRef .tc main_arg8) := by
  entry_read
  rfl
theorem k0b : StableHlo.after hostOps0 σ (Proc.devRef .tc main_arg9) = σ (Proc.devRef .tc main_arg9) := by
  entry_read
  rfl

end

theorem after_cut (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- A group's table of fresh positions over all heads' rows and columns, other heads' columns at minus infinity. -/
def full (f : S16x8x8.Idx → EReal) : S128x128.Idx → EReal := shapeCast S128x128 (spread (rows f) same low) shapeCasts_S16x8x16x8_S128x128

theorem entry_f : V m c main_v39 = planes (halves (full (m ((c : Thread nD τ).loc main_arg7)))) (halves (full (m ((c : Thread nD τ).loc main_arg8))))
    (halves (full (m ((c : Thread nD τ).loc main_arg9)))) := by
  show StableHlo.after (hostOps0 ++ (hostOps0_1 ++ (hostOps0_2 ++ (hostOps0_3 ++ (hostOps0_4 ++ (hostOps0_5 ++ (hostOps0_6 ++ []))))))) (fun b => m (c, b)) (Proc.devRef .tc main_v39) = _
  rw [List.append_nil, after_cut, after_cut, after_cut, after_cut, after_cut, after_cut]
  rw [s6, s5, k5a, k5b, s4a, s4b, s4c, k4a, k4b, s3, k3a, k3b, k3c, s2a, s2b, s2c, k2a, k2b, s1, k1a, k1b, k1c, s0a, s0b, s0c, k0a, k0b]
  rfl

theorem full_apply (f : S16x8x8.Idx → EReal) (h k : Fin 16) (r j : Fin 8) :
    full f (ix2 ⟨h.val * 8 + r.val, by omega⟩ ⟨k.val * 8 + j.val, by omega⟩) = if k = h then f (ix3 h r j) else ⊥ := by
  unfold full spread rows same low
  refine (shapeCast_apply _ _ _ (ix4 h r k j) ?_).trans ?_
  · rw [Shape.rowMajor_val_four, Shape.rowMajor_val_two]
    show ((h.val * 8 + r.val) * 16 + k.val) * 8 + j.val = (h.val * 8 + r.val) * 128 + (k.val * 8 + j.val)
    omega
  have hc : ∀ h k : Fin 16, IntOp.cmpi .eq (IntOp.addi (BitVec.ofNat 32 h.val) 0#32) (BitVec.ofNat 32 k.val) = if k = h then 1#1 else 0#1 := by
    decide +kernel
  pointwise
  rw [hc, bot_eq]
  by_cases hk : k = h
  · rw [if_pos hk, if_pos hk]
    rfl
  · rw [if_neg hk, if_neg hk]
    rfl

variable (t : Fin cfg0.N) (b : Fin 128) (a : Fin 2) (hb : t.val % 128 = b.val) (ha : t.val / 128 = a.val)
include hb ha

theorem blk15 (g : Fin 3) (h r k j : Fin 8) : iblk m c 15 t (ix4 0 g (hrow h r) (hrow k j))
    = if k = h then fresh (m ((c : Thread nD τ).loc main_arg7)) (m ((c : Thread nD τ).loc main_arg8)) (m ((c : Thread nD τ).loc main_arg9)) g (ix3 (hd a h) r j) else (⊥ : EReal) := by
  have e : (win0_15.blk t).view.emb (ix4 0 g (hrow h r) (hrow k j)) = (ix4 a g (hrow h r) (hrow k j) : S2x3x64x64.Idx) := by
    blk_ext [index15 t, hb, ha]
  blk_simp [iblk]
  rw [entry_f, e]
  have hf : ∀ (f : S16x8x8.Idx → EReal) (R J : Fin 128), R.val = 64 * a.val + (8 * h.val + r.val) → J.val = 64 * a.val + (8 * k.val + j.val) →
      full f (ix2 R J) = if k = h then f (ix3 (hd a h) r j) else ⊥ := fun f R J hR hJ => by
    have key := full_apply f (hd a h) (hd a k) r j
    rw [show R = ⟨(hd a h).val * 8 + r.val, by omega⟩ from Fin.ext (hR.trans (by simp only [hd]; omega)),
      show J = ⟨(hd a k).val * 8 + j.val, by omega⟩ from Fin.ext (hJ.trans (by simp only [hd]; omega)), key]
    refine if_congr ⟨fun hh => Fin.ext ?_, fun hh => by rw [hh]⟩ rfl rfl
    have := congrArg Fin.val hh
    simp only [hd] at this
    omega
  have hr : (hrow h r).val = 8 * h.val + r.val := rfl
  have hj : (hrow k j).val = 8 * k.val + j.val := rfl
  pointwise [planes, plane, halves]
  have pick : ∀ (f : S16x8x8.Idx → EReal), (if h_2 : a.val < 1 then full f (ix2 ⟨(hrow h r).val, by omega⟩ ⟨(hrow k j).val, by omega⟩)
      else full f (ix2 ⟨64 + (hrow h r).val, by omega⟩ ⟨64 + (hrow k j).val, by omega⟩)) = if k = h then f (ix3 (hd a h) r j) else ⊥ := fun f => by
    by_cases h0 : a.val < 1
    · exact (dif_pos h0).trans (hf f _ _ (by show (hrow h r).val = _; omega) (by show (hrow k j).val = _; omega))
    · exact (dif_neg h0).trans (hf f _ _ (by show 64 + (hrow h r).val = _; omega) (by show 64 + (hrow k j).val = _; omega))
  obtain ⟨g, hg⟩ := g
  interval_cases g
  · exact (dif_pos (show (0 : Nat) < 1 by omega)).trans (pick _)
  · exact (dif_neg (show ¬(1 : Nat) < 1 by omega)).trans ((dif_pos (show (1 : Nat) - 1 < 1 by omega)).trans (pick _))
  · exact (dif_neg (show ¬(2 : Nat) < 1 by omega)).trans ((dif_neg (show ¬(2 : Nat) - 1 < 1 by omega)).trans (pick _))

end Cert.Proof.Swa
-- ==== Proof.SwaFin.lean ====
/-
  The attention of the sample tokens: the array after the run.
-/
module

public import proofs.«01_k».proof.Proof.SwaFresh

@[expose] public section

set_option maxRecDepth 16384
set_option maxHeartbeats 4000000

noncomputable section

namespace Cert.Proof.Swa

open Idealize.ShloMosaic Idealize.ShloMosaic.TcCoe Idealize.SL.Sem
open Cert.SwaIdeal Cert.SwaIdeal.Gen

variable (m : (ℓ : Loc nD τ sig) → Buf (Elt Ideal) ℓ) (c : Dev nD)

/-- The merged attention at a place of the result. -/
def result (p : S1024x9216.Idx → EReal) (k0 : S2x128x128x2x16x64.Idx → EReal) (k1 : S2x128x512x2x16x64.Idx → EReal) (k2 : S2x128x2048x2x16x64.Idx → EReal)
    (t0 : S16x8x128.Idx → EReal) (t1 : S16x8x512.Idx → EReal) (t2 : S16x8x2048.Idx → EReal) (f0 f1 f2 : S16x8x8.Idx → EReal) (z : S1024x1024.Idx) : EReal :=
  mixed p k0 k1 k2 t0 t1 t2 f0 f1 f2 ⟨(z 0).val / 8, Nat.div_lt_of_lt_mul (z 0).isLt⟩ ⟨(z 0).val % 8, Nat.mod_lt _ (by decide)⟩
    ⟨(z 1).val / 64, Nat.div_lt_of_lt_mul (z 1).isLt⟩ ⟨(z 1).val % 64, Nat.mod_lt _ (by decide)⟩

/-- What a point leaves in its block. -/
theorem point (t : Fin cfg0.N) (b : Fin 128) (a : Fin 2) (hb : t.val % 128 = b.val) (ha : t.val / 128 = a.val) (h r : Fin 8) (e : Fin 64) :
    out0_16 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) (ix2 r (hcol h e))
      = mixed (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) b r (hd a h) e := by
  refine (out_apply _ _ _ _ _ _ _ _ _ _ _ _ _ _ _ _ h r e (fun g k j hk => (blk15 m c t b a hb ha g h r k j).trans (if_neg hk))).trans ?_
  have s0 : bsc (iblk m c 0 t) (iblk m c 9 t) (iblk m c 12 t) h r
      = gsc (m ((c : Thread nD τ).loc main_arg0)) (m ((c : Thread nD τ).loc main_arg1)) (m ((c : Thread nD τ).loc main_arg4)) 0 b r (hd a h) := funext fun k =>
    congrArg₂ (· + ·) (Finset.sum_congr rfl fun e _ => by rw [blk0 m c t b a hb ha, blk9 m c t b a hb ha]) (blk12 m c t b a hb ha h r k)
  have s1 : bsc (iblk m c 3 t) (iblk m c 10 t) (iblk m c 13 t) h r
      = gsc (m ((c : Thread nD τ).loc main_arg0)) (m ((c : Thread nD τ).loc main_arg2)) (m ((c : Thread nD τ).loc main_arg5)) 1 b r (hd a h) := funext fun k =>
    congrArg₂ (· + ·) (Finset.sum_congr rfl fun e _ => by rw [blk3 m c t b a hb ha, blk10 m c t b a hb ha]) (blk13 m c t b a hb ha h r k)
  have s2 : bsc (iblk m c 6 t) (iblk m c 11 t) (iblk m c 14 t) h r
      = gsc (m ((c : Thread nD τ).loc main_arg0)) (m ((c : Thread nD τ).loc main_arg3)) (m ((c : Thread nD τ).loc main_arg6)) 2 b r (hd a h) := funext fun k =>
    congrArg₂ (· + ·) (Finset.sum_congr rfl fun e _ => by rw [blk6 m c t b a hb ha, blk11 m c t b a hb ha]) (blk14 m c t b a hb ha h r k)
  have f0 : bsf (iblk m c 0 t) (iblk m c 1 t) (iblk m c 15 t) 0 h r
      = gsf (m ((c : Thread nD τ).loc main_arg0)) (m ((c : Thread nD τ).loc main_arg7)) 0 b r (hd a h) := funext fun j =>
    congrArg₂ (· + ·) (Finset.sum_congr rfl fun e _ => by rw [blk0 m c t b a hb ha, blk1 m c t b a hb ha])
      ((blk15 m c t b a hb ha 0 h r h j).trans (if_pos rfl))
  have f1 : bsf (iblk m c 3 t) (iblk m c 4 t) (iblk m c 15 t) 1 h r
      = gsf (m ((c : Thread nD τ).loc main_arg0)) (m ((c : Thread nD τ).loc main_arg8)) 1 b r (hd a h) := funext fun j =>
    congrArg₂ (· + ·) (Finset.sum_congr rfl fun e _ => by rw [blk3 m c t b a hb ha, blk4 m c t b a hb ha])
      ((blk15 m c t b a hb ha 1 h r h j).trans (if_pos rfl))
  have f2 : bsf (iblk m c 6 t) (iblk m c 7 t) (iblk m c 15 t) 2 h r
      = gsf (m ((c : Thread nD τ).loc main_arg0)) (m ((c : Thread nD τ).loc main_arg9)) 2 b r (hd a h) := funext fun j =>
    congrArg₂ (· + ·) (Finset.sum_congr rfl fun e _ => by rw [blk6 m c t b a hb ha, blk7 m c t b a hb ha])
      ((blk15 m c t b a hb ha 2 h r h j).trans (if_pos rfl))
  have v0 : (fun k => iblk m c 9 t (ix6 0 0 1 h e k)) = fun k => m ((c : Thread nD τ).loc main_arg1) (ix6 0 b k 1 (hd a h) e) := funext fun k => blk9 m c t b a hb ha h 1 e k
  have v1 : (fun k => iblk m c 10 t (ix6 0 0 1 h e k)) = fun k => m ((c : Thread nD τ).loc main_arg2) (ix6 0 b k 1 (hd a h) e) := funext fun k => blk10 m c t b a hb ha h 1 e k
  have v2 : (fun k => iblk m c 11 t (ix6 0 0 1 h e k)) = fun k => m ((c : Thread nD τ).loc main_arg3) (ix6 0 b k 1 (hd a h) e) := funext fun k => blk11 m c t b a hb ha h 1 e k
  have w0 : (fun j => iblk m c 2 t (ix2 j (hcol h e))) = fun j => part (m ((c : Thread nD τ).loc main_arg0)) 0 b (hd a h) 2 j e := funext fun j => blk2 m c t b a hb ha h j e
  have w1 : (fun j => iblk m c 5 t (ix2 j (hcol h e))) = fun j => part (m ((c : Thread nD τ).loc main_arg0)) 1 b (hd a h) 2 j e := funext fun j => blk5 m c t b a hb ha h j e
  have w2 : (fun j => iblk m c 8 t (ix2 j (hcol h e))) = fun j => part (m ((c : Thread nD τ).loc main_arg0)) 2 b (hd a h) 2 j e := funext fun j => blk8 m c t b a hb ha h j e
  rw [s0, s1, s2, f0, f1, f2, v0, v1, v2, w0, w1, w2]
  rfl

/-- The array after the run. -/
theorem final : (dats m 0 c).arrAt 16 cfg0.N
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 16 _ (by decide +kernel) fun t hf y => ?_
  blk_simp
  rw [after0_16]
  have e0 : ((win0_16.blk t).view.emb y 0).val = t.val % 128 * 8 + (y 0).val := by blk_simp [index16 t]
  have e1 : ((win0_16.blk t).view.emb y 1).val = t.val / 128 * 512 + (y 1).val := by blk_simp [index16 t]
  generalize (win0_16.blk t).view.emb y = z at e0 e1 ⊢
  idx_vars y
  idx_vars z
  have ht : t.val < 256 := t.isLt
  have hy0 : y0.val < 8 := y0.isLt
  have hy1 : y1.val < 512 := y1.isLt
  have key := point m c t ⟨t.val % 128, by omega⟩ ⟨t.val / 128, by omega⟩ rfl rfl ⟨y1.val / 64, by omega⟩ ⟨y0.val, hy0⟩ ⟨y1.val % 64, by omega⟩
  have hy : (ix2 y0 y1 : S8x512.Idx) = ix2 (⟨y0.val, hy0⟩ : Fin 8) (hcol ⟨y1.val / 64, by omega⟩ ⟨y1.val % 64, by omega⟩) :=
    congrArg (ix2 y0) (Fin.ext (show y1.val = 64 * (y1.val / 64) + y1.val % 64 by omega))
  rw [hy]
  refine key.trans ?_
  have z0' : z0.val = t.val % 128 * 8 + y0.val := e0
  have z1' : z1.val = t.val / 128 * 512 + y1.val := e1
  unfold result
  congr 1
  · exact Fin.ext (show t.val % 128 = z0.val / 8 by omega)
  · exact Fin.ext (show y0.val = z0.val % 8 by omega)
  · exact Fin.ext (show 8 * (t.val / 128) + y1.val / 64 = z1.val / 64 by omega)
  · exact Fin.ext (show y1.val % 64 = z1.val % 64 by omega)

end Cert.Proof.Swa
-- ==== Proof.SwaRef.lean ====
/-
  The attention of the sample tokens: the reference's joined positions and the parts of the projection.
-/
module

public import proofs.«01_k».proof.Proof.SwaFin
public import proofs.«01_k».proof.Proof.Gen.SwaRefIdeal.Run
public import proofs.«01_k».proof.Proof.Gen.SwaRefIdeal.Read

@[expose] public section

set_option maxRecDepth 16384
set_option maxHeartbeats 4000000

noncomputable section

namespace Cert.Proof.Swa

open Idealize.ShloMosaic Idealize.ShloMosaic.TcCoe Idealize.SL.Sem
open Cert.SwaRefIdeal Cert.SwaRefIdeal.Read

/-! ### Sums and maxima over a group's joined positions -/

section
variable {n : Nat} (s v : Fin (n + 8) → EReal)

theorem sup_joined : Finset.univ.sup s = top (fun c => s (Fin.castAdd 8 c)) (fun j => s (Fin.natAdd n j)) := sup_split s

theorem sum_joined : ∑ k, Ideal.exp (s k - Finset.univ.sup s) = den (fun c => s (Fin.castAdd 8 c)) (fun j => s (Fin.natAdd n j)) := by
  rw [sup_joined, Fin.sum_univ_add]
  rfl

theorem att_joined : Ideal.div (∑ k, Ideal.exp (s k - Finset.univ.sup s) * v k) (∑ k, Ideal.exp (s k - Finset.univ.sup s))
    = att (fun c => s (Fin.castAdd 8 c)) (fun j => s (Fin.natAdd n j)) (fun c => v (Fin.castAdd 8 c)) (fun j => v (Fin.natAdd n j)) := by
  rw [sum_joined, sup_joined, Fin.sum_univ_add]
  rfl

theorem lse_joined : Finset.univ.sup s + Ideal.log (∑ k, Ideal.exp (s k - Finset.univ.sup s))
    = lse (fun c => s (Fin.castAdd 8 c)) (fun j => s (Fin.natAdd n j)) := by
  rw [sum_joined, sup_joined]
  rfl

end

/-! ### The parts of the projection -/

/-- The split of the projection's rows and columns into requests, tokens, groups, queries, keys and values, heads and channels. -/
theorem split_apply (p : S1024x9216.Idx → EReal) (b : Fin 128) (t : Fin 8) (g s : Fin 3) (h : Fin 16) (e : Fin 64) :
    val_main_v0 (F := Ideal) p (ix6 b t g s h e) = part p g b h s t e := by
  unfold val_main_v0
  refine shapeCast_apply _ _ _ (ix2 ⟨b.val * 8 + t.val, by omega⟩ ⟨(g.val * 3 + s.val) * 1024 + h.val * 64 + e.val, by omega⟩) ?_
  rw [Shape.rowMajor_val_two, Shape.rowMajor_val_six]
  show (b.val * 8 + t.val) * 9216 + ((g.val * 3 + s.val) * 1024 + h.val * 64 + e.val)
    = ((((b.val * 8 + t.val) * 3 + g.val) * 3 + s.val) * 16 + h.val) * 64 + e.val
  omega

/-- Dropping the group's and the part's unit axes. -/
theorem drop_apply (x : S128x8x1x1x16x64.Idx → EReal) (hc : S128x8x1x1x16x64.ShapeCasts S128x8x16x64) (b : Fin 128) (t : Fin 8) (h : Fin 16) (e : Fin 64) :
    shapeCast S128x8x16x64 x hc (ix4 b t h e) = x (ix6 b t 0 0 h e) := by
  refine shapeCast_apply _ _ _ _ ?_
  rw [Shape.rowMajor_val_four, Shape.rowMajor_val_six]
  show ((((b.val * 8 + t.val) * 1 + 0) * 1 + 0) * 16 + h.val) * 64 + e.val = ((b.val * 8 + t.val) * 16 + h.val) * 64 + e.val
  omega

end Cert.Proof.Swa
-- ==== Proof.SwaRef0.lean ====
/-
  The attention of the sample tokens: the reference's group 0.
-/
module

public import proofs.«01_k».proof.Proof.SwaRef

@[expose] public section

set_option maxRecDepth 16384
set_option maxHeartbeats 4000000

noncomputable section

namespace Cert.Proof.Swa

open Idealize.ShloMosaic Idealize.ShloMosaic.TcCoe Idealize.SL.Sem
open Cert.SwaRefIdeal Cert.SwaRefIdeal.Read

/-! ### Group 0 -/

section
variable (p : S1024x9216.Idx → EReal) (cache : S2x128x128x2x16x64.Idx → EReal) (tab : S16x8x128.Idx → EReal) (fr : S16x8x8.Idx → EReal)
  (b : Fin 128) (t : Fin 8) (h : Fin 16)

theorem query0 (e : Fin 64) : val_main_v15 (F := Ideal) p (ix4 b t h e) = part p 0 b h 0 t e * c8 := by
  have key : val_main_v2 (F := Ideal) p (ix4 b t h e) = part p 0 b h 0 t e := by
    unfold val_main_v2
    refine (drop_apply _ _ b t h e).trans ?_
    pointwise [val_main_v1]
    exact split_apply p b t 0 0 h e
  rw [← key]
  pointwise [val_main_v15, val_main_v14, val_main_cst]
  rfl

theorem key0 (j : Fin 8) (e : Fin 64) : val_main_v4 (F := Ideal) p (ix4 b j h e) = part p 0 b h 1 j e := by
  unfold val_main_v4
  refine (drop_apply _ _ b j h e).trans ?_
  pointwise [val_main_v3]
  exact split_apply p b j 0 1 h e

theorem value0 (j : Fin 8) (e : Fin 64) : val_main_v6 (F := Ideal) p (ix4 b j h e) = part p 0 b h 2 j e := by
  unfold val_main_v6
  refine (drop_apply _ _ b j h e).trans ?_
  pointwise [val_main_v5]
  exact split_apply p b j 0 2 h e

theorem cached0 (c : Fin 128) (s : Fin 2) (e : Fin 64) : val_main_v8 (F := Ideal) cache (ix5 b c s h e) = cache (ix6 0 b c s h e) := by
  unfold val_main_v8
  refine (shapeCast_apply _ _ _ (ix6 0 b c s h e) ?_).trans ?_
  · rw [Shape.rowMajor_val_five, Shape.rowMajor_val_six]
    show ((((0 * 128 + b.val) * 128 + c.val) * 2 + s.val) * 16 + h.val) * 64 + e.val = (((b.val * 128 + c.val) * 2 + s.val) * 16 + h.val) * 64 + e.val
    omega
  pointwise [val_main_v7]

theorem old0 (c : Fin 128) (s : Fin 2) (e : Fin 64) :
    val_main_v13 (F := Ideal) p cache (ix5 b (Fin.castAdd 8 c : Fin 136) s h e) = cache (ix6 0 b c s h e) := by
  have hc : ((Fin.castAdd 8 c : Fin 136) : Nat) < 128 := c.isLt
  refine Eq.trans ?_ (cached0 cache b h c s e)
  pointwise [val_main_v13]
  exact dif_pos hc

theorem new0 (j : Fin 8) (s : Fin 2) (e : Fin 64) :
    val_main_v13 (F := Ideal) p cache (ix5 b (Fin.natAdd 128 j : Fin 136) s h e) = val_main_v12 (F := Ideal) p (ix5 b j s h e) := by
  have hc : ¬((Fin.natAdd 128 j : Fin 136) : Nat) < 128 := by simp
  have hj : (⟨((Fin.natAdd 128 j : Fin 136) : Nat) - 128, by simp⟩ : Fin 8) = j := Fin.ext (by simp)
  generalize hx : val_main_v12 (F := Ideal) p = x
  pointwise [val_main_v13]
  rw [hx]
  refine (dif_neg hc).trans (congrArg (fun i : Fin 8 => x (ix5 b i s h e)) hj)

theorem newkey0 (j : Fin 8) (e : Fin 64) :
    val_main_v13 (F := Ideal) p cache (ix5 b (Fin.natAdd 128 j : Fin 136) 0 h e) = part p 0 b h 1 j e := by
  rw [new0, ← key0]
  pointwise [val_main_v12, val_main_v10]

theorem newvalue0 (j : Fin 8) (e : Fin 64) :
    val_main_v13 (F := Ideal) p cache (ix5 b (Fin.natAdd 128 j : Fin 136) 1 h e) = part p 0 b h 2 j e := by
  rw [new0, ← value0]
  pointwise [val_main_v12, val_main_v11]

theorem score0 (k : Fin 136) : val_main_v21 (F := Ideal) p cache tab fr (ix4 b h t k)
    = ∑ e : Fin 64, val_main_v15 (F := Ideal) p (ix4 b t h e) * val_main_v13 (F := Ideal) p cache (ix5 b k 0 h e) + val_main_v9 (F := Ideal) tab fr (ix3 h t k) := by
  generalize hq : val_main_v15 (F := Ideal) p = q
  generalize hk : val_main_v13 (F := Ideal) p cache = kv
  generalize ht : val_main_v9 (F := Ideal) tab fr = bias
  pointwise [val_main_v21, val_main_v18, val_main_v17, val_main_v16, val_main_v20, val_main_v19]
  rw [hq, hk, ht]

theorem scoreold0 (c : Fin 128) : val_main_v21 (F := Ideal) p cache tab fr (ix4 b h t (Fin.castAdd 8 c : Fin 136)) = gsc p cache tab 0 b t h c := by
  refine (score0 p cache tab fr b t h _).trans (congrArg₂ (· + ·) (Finset.sum_congr rfl fun e _ => ?_) ?_)
  · rw [query0, old0]
  · have hc : ((Fin.castAdd 8 c : Fin 136) : Nat) < 128 := c.isLt
    pointwise [val_main_v9]
    exact dif_pos hc

theorem scorenew0 (j : Fin 8) : val_main_v21 (F := Ideal) p cache tab fr (ix4 b h t (Fin.natAdd 128 j : Fin 136)) = gsf p fr 0 b t h j := by
  refine (score0 p cache tab fr b t h _).trans (congrArg₂ (· + ·) (Finset.sum_congr rfl fun e _ => ?_) ?_)
  · rw [query0, newkey0]
  · have hc : ¬((Fin.natAdd 128 j : Fin 136) : Nat) < 128 := by simp
    have hj : (⟨((Fin.natAdd 128 j : Fin 136) : Nat) - 128, by simp⟩ : Fin 8) = j := Fin.ext (by simp)
    pointwise [val_main_v9]
    exact (dif_neg hc).trans (congrArg (fun i : Fin 8 => fr (ix3 h t i)) hj)

theorem top0 : val_main_v22 (F := Ideal) p cache tab fr (ix3 b h t) = Finset.univ.sup fun k : Fin 136 => val_main_v21 (F := Ideal) p cache tab fr (ix4 b h t k) := by
  rw [← fold_eq]
  generalize hs : val_main_v21 (F := Ideal) p cache tab fr = s
  pointwise [val_main_v22, val_main_cst_0]
  rw [hs]

theorem exp0 (k : Fin 136) : val_main_v26 (F := Ideal) p cache tab fr (ix4 b h t k)
    = Ideal.exp (val_main_v21 (F := Ideal) p cache tab fr (ix4 b h t k) - Finset.univ.sup fun k : Fin 136 => val_main_v21 (F := Ideal) p cache tab fr (ix4 b h t k)) := by
  rw [← top0]
  pointwise [val_main_v26, val_main_v25, val_main_v24, val_main_v23]

theorem den0 : val_main_v27 (F := Ideal) p cache tab fr (ix3 b h t)
    = ∑ k : Fin 136, Ideal.exp (val_main_v21 (F := Ideal) p cache tab fr (ix4 b h t k) - Finset.univ.sup fun k : Fin 136 => val_main_v21 (F := Ideal) p cache tab fr (ix4 b h t k)) := by
  refine Eq.trans ?_ (Finset.sum_congr rfl fun k _ => exp0 p cache tab fr b t h k)
  pointwise [val_main_v27, val_main_cst_1]

theorem att0 (e : Fin 64) : val_main_v33 (F := Ideal) p cache tab fr (ix4 b h t e) = gatt p cache tab fr 0 b t h e := by
  have e1 : val_main_v33 (F := Ideal) p cache tab fr (ix4 b h t e)
      = Ideal.div (∑ k : Fin 136, val_main_v26 (F := Ideal) p cache tab fr (ix4 b h t k) * val_main_v13 (F := Ideal) p cache (ix5 b k 1 h e))
          (val_main_v27 (F := Ideal) p cache tab fr (ix3 b h t)) := by
    pointwise [val_main_v33, val_main_v30, val_main_v29, val_main_v28, val_main_v32, val_main_v31]
  rw [e1, den0]
  simp only [exp0]
  refine (att_joined (n := 128) _ _).trans ?_
  unfold gatt
  simp only [scoreold0, scorenew0, old0, newvalue0]

theorem kept0 : val_main_v34 (F := Ideal) p cache tab fr (ix3 b h t) = val_main_v22 (F := Ideal) p cache tab fr (ix3 b h t) := by
  unfold val_main_v34 val_main_v23
  generalize val_main_v22 (F := Ideal) p cache tab fr = x
  refine (shapeCast_apply _ _ _ (ix4 b h t 0) ?_).trans ?_
  · rw [Shape.rowMajor_val_three, Shape.rowMajor_val_four]
    show ((b.val * 16 + h.val) * 8 + t.val) * 1 + 0 = (b.val * 16 + h.val) * 8 + t.val
    omega
  · refine congrArg x (funext fun a => ?_)
    fin_cases a <;> rfl

theorem log0 : val_main_v36 (F := Ideal) p cache tab fr (ix3 b h t) = val_main_v34 (F := Ideal) p cache tab fr (ix3 b h t) + Ideal.log (val_main_v27 (F := Ideal) p cache tab fr (ix3 b h t)) := by
  rw [val_main_v36_apply, val_main_v35_apply]
  generalize val_main_v34 (F := Ideal) p cache tab fr (ix3 b h t) = x
  generalize val_main_v27 (F := Ideal) p cache tab fr (ix3 b h t) = y
  rfl

theorem lse0 : val_main_v36 (F := Ideal) p cache tab fr (ix3 b h t) = glse p cache tab fr 0 b t h := by
  rw [log0, kept0, den0, top0]
  refine (lse_joined (n := 128) _).trans ?_
  unfold glse
  simp only [scoreold0, scorenew0]

end

end Cert.Proof.Swa
-- ==== Proof.SwaRef1.lean ====
/-
  The attention of the sample tokens: the reference's group 1.
-/
module

public import proofs.«01_k».proof.Proof.SwaRef

@[expose] public section

set_option maxRecDepth 16384
set_option maxHeartbeats 4000000

noncomputable section

namespace Cert.Proof.Swa

open Idealize.ShloMosaic Idealize.ShloMosaic.TcCoe Idealize.SL.Sem
open Cert.SwaRefIdeal Cert.SwaRefIdeal.Read

/-! ### Group 1 -/

section
variable (p : S1024x9216.Idx → EReal) (cache : S2x128x512x2x16x64.Idx → EReal) (tab : S16x8x512.Idx → EReal) (fr : S16x8x8.Idx → EReal)
  (b : Fin 128) (t : Fin 8) (h : Fin 16)

theorem query1 (e : Fin 64) : val_main_v51 (F := Ideal) p (ix4 b t h e) = part p 1 b h 0 t e * c8 := by
  have key : val_main_v38 (F := Ideal) p (ix4 b t h e) = part p 1 b h 0 t e := by
    unfold val_main_v38
    refine (drop_apply _ _ b t h e).trans ?_
    pointwise [val_main_v37]
    exact split_apply p b t 1 0 h e
  rw [← key]
  pointwise [val_main_v51, val_main_v50, val_main_cst_2]
  rfl

theorem key1 (j : Fin 8) (e : Fin 64) : val_main_v40 (F := Ideal) p (ix4 b j h e) = part p 1 b h 1 j e := by
  unfold val_main_v40
  refine (drop_apply _ _ b j h e).trans ?_
  pointwise [val_main_v39]
  exact split_apply p b j 1 1 h e

theorem value1 (j : Fin 8) (e : Fin 64) : val_main_v42 (F := Ideal) p (ix4 b j h e) = part p 1 b h 2 j e := by
  unfold val_main_v42
  refine (drop_apply _ _ b j h e).trans ?_
  pointwise [val_main_v41]
  exact split_apply p b j 1 2 h e

theorem cached1 (c : Fin 512) (s : Fin 2) (e : Fin 64) : val_main_v44 (F := Ideal) cache (ix5 b c s h e) = cache (ix6 0 b c s h e) := by
  unfold val_main_v44
  refine (shapeCast_apply _ _ _ (ix6 0 b c s h e) ?_).trans ?_
  · rw [Shape.rowMajor_val_five, Shape.rowMajor_val_six]
    show ((((0 * 128 + b.val) * 512 + c.val) * 2 + s.val) * 16 + h.val) * 64 + e.val = (((b.val * 512 + c.val) * 2 + s.val) * 16 + h.val) * 64 + e.val
    omega
  pointwise [val_main_v43]

theorem old1 (c : Fin 512) (s : Fin 2) (e : Fin 64) :
    val_main_v49 (F := Ideal) p cache (ix5 b (Fin.castAdd 8 c : Fin 520) s h e) = cache (ix6 0 b c s h e) := by
  have hc : ((Fin.castAdd 8 c : Fin 520) : Nat) < 512 := c.isLt
  refine Eq.trans ?_ (cached1 cache b h c s e)
  pointwise [val_main_v49]
  exact dif_pos hc

theorem new1 (j : Fin 8) (s : Fin 2) (e : Fin 64) :
    val_main_v49 (F := Ideal) p cache (ix5 b (Fin.natAdd 512 j : Fin 520) s h e) = val_main_v48 (F := Ideal) p (ix5 b j s h e) := by
  have hc : ¬((Fin.natAdd 512 j : Fin 520) : Nat) < 512 := by simp
  have hj : (⟨((Fin.natAdd 512 j : Fin 520) : Nat) - 512, by simp⟩ : Fin 8) = j := Fin.ext (by simp)
  generalize hx : val_main_v48 (F := Ideal) p = x
  pointwise [val_main_v49]
  rw [hx]
  refine (dif_neg hc).trans (congrArg (fun i : Fin 8 => x (ix5 b i s h e)) hj)

theorem newkey1 (j : Fin 8) (e : Fin 64) :
    val_main_v49 (F := Ideal) p cache (ix5 b (Fin.natAdd 512 j : Fin 520) 0 h e) = part p 1 b h 1 j e := by
  rw [new1, ← key1]
  pointwise [val_main_v48, val_main_v46]

theorem newvalue1 (j : Fin 8) (e : Fin 64) :
    val_main_v49 (F := Ideal) p cache (ix5 b (Fin.natAdd 512 j : Fin 520) 1 h e) = part p 1 b h 2 j e := by
  rw [new1, ← value1]
  pointwise [val_main_v48, val_main_v47]

theorem score1 (k : Fin 520) : val_main_v57 (F := Ideal) p cache tab fr (ix4 b h t k)
    = ∑ e : Fin 64, val_main_v51 (F := Ideal) p (ix4 b t h e) * val_main_v49 (F := Ideal) p cache (ix5 b k 0 h e) + val_main_v45 (F := Ideal) tab fr (ix3 h t k) := by
  generalize hq : val_main_v51 (F := Ideal) p = q
  generalize hk : val_main_v49 (F := Ideal) p cache = kv
  generalize ht : val_main_v45 (F := Ideal) tab fr = bias
  pointwise [val_main_v57, val_main_v54, val_main_v53, val_main_v52, val_main_v56, val_main_v55]
  rw [hq, hk, ht]

theorem scoreold1 (c : Fin 512) : val_main_v57 (F := Ideal) p cache tab fr (ix4 b h t (Fin.castAdd 8 c : Fin 520)) = gsc p cache tab 1 b t h c := by
  refine (score1 p cache tab fr b t h _).trans (congrArg₂ (· + ·) (Finset.sum_congr rfl fun e _ => ?_) ?_)
  · rw [query1, old1]
  · have hc : ((Fin.castAdd 8 c : Fin 520) : Nat) < 512 := c.isLt
    pointwise [val_main_v45]
    exact dif_pos hc

theorem scorenew1 (j : Fin 8) : val_main_v57 (F := Ideal) p cache tab fr (ix4 b h t (Fin.natAdd 512 j : Fin 520)) = gsf p fr 1 b t h j := by
  refine (score1 p cache tab fr b t h _).trans (congrArg₂ (· + ·) (Finset.sum_congr rfl fun e _ => ?_) ?_)
  · rw [query1, newkey1]
  · have hc : ¬((Fin.natAdd 512 j : Fin 520) : Nat) < 512 := by simp
    have hj : (⟨((Fin.natAdd 512 j : Fin 520) : Nat) - 512, by simp⟩ : Fin 8) = j := Fin.ext (by simp)
    pointwise [val_main_v45]
    exact (dif_neg hc).trans (congrArg (fun i : Fin 8 => fr (ix3 h t i)) hj)

theorem top1 : val_main_v58 (F := Ideal) p cache tab fr (ix3 b h t) = Finset.univ.sup fun k : Fin 520 => val_main_v57 (F := Ideal) p cache tab fr (ix4 b h t k) := by
  rw [← fold_eq]
  generalize hs : val_main_v57 (F := Ideal) p cache tab fr = s
  pointwise [val_main_v58, val_main_cst_3]
  rw [hs]

theorem exp1 (k : Fin 520) : val_main_v62 (F := Ideal) p cache tab fr (ix4 b h t k)
    = Ideal.exp (val_main_v57 (F := Ideal) p cache tab fr (ix4 b h t k) - Finset.univ.sup fun k : Fin 520 => val_main_v57 (F := Ideal) p cache tab fr (ix4 b h t k)) := by
  rw [← top1]
  pointwise [val_main_v62, val_main_v61, val_main_v60, val_main_v59]

theorem den1 : val_main_v63 (F := Ideal) p cache tab fr (ix3 b h t)
    = ∑ k : Fin 520, Ideal.exp (val_main_v57 (F := Ideal) p cache tab fr (ix4 b h t k) - Finset.univ.sup fun k : Fin 520 => val_main_v57 (F := Ideal) p cache tab fr (ix4 b h t k)) := by
  refine Eq.trans ?_ (Finset.sum_congr rfl fun k _ => exp1 p cache tab fr b t h k)
  pointwise [val_main_v63, val_main_cst_4]

theorem att1 (e : Fin 64) : val_main_v69 (F := Ideal) p cache tab fr (ix4 b h t e) = gatt p cache tab fr 1 b t h e := by
  have e1 : val_main_v69 (F := Ideal) p cache tab fr (ix4 b h t e)
      = Ideal.div (∑ k : Fin 520, val_main_v62 (F := Ideal) p cache tab fr (ix4 b h t k) * val_main_v49 (F := Ideal) p cache (ix5 b k 1 h e))
          (val_main_v63 (F := Ideal) p cache tab fr (ix3 b h t)) := by
    pointwise [val_main_v69, val_main_v66, val_main_v65, val_main_v64, val_main_v68, val_main_v67]
  rw [e1, den1]
  simp only [exp1]
  refine (att_joined (n := 512) _ _).trans ?_
  unfold gatt
  simp only [scoreold1, scorenew1, old1, newvalue1]

theorem kept1 : val_main_v70 (F := Ideal) p cache tab fr (ix3 b h t) = val_main_v58 (F := Ideal) p cache tab fr (ix3 b h t) := by
  unfold val_main_v70 val_main_v59
  generalize val_main_v58 (F := Ideal) p cache tab fr = x
  refine (shapeCast_apply _ _ _ (ix4 b h t 0) ?_).trans ?_
  · rw [Shape.rowMajor_val_three, Shape.rowMajor_val_four]
    show ((b.val * 16 + h.val) * 8 + t.val) * 1 + 0 = (b.val * 16 + h.val) * 8 + t.val
    omega
  · refine congrArg x (funext fun a => ?_)
    fin_cases a <;> rfl

theorem log1 : val_main_v72 (F := Ideal) p cache tab fr (ix3 b h t) = val_main_v70 (F := Ideal) p cache tab fr (ix3 b h t) + Ideal.log (val_main_v63 (F := Ideal) p cache tab fr (ix3 b h t)) := by
  rw [val_main_v72_apply, val_main_v71_apply]
  generalize val_main_v70 (F := Ideal) p cache tab fr (ix3 b h t) = x
  generalize val_main_v63 (F := Ideal) p cache tab fr (ix3 b h t) = y
  rfl

theorem lse1 : val_main_v72 (F := Ideal) p cache tab fr (ix3 b h t) = glse p cache tab fr 1 b t h := by
  rw [log1, kept1, den1, top1]
  refine (lse_joined (n := 512) _).trans ?_
  unfold glse
  simp only [scoreold1, scorenew1]

end

end Cert.Proof.Swa
-- ==== Proof.SwaRef2.lean ====
/-
  The attention of the sample tokens: the reference's group 2.
-/
module

public import proofs.«01_k».proof.Proof.SwaRef

@[expose] public section

set_option maxRecDepth 16384
set_option maxHeartbeats 4000000

noncomputable section

namespace Cert.Proof.Swa

open Idealize.ShloMosaic Idealize.ShloMosaic.TcCoe Idealize.SL.Sem
open Cert.SwaRefIdeal Cert.SwaRefIdeal.Read

/-! ### Group 2 -/

section
variable (p : S1024x9216.Idx → EReal) (cache : S2x128x2048x2x16x64.Idx → EReal) (tab : S16x8x2048.Idx → EReal) (fr : S16x8x8.Idx → EReal)
  (b : Fin 128) (t : Fin 8) (h : Fin 16)

theorem query2 (e : Fin 64) : val_main_v87 (F := Ideal) p (ix4 b t h e) = part p 2 b h 0 t e * c8 := by
  have key : val_main_v74 (F := Ideal) p (ix4 b t h e) = part p 2 b h 0 t e := by
    unfold val_main_v74
    refine (drop_apply _ _ b t h e).trans ?_
    pointwise [val_main_v73]
    exact split_apply p b t 2 0 h e
  rw [← key]
  pointwise [val_main_v87, val_main_v86, val_main_cst_5]
  rfl

theorem key2 (j : Fin 8) (e : Fin 64) : val_main_v76 (F := Ideal) p (ix4 b j h e) = part p 2 b h 1 j e := by
  unfold val_main_v76
  refine (drop_apply _ _ b j h e).trans ?_
  pointwise [val_main_v75]
  exact split_apply p b j 2 1 h e

theorem value2 (j : Fin 8) (e : Fin 64) : val_main_v78 (F := Ideal) p (ix4 b j h e) = part p 2 b h 2 j e := by
  unfold val_main_v78
  refine (drop_apply _ _ b j h e).trans ?_
  pointwise [val_main_v77]
  exact split_apply p b j 2 2 h e

theorem cached2 (c : Fin 2048) (s : Fin 2) (e : Fin 64) : val_main_v80 (F := Ideal) cache (ix5 b c s h e) = cache (ix6 0 b c s h e) := by
  unfold val_main_v80
  refine (shapeCast_apply _ _ _ (ix6 0 b c s h e) ?_).trans ?_
  · rw [Shape.rowMajor_val_five, Shape.rowMajor_val_six]
    show ((((0 * 128 + b.val) * 2048 + c.val) * 2 + s.val) * 16 + h.val) * 64 + e.val = (((b.val * 2048 + c.val) * 2 + s.val) * 16 + h.val) * 64 + e.val
    omega
  pointwise [val_main_v79]

theorem old2 (c : Fin 2048) (s : Fin 2) (e : Fin 64) :
    val_main_v85 (F := Ideal) p cache (ix5 b (Fin.castAdd 8 c : Fin 2056) s h e) = cache (ix6 0 b c s h e) := by
  have hc : ((Fin.castAdd 8 c : Fin 2056) : Nat) < 2048 := c.isLt
  refine Eq.trans ?_ (cached2 cache b h c s e)
  pointwise [val_main_v85]
  exact dif_pos hc

theorem new2 (j : Fin 8) (s : Fin 2) (e : Fin 64) :
    val_main_v85 (F := Ideal) p cache (ix5 b (Fin.natAdd 2048 j : Fin 2056) s h e) = val_main_v84 (F := Ideal) p (ix5 b j s h e) := by
  have hc : ¬((Fin.natAdd 2048 j : Fin 2056) : Nat) < 2048 := by simp
  have hj : (⟨((Fin.natAdd 2048 j : Fin 2056) : Nat) - 2048, by simp⟩ : Fin 8) = j := Fin.ext (by simp)
  generalize hx : val_main_v84 (F := Ideal) p = x
  pointwise [val_main_v85]
  rw [hx]
  refine (dif_neg hc).trans (congrArg (fun i : Fin 8 => x (ix5 b i s h e)) hj)

theorem newkey2 (j : Fin 8) (e : Fin 64) :
    val_main_v85 (F := Ideal) p cache (ix5 b (Fin.natAdd 2048 j : Fin 2056) 0 h e) = part p 2 b h 1 j e := by
  rw [new2, ← key2]
  pointwise [val_main_v84, val_main_v82]

theorem newvalue2 (j : Fin 8) (e : Fin 64) :
    val_main_v85 (F := Ideal) p cache (ix5 b (Fin.natAdd 2048 j : Fin 2056) 1 h e) = part p 2 b h 2 j e := by
  rw [new2, ← value2]
  pointwise [val_main_v84, val_main_v83]

theorem score2 (k : Fin 2056) : val_main_v93 (F := Ideal) p cache tab fr (ix4 b h t k)
    = ∑ e : Fin 64, val_main_v87 (F := Ideal) p (ix4 b t h e) * val_main_v85 (F := Ideal) p cache (ix5 b k 0 h e) + val_main_v81 (F := Ideal) tab fr (ix3 h t k) := by
  generalize hq : val_main_v87 (F := Ideal) p = q
  generalize hk : val_main_v85 (F := Ideal) p cache = kv
  generalize ht : val_main_v81 (F := Ideal) tab fr = bias
  pointwise [val_main_v93, val_main_v90, val_main_v89, val_main_v88, val_main_v92, val_main_v91]
  rw [hq, hk, ht]

theorem scoreold2 (c : Fin 2048) : val_main_v93 (F := Ideal) p cache tab fr (ix4 b h t (Fin.castAdd 8 c : Fin 2056)) = gsc p cache tab 2 b t h c := by
  refine (score2 p cache tab fr b t h _).trans (congrArg₂ (· + ·) (Finset.sum_congr rfl fun e _ => ?_) ?_)
  · rw [query2, old2]
  · have hc : ((Fin.castAdd 8 c : Fin 2056) : Nat) < 2048 := c.isLt
    pointwise [val_main_v81]
    exact dif_pos hc

theorem scorenew2 (j : Fin 8) : val_main_v93 (F := Ideal) p cache tab fr (ix4 b h t (Fin.natAdd 2048 j : Fin 2056)) = gsf p fr 2 b t h j := by
  refine (score2 p cache tab fr b t h _).trans (congrArg₂ (· + ·) (Finset.sum_congr rfl fun e _ => ?_) ?_)
  · rw [query2, newkey2]
  · have hc : ¬((Fin.natAdd 2048 j : Fin 2056) : Nat) < 2048 := by simp
    have hj : (⟨((Fin.natAdd 2048 j : Fin 2056) : Nat) - 2048, by simp⟩ : Fin 8) = j := Fin.ext (by simp)
    pointwise [val_main_v81]
    exact (dif_neg hc).trans (congrArg (fun i : Fin 8 => fr (ix3 h t i)) hj)

theorem top2 : val_main_v94 (F := Ideal) p cache tab fr (ix3 b h t) = Finset.univ.sup fun k : Fin 2056 => val_main_v93 (F := Ideal) p cache tab fr (ix4 b h t k) := by
  rw [← fold_eq]
  generalize hs : val_main_v93 (F := Ideal) p cache tab fr = s
  pointwise [val_main_v94, val_main_cst_6]
  rw [hs]

theorem exp2 (k : Fin 2056) : val_main_v98 (F := Ideal) p cache tab fr (ix4 b h t k)
    = Ideal.exp (val_main_v93 (F := Ideal) p cache tab fr (ix4 b h t k) - Finset.univ.sup fun k : Fin 2056 => val_main_v93 (F := Ideal) p cache tab fr (ix4 b h t k)) := by
  rw [← top2]
  pointwise [val_main_v98, val_main_v97, val_main_v96, val_main_v95]

theorem den2 : val_main_v99 (F := Ideal) p cache tab fr (ix3 b h t)
    = ∑ k : Fin 2056, Ideal.exp (val_main_v93 (F := Ideal) p cache tab fr (ix4 b h t k) - Finset.univ.sup fun k : Fin 2056 => val_main_v93 (F := Ideal) p cache tab fr (ix4 b h t k)) := by
  refine Eq.trans ?_ (Finset.sum_congr rfl fun k _ => exp2 p cache tab fr b t h k)
  pointwise [val_main_v99, val_main_cst_7]

theorem att2 (e : Fin 64) : val_main_v105 (F := Ideal) p cache tab fr (ix4 b h t e) = gatt p cache tab fr 2 b t h e := by
  have e1 : val_main_v105 (F := Ideal) p cache tab fr (ix4 b h t e)
      = Ideal.div (∑ k : Fin 2056, val_main_v98 (F := Ideal) p cache tab fr (ix4 b h t k) * val_main_v85 (F := Ideal) p cache (ix5 b k 1 h e))
          (val_main_v99 (F := Ideal) p cache tab fr (ix3 b h t)) := by
    pointwise [val_main_v105, val_main_v102, val_main_v101, val_main_v100, val_main_v104, val_main_v103]
  rw [e1, den2]
  simp only [exp2]
  refine (att_joined (n := 2048) _ _).trans ?_
  unfold gatt
  simp only [scoreold2, scorenew2, old2, newvalue2]

theorem kept2 : val_main_v106 (F := Ideal) p cache tab fr (ix3 b h t) = val_main_v94 (F := Ideal) p cache tab fr (ix3 b h t) := by
  unfold val_main_v106 val_main_v95
  generalize val_main_v94 (F := Ideal) p cache tab fr = x
  refine (shapeCast_apply _ _ _ (ix4 b h t 0) ?_).trans ?_
  · rw [Shape.rowMajor_val_three, Shape.rowMajor_val_four]
    show ((b.val * 16 + h.val) * 8 + t.val) * 1 + 0 = (b.val * 16 + h.val) * 8 + t.val
    omega
  · refine congrArg x (funext fun a => ?_)
    fin_cases a <;> rfl

theorem log2 : val_main_v108 (F := Ideal) p cache tab fr (ix3 b h t) = val_main_v106 (F := Ideal) p cache tab fr (ix3 b h t) + Ideal.log (val_main_v99 (F := Ideal) p cache tab fr (ix3 b h t)) := by
  rw [val_main_v108_apply, val_main_v107_apply]
  generalize val_main_v106 (F := Ideal) p cache tab fr (ix3 b h t) = x
  generalize val_main_v99 (F := Ideal) p cache tab fr (ix3 b h t) = y
  rfl

theorem lse2 : val_main_v108 (F := Ideal) p cache tab fr (ix3 b h t) = glse p cache tab fr 2 b t h := by
  rw [log2, kept2, den2, top2]
  refine (lse_joined (n := 2048) _).trans ?_
  unfold glse
  simp only [scoreold2, scorenew2]

end

end Cert.Proof.Swa
-- ==== Proof.SwaMerge.lean ====
/-
  The attention of the sample tokens: the reference's merge of the groups.
-/
module

public import proofs.«01_k».proof.Proof.SwaRef0
public import proofs.«01_k».proof.Proof.SwaRef1
public import proofs.«01_k».proof.Proof.SwaRef2

@[expose] public section

set_option maxRecDepth 16384
set_option maxHeartbeats 4000000

noncomputable section

namespace Cert.Proof.Swa

open Idealize.ShloMosaic Idealize.ShloMosaic.TcCoe Idealize.SL.Sem
open Cert.SwaRefIdeal Cert.SwaRefIdeal.Read

theorem sup_three (f : Fin 3 → EReal) : Finset.univ.sup f = max (max (f 0) (f 1)) (f 2) := by
  apply le_antisymm
  · refine Finset.sup_le fun i _ => ?_
    fin_cases i
    · exact (le_max_left _ _).trans (le_max_left _ _)
    · exact (le_max_right _ _).trans (le_max_left _ _)
    · exact le_max_right _ _
  · exact max_le (max_le (Finset.le_sup (Finset.mem_univ _)) (Finset.le_sup (Finset.mem_univ _))) (Finset.le_sup (Finset.mem_univ _))

section
variable (x0 : S1024x9216.Idx → EReal) (x1 : S2x128x128x2x16x64.Idx → EReal) (x2 : S2x128x512x2x16x64.Idx → EReal)
  (x3 : S2x128x2048x2x16x64.Idx → EReal) (x4 : S16x8x128.Idx → EReal) (x5 : S16x8x512.Idx → EReal) (x6 : S16x8x2048.Idx → EReal) (x7 x8 x9 : S16x8x8.Idx → EReal)
  (b : Fin 128) (t : Fin 8) (h : Fin 16) (e : Fin 64)

theorem outs : val_main_v127 (F := Ideal) x0 x1 x2 x3 x4 x5 x6 x7 x8 x9 (ix5 0 b h t e) = gatt x0 x1 x4 x7 0 b t h e
    ∧ val_main_v127 (F := Ideal) x0 x1 x2 x3 x4 x5 x6 x7 x8 x9 (ix5 1 b h t e) = gatt x0 x2 x5 x8 1 b t h e
    ∧ val_main_v127 (F := Ideal) x0 x1 x2 x3 x4 x5 x6 x7 x8 x9 (ix5 2 b h t e) = gatt x0 x3 x6 x9 2 b t h e := by
  rw [← att0, ← att1, ← att2]
  generalize h0 : val_main_v33 (F := Ideal) x0 x1 x4 x7 = a
  generalize h1 : val_main_v69 (F := Ideal) x0 x2 x5 x8 = a'
  generalize h2 : val_main_v105 (F := Ideal) x0 x3 x6 x9 = a''
  refine ⟨?_, ?_, ?_⟩
  · pointwise [val_main_v127, val_main_v124, val_main_v125, val_main_v126]
    rw [h0]
  · pointwise [val_main_v127, val_main_v124, val_main_v125, val_main_v126]
    rw [h1]
  · pointwise [val_main_v127, val_main_v124, val_main_v125, val_main_v126]
    rw [h2]

theorem lses : val_main_v112 (F := Ideal) x0 x1 x2 x3 x4 x5 x6 x7 x8 x9 (ix4 0 b h t) = glse x0 x1 x4 x7 0 b t h
    ∧ val_main_v112 (F := Ideal) x0 x1 x2 x3 x4 x5 x6 x7 x8 x9 (ix4 1 b h t) = glse x0 x2 x5 x8 1 b t h
    ∧ val_main_v112 (F := Ideal) x0 x1 x2 x3 x4 x5 x6 x7 x8 x9 (ix4 2 b h t) = glse x0 x3 x6 x9 2 b t h := by
  rw [← lse0, ← lse1, ← lse2]
  generalize h0 : val_main_v36 (F := Ideal) x0 x1 x4 x7 = a
  generalize h1 : val_main_v72 (F := Ideal) x0 x2 x5 x8 = a'
  generalize h2 : val_main_v108 (F := Ideal) x0 x3 x6 x9 = a''
  refine ⟨?_, ?_, ?_⟩
  · pointwise [val_main_v112, val_main_v109, val_main_v110, val_main_v111]
    rw [h0]
  · pointwise [val_main_v112, val_main_v109, val_main_v110, val_main_v111]
    rw [h1]
  · pointwise [val_main_v112, val_main_v109, val_main_v110, val_main_v111]
    rw [h2]

theorem weight (g : Fin 3) : val_main_v119 (F := Ideal) x0 x1 x2 x3 x4 x5 x6 x7 x8 x9 (ix4 g b h t)
    = Ideal.exp (val_main_v112 (F := Ideal) x0 x1 x2 x3 x4 x5 x6 x7 x8 x9 (ix4 g b h t)
        - max (max (glse x0 x1 x4 x7 0 b t h) (glse x0 x2 x5 x8 1 b t h)) (glse x0 x3 x6 x9 2 b t h)) := by
  obtain ⟨e0, e1, e2⟩ := lses x0 x1 x2 x3 x4 x5 x6 x7 x8 x9 b t h
  have e3 : val_main_v119 (F := Ideal) x0 x1 x2 x3 x4 x5 x6 x7 x8 x9 (ix4 g b h t)
      = Ideal.exp (val_main_v112 (F := Ideal) x0 x1 x2 x3 x4 x5 x6 x7 x8 x9 (ix4 g b h t)
        - max (Ideal.ofBits FTy.f32 0xFF800000#32) (Finset.fold max (Ideal.ofBits FTy.f32 0xFF800000#32)
            (fun k : Fin 3 => val_main_v112 (F := Ideal) x0 x1 x2 x3 x4 x5 x6 x7 x8 x9 (ix4 k b h t)) Finset.univ)) := by
    generalize hl : val_main_v112 (F := Ideal) x0 x1 x2 x3 x4 x5 x6 x7 x8 x9 = l
    pointwise [val_main_v119, val_main_v118, val_main_v117, val_main_v116, val_main_v115, val_main_v114, val_main_v113, val_main_cst_8, val_main_cst_9]
    rw [hl]
  rw [e3, fold_eq, sup_three, e0, e1, e2, bot_eq, max_eq_right bot_le]

theorem merged (ha : glse x0 x1 x4 x7 0 b t h ≠ ⊥) : val_main_v128 (F := Ideal) x0 x1 x2 x3 x4 x5 x6 x7 x8 x9 (ix4 b t h e)
    = mixed x0 x1 x2 x3 x4 x5 x6 x7 x8 x9 b t h e := by
  obtain ⟨e0, e1, e2⟩ := lses x0 x1 x2 x3 x4 x5 x6 x7 x8 x9 b t h
  obtain ⟨o0, o1, o2⟩ := outs x0 x1 x2 x3 x4 x5 x6 x7 x8 x9 b t h e
  have e3 : val_main_v128 (F := Ideal) x0 x1 x2 x3 x4 x5 x6 x7 x8 x9 (ix4 b t h e)
      = ∑ g : Fin 3, val_main_v127 (F := Ideal) x0 x1 x2 x3 x4 x5 x6 x7 x8 x9 (ix5 g b h t e)
          * Ideal.div (val_main_v119 (F := Ideal) x0 x1 x2 x3 x4 x5 x6 x7 x8 x9 (ix4 g b h t))
              (∑ k : Fin 3, val_main_v119 (F := Ideal) x0 x1 x2 x3 x4 x5 x6 x7 x8 x9 (ix4 k b h t)) := by
    generalize ho : val_main_v127 (F := Ideal) x0 x1 x2 x3 x4 x5 x6 x7 x8 x9 = o
    generalize hw : val_main_v119 (F := Ideal) x0 x1 x2 x3 x4 x5 x6 x7 x8 x9 = w
    pointwise [val_main_v128, val_main_v123, val_main_v122, val_main_v121, val_main_v120, val_main_cst_10]
    rw [ho, hw]
  rw [e3, Fin.sum_univ_three, Fin.sum_univ_three, weight, weight, weight, e0, e1, e2, o0, o1, o2]
  exact merge_eq _ _ _ _ _ _ ha (lse_ne_top _ _) (lse_ne_top _ _) (lse_ne_top _ _)

end

/-- The reference's result. -/
theorem ref_eq (x0 : S1024x9216.Idx → EReal) (x1 : S2x128x128x2x16x64.Idx → EReal) (x2 : S2x128x512x2x16x64.Idx → EReal)
    (x3 : S2x128x2048x2x16x64.Idx → EReal) (x4 : S16x8x128.Idx → EReal) (x5 : S16x8x512.Idx → EReal) (x6 : S16x8x2048.Idx → EReal) (x7 x8 x9 : S16x8x8.Idx → EReal)
    (ha : ∀ b t h, glse x0 x1 x4 x7 0 b t h ≠ ⊥) :
    val_main_v129 (F := Ideal) x0 x1 x2 x3 x4 x5 x6 x7 x8 x9 = result x0 x1 x2 x3 x4 x5 x6 x7 x8 x9 := by
  funext z
  idx_vars z
  have h0 : z0.val < 1024 := z0.isLt
  have h1 : z1.val < 1024 := z1.isLt
  unfold val_main_v129
  refine (shapeCast_apply _ _ _ (ix4 ⟨z0.val / 8, by omega⟩ ⟨z0.val % 8, by omega⟩ ⟨z1.val / 64, by omega⟩ ⟨z1.val % 64, by omega⟩) ?_).trans ?_
  · rw [Shape.rowMajor_val_two, Shape.rowMajor_val_four]
    show ((z0.val / 8 * 8 + z0.val % 8) * 16 + z1.val / 64) * 64 + z1.val % 64 = z0.val * 1024 + z1.val
    omega
  exact merged x0 x1 x2 x3 x4 x5 x6 x7 x8 x9 _ _ _ _ (ha _ _ _)

end Cert.Proof.Swa
-- ==== Proof.Swa.lean ====
/-
  The attention of the sample tokens: the claim about both programs.
-/
module

public import proofs.«01_k».proof.Defs
public import proofs.«01_k».proof.Proof.SwaPre
public import proofs.«01_k».proof.Proof.SwaMerge

@[expose] public section

set_option maxRecDepth 16384
set_option maxHeartbeats 4000000

noncomputable section

namespace Cert.Proof.Swa

open Idealize.ShloMosaic Idealize.ShloMosaic.TcCoe Idealize.SL.Sem
open Cert.SwaIdeal Cert.SwaIdeal.Gen

/-- The reference's result over equal arguments. -/
theorem ref_of_eq {x0 y0 : S1024x9216.Idx → EReal} {x1 y1 : S2x128x128x2x16x64.Idx → EReal} {x2 y2 : S2x128x512x2x16x64.Idx → EReal}
    {x3 y3 : S2x128x2048x2x16x64.Idx → EReal} {x4 y4 : S16x8x128.Idx → EReal} {x5 y5 : S16x8x512.Idx → EReal} {x6 y6 : S16x8x2048.Idx → EReal}
    {x7 y7 x8 y8 x9 y9 : S16x8x8.Idx → EReal} (h : y0 = x0 ∧ y1 = x1 ∧ y2 = x2 ∧ y3 = x3 ∧ y4 = x4 ∧ y5 = x5 ∧ y6 = x6 ∧ y7 = x7 ∧ y8 = x8 ∧ y9 = x9)
    (ha : ∀ b t h, glse x0 x1 x4 x7 0 b t h ≠ ⊥) :
    Cert.SwaRefIdeal.Read.val_main_v129 (F := Ideal) y0 y1 y2 y3 y4 y5 y6 y7 y8 y9 = result x0 x1 x2 x3 x4 x5 x6 x7 x8 x9 := by
  obtain ⟨rfl, rfl, rfl, rfl, rfl, rfl, rfl, rfl, rfl, rfl⟩ := h
  exact ref_eq _ _ _ _ _ _ _ _ _ _ ha

/-- The two programs from equal arguments end with equal results. -/
theorem algebraic : Cert.algebraic_SwaIdeal_SwaRefIdeal_pre_first_scores (hSwaIdeal := Cert.SwaIdeal.Gen.facts)
    (hSwaRefIdeal := Cert.SwaRefIdeal.Gen.facts) (hPre_first_scores := preFacts) := by
  intro m ρ m' ρ' hpre hag
  refine ⟨fun c => result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)), ?_, ?_⟩
  · exact (θ_run _ _ _).mono (fun r h c => ⟨(h c).1.trans (final m c), (h c).2⟩) (Cert.SwaIdeal.Value.run_blocks m ρ)
  · refine (θ_run _ _ _).mono (fun r h c => ⟨(h c).1.trans ?_, (h c).2⟩) (Cert.SwaRefIdeal.Value.run m' ρ')
    refine (Cert.SwaRefIdeal.Read.val_main_v129_eq (StableHlo.launchContents m' c)).trans ?_
    letI := preFacts
    have hp := hpre c
    exact ref_of_eq (hag c) fun b t h =>
      glse_ne_bot _ _ _ _ 0 b t h (pre_p _ _ _ _ _ _ _ _ _ _ hp.1) (pre_k _ _ _ _ _ _ _ _ _ _ hp.2.1) (pre_t _ _ _ _ _ _ _ _ _ _ hp.2.2.1)
        (pre_f _ _ _ _ _ _ _ _ _ _ hp.2.2.2.1) (pre_first _ _ _ _ _ _ _ _ _ _ hp.2.2.2.2 h t)

end Cert.Proof.Swa

end
-- ==== Proof.GdnSpec.lean ====
/-
  A DeltaNet layer's update for a sampling step of four tokens, written per request, head and entry: the short convolution, the
  normalised keys and queries, the gated delta rule on a 128 by 128 state, and the gated norm of what the queries read.
-/
module

public import Idealize.ShloMosaic.PureOps.Ideal
public import Idealize.ShloMosaic.Lib.Pointwise.Index

@[expose] public section

noncomputable section

namespace Cert.Proof.Gdn

open Idealize.ShloMosaic

/-- `u · σ(u)`. -/
def silu (u : EReal) : EReal := u * Ideal.div 1 (1 + Ideal.exp (-u))

/-- A vector over its length, guarded. -/
def unit (u : Fin 128 → EReal) (d : Fin 128) : EReal :=
  u d * Ideal.rsqrt ((∑ e, u e * u e) + Ideal.ofBits FTy.f32 0x358637BD#32)

/-- The gated root-mean-square norm of one head's outputs. -/
def gated (o z w : Fin 128 → EReal) (e : Fin 128) : EReal :=
  o e * Ideal.rsqrt (Ideal.div (∑ d, o d * o d) (Ideal.ofBits FTy.f32 0x43000000#32) + Ideal.ofBits FTy.f32 0x358637BD#32) * w e * silu (z e)

/-- The state at a key row and a value column before token `n`, from the tokens' keys, values, log decays and write gates. -/
def state (k v : Nat → Fin 128 → EReal) (g b : Nat → EReal) (s : Fin 128 → Fin 128 → EReal) : Nat → Fin 128 → Fin 128 → EReal
  | 0, d, e => s d e
  | n + 1, d, e => state k v g b s n d e * Ideal.exp (g n)
      + k n d * ((v n e - ∑ d', state k v g b s n d' e * Ideal.exp (g n) * k n d') * b n)

section
variable (p : (⟨3, ![128, 4, 6144]⟩ : Shape).Idx → EReal) (s : (⟨3, ![128, 3, 4096]⟩ : Shape).Idx → EReal)
  (g b : (⟨3, ![128, 4, 16]⟩ : Shape).Idx → EReal) (w : (⟨2, ![4, 4096]⟩ : Shape).Idx → EReal)
  (nw : (⟨1, ![128]⟩ : Shape).Idx → EReal) (x : (⟨5, ![2, 128, 16, 128, 128]⟩ : Shape).Idx → EReal)

/-- Channel `c` of a request's three kept tokens followed by its four new ones. -/
def hist (r : Fin 128) (c : Fin 4096) (i : Nat) : EReal :=
  if i < 3 then s (ix3 r ⟨i % 3, by omega⟩ c) else p (ix3 r ⟨(i - 3) % 4, by omega⟩ ⟨c.val, by omega⟩)

/-- Channel `c` of token `t` after the convolution. -/
def mixed (r : Fin 128) (t : Nat) (c : Fin 4096) : EReal :=
  silu (hist p s r c t * w (ix2 0 c) + hist p s r c (t + 1) * w (ix2 1 c) + hist p s r c (t + 2) * w (ix2 2 c)
    + hist p s r c (t + 3) * w (ix2 3 c))

/-- Token `t`'s query of query head `h`. -/
def query (r : Fin 128) (h : Fin 8) (t : Nat) (d : Fin 128) : EReal :=
  unit (fun e => mixed p s w r t ⟨128 * h.val + e.val, by omega⟩) d * Ideal.ofBits FTy.f32 0x3DB504F3#32

/-- Token `t`'s key of query head `h`. -/
def key (r : Fin 128) (h : Fin 8) (t : Nat) (d : Fin 128) : EReal :=
  unit (fun e => mixed p s w r t ⟨1024 + 128 * h.val + e.val, by omega⟩) d

/-- Token `t`'s value of value head `h`. -/
def value (r : Fin 128) (h : Fin 16) (t : Nat) (e : Fin 128) : EReal :=
  mixed p s w r t ⟨2048 + 128 * h.val + e.val, by omega⟩

/-- The state of value head `h` before token `n`. -/
def states (r : Fin 128) (h : Fin 16) : Nat → Fin 128 → Fin 128 → EReal :=
  state (key p s w r ⟨h.val / 2, by omega⟩) (value p s w r h) (fun t => g (ix3 r ⟨t % 4, by omega⟩ h))
    (fun t => b (ix3 r ⟨t % 4, by omega⟩ h)) (fun d e => x (ix5 0 r h d e))

/-- What token `t`'s query reads. -/
def reads (r : Fin 128) (h : Fin 16) (t : Nat) (e : Fin 128) : EReal :=
  ∑ d, states p s g b w x r h (t + 1) d e * query p s w r ⟨h.val / 2, by omega⟩ t d

/-- Token `t`'s output of value head `h`. -/
def outs (r : Fin 128) (h : Fin 16) (t : Nat) (e : Fin 128) : EReal :=
  gated (reads p s g b w x r h t) (fun e => p (ix3 r ⟨t % 4, by omega⟩ ⟨4096 + 128 * h.val + e.val, by omega⟩)) (fun e => nw (ix1 e)) e

/-- The first result at a row and a column: eight rows a request, the last four zero. -/
def outAt (y : (⟨2, ![1024, 2048]⟩ : Shape).Idx) : EReal :=
  if (y 0).val % 8 < 4 then
    outs p s g b w nw x ⟨(y 0).val / 8, by have h : (y 0).val < 1024 := (y 0).isLt; omega⟩
      ⟨(y 1).val / 128, by have h : (y 1).val < 2048 := (y 1).isLt; omega⟩ ((y 0).val % 8) ⟨(y 1).val % 128, by omega⟩
  else 0

/-- The second result: the first layer's states after the four tokens, the other layer's as they are in `n`. -/
def stateAt (n : (⟨5, ![2, 128, 16, 128, 128]⟩ : Shape).Idx → EReal) (y : (⟨5, ![2, 128, 16, 128, 128]⟩ : Shape).Idx) : EReal :=
  if (y 0).val = 0 then states p s g b w x (y 1) (y 2) 4 (y 3) (y 4) else n y

end

end Cert.Proof.Gdn

end
-- ==== Proof.GdnRef.lean ====
/-
  The reference's DeltaNet update, entry by entry.
-/
module

public import proofs.«01_k».proof.Proof.GdnSpec
public import proofs.«01_k».proof.Proof.Gen.GdnRefIdeal.Read
public import Idealize.ShloMosaic.Lib.Pipeline.ValueKit.Point
public import Idealize.ShloMosaic.Lib.Pointwise

@[expose] public section

set_option maxRecDepth 16384

noncomputable section

namespace Cert.Proof.Gdn

open Idealize.ShloMosaic Idealize.ShloMosaic.TcCoe Idealize.SL.Sem
open Cert.GdnRefIdeal Cert.GdnRefIdeal.Read

variable (p : Vec Ideal S128x4x6144 .f32) (s : Vec Ideal S128x3x4096 .f32) (g b : Vec Ideal S128x4x16 .f32)
  (w : Vec Ideal S4x4096 .f32) (nw : Vec Ideal S128 .f32) (x n : Vec Ideal S2x128x16x128x128 .f32)

/-- The kept tokens and the new ones, side by side. -/
theorem ref_hist (r : Fin 128) (i : Fin 7) (c : Fin 4096) : val_main_v2 (F := Ideal) p s (ix3 r i c) = hist p s r c i.val := by
  fin_cases i <;> pointwise [val_main_v2, val_main_v0] <;> rfl

/-- The convolution and its activation. -/
theorem ref_mixed (r : Fin 128) (t : Fin 4) (c : Fin 4096) : val_main_v32 (F := Ideal) p s w (ix3 r t c) = mixed p s w r t.val c := by
  fin_cases t <;>
  · pointwise [val_main_v32, val_main_call0_v5, val_main_call0_v4, val_main_call0_v3, val_main_call0_v2, val_main_call0_v1,
      val_main_call0_v0, val_main_call0_cst, val_main_call0_cst_0, val_main_v31, val_main_v30, val_main_v29, val_main_v28, val_main_v27,
      val_main_v26, val_main_v25, val_main_v24, val_main_v23, val_main_v22, val_main_v21, val_main_v20, val_main_v19, val_main_v18,
      val_main_v17, val_main_v16, val_main_v15, val_main_v14, val_main_v13, val_main_v12, val_main_v11, val_main_v10, val_main_v9,
      val_main_cst, val_main_v8, val_main_v7, val_main_v6, val_main_v5, val_main_v4, val_main_v3]
    simp only [ref_hist, zero_add]
    rfl

/-- The values. -/
theorem ref_value (r : Fin 128) (t : Fin 4) (h : Fin 16) (e : Fin 128) :
    val_main_v38 (F := Ideal) p s w (ix4 r t h e) = value p s w r h t.val e := by
  unfold val_main_v38
  refine (shapeCast_apply _ _ _ (ix3 r t ⟨128 * h.val + e.val, by omega⟩ : S128x4x2048.Idx) ?_).trans ?_
  · rw [Shape.rowMajor_val_three, Shape.rowMajor_val_four]
    simp [ix3, ix4]
    omega
  · pointwise [val_main_v37]
    exact (ref_mixed p s w r t _).trans (congrArg (mixed p s w r t.val) (Fin.ext (by simp; omega)))

/-- The convolved queries. -/
theorem ref_q (r : Fin 128) (t : Fin 4) (h : Fin 8) (e : Fin 128) :
    val_main_v34 (F := Ideal) p s w (ix4 r t h e) = mixed p s w r t.val ⟨128 * h.val + e.val, by omega⟩ := by
  unfold val_main_v34
  refine (shapeCast_apply _ _ _ (ix3 r t ⟨128 * h.val + e.val, by omega⟩ : S128x4x1024.Idx) ?_).trans ?_
  · rw [Shape.rowMajor_val_three, Shape.rowMajor_val_four]
    simp [ix3, ix4]
    omega
  · pointwise [val_main_v33]
    exact (ref_mixed p s w r t _).trans (congrArg (mixed p s w r t.val) (Fin.ext (by simp)))

/-- The convolved keys. -/
theorem ref_k (r : Fin 128) (t : Fin 4) (h : Fin 8) (e : Fin 128) :
    val_main_v36 (F := Ideal) p s w (ix4 r t h e) = mixed p s w r t.val ⟨1024 + 128 * h.val + e.val, by omega⟩ := by
  unfold val_main_v36
  refine (shapeCast_apply _ _ _ (ix3 r t ⟨128 * h.val + e.val, by omega⟩ : S128x4x1024.Idx) ?_).trans ?_
  · rw [Shape.rowMajor_val_three, Shape.rowMajor_val_four]
    simp [ix3, ix4]
    omega
  · pointwise [val_main_v35]
    exact (ref_mixed p s w r t _).trans (congrArg (mixed p s w r t.val) (Fin.ext (by simp; omega)))

/-- The queries, one for each value head. -/
theorem ref_query (r : Fin 128) (t : Fin 4) (h : Fin 16) (d : Fin 128) :
    val_main_v50 (F := Ideal) p s w (ix4 r t h d) = query p s w r ⟨h.val / 2, by omega⟩ t.val d := by
  unfold val_main_v50
  refine (shapeCast_apply _ _ _ (ix5 r t ⟨h.val / 2, by omega⟩ ⟨h.val % 2, by omega⟩ d : S128x4x8x2x128.Idx) ?_).trans ?_
  · rw [Shape.rowMajor_val_five, Shape.rowMajor_val_four]
    simp [ix5, ix4]
    omega
  · pointwise [val_main_v49, val_main_v48, val_main_v47, val_main_v46, val_main_v45, val_main_v44, val_main_v43, val_main_v42,
      val_main_v41, val_main_v40, val_main_v39, val_main_cst_0, val_main_cst_1, val_main_cst_2]
    simp only [ref_q, zero_add]
    rfl

/-- The keys, one for each value head. -/
theorem ref_key (r : Fin 128) (t : Fin 4) (h : Fin 16) (d : Fin 128) :
    val_main_v60 (F := Ideal) p s w (ix4 r t h d) = key p s w r ⟨h.val / 2, by omega⟩ t.val d := by
  unfold val_main_v60
  refine (shapeCast_apply _ _ _ (ix5 r t ⟨h.val / 2, by omega⟩ ⟨h.val % 2, by omega⟩ d : S128x4x8x2x128.Idx) ?_).trans ?_
  · rw [Shape.rowMajor_val_five, Shape.rowMajor_val_four]
    simp [ix5, ix4]
    omega
  · pointwise [val_main_v59, val_main_v58, val_main_v57, val_main_v56, val_main_v55, val_main_v54, val_main_v53, val_main_v52,
      val_main_v51, val_main_cst_3, val_main_cst_4]
    simp only [ref_k, zero_add]
    rfl

/-- The state before the tokens. -/
theorem ref_state0 (r : Fin 128) (h : Fin 16) (d e : Fin 128) :
    val_main_v62 (F := Ideal) x (ix4 r h d e) = states p s g b w x r h 0 d e := by
  pointwise [val_main_v62, val_main_v61]
  rfl

/-- One token's step with the key on the left of the sum's products. -/
theorem states_succ (r : Fin 128) (h : Fin 16) (t : Fin 4) (d e : Fin 128) :
    states p s g b w x r h t.val d e * Ideal.exp (g (ix3 r t h))
        + key p s w r ⟨h.val / 2, by omega⟩ t.val d
          * ((value p s w r h t.val e
              - ∑ d', key p s w r ⟨h.val / 2, by omega⟩ t.val d' * (states p s g b w x r h t.val d' e * Ideal.exp (g (ix3 r t h))))
            * b (ix3 r t h))
      = states p s g b w x r h (t.val + 1) d e := by
  have e : (⟨t.val % 4, by omega⟩ : Fin 4) = t := Fin.ext (Nat.mod_eq_of_lt t.isLt)
  simp only [mul_comm (key p s w r _ t.val _) (_ * Ideal.exp _)]
  simp only [states, state, e]

/-- The state after the first token. -/
theorem ref_state1 (r : Fin 128) (h : Fin 16) (d e : Fin 128) :
    val_main_v87 (F := Ideal) p s g b w x (ix4 r h d e) = states p s g b w x r h 1 d e := by
  pointwise [val_main_v87, val_main_v86, val_main_v85, val_main_v84, val_main_v83, val_main_v82, val_main_v81,
    val_main_v80, val_main_v79, val_main_v78, val_main_v77, val_main_v76, val_main_v75, val_main_v74, val_main_v73,
    val_main_v72, val_main_v71, val_main_v70, val_main_v69, val_main_v68, val_main_v67, val_main_v66, val_main_v65,
    val_main_v64, val_main_v63]
  simp only [ref_state0 p s g b w x, ref_value, ref_key, zero_add]
  exact states_succ p s g b w x r h 0 d e

/-- What the first token reads. -/
theorem ref_reads1 (r : Fin 128) (h : Fin 16) (e : Fin 128) :
    val_main_v90 (F := Ideal) p s g b w x (ix3 r h e) = reads p s g b w x r h 0 e := by
  pointwise [val_main_v90, val_main_v89, val_main_v88]
  simp only [ref_state1, ref_query, zero_add]
  exact Finset.sum_congr rfl fun d _ => mul_comm _ _

/-- The state after the second token. -/
theorem ref_state2 (r : Fin 128) (h : Fin 16) (d e : Fin 128) :
    val_main_v115 (F := Ideal) p s g b w x (ix4 r h d e) = states p s g b w x r h 2 d e := by
  pointwise [val_main_v115, val_main_v114, val_main_v113, val_main_v112, val_main_v111, val_main_v110, val_main_v109,
    val_main_v108, val_main_v107, val_main_v106, val_main_v105, val_main_v104, val_main_v103, val_main_v102,
    val_main_v101, val_main_v100, val_main_v99, val_main_v98, val_main_v97, val_main_v96, val_main_v95, val_main_v94,
    val_main_v93, val_main_v92, val_main_v91]
  simp only [ref_state1, ref_value, ref_key, zero_add]
  exact states_succ p s g b w x r h 1 d e

/-- What the second token reads. -/
theorem ref_reads2 (r : Fin 128) (h : Fin 16) (e : Fin 128) :
    val_main_v118 (F := Ideal) p s g b w x (ix3 r h e) = reads p s g b w x r h 1 e := by
  pointwise [val_main_v118, val_main_v117, val_main_v116]
  simp only [ref_state2, ref_query, zero_add]
  exact Finset.sum_congr rfl fun d _ => mul_comm _ _

/-- The state after the third token. -/
theorem ref_state3 (r : Fin 128) (h : Fin 16) (d e : Fin 128) :
    val_main_v143 (F := Ideal) p s g b w x (ix4 r h d e) = states p s g b w x r h 3 d e := by
  pointwise [val_main_v143, val_main_v142, val_main_v141, val_main_v140, val_main_v139, val_main_v138, val_main_v137,
    val_main_v136, val_main_v135, val_main_v134, val_main_v133, val_main_v132, val_main_v131, val_main_v130,
    val_main_v129, val_main_v128, val_main_v127, val_main_v126, val_main_v125, val_main_v124, val_main_v123,
    val_main_v122, val_main_v121, val_main_v120, val_main_v119]
  simp only [ref_state2, ref_value, ref_key, zero_add]
  exact states_succ p s g b w x r h 2 d e

/-- What the third token reads. -/
theorem ref_reads3 (r : Fin 128) (h : Fin 16) (e : Fin 128) :
    val_main_v146 (F := Ideal) p s g b w x (ix3 r h e) = reads p s g b w x r h 2 e := by
  pointwise [val_main_v146, val_main_v145, val_main_v144]
  simp only [ref_state3, ref_query, zero_add]
  exact Finset.sum_congr rfl fun d _ => mul_comm _ _

/-- The state after the fourth token. -/
theorem ref_state4 (r : Fin 128) (h : Fin 16) (d e : Fin 128) :
    val_main_v171 (F := Ideal) p s g b w x (ix4 r h d e) = states p s g b w x r h 4 d e := by
  pointwise [val_main_v171, val_main_v170, val_main_v169, val_main_v168, val_main_v167, val_main_v166, val_main_v165,
    val_main_v164, val_main_v163, val_main_v162, val_main_v161, val_main_v160, val_main_v159, val_main_v158,
    val_main_v157, val_main_v156, val_main_v155, val_main_v154, val_main_v153, val_main_v152, val_main_v151,
    val_main_v150, val_main_v149, val_main_v148, val_main_v147]
  simp only [ref_state3, ref_value, ref_key, zero_add]
  exact states_succ p s g b w x r h 3 d e

/-- What the fourth token reads. -/
theorem ref_reads4 (r : Fin 128) (h : Fin 16) (e : Fin 128) :
    val_main_v174 (F := Ideal) p s g b w x (ix3 r h e) = reads p s g b w x r h 3 e := by
  pointwise [val_main_v174, val_main_v173, val_main_v172]
  simp only [ref_state4, ref_query, zero_add]
  exact Finset.sum_congr rfl fun d _ => mul_comm _ _

/-- What the tokens read, side by side. -/
theorem ref_reads (r : Fin 128) (t : Fin 4) (h : Fin 16) (e : Fin 128) :
    val_main_v179 (F := Ideal) p s g b w x (ix4 r t h e) = reads p s g b w x r h t.val e := by
  fin_cases t <;> pointwise [val_main_v179, val_main_v178, val_main_v177, val_main_v176, val_main_v175] <;>
    simp only [ref_reads1, ref_reads2, ref_reads3, ref_reads4] <;> rfl

/-- The tokens' outputs. -/
theorem ref_outs (r : Fin 128) (t : Fin 4) (h : Fin 16) (e : Fin 128) :
    val_main_v195 (F := Ideal) p s g b w nw x (ix4 r t h e) = outs p s g b w nw x r h t.val e := by
  have ez : val_main_v193 (F := Ideal) p (ix4 r t h e) = p (ix3 r t ⟨4096 + 128 * h.val + e.val, by omega⟩) := by
    unfold val_main_v193
    refine (shapeCast_apply _ _ _ (ix3 r t ⟨128 * h.val + e.val, by omega⟩ : S128x4x2048.Idx) ?_).trans ?_
    · rw [Shape.rowMajor_val_three, Shape.rowMajor_val_four]
      simp [ix3, ix4]
      omega
    · pointwise [val_main_v1]
      exact congrArg (fun c => p (ix3 r t c)) (Fin.ext (by simp; omega))
  have et : (⟨t.val % 4, by omega⟩ : Fin 4) = t := Fin.ext (Nat.mod_eq_of_lt t.isLt)
  pointwise [val_main_v195, val_main_v194, val_main_call1_v5, val_main_call1_v4, val_main_call1_v3, val_main_call1_v2, val_main_call1_v1,
    val_main_call1_v0, val_main_call1_cst, val_main_call1_cst_0, val_main_v192, val_main_v191, val_main_v190, val_main_v189, val_main_v188,
    val_main_v187, val_main_v186, val_main_v185, val_main_v184, val_main_v183, val_main_v182, val_main_v181, val_main_v180,
    val_main_cst_5, val_main_cst_6, val_main_cst_7]
  simp only [ref_reads, ez, zero_add]
  simp only [outs, gated, silu, et]

/-- The integer zero as a number. -/
theorem sitofp_zero : FloatOps.sitofp (F := Ideal) FTy.f32 0#32 = 0 := by
  simp [FloatOps.sitofp]

/-- The first result. -/
theorem ref_out : val_main_v199 (F := Ideal) p s g b w nw x = outAt p s g b w nw x := by
  funext y
  idx_vars y
  have h0 : y0.val < 1024 := y0.isLt
  have h1 : y1.val < 2048 := y1.isLt
  unfold outAt val_main_v199 val_main_v198
  refine (congrArg _ (shapeCast_apply _ _ _ (ix3 ⟨y0.val / 8, by omega⟩ ⟨y0.val % 8, by omega⟩ y1 : S128x8x2048.Idx) ?_)).trans ?_
  · rw [Shape.rowMajor_val_three, Shape.rowMajor_val_two]
    simp [ix3, ix2]
    omega
  · pointwise [val_main_v197, val_main_v196, val_main_call2_v0, val_main_c]
    by_cases ht : y0.val % 8 < 4
    · rw [dif_pos ⟨by omega, ht⟩, if_pos ht]
      exact ref_outs p s g b w nw x _ ⟨_, ht⟩ _ _
    · rw [dif_neg fun h => ht h.2, if_neg ht]
      exact sitofp_zero

/-- The second result. -/
theorem ref_states : val_main_v202 (F := Ideal) p s g b w x n = stateAt p s g b w x n := by
  funext y
  idx_vars y
  unfold stateAt
  fin_cases y0
  · pointwise [val_main_v202, val_main_v200, val_main_v201]
    exact ref_state4 p s g b w x _ _ _ _
  · pointwise [val_main_v202, val_main_v200, val_main_v201]

end Cert.Proof.Gdn

end
-- ==== Proof.GdnConv.lean ====
/-
  The DeltaNet kernel's short convolution on a block of eight requests: 64 rows, eight a request, the first four of them tokens.
-/
module

public import proofs.«01_k».proof.Proof.GdnSpec
public import proofs.«01_k».proof.Proof.Gen.GdnIdeal.Value
public import Idealize.ShloMosaic.Lib.Pipeline.ValueKit.Point
public import Idealize.ShloMosaic.Lib.Pointwise

@[expose] public section

set_option maxRecDepth 16384

noncomputable section

namespace Cert.Proof.Gdn

open Idealize.ShloMosaic Idealize.ShloMosaic.TcCoe Idealize.SL.Sem
open Cert.GdnIdeal Cert.GdnIdeal.Gen

/-- The tap that reaches `j` tokens past the oldest takes the kept tokens' row when it reaches before the first token. -/
theorem tap_lt : ∀ (r : Fin 64) (j : Fin 4), IntOp.cmpi CmpIPredicate.slt (IntOp.addi (k0_pay210 (ix2 r 0)) (BitVec.ofNat 32 j.val)) 3#32
    = BitVec.ofBool (decide (r.val % 8 + j.val < 3)) := by
  decide +kernel

/-- One tap: `A` are the kept tokens' rows and `X` the new ones', `H` a request's seven tokens. -/
theorem tap (A X : Fin 64 → EReal) (H : Nat → EReal) (b : Fin 8) (t : Fin 4) (r : Fin 64) (hr : r.val = 8 * b.val + t.val)
    (ha : ∀ i : Fin 3, A ⟨8 * b.val + i.val, by omega⟩ = H i.val) (hx : ∀ i : Fin 4, X ⟨8 * b.val + i.val, by omega⟩ = H (i.val + 3))
    (j : Nat) (hj : j < 4) (ra rx : Fin 64) (hra : ra.val = (r.val + 64 - (64 - j)) % 64) (hrx : rx.val = (r.val + 64 - (3 - j)) % 64) :
    Scalar.select (IntOp.cmpi CmpIPredicate.slt (IntOp.addi (k0_pay210 (ix2 r 0)) (BitVec.ofNat 32 j)) 3#32) (A ra) (X rx) = H (t.val + j) := by
  rw [tap_lt r ⟨j, hj⟩]
  by_cases h : r.val % 8 + j < 3
  · have e := ha ⟨t.val + j, by omega⟩
    rw [← e, decide_eq_true h]
    exact congrArg A (Fin.ext (by simp only; omega))
  · have e := hx ⟨t.val + j - 3, by omega⟩
    have e' : t.val + j - 3 + 3 = t.val + j := by omega
    simp only [e'] at e
    rw [← e, decide_eq_false h]
    exact congrArg X (Fin.ext (by simp only; omega))

/-- The convolution's four products of a request's tokens `H` and a channel's taps, activated. -/
def mix (H w : Nat → EReal) (t : Nat) : EReal :=
  silu (H t * w 0 + H (t + 1) * w 1 + H (t + 2) * w 2 + H (t + 3) * w 3)

/-- The convolution of a head's queries. -/
theorem q_conv (a x : Vec Ideal S64x128 .f32) (cw : Vec Ideal S4x128 .f32) (c : Fin 128) (H w : Nat → EReal) (b : Fin 8) (t : Fin 4)
    (r : Fin 64) (hr : r.val = 8 * b.val + t.val) (ha : ∀ i : Fin 3, a (ix2 ⟨8 * b.val + i.val, by omega⟩ c) = H i.val)
    (hx : ∀ i : Fin 4, x (ix2 ⟨8 * b.val + i.val, by omega⟩ c) = H (i.val + 3)) (hw : ∀ i : Fin 4, cw (ix2 i c) = w i.val) :
    k0_pay215 k0_pay210 (k0_pay212 (F := Ideal) a) (k0_pay213 x) cw (k0_pay214 a x cw) 63#32 (ix2 r c)
      = mix H w t.val := by
  have e0 := tap (fun r => a (ix2 r c)) (fun r => x (ix2 r c)) H b t r hr ha hx 0 (by omega) r ⟨(r.val + 64 - 3) % 64, by omega⟩
    (by omega) (by rfl)
  have e1 := tap (fun r => a (ix2 r c)) (fun r => x (ix2 r c)) H b t r hr ha hx 1 (by omega) ⟨(r.val + 64 - 63) % 64, by omega⟩
    ⟨(r.val + 64 - 2) % 64, by omega⟩ (by rfl) (by rfl)
  have e2 := tap (fun r => a (ix2 r c)) (fun r => x (ix2 r c)) H b t r hr ha hx 2 (by omega) ⟨(r.val + 64 - 62) % 64, by omega⟩
    ⟨(r.val + 64 - 1) % 64, by omega⟩ (by rfl) (by rfl)
  have e3 := tap (fun r => a (ix2 r c)) (fun r => x (ix2 r c)) H b t r hr ha hx 3 (by omega) ⟨(r.val + 64 - 61) % 64, by omega⟩
    r (by rfl) (by omega)
  pointwise [k0_pay215, k0_pay212, k0_pay213, k0_pay214]
  rw [e0, e1, e2, e3, hw 0, hw 1, hw 2, hw 3, zero_sub]
  rfl

/-- The convolution of a head's values. -/
theorem v_conv (a x : Vec Ideal S64x256 .f32) (cw : Vec Ideal S4x256 .f32) (c : Fin 256) (H w : Nat → EReal) (b : Fin 8) (t : Fin 4)
    (r : Fin 64) (hr : r.val = 8 * b.val + t.val) (ha : ∀ i : Fin 3, a (ix2 ⟨8 * b.val + i.val, by omega⟩ c) = H i.val)
    (hx : ∀ i : Fin 4, x (ix2 ⟨8 * b.val + i.val, by omega⟩ c) = H (i.val + 3)) (hw : ∀ i : Fin 4, cw (ix2 i c) = w i.val) :
    k0_pay1 k0_pay210 (k0_pay225 (F := Ideal) a) (k0_pay226 x) cw (k0_pay227 k0_pay210 a x cw) (k0_pay228 k0_pay210 a x) (ix2 r c)
      = mix H w t.val := by
  have e0 := tap (fun r => a (ix2 r c)) (fun r => x (ix2 r c)) H b t r hr ha hx 0 (by omega) r ⟨(r.val + 64 - 3) % 64, by omega⟩
    (by omega) (by rfl)
  have e1 := tap (fun r => a (ix2 r c)) (fun r => x (ix2 r c)) H b t r hr ha hx 1 (by omega) ⟨(r.val + 64 - 63) % 64, by omega⟩
    ⟨(r.val + 64 - 2) % 64, by omega⟩ (by rfl) (by rfl)
  have e2 := tap (fun r => a (ix2 r c)) (fun r => x (ix2 r c)) H b t r hr ha hx 2 (by omega) ⟨(r.val + 64 - 62) % 64, by omega⟩
    ⟨(r.val + 64 - 1) % 64, by omega⟩ (by rfl) (by rfl)
  have e3 := tap (fun r => a (ix2 r c)) (fun r => x (ix2 r c)) H b t r hr ha hx 3 (by omega) ⟨(r.val + 64 - 61) % 64, by omega⟩
    r (by rfl) (by omega)
  pointwise [k0_pay1, k0_pay225, k0_pay226, k0_pay227, k0_pay228]
  rw [e0, e1, e2, e3, hw 0, hw 1, hw 2, hw 3, zero_sub]
  rfl

/-- The queries the steps read: convolved, over their length, scaled. -/
def qvec (a x : Vec Ideal S64x128 .f32) (cw : Vec Ideal S4x128 .f32) : FVec Ideal S64x128 .f32 :=
  k0_pay217 (k0_pay215 k0_pay210 (k0_pay212 a) (k0_pay213 x) cw (k0_pay214 a x cw) 63#32)
    (k0_pay216 k0_pay210 (k0_pay212 a) (k0_pay213 x) cw (k0_pay214 a x cw) 63#32)

/-- The keys the steps read: convolved, over their length. -/
def kvec (a x : Vec Ideal S64x128 .f32) (cw : Vec Ideal S4x128 .f32) : FVec Ideal S64x128 .f32 :=
  k0_pay224 (k0_pay223 k0_pay210 (k0_pay218 a) (k0_pay219 x) cw (k0_pay220 k0_pay210 a x cw) (k0_pay221 k0_pay210 a x) (k0_pay222 cw))

/-- The values the steps read: convolved. -/
def vvec (a x : Vec Ideal S64x256 .f32) (cw : Vec Ideal S4x256 .f32) : FVec Ideal S64x256 .f32 :=
  k0_pay1 k0_pay210 (k0_pay225 a) (k0_pay226 x) cw (k0_pay227 k0_pay210 a x cw) (k0_pay228 k0_pay210 a x)

/-- The queries at a token's row. -/
theorem q_unit (a x : Vec Ideal S64x128 .f32) (cw : Vec Ideal S4x128 .f32) (u : Fin 128 → EReal) (r : Fin 64)
    (hu : ∀ c, k0_pay215 k0_pay210 (k0_pay212 (F := Ideal) a) (k0_pay213 x) cw (k0_pay214 a x cw) 63#32 (ix2 r c) = u c) (c : Fin 128) :
    qvec a x cw (ix2 r c) = unit u c * Ideal.ofBits FTy.f32 0x3DB504F3#32 := by
  pointwise [qvec, k0_pay217, k0_pay216]
  simp only [hu]
  rfl

/-- The keys at a token's row: the convolution is the queries', over its length. -/
theorem k_unit (a x : Vec Ideal S64x128 .f32) (cw : Vec Ideal S4x128 .f32) (u : Fin 128 → EReal) (r : Fin 64)
    (hu : ∀ c, k0_pay215 k0_pay210 (k0_pay212 (F := Ideal) a) (k0_pay213 x) cw (k0_pay214 a x cw) 63#32 (ix2 r c) = u c) (c : Fin 128) :
    kvec a x cw (ix2 r c) = unit u c := by
  have e : kvec a x cw = shapeCast S64x128 (mulf (k0_pay215 k0_pay210 (k0_pay212 (F := Ideal) a) (k0_pay213 x) cw (k0_pay214 a x cw) 63#32)
      (broadcastTo S64x128 (rsqrt (addf (shapeCast S64x1 (multiReduction .add [1] S64 (mulf (k0_pay215 k0_pay210 (k0_pay212 (F := Ideal) a) (k0_pay213 x) cw (k0_pay214 a x cw) 63#32)
        (k0_pay215 k0_pay210 (k0_pay212 (F := Ideal) a) (k0_pay213 x) cw (k0_pay214 a x cw) 63#32)) 0x00000000#32 reduces_S64x128_S64 (.inl rfl) rfl)
        shapeCasts_S64_S64x1) (broadcast S64x1 (Scalar.ofBits .f32 0x358637BD#32)))) broadcasts_S64x1_S64x128))
      shapeCasts_S64x128_S64x128 := rfl
  rw [e]
  generalize k0_pay215 k0_pay210 (k0_pay212 (F := Ideal) a) (k0_pay213 x) cw (k0_pay214 a x cw) 63#32 = q at hu
  pointwise
  simp only [hu]
  rfl

end Cert.Proof.Gdn

end
-- ==== Proof.GdnStep.lean ====
/-
  The DeltaNet layer's recurrence over a request's four tokens, for one head: the kernel's steps on a 128 by 128 state read
  entry by entry.
-/
module

public import proofs.«01_k».proof.Proof.GdnSpec
public import proofs.«01_k».proof.Proof.Gen.GdnIdeal.Value
public import Idealize.ShloMosaic.Lib.Pipeline.ValueKit.Point
public import Idealize.ShloMosaic.Lib.Pointwise

@[expose] public section

set_option maxRecDepth 16384

noncomputable section

namespace Cert.Proof.Gdn

open Idealize.ShloMosaic Idealize.ShloMosaic.TcCoe Idealize.SL.Sem
open Cert.GdnIdeal Cert.GdnIdeal.Gen

/-- The state decayed by token `t`. -/
def decay (t : Nat) (h : S8x1.Slices ![t, 0] S1x1) (g : FVec Ideal S8x1 .f32) (s : FVec Ideal S128x128 .f32) : FVec Ideal S128x128 .f32 :=
  mulf s (broadcastTo S128x128 (exp (extractStridedSlice S1x1 ![t, 0] g h)) broadcasts_S1x1_S128x128)

/-- The decayed state after token `t`'s write; the keys are the columns of `kq`. -/
def put (t : Nat) (h : S8x1.Slices ![t, 0] S1x1) (hk : S128x128.Slices ![0, t] S128x1) (hv : S8x128.Slices ![t, 0] S1x128)
    (kq : FVec Ideal S128x128 .f32) (v : FVec Ideal S8x128 .f32) (b : FVec Ideal S8x1 .f32) (s : FVec Ideal S128x128 .f32) :
    FVec Ideal S128x128 .f32 :=
  addf s (mulf (broadcastTo S128x128 (extractStridedSlice S128x1 ![0, t] kq hk) broadcasts_S128x1_S128x128)
    (broadcastTo S128x128
      (mulf (subf (extractStridedSlice S1x128 ![t, 0] v hv)
        (shapeCast S1x128 (multiReduction .add [0] S128
          (mulf s (broadcastTo S128x128 (extractStridedSlice S128x1 ![0, t] kq hk) broadcasts_S128x1_S128x128))
          0x00000000#32 reduces_S128x128_S128 (.inl rfl) rfl) shapeCasts_S128_S1x128))
        (broadcastTo S1x128 (extractStridedSlice S1x1 ![t, 0] b h) broadcasts_S1x1_S1x128))
      broadcasts_S1x128_S128x128))

/-- The rows `o` with row `t` replaced by the state read with the query in column `j` of `kq`. -/
def get (t : BitVec 32) (j : Nat) (hq : S128x128.Slices ![0, j] S128x1) (kq : FVec Ideal S128x128 .f32) (s : FVec Ideal S128x128 .f32)
    (o : FVec Ideal S8x128 .f32) : FVec Ideal S8x128 .f32 :=
  select (broadcastTo S8x128 (shapeCast S8x1 (cmpi .eq (iota .tc S8x1 32 [0] iota_S8x1_d0_w32) (broadcast S8x1 t)) shapeCasts_S8x1_S8x1)
      broadcasts_S8x1_S8x128)
    (broadcastTo S8x128 (shapeCast S1x128 (shapeCast S1x128 (multiReduction .add [0] S128
      (mulf s (broadcastTo S128x128 (extractStridedSlice S128x1 ![0, j] kq hq) broadcasts_S128x1_S128x128))
      0x00000000#32 reduces_S128x128_S128 (.inl rfl) rfl) shapeCasts_S128_S1x128) shapeCasts_S1x128_S1x128) broadcasts_S1x128_S8x128) o

/-- Entry by entry, the decayed state. -/
theorem decay_at (t : Fin 4) (h : S8x1.Slices ![t.val, 0] S1x1) (g : FVec Ideal S8x1 .f32) (s : FVec Ideal S128x128 .f32) (d e : Fin 128) :
    decay t.val h g s (ix2 d e) = s (ix2 d e) * Ideal.exp (g (ix2 ⟨t.val, by omega⟩ 0)) := by
  fin_cases t <;> pointwise [decay] <;> rfl

/-- Entry by entry, the state after a write. -/
theorem put_at (t : Fin 4) (h : S8x1.Slices ![t.val, 0] S1x1) (hk : S128x128.Slices ![0, t.val] S128x1)
    (hv : S8x128.Slices ![t.val, 0] S1x128) (kq : FVec Ideal S128x128 .f32) (v : FVec Ideal S8x128 .f32) (b : FVec Ideal S8x1 .f32)
    (s : FVec Ideal S128x128 .f32) (d e : Fin 128) :
    put t.val h hk hv kq v b s (ix2 d e) = s (ix2 d e) + kq (ix2 d ⟨t.val, by omega⟩)
      * ((v (ix2 ⟨t.val, by omega⟩ e) - ∑ d', s (ix2 d' e) * kq (ix2 d' ⟨t.val, by omega⟩)) * b (ix2 ⟨t.val, by omega⟩ 0)) := by
  fin_cases t <;> pointwise [put] <;> rfl

/-- Entry by entry, the rows after a read. -/
theorem get_at (t : Fin 4) (hq : S128x128.Slices ![0, 8 + t.val] S128x1) (kq : FVec Ideal S128x128 .f32) (s : FVec Ideal S128x128 .f32)
    (o : FVec Ideal S8x128 .f32) (r : Fin 8) (e : Fin 128) :
    get (BitVec.ofNat 32 t.val) (8 + t.val) hq kq s o (ix2 r e)
      = if r.val = t.val then ∑ d', s (ix2 d' e) * kq (ix2 d' ⟨8 + t.val, by omega⟩) else o (ix2 r e) := by
  fin_cases t <;> fin_cases r <;> pointwise [get] <;> rfl

/-- One token's step: decay, then write. -/
def step (t : Nat) (h : S8x1.Slices ![t, 0] S1x1) (hk : S128x128.Slices ![0, t] S128x1) (hv : S8x128.Slices ![t, 0] S1x128)
    (kq : FVec Ideal S128x128 .f32) (v : FVec Ideal S8x128 .f32) (g b : FVec Ideal S8x1 .f32) (s : FVec Ideal S128x128 .f32) :
    FVec Ideal S128x128 .f32 :=
  put t h hk hv kq v b (decay t h g s)

/-- The state after the first token. -/
def step1 (kq : FVec Ideal S128x128 .f32) (v : FVec Ideal S8x128 .f32) (g b : FVec Ideal S8x1 .f32) (s : FVec Ideal S128x128 .f32) :=
  step 0 (by decide) (by decide) (by decide) kq v g b s

/-- The state after the second token. -/
def step2 (kq : FVec Ideal S128x128 .f32) (v : FVec Ideal S8x128 .f32) (g b : FVec Ideal S8x1 .f32) (s : FVec Ideal S128x128 .f32) :=
  step 1 (by decide) (by decide) (by decide) kq v g b (step1 kq v g b s)

/-- The state after the third token. -/
def step3 (kq : FVec Ideal S128x128 .f32) (v : FVec Ideal S8x128 .f32) (g b : FVec Ideal S8x1 .f32) (s : FVec Ideal S128x128 .f32) :=
  step 2 (by decide) (by decide) (by decide) kq v g b (step2 kq v g b s)

/-- The state after the fourth token. -/
def step4 (kq : FVec Ideal S128x128 .f32) (v : FVec Ideal S8x128 .f32) (g b : FVec Ideal S8x1 .f32) (s : FVec Ideal S128x128 .f32) :=
  step 3 (by decide) (by decide) (by decide) kq v g b (step3 kq v g b s)

/-- What the four queries read, one row each, zero below. -/
def gets (kq : FVec Ideal S128x128 .f32) (v : FVec Ideal S8x128 .f32) (g b : FVec Ideal S8x1 .f32) (s : FVec Ideal S128x128 .f32) :
    FVec Ideal S8x128 .f32 :=
  get 3#32 11 (by decide) kq (step4 kq v g b s) (get 2#32 10 (by decide) kq (step3 kq v g b s)
    (get 1#32 9 (by decide) kq (step2 kq v g b s) (get 0#32 8 (by decide) kq (step1 kq v g b s)
      (broadcast S8x128 (Scalar.ofBits .f32 0x00000000#32)))))

section
variable {kq : FVec Ideal S128x128 .f32} {v : FVec Ideal S8x128 .f32} {g b : FVec Ideal S8x1 .f32} {s : FVec Ideal S128x128 .f32}
  {K Q V : Nat → Fin 128 → EReal} {G B : Nat → EReal} {S : Fin 128 → Fin 128 → EReal}

/-- Entry by entry, one token's step. -/
theorem step_at (hk : ∀ (t : Fin 4) d, kq (ix2 d ⟨t.val, by omega⟩) = K t.val d) (hv : ∀ (t : Fin 4) e, v (ix2 ⟨t.val, by omega⟩ e) = V t.val e)
    (hg : ∀ t : Fin 4, g (ix2 ⟨t.val, by omega⟩ 0) = G t.val) (hb : ∀ t : Fin 4, b (ix2 ⟨t.val, by omega⟩ 0) = B t.val) (t : Fin 4)
    (h1 : S8x1.Slices ![t.val, 0] S1x1) (h2 : S128x128.Slices ![0, t.val] S128x1) (h3 : S8x128.Slices ![t.val, 0] S1x128)
    (s : FVec Ideal S128x128 .f32) (hs : ∀ d e, s (ix2 d e) = state K V G B S t.val d e) (d e : Fin 128) :
    step t.val h1 h2 h3 kq v g b s (ix2 d e) = state K V G B S (t.val + 1) d e := by
  unfold step
  rw [put_at]
  simp only [decay_at, hs, hk, hv, hg, hb]
  rfl

/-- Entry by entry, the four states. -/
theorem steps_at (hk : ∀ (t : Fin 4) d, kq (ix2 d ⟨t.val, by omega⟩) = K t.val d) (hv : ∀ (t : Fin 4) e, v (ix2 ⟨t.val, by omega⟩ e) = V t.val e)
    (hg : ∀ t : Fin 4, g (ix2 ⟨t.val, by omega⟩ 0) = G t.val) (hb : ∀ t : Fin 4, b (ix2 ⟨t.val, by omega⟩ 0) = B t.val)
    (hs : ∀ d e, s (ix2 d e) = S d e) :
    (∀ d e, step1 kq v g b s (ix2 d e) = state K V G B S 1 d e) ∧ (∀ d e, step2 kq v g b s (ix2 d e) = state K V G B S 2 d e)
      ∧ (∀ d e, step3 kq v g b s (ix2 d e) = state K V G B S 3 d e) ∧ (∀ d e, step4 kq v g b s (ix2 d e) = state K V G B S 4 d e) := by
  have e1 : ∀ d e, step1 kq v g b s (ix2 d e) = state K V G B S 1 d e := step_at hk hv hg hb 0 _ _ _ _ hs
  have e2 : ∀ d e, step2 kq v g b s (ix2 d e) = state K V G B S 2 d e := step_at hk hv hg hb 1 _ _ _ _ e1
  have e3 : ∀ d e, step3 kq v g b s (ix2 d e) = state K V G B S 3 d e := step_at hk hv hg hb 2 _ _ _ _ e2
  exact ⟨e1, e2, e3, step_at hk hv hg hb 3 _ _ _ _ e3⟩

/-- Entry by entry, what the queries read. -/
theorem gets_at (hk : ∀ (t : Fin 4) d, kq (ix2 d ⟨t.val, by omega⟩) = K t.val d) (hq : ∀ (t : Fin 4) d, kq (ix2 d ⟨8 + t.val, by omega⟩) = Q t.val d)
    (hv : ∀ (t : Fin 4) e, v (ix2 ⟨t.val, by omega⟩ e) = V t.val e)
    (hg : ∀ t : Fin 4, g (ix2 ⟨t.val, by omega⟩ 0) = G t.val) (hb : ∀ t : Fin 4, b (ix2 ⟨t.val, by omega⟩ 0) = B t.val)
    (hs : ∀ d e, s (ix2 d e) = S d e) (r : Fin 8) (e : Fin 128) :
    gets kq v g b s (ix2 r e) = if r.val < 4 then ∑ d, state K V G B S (r.val + 1) d e * Q r.val d else 0 := by
  obtain ⟨e1, e2, e3, e4⟩ := steps_at hk hv hg hb hs
  have p4 := get_at 3 (by decide) kq (step4 kq v g b s)
  have p3 := get_at 2 (by decide) kq (step3 kq v g b s)
  have p2 := get_at 1 (by decide) kq (step2 kq v g b s)
  have p1 := get_at 0 (by decide) kq (step1 kq v g b s)
  simp only [e4, hq] at p4
  simp only [e3, hq] at p3
  simp only [e2, hq] at p2
  simp only [e1, hq] at p1
  unfold gets
  refine (p4 _ r e).trans ?_
  by_cases h3 : r.val = 3
  · refine (if_pos h3).trans ?_
    rw [if_pos (by omega), h3]
    rfl
  refine (if_neg h3).trans ?_
  refine (p3 _ r e).trans ?_
  by_cases h2 : r.val = 2
  · refine (if_pos h2).trans ?_
    rw [if_pos (by omega), h2]
    rfl
  refine (if_neg h2).trans ?_
  refine (p2 _ r e).trans ?_
  by_cases h1 : r.val = 1
  · refine (if_pos h1).trans ?_
    rw [if_pos (by omega), h1]
    rfl
  refine (if_neg h1).trans ?_
  refine (p1 _ r e).trans ?_
  by_cases h0 : r.val = 0
  · refine (if_pos h0).trans ?_
    rw [if_pos (by omega), h0]
    rfl
  refine (if_neg h0).trans ?_
  rw [if_neg (by omega)]
  pointwise
end

/-- The lane of the gates' rows a head reads, the others masked out of a sum. -/
def lane (n : BitVec 32) (x : FVec Ideal S8x128 .f32) : FVec Ideal S8x1 .f32 :=
  shapeCast S8x1 (multiReduction .add [1] S8 (select (broadcastTo S8x128 (shapeCast S1x128
      (cmpi .eq (iota .tc S1x128 32 [1] iota_S1x128_d1_w32) (broadcast S1x128 n)) shapeCasts_S1x128_S1x128) broadcasts_S1x128_S8x128)
    (k0_pay5 x) (broadcast S8x128 (Scalar.ofBits .f32 0x00000000#32))) 0x00000000#32 reduces_S8x128_S8 (.inl rfl) rfl) shapeCasts_S8_S8x1

/-- The masked sum is the lane's entry. -/
theorem lane_at (n : BitVec 32) (c : Fin 128) (h : ∀ a : Fin 128, IntOp.cmpi CmpIPredicate.eq (BitVec.ofNat 32 a.val) n = BitVec.ofBool (decide (a = c)))
    (x : FVec Ideal S8x128 .f32) (r : Fin 8) : lane n x (ix2 r 0) = x (ix2 r c) := by
  pointwise [lane, k0_pay5]
  rw [Finset.sum_eq_single c]
  · rw [h c]
    simp [Scalar.select]
  · intro a _ ha
    rw [h a, decide_eq_false ha]
    simp [Scalar.select]
  · simp

/-- The lanes a query head's two value heads read: the log decays from lane 32 on, the write gates from lane 16 on. -/
theorem lane_eq : ∀ (h : Fin 8) (j : Fin 2) (a : Fin 128),
    IntOp.cmpi CmpIPredicate.eq (BitVec.ofNat 32 a.val)
        (Scalar.addi 32#32 (Scalar.addi (Scalar.muli 2#32 (BitVec.ofNat 32 h.val)) (BitVec.ofNat 32 j.val)))
      = BitVec.ofBool (decide (a = ⟨32 + 2 * h.val + j.val, by omega⟩))
    ∧ IntOp.cmpi CmpIPredicate.eq (BitVec.ofNat 32 a.val)
        (Scalar.addi 16#32 (Scalar.addi (Scalar.muli 2#32 (BitVec.ofNat 32 h.val)) (BitVec.ofNat 32 j.val)))
      = BitVec.ofBool (decide (a = ⟨16 + 2 * h.val + j.val, by omega⟩)) := by
  decide +kernel

/-- Eight rows of one head, normed and gated. -/
def norm8 (nw : FVec Ideal S1x128 .f32) (z o : FVec Ideal S8x128 .f32) : FVec Ideal S8x128 .f32 :=
  mulf (mulf (mulf o (broadcastTo S8x128 (rsqrt (addf (divf (shapeCast S8x1 (multiReduction .add [1] S8 (mulf o o) 0x00000000#32
      reduces_S8x128_S8 (.inl rfl) rfl) shapeCasts_S8_S8x1) (broadcast S8x1 (Scalar.ofBits .f32 0x43000000#32)))
      (broadcast S8x1 (Scalar.ofBits .f32 0x358637BD#32)))) broadcasts_S8x1_S8x128)) (broadcastTo S8x128 nw broadcasts_S1x128_S8x128))
    (mulf z (divf (broadcast S8x128 (Scalar.ofBits .f32 0x3F800000#32)) (addf (broadcast S8x128 (Scalar.ofBits .f32 0x3F800000#32))
      (exp (subf (broadcast S8x128 (Scalar.ofBits .f32 0x00000000#32)) z)))))

/-- Entry by entry, the gated norm. -/
theorem norm8_at (nw : FVec Ideal S1x128 .f32) (z o : FVec Ideal S8x128 .f32) (r : Fin 8) (e : Fin 128) :
    norm8 nw z o (ix2 r e) = gated (fun d => o (ix2 r d)) (fun d => z (ix2 r d)) (fun d => nw (ix2 0 d)) e := by
  pointwise [norm8]
  rw [zero_sub]
  rfl

/-- The keys' and queries' columns. -/
theorem kq_at (K Q : Vec Ideal S8x128 .f32) (t : Fin 8) (d : Fin 128) :
    k0_pay6 (F := Ideal) k0_pay2 K Q (ix2 d ⟨t.val, by omega⟩) = K (ix2 t d)
      ∧ k0_pay6 (F := Ideal) k0_pay2 K Q (ix2 d ⟨8 + t.val, by omega⟩) = Q (ix2 t d) := by
  constructor <;> fin_cases t <;> pointwise [k0_pay6, k0_pay2] <;> rfl

end Cert.Proof.Gdn

end
-- ==== Proof.GdnTrip.lean ====
/-
  One trip of the DeltaNet kernel's loop: four requests, two value heads each. What it stores of the states and of the outputs is,
  entry by entry, the recurrence over the request's four tokens and its gated norm.
-/
module

public import proofs.«01_k».proof.Proof.GdnStep

@[expose] public section

set_option maxRecDepth 16384

noncomputable section

namespace Cert.Proof.Gdn

open Idealize.ShloMosaic Idealize.ShloMosaic.TcCoe Idealize.ShloMosaic.Tactic Idealize.SL.Sem
open Cert.GdnIdeal Cert.GdnIdeal.Gen

/-- The log decays of a query head's value head `j`. -/
def decays (h : Fin 8) (j : BitVec 32) (G : FVec Ideal S8x128 .f32) : FVec Ideal S8x1 .f32 :=
  lane (Scalar.addi 32#32 (Scalar.addi (Scalar.muli 2#32 (BitVec.ofNat 32 h.val)) j)) G

/-- The write gates of a query head's value head `j`. -/
def writes (h : Fin 8) (j : BitVec 32) (G : FVec Ideal S8x128 .f32) : FVec Ideal S8x1 .f32 :=
  lane (Scalar.addi 16#32 (Scalar.addi (Scalar.muli 2#32 (BitVec.ofNat 32 h.val)) j)) G

/-- The state stored for value head `j` of a request whose rows are `K`, `Q`, `W`, `G`. -/
def statePay (h : Fin 8) (j : BitVec 32) (o : Nat) (ho : S8x256.Slices ![0, o] S8x128) (K Q : FVec Ideal S8x128 .f32) (W : FVec Ideal S8x256 .f32)
    (G : FVec Ideal S8x128 .f32) (S : FVec Ideal S1x1x1x128x128 .f32) : FVec Ideal S1x1x1x128x128 .f32 :=
  shapeCast S1x1x1x128x128 (step4 (k0_pay6 k0_pay2 K Q) (extractStridedSlice S8x128 ![0, o] W ho) (decays h j G) (writes h j G)
    (shapeCast S128x128 S shapeCasts_S1x1x1x128x128_S128x128)) shapeCasts_S128x128_S1x1x1x128x128

/-- The rows value head `j` gives, normed and gated. -/
def headPay (h : Fin 8) (j : BitVec 32) (o : Nat) (ho : S8x256.Slices ![0, o] S8x128) (K Q : FVec Ideal S8x128 .f32) (W : FVec Ideal S8x256 .f32)
    (G : FVec Ideal S8x128 .f32) (S : FVec Ideal S1x1x1x128x128 .f32) (Z : FVec Ideal S8x256 .f32) (nw : FVec Ideal S1x128 .f32) :
    FVec Ideal S8x128 .f32 :=
  norm8 nw (extractStridedSlice S8x128 ![0, o] (shapeCast S8x256 Z shapeCasts_S8x256_S8x256) ho)
    (gets (k0_pay6 k0_pay2 K Q) (extractStridedSlice S8x128 ![0, o] W ho) (decays h j G) (writes h j G)
      (shapeCast S128x128 S shapeCasts_S1x1x1x128x128_S128x128))

/-- The rows stored for a request: its two value heads side by side. -/
def outPay (h : Fin 8) (K Q : FVec Ideal S8x128 .f32) (W : FVec Ideal S8x256 .f32) (G : FVec Ideal S8x128 .f32)
    (S S' : FVec Ideal S1x1x1x128x128 .f32) (Z : FVec Ideal S8x256 .f32) (nw : FVec Ideal S1x128 .f32) : FVec Ideal S8x256 .f32 :=
  shapeCast S8x256 (concatenate S8x256 1 [⟨S8x128, headPay h 0#32 0 (by decide) K Q W G S Z nw⟩,
    ⟨S8x128, headPay h 1#32 128 (by decide) K Q W G S' Z nw⟩] concatenates_S8x128_S8x128_S8x256_d1) shapeCasts_S8x256_S8x256

section
variable (h : Fin 8) (K Q : Vec Ideal S64x128 .f32) (W : Vec Ideal S64x256 .f32) (Z : Vec Ideal S64x256 .f32) (G : Vec Ideal S64x128 .f32)
  (S : Vec Ideal S1x8x2x128x128 .f32) (nw : Vec Ideal S1x128 .f32)

/-- Request `b`'s state of value head `j` before token `n`, from the block's rows. -/
def bstate (b : Fin 8) (j : Fin 2) : Nat → Fin 128 → Fin 128 → EReal :=
  state (fun t d => K (ix2 ⟨8 * b.val + t % 8, by omega⟩ d)) (fun t e => W (ix2 ⟨8 * b.val + t % 8, by omega⟩ ⟨128 * j.val + e.val, by omega⟩))
    (fun t => G (ix2 ⟨8 * b.val + t % 8, by omega⟩ ⟨32 + 2 * h.val + j.val, by omega⟩))
    (fun t => G (ix2 ⟨8 * b.val + t % 8, by omega⟩ ⟨16 + 2 * h.val + j.val, by omega⟩)) (fun d e => S (ix5 0 b j d e))

/-- Request `b`'s row `t` of value head `j`, from the block's rows. -/
def bout (b t : Fin 8) (j : Fin 2) (e : Fin 128) : EReal :=
  gated (fun e => if t.val < 4 then ∑ d, bstate h K W G S b j (t.val + 1) d e * Q (ix2 ⟨8 * b.val + t.val, by omega⟩ d) else 0)
    (fun e => Z (ix2 ⟨8 * b.val + t.val, by omega⟩ ⟨128 * j.val + e.val, by omega⟩)) (fun e => nw (ix2 0 e)) e

/-- The states a point leaves. -/
def blockState (y : S1x8x2x128x128.Idx) : EReal := bstate h K W G S (y 1) (y 2) 4 (y 3) (y 4)

/-- The outputs a point leaves. -/
def blockOut (y : S64x256.Idx) : EReal :=
  bout h K Q W Z G S nw ⟨(y 0).val / 8, by have h : (y 0).val < 64 := (y 0).isLt; omega⟩ ⟨(y 0).val % 8, by omega⟩
    ⟨(y 1).val / 128, by have h : (y 1).val < 256 := (y 1).isLt; omega⟩ ⟨(y 1).val % 128, by omega⟩

variable {h K Q W Z G S nw} {K' Q' : FVec Ideal S8x128 .f32} {W' : FVec Ideal S8x256 .f32} {Z' : FVec Ideal S8x256 .f32}
  {G' : FVec Ideal S8x128 .f32} {S' : FVec Ideal S1x1x1x128x128 .f32} {b : Fin 8}

/-- A value head's columns of a block of rows. -/
theorem cols_at (x : FVec Ideal S8x256 .f32) (j : Fin 2) (ho : S8x256.Slices ![0, 128 * j.val] S8x128) (t : Fin 8) (e : Fin 128) :
    extractStridedSlice S8x128 ![0, 128 * j.val] x ho (ix2 t e) = x (ix2 t ⟨128 * j.val + e.val, by omega⟩) := by
  fin_cases j <;> pointwise <;> rfl

/-- A loaded state as a matrix. -/
theorem mat_at (x : FVec Ideal S1x1x1x128x128 .f32) (d e : Fin 128) :
    shapeCast S128x128 x shapeCasts_S1x1x1x128x128_S128x128 (ix2 d e) = x (ix5 0 0 0 d e) := by
  pointwise

variable (hK : ∀ (t : Fin 8) d, K' (ix2 t d) = K (ix2 ⟨8 * b.val + t.val, by omega⟩ d))
  (hQ : ∀ (t : Fin 8) d, Q' (ix2 t d) = Q (ix2 ⟨8 * b.val + t.val, by omega⟩ d))
  (hW : ∀ (t : Fin 8) e, W' (ix2 t e) = W (ix2 ⟨8 * b.val + t.val, by omega⟩ e))
  (hZ : ∀ (t : Fin 8) e, Z' (ix2 t e) = Z (ix2 ⟨8 * b.val + t.val, by omega⟩ e))
  (hG : ∀ (t : Fin 8) e, G' (ix2 t e) = G (ix2 ⟨8 * b.val + t.val, by omega⟩ e))
  (j : Fin 2) (ho : S8x256.Slices ![0, 128 * j.val] S8x128) (hS : ∀ d e, S' (ix5 0 0 0 d e) = S (ix5 0 b j d e))

include hG in
/-- The log decays, row by row. -/
theorem decays_at (t : Fin 8) : decays h (BitVec.ofNat 32 j.val) G' (ix2 t 0)
    = G (ix2 ⟨8 * b.val + t.val, by omega⟩ ⟨32 + 2 * h.val + j.val, by omega⟩) :=
  (lane_at _ _ (fun a => (lane_eq h j a).1) G' t).trans (hG t _)

include hG in
/-- The write gates, row by row. -/
theorem writes_at (t : Fin 8) : writes h (BitVec.ofNat 32 j.val) G' (ix2 t 0)
    = G (ix2 ⟨8 * b.val + t.val, by omega⟩ ⟨16 + 2 * h.val + j.val, by omega⟩) :=
  (lane_at _ _ (fun a => (lane_eq h j a).2) G' t).trans (hG t _)

/-- Below eight, a token's row is its own. -/
theorem row_mod {n : Nat} (hn : n < 8) (b : Fin 8) : (⟨8 * b.val + n, by omega⟩ : Fin 64) = ⟨8 * b.val + n % 8, by omega⟩ :=
  Fin.ext (by simp [Nat.mod_eq_of_lt hn])

include hK hW hG hS in
/-- The stored state from a request's loaded rows. -/
theorem statePay_at (d e : Fin 128) :
    statePay h (BitVec.ofNat 32 j.val) (128 * j.val) ho K' Q' W' G' S' (ix5 0 0 0 d e) = bstate h K W G S b j 4 d e := by
  refine Eq.trans ?_ ((steps_at (K := fun t d => K (ix2 ⟨8 * b.val + t % 8, by omega⟩ d))
    (V := fun t e => W (ix2 ⟨8 * b.val + t % 8, by omega⟩ ⟨128 * j.val + e.val, by omega⟩))
    (G := fun t => G (ix2 ⟨8 * b.val + t % 8, by omega⟩ ⟨32 + 2 * h.val + j.val, by omega⟩))
    (B := fun t => G (ix2 ⟨8 * b.val + t % 8, by omega⟩ ⟨16 + 2 * h.val + j.val, by omega⟩)) (S := fun d e => S (ix5 0 b j d e))
    (kq := k0_pay6 k0_pay2 K' Q') (v := extractStridedSlice S8x128 ![0, 128 * j.val] W' ho) (g := decays h (BitVec.ofNat 32 j.val) G')
    (b := writes h (BitVec.ofNat 32 j.val) G') (s := shapeCast S128x128 S' shapeCasts_S1x1x1x128x128_S128x128) ?_ ?_ ?_ ?_ ?_).2.2.2 d e)
  · unfold statePay
    pointwise
  · intro t d
    rw [← row_mod (by omega)]
    exact ((kq_at K' Q' ⟨t.val, by omega⟩ d).1).trans (hK _ _)
  · intro t e
    rw [← row_mod (by omega)]
    exact (cols_at W' j ho _ e).trans (hW _ _)
  · intro t
    rw [← row_mod (by omega)]
    exact decays_at hG j _
  · intro t
    rw [← row_mod (by omega)]
    exact writes_at hG j _
  · exact fun d e => (mat_at S' d e).trans (hS d e)

include hK hQ hW hZ hG hS in
/-- A value head's stored rows from a request's loaded rows. -/
theorem headPay_at (t : Fin 8) (e : Fin 128) :
    headPay h (BitVec.ofNat 32 j.val) (128 * j.val) ho K' Q' W' G' S' Z' nw (ix2 t e) = bout h K Q W Z G S nw b t j e := by
  unfold headPay bout
  rw [norm8_at]
  have hz : ∀ e, extractStridedSlice S8x128 ![0, 128 * j.val] (shapeCast S8x256 Z' shapeCasts_S8x256_S8x256) ho (ix2 t e)
      = Z (ix2 ⟨8 * b.val + t.val, by omega⟩ ⟨128 * j.val + e.val, by omega⟩) := fun e => by
    rw [cols_at]
    refine Eq.trans ?_ (hZ t _)
    pointwise
  have hq := fun e => gets_at (K := fun t d => K (ix2 ⟨8 * b.val + t % 8, by omega⟩ d))
    (Q := fun t d => Q (ix2 ⟨8 * b.val + t % 8, by omega⟩ d))
    (V := fun t e => W (ix2 ⟨8 * b.val + t % 8, by omega⟩ ⟨128 * j.val + e.val, by omega⟩))
    (G := fun t => G (ix2 ⟨8 * b.val + t % 8, by omega⟩ ⟨32 + 2 * h.val + j.val, by omega⟩))
    (B := fun t => G (ix2 ⟨8 * b.val + t % 8, by omega⟩ ⟨16 + 2 * h.val + j.val, by omega⟩)) (S := fun d e => S (ix5 0 b j d e))
    (kq := k0_pay6 k0_pay2 K' Q') (v := extractStridedSlice S8x128 ![0, 128 * j.val] W' ho) (g := decays h (BitVec.ofNat 32 j.val) G')
    (b := writes h (BitVec.ofNat 32 j.val) G') (s := shapeCast S128x128 S' shapeCasts_S1x1x1x128x128_S128x128)
    (fun t d => by rw [← row_mod (by omega)]; exact ((kq_at K' Q' ⟨t.val, by omega⟩ d).1).trans (hK _ _))
    (fun t d => by rw [← row_mod (by omega)]; exact ((kq_at K' Q' ⟨t.val, by omega⟩ d).2).trans (hQ _ _))
    (fun t e => by rw [← row_mod (by omega)]; exact (cols_at W' j ho _ e).trans (hW _ _))
    (fun t => by rw [← row_mod (by omega)]; exact decays_at hG j _)
    (fun t => by rw [← row_mod (by omega)]; exact writes_at hG j _)
    (fun d e => (mat_at S' d e).trans (hS d e)) t e
  refine congrFun (congrArg₂ (fun o z => gated o z _) (funext fun e => (hq e).trans ?_) (funext hz)) e
  rw [← row_mod t.isLt]
  rfl
end

/-- Request `4 k + r` of the block. -/
def req (k : Fin k0_t1_loop.trips) (r : Fin 4) : Fin 8 := ⟨4 * k.val + r.val, by have h : k.val < 2 := k.isLt; omega⟩

/-- The rows of trip `k`'s request `r`, 128 columns wide. -/
abbrev rows1 (k : Fin k0_t1_loop.trips) (r : Fin 4) :=
  Rect.unit (s := S64x128) (k0_off1 k (BitVec.ofNat 32 r.val)) S8x128.size (k0_off1_inb k r)

/-- The rows of trip `k`'s request `r`, 256 columns wide. -/
abbrev rows2 (k : Fin k0_t1_loop.trips) (r : Fin 4) :=
  Rect.unit (s := S64x256) (k0_off2 k (BitVec.ofNat 32 r.val)) S8x256.size (k0_off2_inb k r)

/-- The first value head's state of trip `k`'s request `r`. -/
abbrev mat0 (k : Fin k0_t1_loop.trips) (r : Fin 4) :=
  Rect.unit (s := S1x8x2x128x128) (k0_off3 k (BitVec.ofNat 32 r.val)) S1x1x1x128x128.size (k0_off3_inb k r)

/-- The second value head's state of trip `k`'s request `r`. -/
abbrev mat1 (k : Fin k0_t1_loop.trips) (r : Fin 4) :=
  Rect.unit (s := S1x8x2x128x128) (k0_off4 k (BitVec.ofNat 32 r.val)) S1x1x1x128x128.size (k0_off4_inb k r)

/-- What such rows hold. -/
theorem rows1_at (X : Vec Ideal S64x128 .f32) (k : Fin k0_t1_loop.trips) (r : Fin 4) (t : Fin 8) (d : Fin 128) :
    (View.ld X (rows1 k r) : FVec Ideal S8x128 .f32) (ix2 t d) = X (ix2 ⟨8 * (req k r).val + t.val, by omega⟩ d) := by
  refine View.ld_unit_apply_of _ _ _ _ _ _ fun a => Eq.trans ?_ (congrArg (· + _) (congrFun (k0_off1_eq k r) a).symm)
  fin_cases a
  · simp [req]; omega
  · simp

/-- What such rows hold. -/
theorem rows2_at (X : Vec Ideal S64x256 .f32) (k : Fin k0_t1_loop.trips) (r : Fin 4) (t : Fin 8) (d : Fin 256) :
    (View.ld X (rows2 k r) : FVec Ideal S8x256 .f32) (ix2 t d) = X (ix2 ⟨8 * (req k r).val + t.val, by omega⟩ d) := by
  refine View.ld_unit_apply_of _ _ _ _ _ _ fun a => Eq.trans ?_ (congrArg (· + _) (congrFun (k0_off2_eq k r) a).symm)
  fin_cases a
  · simp [req]; omega
  · simp

/-- What such a state holds. -/
theorem mat0_at (X : Vec Ideal S1x8x2x128x128 .f32) (k : Fin k0_t1_loop.trips) (r : Fin 4) (d e : Fin 128) :
    (View.ld X (mat0 k r) : FVec Ideal S1x1x1x128x128 .f32) (ix5 0 0 0 d e) = X (ix5 0 (req k r) 0 d e) := by
  refine View.ld_unit_apply_of _ _ _ _ _ _ fun a => Eq.trans ?_ (congrArg (· + _) (congrFun (k0_off3_eq k r) a).symm)
  fin_cases a <;> simp [req]

/-- What such a state holds. -/
theorem mat1_at (X : Vec Ideal S1x8x2x128x128 .f32) (k : Fin k0_t1_loop.trips) (r : Fin 4) (d e : Fin 128) :
    (View.ld X (mat1 k r) : FVec Ideal S1x1x1x128x128 .f32) (ix5 0 0 0 d e) = X (ix5 0 (req k r) 1 d e) := by
  refine View.ld_unit_apply_of _ _ _ _ _ _ fun a => Eq.trans ?_ (congrArg (· + _) (congrFun (k0_off4_eq k r) a).symm)
  fin_cases a <;> simp [req]

section
variable (h : Fin 8) (K Q : Vec Ideal S64x128 .f32) (W : Vec Ideal S64x256 .f32) (Z : Vec Ideal S64x256 .f32) (G : Vec Ideal S64x128 .f32)
  (S : Vec Ideal S1x8x2x128x128 .f32) (nw : Vec Ideal S1x128 .f32) (k : Fin k0_t1_loop.trips) (r : Fin 4)

/-- The first value head's stored state is the block's. -/
theorem state_block0 (x : S1x1x1x128x128.Idx) :
    statePay h 0#32 0 (by decide) (View.ld K (rows1 k r)) (View.ld Q (rows1 k r)) (View.ld W (rows2 k r)) (View.ld G (rows1 k r))
      (View.ld S (mat0 k r)) x = blockState h K W G S ((mat0 k r).emb x) := by
  have hx : x = ix5 0 0 0 (x 3) (x 4) := by
    funext a
    fin_cases a
    · exact Subsingleton.elim (α := Fin 1) _ _
    · exact Subsingleton.elim (α := Fin 1) _ _
    · exact Subsingleton.elim (α := Fin 1) _ _
    · rfl
    · rfl
  have key := statePay_at (h := h) (Q' := View.ld Q (rows1 k r)) (rows1_at K k r) (rows2_at W k r) (rows1_at G k r) 0 (by decide)
    (mat0_at S k r) (x 3) (x 4)
  have e1 : (mat0 k r).emb x 1 = req k r := Fin.ext (by
    simp [k0_off3_eq, req])
  have e2 : (mat0 k r).emb x 2 = (0 : Fin 2) := Fin.ext (by simp [k0_off3_eq])
  have e3 : (mat0 k r).emb x 3 = x 3 := Fin.ext (by simp [k0_off3_eq])
  have e4 : (mat0 k r).emb x 4 = x 4 := Fin.ext (by simp [k0_off3_eq])
  show _ = bstate h K W G S ((mat0 k r).emb x 1) ((mat0 k r).emb x 2) 4 ((mat0 k r).emb x 3) ((mat0 k r).emb x 4)
  rw [e1, e2, e3, e4]
  refine Eq.trans ?_ key
  exact congrArg _ hx

/-- The second value head's stored state is the block's. -/
theorem state_block1 (x : S1x1x1x128x128.Idx) :
    statePay h 1#32 128 (by decide) (View.ld K (rows1 k r)) (View.ld Q (rows1 k r)) (View.ld W (rows2 k r)) (View.ld G (rows1 k r))
      (View.ld S (mat1 k r)) x = blockState h K W G S ((mat1 k r).emb x) := by
  have hx : x = ix5 0 0 0 (x 3) (x 4) := by
    funext a
    fin_cases a
    · exact Subsingleton.elim (α := Fin 1) _ _
    · exact Subsingleton.elim (α := Fin 1) _ _
    · exact Subsingleton.elim (α := Fin 1) _ _
    · rfl
    · rfl
  have key := statePay_at (h := h) (Q' := View.ld Q (rows1 k r)) (rows1_at K k r) (rows2_at W k r) (rows1_at G k r) 1 (by decide)
    (mat1_at S k r) (x 3) (x 4)
  have e1 : (mat1 k r).emb x 1 = req k r := Fin.ext (by
    simp [k0_off4_eq, req])
  have e2 : (mat1 k r).emb x 2 = (1 : Fin 2) := Fin.ext (by simp [k0_off4_eq])
  have e3 : (mat1 k r).emb x 3 = x 3 := Fin.ext (by simp [k0_off4_eq])
  have e4 : (mat1 k r).emb x 4 = x 4 := Fin.ext (by simp [k0_off4_eq])
  show _ = bstate h K W G S ((mat1 k r).emb x 1) ((mat1 k r).emb x 2) 4 ((mat1 k r).emb x 3) ((mat1 k r).emb x 4)
  rw [e1, e2, e3, e4]
  refine Eq.trans ?_ key
  exact congrArg _ hx

/-- An entry of the block's outputs by its request, token, head and column. -/
theorem blockOut_at (y : S64x256.Idx) (b t : Fin 8) (j : Fin 2) (e : Fin 128) (h0 : (y 0).val = 8 * b.val + t.val)
    (h1 : (y 1).val = 128 * j.val + e.val) : blockOut h K Q W Z G S nw y = bout h K Q W Z G S nw b t j e := by
  unfold blockOut
  congr 1
  · exact Fin.ext (show (y 0).val / 8 = b.val by omega)
  · exact Fin.ext (show (y 0).val % 8 = t.val by omega)
  · exact Fin.ext (show (y 1).val / 128 = j.val by omega)
  · exact Fin.ext (show (y 1).val % 128 = e.val by omega)

/-- Two heads' rows side by side. -/
theorem cat_at (A B : FVec Ideal S8x128 .f32) (t : Fin 8) (e : Fin 128) :
    shapeCast S8x256 (concatenate S8x256 1 [⟨S8x128, A⟩, ⟨S8x128, B⟩] concatenates_S8x128_S8x128_S8x256_d1) shapeCasts_S8x256_S8x256
        (ix2 t ⟨e.val, by omega⟩) = A (ix2 t e)
      ∧ shapeCast S8x256 (concatenate S8x256 1 [⟨S8x128, A⟩, ⟨S8x128, B⟩] concatenates_S8x128_S8x128_S8x256_d1) shapeCasts_S8x256_S8x256
        (ix2 t ⟨128 + e.val, by omega⟩) = B (ix2 t e) := by
  constructor
  · pointwise
  · pointwise

/-- The stored rows are the block's. -/
theorem out_block (x : S8x256.Idx) :
    outPay h (View.ld K (rows1 k r)) (View.ld Q (rows1 k r)) (View.ld W (rows2 k r)) (View.ld G (rows1 k r))
      (View.ld S (mat0 k r)) (View.ld S (mat1 k r)) (View.ld Z (rows2 k r)) nw x = blockOut h K Q W Z G S nw ((rows2 k r).emb x) := by
  have k0 := fun e => headPay_at (h := h) (nw := nw) (rows1_at K k r) (rows1_at Q k r) (rows2_at W k r) (rows2_at Z k r) (rows1_at G k r) 0
    (by decide) (mat0_at S k r) (x 0) e
  have k1 := fun e => headPay_at (h := h) (nw := nw) (rows1_at K k r) (rows1_at Q k r) (rows2_at W k r) (rows2_at Z k r) (rows1_at G k r) 1
    (by decide) (mat1_at S k r) (x 0) e
  have h0 : (x 0).val < 8 := (x 0).isLt
  have h1 : (x 1).val < 256 := (x 1).isLt
  have e0 : ((rows2 k r).emb x 0).val = 8 * (req k r).val + (x 0).val := by
    simp [k0_off2_eq, req]
    omega
  have e1 : ((rows2 k r).emb x 1).val = (x 1).val := by simp [k0_off2_eq]
  by_cases hc : (x 1).val < 128
  · have hx : x = ix2 (n0 := 8) (n1 := 256) (x 0) ⟨(⟨(x 1).val, hc⟩ : Fin 128).val, by omega⟩ := by
      funext a
      fin_cases a <;> rfl
    refine Eq.trans ?_ ((k0 ⟨(x 1).val, hc⟩).trans (blockOut_at h K Q W Z G S nw _ _ _ _ _ e0 (e1.trans (by simp))).symm)
    refine (congrArg _ hx).trans ?_
    exact (cat_at _ _ _ _).1
  · have hx : x = ix2 (n0 := 8) (n1 := 256) (x 0) ⟨128 + (⟨(x 1).val - 128, by omega⟩ : Fin 128).val, by show 128 + ((x 1).val - 128) < 256; omega⟩ := by
      funext a
      fin_cases a
      · rfl
      · exact Fin.ext (show (x 1).val = 128 + ((x 1).val - 128) by omega)
    refine Eq.trans ?_ ((k1 ⟨(x 1).val - 128, by omega⟩).trans (blockOut_at h K Q W Z G S nw _ _ _ _ _ e0 (e1.trans (by simp; omega))).symm)
    refine (congrArg _ hx).trans ?_
    exact (cat_at _ _ _ _).2
end

end Cert.Proof.Gdn

end
-- ==== Proof.GdnLoop.lean ====
/-
  The DeltaNet kernel's loop: what its trips store is the block's.
-/
module

public import proofs.«01_k».proof.Proof.GdnTrip

@[expose] public section

set_option maxRecDepth 16384

noncomputable section

namespace Cert.Proof.Gdn

open Idealize.ShloMosaic Idealize.ShloMosaic.TcCoe Idealize.ShloMosaic.Tactic Idealize.SL.Sem
open Cert.GdnIdeal Cert.GdnIdeal.Gen

section
variable (c : Dev nD) (i : grid0.Coords)
  (arg2 : Memref sig .tc .vmem S64x128 .f32) (harg2 : arg2.IsWhole) (arg3 : Memref sig .tc .vmem S64x128 .f32)
  (harg3 : arg3.IsWhole) (arg4 : Memref sig .tc .vmem S64x256 .f32) (harg4 : arg4.IsWhole)
  (arg5 : Memref sig .tc .vmem S64x256 .f32) (harg5 : arg5.IsWhole) (arg6 : Memref sig .tc .vmem S64x128 .f32)
  (harg6 : arg6.IsWhole) (arg7 : Memref sig .tc .vmem S64x128 .f32) (harg7 : arg7.IsWhole)
  (arg8 : Memref sig .tc .vmem S64x256 .f32) (harg8 : arg8.IsWhole) (arg9 : Memref sig .tc .vmem S64x128 .f32)
  (harg9 : arg9.IsWhole) (arg10 : Memref sig .tc .vmem S4x128 .f32) (harg10 : arg10.IsWhole)
  (arg11 : Memref sig .tc .vmem S4x128 .f32) (harg11 : arg11.IsWhole) (arg12 : Memref sig .tc .vmem S4x256 .f32)
  (harg12 : arg12.IsWhole) (arg13 : Memref sig .tc .vmem S1x128 .f32) (harg13 : arg13.IsWhole)
  (arg14 : Memref sig .tc .vmem S1x8x2x128x128 .f32) (harg14 : arg14.IsWhole) (arg15 : Memref sig .tc .hbm S2x128x16x128x128 .f32)
  (harg15 : arg15.IsWhole) (arg16 : Memref sig .tc .vmem S64x256 .bf16) (harg16 : arg16.IsWhole)
  (arg17 : Memref sig .tc .vmem S1x8x2x128x128 .f32) (harg17 : arg17.IsWhole) (arg18 : Memref sig .tc .vmem S64x128 .f32)
  (harg18 : arg18.IsWhole) (arg19 : Memref sig .tc .vmem S64x128 .f32) (harg19 : arg19.IsWhole)
  (arg20 : Memref sig .tc .vmem S64x256 .f32) (harg20 : arg20.IsWhole) (arg21 : Memref sig .tc .vmem S64x256 .f32)
  (harg21 : arg21.IsWhole)
  (h : Fin 8) (X5 : BufTy.Contents (Elt Ideal) arg5.view.ty) (X9 : BufTy.Contents (Elt Ideal) arg9.view.ty)
  (X14 : BufTy.Contents (Elt Ideal) arg14.view.ty) (X18 : BufTy.Contents (Elt Ideal) arg18.view.ty)
  (X19 : BufTy.Contents (Elt Ideal) arg19.view.ty) (X20 : BufTy.Contents (Elt Ideal) arg20.view.ty)
  (K Q : Vec Ideal S64x128 .f32) (W : Vec Ideal S64x256 .f32) (Z : Vec Ideal S64x256 .f32) (G : Vec Ideal S64x128 .f32)
  (S : Vec Ideal S1x8x2x128x128 .f32) (nw : Vec Ideal S1x128 .f32)
  (hZ : arg5.view.read (Elt Ideal) X5 = Z) (hG : arg9.view.read (Elt Ideal) X9 = G) (hS : arg14.view.read (Elt Ideal) X14 = S)
  (hQ : arg18.view.read (Elt Ideal) X18 = Q) (hK : arg19.view.read (Elt Ideal) X19 = K) (hW : arg20.view.read (Elt Ideal) X20 = W)

include hZ hG hS hQ hK hW

set_option maxHeartbeats 4000000 in
/-- What one trip stores of the states is the block's. -/
theorem trip_state (k : Fin k0_t1_loop.trips) :
    ∀ p ∈ (trip_k0_t1 (F := Ideal) Variants.none c none i arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 (BitVec.ofNat 32 h.val)
      (iota .tc S1x128 32 [1] iota_S1x128_d1_w32) (iota .tc S8x1 32 [0] iota_S8x1_d0_w32) nw X5 X9 X14 X18 X19 X20 k).1,
      ∀ x : p.1.shape.Idx, p.2 x = blockState h K W G S (p.1.emb x) := by
  unfold trip_k0_t1
  dsimp only
  sl_unfold_words
  simp only [View.readAt_eq_ld, hZ, hG, hS, hQ, hK, hW]
  refine List.forall_mem_cons.2 ⟨state_block1 h K Q W G S k 3, ?_⟩
  refine List.forall_mem_cons.2 ⟨state_block0 h K Q W G S k 3, ?_⟩
  refine List.forall_mem_cons.2 ⟨state_block1 h K Q W G S k 2, ?_⟩
  refine List.forall_mem_cons.2 ⟨state_block0 h K Q W G S k 2, ?_⟩
  refine List.forall_mem_cons.2 ⟨state_block1 h K Q W G S k 1, ?_⟩
  refine List.forall_mem_cons.2 ⟨state_block0 h K Q W G S k 1, ?_⟩
  refine List.forall_mem_cons.2 ⟨state_block1 h K Q W G S k 0, ?_⟩
  exact List.forall_mem_singleton.2 (state_block0 h K Q W G S k 0)

set_option maxHeartbeats 4000000 in
/-- What one trip stores of the outputs is the block's. -/
theorem trip_out (k : Fin k0_t1_loop.trips) :
    ∀ p ∈ (trip_k0_t1 (F := Ideal) Variants.none c none i arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 (BitVec.ofNat 32 h.val)
      (iota .tc S1x128 32 [1] iota_S1x128_d1_w32) (iota .tc S8x1 32 [0] iota_S8x1_d0_w32) nw X5 X9 X14 X18 X19 X20 k).2.1,
      ∀ x : p.1.shape.Idx, p.2 x = blockOut h K Q W Z G S nw (p.1.emb x) := by
  unfold trip_k0_t1
  dsimp only
  sl_unfold_words
  simp only [View.readAt_eq_ld, hZ, hG, hS, hQ, hK, hW]
  refine List.forall_mem_cons.2 ⟨out_block h K Q W Z G S nw k 3, ?_⟩
  refine List.forall_mem_cons.2 ⟨out_block h K Q W Z G S nw k 2, ?_⟩
  refine List.forall_mem_cons.2 ⟨out_block h K Q W Z G S nw k 1, ?_⟩
  exact List.forall_mem_singleton.2 (out_block h K Q W Z G S nw k 0)

/-- … and so is what all the trips before `k` store. -/
theorem trips_block : ∀ k : Nat, k ≤ k0_t1_loop.trips →
    (∀ p ∈ (pb_k0_t1 (F := Ideal) Variants.none c none i arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 (BitVec.ofNat 32 h.val)
      (iota .tc S1x128 32 [1] iota_S1x128_d1_w32) (iota .tc S8x1 32 [0] iota_S8x1_d0_w32) nw X5 X9 X14 X18 X19 X20 k).1,
      ∀ x : p.1.shape.Idx, p.2 x = blockState h K W G S (p.1.emb x))
    ∧ (∀ p ∈ (pb_k0_t1 (F := Ideal) Variants.none c none i arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 (BitVec.ofNat 32 h.val)
      (iota .tc S1x128 32 [1] iota_S1x128_d1_w32) (iota .tc S8x1 32 [0] iota_S8x1_d0_w32) nw X5 X9 X14 X18 X19 X20 k).2,
      ∀ x : p.1.shape.Idx, p.2 x = blockOut h K Q W Z G S nw (p.1.emb x))
  | 0, _ => ⟨fun p hp => absurd hp List.not_mem_nil, fun p hp => absurd hp List.not_mem_nil⟩
  | k + 1, hk => by
    rw [show k + 1 = (⟨k, hk⟩ : Fin k0_t1_loop.trips).val + 1 from rfl, pb_k0_t1_succ]
    dsimp only
    have ih := trips_block k (Nat.le_of_succ_le hk)
    refine ⟨fun p hp => ?_, fun p hp => ?_⟩
    · rcases List.mem_append.1 hp with hp | hp
      · exact trip_state c i arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 h X5 X9 X14 X18 X19 X20 K Q W Z G S nw hZ hG hS hQ hK hW ⟨k, hk⟩ p hp
      · exact ih.1 p hp
    · rcases List.mem_append.1 hp with hp | hp
      · exact trip_out c i arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 h X5 X9 X14 X18 X19 X20 K Q W Z G S nw hZ hG hS hQ hK hW ⟨k, hk⟩ p hp
      · exact ih.2 p hp
end

end Cert.Proof.Gdn

end
-- ==== Proof.GdnBody.lean ====
/-
  The block one point of the DeltaNet kernel leaves of either output.
-/
module

public import proofs.«01_k».proof.Proof.GdnConv
public import proofs.«01_k».proof.Proof.GdnLoop

@[expose] public section

set_option maxRecDepth 16384

noncomputable section

namespace Cert.Proof.Gdn

open Idealize.ShloMosaic Idealize.ShloMosaic.TcCoe Idealize.ShloMosaic.Tactic Idealize.SL.Sem
open Cert.GdnIdeal Cert.GdnIdeal.Gen

/-- One store through a whole buffer, read back. -/
theorem read_one {κ : Kind} {sp : Space} {s : Shape} (v : View sig κ sp s .f32) {off : Fin s.rank → Nat} (h : off = fun _ => 0)
    (inb : ∀ a, off a + s.size a ≤ s.size a) (w : s.Idx → Elt Ideal .f32) :
    v.read (Elt Ideal) (v.writes (Elt Ideal) v.junk [⟨Rect.unit off s.size inb, w⟩]) = w :=
  funext fun y => (View.read_writes_junk_apply_eq_canon v y _).trans (congrFun (View.canon_unit_zero h inb w) y)

section
variable (c : Dev nD) (i : grid0.Coords)
  (arg2 : Memref sig .tc .vmem S64x128 .f32) (harg2 : arg2.IsWhole) (arg3 : Memref sig .tc .vmem S64x128 .f32) (harg3 : arg3.IsWhole)
  (arg4 : Memref sig .tc .vmem S64x256 .f32) (harg4 : arg4.IsWhole) (arg5 : Memref sig .tc .vmem S64x256 .f32) (harg5 : arg5.IsWhole)
  (arg6 : Memref sig .tc .vmem S64x128 .f32) (harg6 : arg6.IsWhole) (arg7 : Memref sig .tc .vmem S64x128 .f32) (harg7 : arg7.IsWhole)
  (arg8 : Memref sig .tc .vmem S64x256 .f32) (harg8 : arg8.IsWhole) (arg9 : Memref sig .tc .vmem S64x128 .f32) (harg9 : arg9.IsWhole)
  (arg10 : Memref sig .tc .vmem S4x128 .f32) (harg10 : arg10.IsWhole) (arg11 : Memref sig .tc .vmem S4x128 .f32) (harg11 : arg11.IsWhole)
  (arg12 : Memref sig .tc .vmem S4x256 .f32) (harg12 : arg12.IsWhole) (arg13 : Memref sig .tc .vmem S1x128 .f32) (harg13 : arg13.IsWhole)
  (arg14 : Memref sig .tc .vmem S1x8x2x128x128 .f32) (harg14 : arg14.IsWhole) (arg16 : Memref sig .tc .vmem S64x256 .bf16)
  (harg16 : arg16.IsWhole) (arg17 : Memref sig .tc .vmem S1x8x2x128x128 .f32) (harg17 : arg17.IsWhole)
  (arg18 : Memref sig .tc .vmem S64x128 .f32) (harg18 : arg18.IsWhole) (arg19 : Memref sig .tc .vmem S64x128 .f32) (harg19 : arg19.IsWhole)
  (arg20 : Memref sig .tc .vmem S64x256 .f32) (harg20 : arg20.IsWhole) (arg21 : Memref sig .tc .vmem S64x256 .f32) (harg21 : arg21.IsWhole)
  (x0 x1 : Vec Ideal S64x128 .f32) (x2 x3 : Vec Ideal S64x256 .f32) (x4 x5 : Vec Ideal S64x128 .f32) (x6 : Vec Ideal S64x256 .f32)
  (x7 : Vec Ideal S64x128 .f32) (x8 x9 : Vec Ideal S4x128 .f32) (x10 : Vec Ideal S4x256 .f32) (x11 : Vec Ideal S1x128 .f32)
  (x12 : Vec Ideal S1x8x2x128x128 .f32) (h : Fin 8) (hi : (i 1).val = h.val)

include hi

/-- The body leaves the block's states. -/
theorem state_eq : out0_A_14 (F := Ideal) c i arg2 harg2 arg3 harg3 arg4 harg4 arg5 harg5 arg6 harg6 arg7 harg7 arg8 harg8 arg9 harg9 arg10 harg10 arg11 harg11 arg12 harg12
    arg13 harg13 arg14 harg14 arg16 harg16 arg17 harg17 arg18 harg18 arg19 harg19 arg20 harg20 arg21 harg21
    x0 x1 x2 x3 x4 x5 x6 x7 x8 x9 x10 x11 x12 = blockState h (kvec x5 x1 x9) (vvec x6 x2 x10) x7 x12 := by
  funext y
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12
    arg13 harg13 arg14 harg14 arg16 harg16 arg17 harg17 arg18 harg18 arg19 harg19 arg20 harg20 arg21 harg21
    x0 x1 x2 x3 x4 x5 x6 x7 x8 x9 x10 x11 x12)]
  refine View.canon_apply_of_pieces (blockState h (kvec x5 x1 x9) (vvec x6 x2 x10) x7 x12) _ ?_ y (cover0_A_14 c i arg2 harg2 arg3 harg3 arg4 harg4 arg5 harg5 arg6 harg6 arg7 harg7 arg8 harg8 arg9 harg9 arg10 harg10 arg11 harg11 arg12 harg12
    arg13 harg13 arg14 harg14 arg16 harg16 arg17 harg17 arg18 harg18 arg19 harg19 arg20 harg20 arg21 harg21
    x0 x1 x2 x3 x4 x5 x6 x7 x8 x9 x10 x11 x12 y)
  unfold kernelRun0_A
  dsimp only
  sl_unfold_words
  have h2 : (![0, 0] : Fin 2 → Nat) = fun _ => 0 := funext fun a => by fin_cases a <;> rfl
  simp only [hi, View.readAt_eq_ld, harg2.read_unread, harg3.read_unread, harg4.read_unread, harg6.read_unread, harg7.read_unread,
    harg8.read_unread, harg10.read_unread, harg11.read_unread, harg12.read_unread, harg13.read_unread]
  rw [View.ld_unit_zero h2 _ x0, View.ld_unit_zero h2 _ x1, View.ld_unit_zero h2 _ x2, View.ld_unit_zero h2 _ x4, View.ld_unit_zero h2 _ x5,
    View.ld_unit_zero h2 _ x6, View.ld_unit_zero h2 _ x8, View.ld_unit_zero h2 _ x9, View.ld_unit_zero h2 _ x10, View.ld_unit_zero h2 _ x11]
  exact (trips_block c i arg2 harg2 arg3 harg3 arg4 harg4 arg5 harg5 arg6 harg6 arg7 harg7 arg8 harg8 arg9 harg9 arg10 harg10 arg11 harg11 arg12 harg12
    arg13 harg13 arg14 harg14 (Memref.whole main_arg7) (Memref.isWhole_whole _) arg16 harg16 arg17 harg17 arg18 harg18 arg19 harg19
    arg20 harg20 arg21 harg21 h _ _ _ _ _ _
    (kvec x5 x1 x9) (qvec x4 x0 x8) (vvec x6 x2 x10) x3 x7 x12 (k0_pay211 x11) (harg5.read_unread x3) (harg9.read_unread x7)
    (harg14.read_unread x12) (read_one arg18.view h2 _ _) (read_one arg19.view h2 _ _) (read_one arg20.view h2 _ _) _ (le_refl _)).1

/-- The body leaves the block's outputs. -/
theorem out_eq : out0_A_13 (F := Ideal) c i arg2 harg2 arg3 harg3 arg4 harg4 arg5 harg5 arg6 harg6 arg7 harg7 arg8 harg8 arg9 harg9 arg10 harg10 arg11 harg11 arg12 harg12
    arg13 harg13 arg14 harg14 arg16 harg16 arg17 harg17 arg18 harg18 arg19 harg19 arg20 harg20 arg21 harg21
    x0 x1 x2 x3 x4 x5 x6 x7 x8 x9 x10 x11 x12 = blockOut h (kvec x5 x1 x9) (qvec x4 x0 x8) (vvec x6 x2 x10) x3 x7 x12 (k0_pay211 x11) := by
  have h2 : (![0, 0] : Fin 2 → Nat) = fun _ => 0 := funext fun a => by fin_cases a <;> rfl
  have main := (trips_block c i arg2 harg2 arg3 harg3 arg4 harg4 arg5 harg5 arg6 harg6 arg7 harg7 arg8 harg8 arg9 harg9 arg10 harg10 arg11 harg11 arg12 harg12
    arg13 harg13 arg14 harg14 (Memref.whole main_arg7) (Memref.isWhole_whole _) arg16 harg16 arg17 harg17 arg18 harg18 arg19 harg19
    arg20 harg20 arg21 harg21 h (harg5.unread x3)
    (harg9.unread x7) (harg14.unread x12) _ _ _
    (kvec x5 x1 x9) (qvec x4 x0 x8) (vvec x6 x2 x10) x3 x7 x12 (k0_pay211 x11) (harg5.read_unread x3) (harg9.read_unread x7)
    (harg14.read_unread x12) (read_one arg18.view h2 inb_S64x128_S64x128_0_0 _) (read_one arg19.view h2 inb_S64x128_S64x128_0_0 _)
    (read_one arg20.view h2 inb_S64x256_S64x256_0_0 _) k0_t1_loop.trips (le_refl _)).2
  funext y
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12
    arg13 harg13 arg14 harg14 arg16 harg16 arg17 harg17 arg18 harg18 arg19 harg19 arg20 harg20 arg21 harg21
    x0 x1 x2 x3 x4 x5 x6 x7 x8 x9 x10 x11 x12)]
  unfold kernelRun0_A
  dsimp only
  sl_unfold_words
  simp only [hi, View.readAt_eq_ld, harg2.read_unread, harg3.read_unread, harg4.read_unread, harg6.read_unread, harg7.read_unread,
    harg8.read_unread, harg10.read_unread, harg11.read_unread, harg12.read_unread, harg13.read_unread]
  rw [View.ld_unit_zero h2 _ x0, View.ld_unit_zero h2 _ x1, View.ld_unit_zero h2 _ x2, View.ld_unit_zero h2 _ x4, View.ld_unit_zero h2 _ x5,
    View.ld_unit_zero h2 _ x6, View.ld_unit_zero h2 _ x8, View.ld_unit_zero h2 _ x9, View.ld_unit_zero h2 _ x10, View.ld_unit_zero h2 _ x11]
  refine (congrFun (View.canon_unit_zero h2 _ _) y).trans ?_
  rw [View.readCov_eq_canon']
  have red : ∀ X : FVec Ideal S64x256 .f32, k0_pay4 (F := Ideal) X y = X y := fun X => by pointwise [k0_pay4]
  refine (red _).trans ?_
  refine (View.canon_apply_of_pieces (blockOut h (kvec x5 x1 x9) (qvec x4 x0 x8) (vvec x6 x2 x10) x3 x7 x12 (k0_pay211 x11)) _ main _
    ?_).trans ?_
  · exact View.cover_of_tiledL (s := S64x256) _ ![8, 256] (by sl_kernel_rfl) _
  · exact congrFun (View.ld_unit_zero (Val := Elt Ideal) (e := .f32) (S := S64x256) h2 inb_S64x256_S64x256_0_0 (blockOut h (kvec x5 x1 x9) (qvec x4 x0 x8) (vvec x6 x2 x10) x3 x7 x12 (k0_pay211 x11))) y
end

end Cert.Proof.Gdn

end
-- ==== Proof.GdnBlocks.lean ====
/-
  What the DeltaNet kernel's points read: the blocks of the padded arrays the host lays out, entry by entry the arguments'.
-/
module

public import proofs.«01_k».proof.Proof.GdnBody
public import proofs.«01_k».proof.Proof.Gen.GdnIdeal.Value
public import Idealize.ShloMosaic.Lib.Pipeline.ValueKit.Point
public import Idealize.ShloMosaic.Lib.KernelVsHost

@[expose] public section

set_option maxRecDepth 16384

noncomputable section

namespace Cert.Proof.Gdn

open Idealize.ShloMosaic Idealize.ShloMosaic.TcCoe Idealize.ShloMosaic.Tactic Idealize.SL.Sem
open Cert.GdnIdeal Cert.GdnIdeal.Gen

/-- The queries' columns. -/
theorem index_q : ∀ t : Fin cfg0.N, win0_0.index t = ![t.val / 8, t.val % 8] :=
  (by decide +kernel : ∀ t : Fin grid0.N, win0_0.index t = ![t.val / 8, t.val % 8])

/-- The keys' columns. -/
theorem index_k : ∀ t : Fin cfg0.N, win0_1.index t = ![t.val / 8, 8 + t.val % 8] :=
  (by decide +kernel : ∀ t : Fin grid0.N, win0_1.index t = ![t.val / 8, 8 + t.val % 8])

/-- The values' columns. -/
theorem index_v : ∀ t : Fin cfg0.N, win0_2.index t = ![t.val / 8, 8 + t.val % 8] :=
  (by decide +kernel : ∀ t : Fin grid0.N, win0_2.index t = ![t.val / 8, 8 + t.val % 8])

/-- The gates' columns. -/
theorem index_z : ∀ t : Fin cfg0.N, win0_3.index t = ![t.val / 8, 16 + t.val % 8] :=
  (by decide +kernel : ∀ t : Fin grid0.N, win0_3.index t = ![t.val / 8, 16 + t.val % 8])

/-- The kept tokens' query columns. -/
theorem index_aq : ∀ t : Fin cfg0.N, win0_4.index t = ![t.val / 8, t.val % 8] :=
  (by decide +kernel : ∀ t : Fin grid0.N, win0_4.index t = ![t.val / 8, t.val % 8])

/-- The kept tokens' key columns. -/
theorem index_ak : ∀ t : Fin cfg0.N, win0_5.index t = ![t.val / 8, 8 + t.val % 8] :=
  (by decide +kernel : ∀ t : Fin grid0.N, win0_5.index t = ![t.val / 8, 8 + t.val % 8])

/-- The kept tokens' value columns. -/
theorem index_av : ∀ t : Fin cfg0.N, win0_6.index t = ![t.val / 8, 8 + t.val % 8] :=
  (by decide +kernel : ∀ t : Fin grid0.N, win0_6.index t = ![t.val / 8, 8 + t.val % 8])

/-- The decays' and write gates' rows. -/
theorem index_g : ∀ t : Fin cfg0.N, win0_7.index t = ![t.val / 8, 0] :=
  (by decide +kernel : ∀ t : Fin grid0.N, win0_7.index t = ![t.val / 8, 0])

/-- The taps' query columns. -/
theorem index_wq : ∀ t : Fin cfg0.N, win0_8.index t = ![0, t.val % 8] :=
  (by decide +kernel : ∀ t : Fin grid0.N, win0_8.index t = ![0, t.val % 8])

/-- The taps' key columns. -/
theorem index_wk : ∀ t : Fin cfg0.N, win0_9.index t = ![0, 8 + t.val % 8] :=
  (by decide +kernel : ∀ t : Fin grid0.N, win0_9.index t = ![0, 8 + t.val % 8])

/-- The taps' value columns. -/
theorem index_wv : ∀ t : Fin cfg0.N, win0_10.index t = ![0, 8 + t.val % 8] :=
  (by decide +kernel : ∀ t : Fin grid0.N, win0_10.index t = ![0, 8 + t.val % 8])

/-- The gain. -/
theorem index_n : ∀ t : Fin cfg0.N, win0_11.index t = ![0, 0] :=
  (by decide +kernel : ∀ t : Fin grid0.N, win0_11.index t = ![0, 0])

/-- The states. -/
theorem index_s : ∀ t : Fin cfg0.N, win0_12.index t = ![0, t.val / 8, t.val % 8, 0, 0] :=
  (by decide +kernel : ∀ t : Fin grid0.N, win0_12.index t = ![0, t.val / 8, t.val % 8, 0, 0])

/-- The outputs. -/
theorem index_o : ∀ t : Fin cfg0.N, win0_13.index t = ![t.val / 8, t.val % 8] :=
  (by decide +kernel : ∀ t : Fin grid0.N, win0_13.index t = ![t.val / 8, t.val % 8])

/-- The states after. -/
theorem index_r : ∀ t : Fin cfg0.N, win0_14.index t = ![0, t.val / 8, t.val % 8, 0, 0] :=
  (by decide +kernel : ∀ t : Fin grid0.N, win0_14.index t = ![0, t.val / 8, t.val % 8, 0, 0])

/-- A point's query head. -/
theorem coord_h : ∀ t : Fin cfg0.N, ((grid0.coords t) 1).val = t.val % 8 :=
  (by decide +kernel : ∀ t : Fin grid0.N, ((grid0.coords t) 1).val = t.val % 8)

variable (m : (ℓ : Loc nD τ sig) → Buf (Elt Ideal) ℓ)

/-- The padding's number. -/
abbrev zero : Vec Ideal S_ .f32 := sitofp (F := Ideal) .f32 (constantI S_ 32 0#32)

/-- The projections as the kernel finds them: eight rows a request. -/
theorem entry_p (c : Dev nD) : V m c main_v1 = shapeCast S1024x6144 (pad S128x8x6144 ![0, 0, 0] ![0, 4, 0] ![0, 0, 0]
    (m ((c : Thread nD τ).loc main_arg0)) zero pads_S128x4x6144_S128x8x6144_000_040_000 h_S_)
    shapeCasts_S128x8x6144_S1024x6144 := by
  entry_read
  simp only [hostOps0, hostOps0_1, hostOps0_2, hostOps0_3, hostOps0_4, hostOps0_5, hostOps0_6, List.flatten_cons, List.flatten_nil, List.cons_append,
    List.nil_append, List.append_nil]
  entry_read
  rfl

/-- The kept tokens as the kernel finds them: eight rows a request. -/
theorem entry_a (c : Dev nD) : V m c main_v5 = shapeCast S1024x4096 (pad S128x8x4096 ![0, 0, 0] ![0, 5, 0] ![0, 0, 0]
    (m ((c : Thread nD τ).loc main_arg1)) zero pads_S128x3x4096_S128x8x4096_000_050_000 h_S_)
    shapeCasts_S128x8x4096_S1024x4096 := by
  entry_read
  simp only [hostOps0, hostOps0_1, hostOps0_2, hostOps0_3, hostOps0_4, hostOps0_5, hostOps0_6, List.flatten_cons, List.flatten_nil, List.cons_append,
    List.nil_append, List.append_nil]
  entry_read
  rfl

/-- The write gates and the decays as the kernel finds them: lanes 16 to 48 of eight rows a request. -/
theorem entry_g (c : Dev nD) : V m c main_v6 = shapeCast S1024x128 (pad S128x8x128 ![0, 0, 16] ![0, 4, 80] ![0, 0, 0]
    (concatenate S128x4x32 2 [⟨S128x4x16, m ((c : Thread nD τ).loc main_arg3)⟩, ⟨S128x4x16, m ((c : Thread nD τ).loc main_arg2)⟩]
      concatenates_S128x4x16_S128x4x16_S128x4x32_d2) zero pads_S128x4x32_S128x8x128_000_040_16800 h_S_)
    shapeCasts_S128x8x128_S1024x128 := by
  entry_read
  simp only [hostOps0, hostOps0_1, hostOps0_2, hostOps0_3, hostOps0_4, hostOps0_5, hostOps0_6, List.flatten_cons, List.flatten_nil, List.cons_append,
    List.nil_append, List.append_nil]
  entry_read
  rfl

/-- The gain as the kernel finds it. -/
theorem entry_n (c : Dev nD) : V m c main_v7 = broadcastInDim S1x128 ![1] bcast_S128_S1x128_1 (m ((c : Thread nD τ).loc main_arg5)) := by
  entry_read
  simp only [hostOps0, hostOps0_1, hostOps0_2, hostOps0_3, hostOps0_4, hostOps0_5, hostOps0_6, List.flatten_cons, List.flatten_nil, List.cons_append,
    List.nil_append, List.append_nil]
  entry_read
  rfl

/-- The states' array before the call. -/
theorem entry_r (c : Dev nD) : V m c main_v8_1 = m ((c : Thread nD τ).loc main_arg7) := by
  entry_read
  simp only [hostOps0, hostOps0_1, hostOps0_2, hostOps0_3, hostOps0_4, hostOps0_5, hostOps0_6, List.flatten_cons, List.flatten_nil, List.cons_append,
    List.nil_append, List.append_nil]
  entry_read
  rfl

/-- A projection the kernel finds. -/
theorem at_p (c : Dev nD) (r : Fin 128) (i : Fin 4) (k : Fin 6144) :
    V m c main_v1 (ix2 ⟨8 * r.val + i.val, by omega⟩ k) = m ((c : Thread nD τ).loc main_arg0) (ix3 r i k) := by
  rw [entry_p]
  refine (shapeCast_apply _ _ _ (ix3 r ⟨i.val, by omega⟩ k) ?_).trans ?_
  · rw [Shape.rowMajor_val_two, Shape.rowMajor_val_three]
    show (r.val * 8 + i.val) * 6144 + k.val = (8 * r.val + i.val) * 6144 + k.val
    omega
  · refine pad_apply_of_inside _ _ _ _ _ _ _ _ _ fun a => ?_
    fin_cases a <;> simp

/-- A kept token's channel the kernel finds. -/
theorem at_a (c : Dev nD) (r : Fin 128) (i : Fin 3) (k : Fin 4096) :
    V m c main_v5 (ix2 ⟨8 * r.val + i.val, by omega⟩ k) = m ((c : Thread nD τ).loc main_arg1) (ix3 r i k) := by
  rw [entry_a]
  refine (shapeCast_apply _ _ _ (ix3 r ⟨i.val, by omega⟩ k) ?_).trans ?_
  · rw [Shape.rowMajor_val_two, Shape.rowMajor_val_three]
    show (r.val * 8 + i.val) * 4096 + k.val = (8 * r.val + i.val) * 4096 + k.val
    omega
  · refine pad_apply_of_inside _ _ _ _ _ _ _ _ _ fun a => ?_
    fin_cases a <;> simp

/-- Gate lane `16 + v` of a row the kernel finds. -/
theorem at_gb (c : Dev nD) (r : Fin 128) (i : Fin 4) (v : Fin 32) :
    V m c main_v6 (ix2 ⟨8 * r.val + i.val, by omega⟩ ⟨16 + v.val, by omega⟩)
      = concatenate S128x4x32 2 [⟨S128x4x16, m ((c : Thread nD τ).loc main_arg3)⟩, ⟨S128x4x16, m ((c : Thread nD τ).loc main_arg2)⟩]
        concatenates_S128x4x16_S128x4x16_S128x4x32_d2 (ix3 r i v) := by
  rw [entry_g]
  refine (shapeCast_apply _ _ _ (ix3 r ⟨i.val, by omega⟩ ⟨16 + v.val, by omega⟩) ?_).trans ?_
  · rw [Shape.rowMajor_val_two, Shape.rowMajor_val_three]
    show (r.val * 8 + i.val) * 128 + (16 + v.val) = (8 * r.val + i.val) * 128 + (16 + v.val)
    omega
  · refine pad_apply_of_inside _ _ _ _ _ _ _ _ _ fun a => ?_
    fin_cases a <;> simp

/-- A write gate the kernel finds. -/
theorem at_b (c : Dev nD) (r : Fin 128) (i : Fin 4) (v : Fin 16) :
    V m c main_v6 (ix2 ⟨8 * r.val + i.val, by omega⟩ ⟨16 + v.val, by omega⟩) = m ((c : Thread nD τ).loc main_arg3) (ix3 r i v) := by
  refine (at_gb m c r i ⟨v.val, by omega⟩).trans ?_
  pointwise []

/-- A decay the kernel finds. -/
theorem at_g (c : Dev nD) (r : Fin 128) (i : Fin 4) (v : Fin 16) :
    V m c main_v6 (ix2 ⟨8 * r.val + i.val, by omega⟩ ⟨32 + v.val, by omega⟩) = m ((c : Thread nD τ).loc main_arg2) (ix3 r i v) := by
  have key := at_gb m c r i ⟨16 + v.val, by omega⟩
  have e : (⟨16 + (16 + v.val), by omega⟩ : Fin 128) = ⟨32 + v.val, by omega⟩ := Fin.ext (by show 16 + (16 + v.val) = 32 + v.val; omega)
  refine ((congrArg (fun z => V m c main_v6 (ix2 _ z)) e).symm.trans key).trans ?_
  pointwise []

/-- The gain's entry. -/
theorem at_n (c : Dev nD) (e : Fin 128) : V m c main_v7 (ix2 0 e) = m ((c : Thread nD τ).loc main_arg5) (ix1 e) := by
  rw [entry_n]
  pointwise []

section
variable (c : Dev nD) (t : Fin cfg0.N) (r : Fin 128) (h : Fin 8) (b : Fin 8) (hr : r.val = 8 * (t.val / 8) + b.val) (hh : t.val % 8 = h.val)
include hr hh

/-- The block of the query columns. -/
theorem blk_q (i : Fin 4) (e : Fin 128) :
    iblk m c 0 t (ix2 ⟨8 * b.val + i.val, by omega⟩ e) = m ((c : Thread nD τ).loc main_arg0) (ix3 r i ⟨128 * h.val + e.val, by omega⟩) := by
  have key := at_p m c r i ⟨128 * h.val + e.val, by omega⟩
  have e : (win0_0.blk t).view.emb (ix2 ⟨8 * b.val + i.val, by omega⟩ e) = (ix2 ⟨8 * r.val + i.val, by omega⟩ ⟨128 * h.val + e.val, by omega⟩ : S1024x6144.Idx) := by
    blk_ext [index_q t]
  refine Eq.trans ?_ key
  blk_simp [iblk]
  rw [e]

/-- The block of the key columns. -/
theorem blk_k (i : Fin 4) (e : Fin 128) :
    iblk m c 1 t (ix2 ⟨8 * b.val + i.val, by omega⟩ e) = m ((c : Thread nD τ).loc main_arg0) (ix3 r i ⟨1024 + 128 * h.val + e.val, by omega⟩) := by
  have key := at_p m c r i ⟨1024 + 128 * h.val + e.val, by omega⟩
  have e : (win0_1.blk t).view.emb (ix2 ⟨8 * b.val + i.val, by omega⟩ e) = (ix2 ⟨8 * r.val + i.val, by omega⟩ ⟨1024 + 128 * h.val + e.val, by omega⟩ : S1024x6144.Idx) := by
    blk_ext [index_k t]
  refine Eq.trans ?_ key
  blk_simp [iblk]
  rw [e]

/-- The block of the value columns. -/
theorem blk_v (i : Fin 4) (e : Fin 256) :
    iblk m c 2 t (ix2 ⟨8 * b.val + i.val, by omega⟩ e) = m ((c : Thread nD τ).loc main_arg0) (ix3 r i ⟨2048 + 256 * h.val + e.val, by omega⟩) := by
  have key := at_p m c r i ⟨2048 + 256 * h.val + e.val, by omega⟩
  have e : (win0_2.blk t).view.emb (ix2 ⟨8 * b.val + i.val, by omega⟩ e) = (ix2 ⟨8 * r.val + i.val, by omega⟩ ⟨2048 + 256 * h.val + e.val, by omega⟩ : S1024x6144.Idx) := by
    blk_ext [index_v t]
  refine Eq.trans ?_ key
  blk_simp [iblk]
  rw [e]

/-- The block of the gate columns. -/
theorem blk_z (i : Fin 4) (e : Fin 256) :
    iblk m c 3 t (ix2 ⟨8 * b.val + i.val, by omega⟩ e) = m ((c : Thread nD τ).loc main_arg0) (ix3 r i ⟨4096 + 256 * h.val + e.val, by omega⟩) := by
  have key := at_p m c r i ⟨4096 + 256 * h.val + e.val, by omega⟩
  have e : (win0_3.blk t).view.emb (ix2 ⟨8 * b.val + i.val, by omega⟩ e) = (ix2 ⟨8 * r.val + i.val, by omega⟩ ⟨4096 + 256 * h.val + e.val, by omega⟩ : S1024x6144.Idx) := by
    blk_ext [index_z t]
  refine Eq.trans ?_ key
  blk_simp [iblk]
  rw [e]

/-- The block of the kept query columns. -/
theorem blk_aq (i : Fin 3) (e : Fin 128) :
    iblk m c 4 t (ix2 ⟨8 * b.val + i.val, by omega⟩ e) = m ((c : Thread nD τ).loc main_arg1) (ix3 r i ⟨128 * h.val + e.val, by omega⟩) := by
  have key := at_a m c r i ⟨128 * h.val + e.val, by omega⟩
  have e : (win0_4.blk t).view.emb (ix2 ⟨8 * b.val + i.val, by omega⟩ e) = (ix2 ⟨8 * r.val + i.val, by omega⟩ ⟨128 * h.val + e.val, by omega⟩ : S1024x4096.Idx) := by
    blk_ext [index_aq t]
  refine Eq.trans ?_ key
  blk_simp [iblk]
  rw [e]

/-- The block of the kept key columns. -/
theorem blk_ak (i : Fin 3) (e : Fin 128) :
    iblk m c 5 t (ix2 ⟨8 * b.val + i.val, by omega⟩ e) = m ((c : Thread nD τ).loc main_arg1) (ix3 r i ⟨1024 + 128 * h.val + e.val, by omega⟩) := by
  have key := at_a m c r i ⟨1024 + 128 * h.val + e.val, by omega⟩
  have e : (win0_5.blk t).view.emb (ix2 ⟨8 * b.val + i.val, by omega⟩ e) = (ix2 ⟨8 * r.val + i.val, by omega⟩ ⟨1024 + 128 * h.val + e.val, by omega⟩ : S1024x4096.Idx) := by
    blk_ext [index_ak t]
  refine Eq.trans ?_ key
  blk_simp [iblk]
  rw [e]

/-- The block of the kept value columns. -/
theorem blk_av (i : Fin 3) (e : Fin 256) :
    iblk m c 6 t (ix2 ⟨8 * b.val + i.val, by omega⟩ e) = m ((c : Thread nD τ).loc main_arg1) (ix3 r i ⟨2048 + 256 * h.val + e.val, by omega⟩) := by
  have key := at_a m c r i ⟨2048 + 256 * h.val + e.val, by omega⟩
  have e : (win0_6.blk t).view.emb (ix2 ⟨8 * b.val + i.val, by omega⟩ e) = (ix2 ⟨8 * r.val + i.val, by omega⟩ ⟨2048 + 256 * h.val + e.val, by omega⟩ : S1024x4096.Idx) := by
    blk_ext [index_av t]
  refine Eq.trans ?_ key
  blk_simp [iblk]
  rw [e]

/-- The block's write gates. -/
theorem blk_b (i : Fin 4) (v : Fin 16) :
    iblk m c 7 t (ix2 ⟨8 * b.val + i.val, by omega⟩ ⟨16 + v.val, by omega⟩) = m ((c : Thread nD τ).loc main_arg3) (ix3 r i v) := by
  have key := at_b m c r i v
  have e : (win0_7.blk t).view.emb (ix2 ⟨8 * b.val + i.val, by omega⟩ ⟨16 + v.val, by omega⟩) = (ix2 ⟨8 * r.val + i.val, by omega⟩ ⟨16 + v.val, by omega⟩ : S1024x128.Idx) := by
    blk_ext [index_g t]
  refine Eq.trans ?_ key
  blk_simp [iblk]
  rw [e]

/-- The block's decays. -/
theorem blk_g (i : Fin 4) (v : Fin 16) :
    iblk m c 7 t (ix2 ⟨8 * b.val + i.val, by omega⟩ ⟨32 + v.val, by omega⟩) = m ((c : Thread nD τ).loc main_arg2) (ix3 r i v) := by
  have key := at_g m c r i v
  have e : (win0_7.blk t).view.emb (ix2 ⟨8 * b.val + i.val, by omega⟩ ⟨32 + v.val, by omega⟩) = (ix2 ⟨8 * r.val + i.val, by omega⟩ ⟨32 + v.val, by omega⟩ : S1024x128.Idx) := by
    blk_ext [index_g t]
  refine Eq.trans ?_ key
  blk_simp [iblk]
  rw [e]

/-- The block of the states. -/
theorem blk_s (j : Fin 2) (d e : Fin 128) :
    iblk m c 12 t (ix5 0 b j d e) = m ((c : Thread nD τ).loc main_arg6) (ix5 0 r ⟨2 * h.val + j.val, by omega⟩ d e) := by
  have key : (win0_12.blk t).view.emb (ix5 0 b j d e) = (ix5 0 r ⟨2 * h.val + j.val, by omega⟩ d e : S2x128x16x128x128.Idx) := by
    blk_ext [index_s t]
  blk_simp [iblk]
  rw [key, V_main_arg6]
end

section
variable (c : Dev nD) (t : Fin cfg0.N) (h : Fin 8) (hh : t.val % 8 = h.val)
include hh

/-- The block of the query taps. -/
theorem blk_wq (i : Fin 4) (e : Fin 128) :
    iblk m c 8 t (ix2 i e) = m ((c : Thread nD τ).loc main_arg4) (ix2 i ⟨128 * h.val + e.val, by omega⟩) := by
  have key : (win0_8.blk t).view.emb (ix2 i e) = (ix2 i ⟨128 * h.val + e.val, by omega⟩ : S4x4096.Idx) := by
    blk_ext [index_wq t]
  blk_simp [iblk]
  rw [key, V_main_arg4]

/-- The block of the key taps. -/
theorem blk_wk (i : Fin 4) (e : Fin 128) :
    iblk m c 9 t (ix2 i e) = m ((c : Thread nD τ).loc main_arg4) (ix2 i ⟨1024 + 128 * h.val + e.val, by omega⟩) := by
  have key : (win0_9.blk t).view.emb (ix2 i e) = (ix2 i ⟨1024 + 128 * h.val + e.val, by omega⟩ : S4x4096.Idx) := by
    blk_ext [index_wk t]
  blk_simp [iblk]
  rw [key, V_main_arg4]

/-- The block of the value taps. -/
theorem blk_wv (i : Fin 4) (e : Fin 256) :
    iblk m c 10 t (ix2 i e) = m ((c : Thread nD τ).loc main_arg4) (ix2 i ⟨2048 + 256 * h.val + e.val, by omega⟩) := by
  have key : (win0_10.blk t).view.emb (ix2 i e) = (ix2 i ⟨2048 + 256 * h.val + e.val, by omega⟩ : S4x4096.Idx) := by
    blk_ext [index_wv t]
  blk_simp [iblk]
  rw [key, V_main_arg4]

end

/-- The block of the gain. -/
theorem blk_n (c : Dev nD) (t : Fin cfg0.N) (e : Fin 128) :
    iblk m c 11 t (ix2 0 e) = m ((c : Thread nD τ).loc main_arg5) (ix1 e) := by
  have key : (win0_11.blk t).view.emb (ix2 0 e) = (ix2 0 e : S1x128.Idx) := by
    blk_ext [index_n t]
  blk_simp [iblk]
  rw [key, at_n]

end Cert.Proof.Gdn

end
-- ==== Proof.Gdn.lean ====
/-
  A DeltaNet layer's update for a sampling step: the kernel's two arrays, computed eight requests and one key head at a time, are
  the reference's.
-/
module

public import proofs.«01_k».proof.Defs
public import proofs.«01_k».proof.Proof.GdnRef
public import proofs.«01_k».proof.Proof.GdnBlocks
public import Idealize.ShloMosaic.Lib.Pipeline.ValueKit.Partial

@[expose] public section

set_option maxRecDepth 16384

noncomputable section

namespace Cert.Proof.Gdn

open Idealize.ShloMosaic Idealize.ShloMosaic.TcCoe Idealize.ShloMosaic.Tactic Idealize.SL.Sem
open Cert.GdnIdeal Cert.GdnIdeal.Gen

/-- A state depends on the tokens before it only. -/
theorem state_congr {k k' v v' : Nat → Fin 128 → EReal} {g g' b b' : Nat → EReal} {s s' : Fin 128 → Fin 128 → EReal} (n : Nat)
    (hk : ∀ t < n, ∀ d, k t d = k' t d) (hv : ∀ t < n, ∀ e, v t e = v' t e) (hg : ∀ t < n, g t = g' t) (hb : ∀ t < n, b t = b' t)
    (hs : ∀ d e, s d e = s' d e) (d e : Fin 128) : state k v g b s n d e = state k' v' g' b' s' n d e := by
  induction n generalizing d e with
  | zero => exact hs d e
  | succ n ih =>
    have h := ih (fun t ht => hk t (by omega)) (fun t ht => hv t (by omega)) (fun t ht => hg t (by omega)) (fun t ht => hb t (by omega))
    have hk' := hk n (by omega)
    simp only [state, h, hk', hv n (by omega), hg n (by omega), hb n (by omega)]

/-- A norm of nothing is nothing. -/
theorem gated_zero (z w : Fin 128 → EReal) (e : Fin 128) : gated (fun _ => 0) z w e = 0 := by
  unfold gated
  rw [zero_mul, zero_mul, zero_mul]

section
variable {p : S128x4x6144.Idx → EReal} {s : S128x3x4096.Idx → EReal} {g b : S128x4x16.Idx → EReal} {w : S4x4096.Idx → EReal}
  {nw : S128.Idx → EReal} {x : S2x128x16x128x128.Idx → EReal} {K Q : FVec Ideal S64x128 .f32} {W Z : FVec Ideal S64x256 .f32}
  {G : FVec Ideal S64x128 .f32} {S : FVec Ideal S1x8x2x128x128 .f32} {N : FVec Ideal S1x128 .f32} {r : Fin 128} {h a : Fin 8}
  (hK : ∀ (t : Fin 4) (d : Fin 128), K (ix2 ⟨8 * a.val + t.val, by omega⟩ d) = key p s w r h t.val d)
  (hQ : ∀ (t : Fin 4) (d : Fin 128), Q (ix2 ⟨8 * a.val + t.val, by omega⟩ d) = query p s w r h t.val d)
  (hW : ∀ (t : Fin 4) (e : Fin 256), W (ix2 ⟨8 * a.val + t.val, by omega⟩ e) = mixed p s w r t.val ⟨2048 + 256 * h.val + e.val, by omega⟩)
  (hZ : ∀ (t : Fin 4) (e : Fin 256), Z (ix2 ⟨8 * a.val + t.val, by omega⟩ e) = p (ix3 r t ⟨4096 + 256 * h.val + e.val, by omega⟩))
  (hG : ∀ (t : Fin 4) (v : Fin 16), G (ix2 ⟨8 * a.val + t.val, by omega⟩ ⟨32 + v.val, by omega⟩) = g (ix3 r t v))
  (hB : ∀ (t : Fin 4) (v : Fin 16), G (ix2 ⟨8 * a.val + t.val, by omega⟩ ⟨16 + v.val, by omega⟩) = b (ix3 r t v))
  (hS : ∀ (j : Fin 2) (d e : Fin 128), S (ix5 0 a j d e) = x (ix5 0 r ⟨2 * h.val + j.val, by omega⟩ d e))
  (hN : ∀ e, N (ix2 0 e) = nw (ix1 e))

include hK hW hG hB hS in
/-- A block's states are the requests'. -/
theorem bstate_eq (j : Fin 2) (n : Nat) (hn : n ≤ 4) (d e : Fin 128) :
    bstate h K W G S a j n d e = states p s g b w x r ⟨2 * h.val + j.val, by omega⟩ n d e := by
  unfold bstate states
  refine state_congr n (fun t ht d => ?_) (fun t ht e => ?_) (fun t ht => ?_) (fun t ht => ?_) (fun d e => hS j d e) d e
  · have e1 : (⟨8 * a.val + t % 8, by omega⟩ : Fin 64) = ⟨8 * a.val + (⟨t, by omega⟩ : Fin 4).val, by show 8 * a.val + t < 64; omega⟩ :=
      Fin.ext (show 8 * a.val + t % 8 = 8 * a.val + t by omega)
    have e2 : (⟨(2 * h.val + j.val) / 2, by omega⟩ : Fin 8) = h := Fin.ext (show (2 * h.val + j.val) / 2 = h.val by omega)
    exact ((congrArg (fun z => K (ix2 z d)) e1).trans (hK ⟨t, by omega⟩ d)).trans (congrArg (fun z => key p s w r z t d) e2).symm
  · have e1 : (⟨8 * a.val + t % 8, by omega⟩ : Fin 64) = ⟨8 * a.val + (⟨t, by omega⟩ : Fin 4).val, by show 8 * a.val + t < 64; omega⟩ :=
      Fin.ext (show 8 * a.val + t % 8 = 8 * a.val + t by omega)
    refine ((congrArg (fun z => W (ix2 z _)) e1).trans (hW ⟨t, by omega⟩ ⟨128 * j.val + e.val, by omega⟩)).trans ?_
    exact congrArg (mixed p s w r t) (Fin.ext (show 2048 + 256 * h.val + (128 * j.val + e.val) = 2048 + 128 * (2 * h.val + j.val) + e.val by omega))
  · have e1 : (⟨8 * a.val + t % 8, by omega⟩ : Fin 64) = ⟨8 * a.val + (⟨t, by omega⟩ : Fin 4).val, by show 8 * a.val + t < 64; omega⟩ :=
      Fin.ext (show 8 * a.val + t % 8 = 8 * a.val + t by omega)
    have e2 : (⟨32 + 2 * h.val + j.val, by omega⟩ : Fin 128)
        = ⟨32 + (⟨2 * h.val + j.val, by omega⟩ : Fin 16).val, by show 32 + (2 * h.val + j.val) < 128; omega⟩ :=
      Fin.ext (show 32 + 2 * h.val + j.val = 32 + (2 * h.val + j.val) by omega)
    have e3 : (⟨t, by omega⟩ : Fin 4) = ⟨t % 4, by omega⟩ := Fin.ext (show t = t % 4 by omega)
    refine (congrArg₂ (fun y z => G (ix2 y z)) e1 e2).trans ((hG ⟨t, by omega⟩ ⟨2 * h.val + j.val, by omega⟩).trans ?_)
    exact congrArg (fun z => g (ix3 r z _)) e3
  · have e1 : (⟨8 * a.val + t % 8, by omega⟩ : Fin 64) = ⟨8 * a.val + (⟨t, by omega⟩ : Fin 4).val, by show 8 * a.val + t < 64; omega⟩ :=
      Fin.ext (show 8 * a.val + t % 8 = 8 * a.val + t by omega)
    have e2 : (⟨16 + 2 * h.val + j.val, by omega⟩ : Fin 128)
        = ⟨16 + (⟨2 * h.val + j.val, by omega⟩ : Fin 16).val, by show 16 + (2 * h.val + j.val) < 128; omega⟩ :=
      Fin.ext (show 16 + 2 * h.val + j.val = 16 + (2 * h.val + j.val) by omega)
    have e3 : (⟨t, by omega⟩ : Fin 4) = ⟨t % 4, by omega⟩ := Fin.ext (show t = t % 4 by omega)
    refine (congrArg₂ (fun y z => G (ix2 y z)) e1 e2).trans ((hB ⟨t, by omega⟩ ⟨2 * h.val + j.val, by omega⟩).trans ?_)
    exact congrArg (fun z => b (ix3 r z _)) e3

include hK hQ hW hZ hG hB hS hN in
/-- A block's outputs are the requests', zero past the four tokens. -/
theorem bout_eq (t : Fin 8) (j : Fin 2) (e : Fin 128) :
    bout h K Q W Z G S N a t j e = if t.val < 4 then outs p s g b w nw x r ⟨2 * h.val + j.val, by omega⟩ t.val e else 0 := by
  unfold bout
  by_cases ht : t.val < 4
  · simp only [if_pos ht]
    unfold outs
    have e1 : (⟨t.val % 4, by omega⟩ : Fin 4) = ⟨t.val, ht⟩ := Fin.ext (show t.val % 4 = t.val by omega)
    have e2 : (⟨(2 * h.val + j.val) / 2, by omega⟩ : Fin 8) = h := Fin.ext (show (2 * h.val + j.val) / 2 = h.val by omega)
    have ho : (fun e => ∑ d, bstate h K W G S a j (t.val + 1) d e * Q (ix2 ⟨8 * a.val + t.val, by omega⟩ d))
        = reads p s g b w x r ⟨2 * h.val + j.val, by omega⟩ t.val := by
      funext e
      refine Finset.sum_congr rfl fun d _ => ?_
      refine congrArg₂ (· * ·) (bstate_eq hK hW hG hB hS j (t.val + 1) (by omega) d e) ((hQ ⟨t.val, ht⟩ d).trans ?_)
      exact (congrArg (fun z => query p s w r z t.val d) e2).symm
    have hz : (fun e : Fin 128 => Z (ix2 ⟨8 * a.val + t.val, by omega⟩ ⟨128 * j.val + e.val, by omega⟩))
        = fun e : Fin 128 => p (ix3 r ⟨t.val % 4, by omega⟩ ⟨4096 + 128 * (2 * h.val + j.val) + e.val, by omega⟩) := by
      funext e
      refine (hZ ⟨t.val, ht⟩ ⟨128 * j.val + e.val, by omega⟩).trans ?_
      exact congrArg₂ (fun y z => p (ix3 r y z)) e1.symm
        (Fin.ext (show 4096 + 256 * h.val + (128 * j.val + e.val) = 4096 + 128 * (2 * h.val + j.val) + e.val by omega))
    rw [ho, hz, funext hN]
  · simp only [if_neg ht]
    exact gated_zero _ _ _
end

/-- A channel's kept tokens. -/
theorem hist_old (p : S128x4x6144.Idx → EReal) (s : S128x3x4096.Idx → EReal) (r : Fin 128) (k : Fin 4096) (i : Fin 3) :
    hist p s r k i.val = s (ix3 r i k) := by
  unfold hist
  rw [if_pos i.isLt]
  exact congrArg (fun z => s (ix3 r z k)) (Fin.ext (show i.val % 3 = i.val by omega))

/-- A channel's new tokens. -/
theorem hist_new (p : S128x4x6144.Idx → EReal) (s : S128x3x4096.Idx → EReal) (r : Fin 128) (k : Fin 4096) (i : Fin 4) :
    hist p s r k (i.val + 3) = p (ix3 r i ⟨k.val, by omega⟩) := by
  unfold hist
  rw [if_neg (by omega)]
  exact congrArg (fun z => p (ix3 r z _)) (Fin.ext (show (i.val + 3 - 3) % 4 = i.val by omega))

/-- A channel's taps. -/
theorem tap_at (w : S4x4096.Idx → EReal) (k : Fin 4096) (i : Fin 4) : w (ix2 i k) = w (ix2 ⟨i.val % 4, by omega⟩ k) :=
  congrArg (fun z => w (ix2 z k)) (Fin.ext (show i.val = i.val % 4 by omega))

section
variable (m : (ℓ : Loc nD τ sig) → Buf (Elt Ideal) ℓ) (c : Dev nD) (t : Fin cfg0.N) (r : Fin 128) (h a : Fin 8)
  (hr : r.val = 8 * (t.val / 8) + a.val) (hh : t.val % 8 = h.val)

/-- A request's channel after the convolution, from the arguments. -/
abbrev mixedM (i : Nat) (k : Fin 4096) : EReal :=
  mixed (m ((c : Thread nD τ).loc main_arg0)) (m ((c : Thread nD τ).loc main_arg1)) (m ((c : Thread nD τ).loc main_arg4)) r i k

include hr hh

/-- The queries a point's steps read. -/
theorem q_at (i : Fin 4) (d : Fin 128) : qvec (iblk m c 4 t) (iblk m c 0 t) (iblk m c 8 t) (ix2 ⟨8 * a.val + i.val, by omega⟩ d)
    = query (m ((c : Thread nD τ).loc main_arg0)) (m ((c : Thread nD τ).loc main_arg1)) (m ((c : Thread nD τ).loc main_arg4)) r h i.val d := by
  refine q_unit _ _ _ (fun e => mixedM m c r i.val ⟨128 * h.val + e.val, by omega⟩) _ (fun e => ?_) d
  exact q_conv _ _ _ e (hist (m ((c : Thread nD τ).loc main_arg0)) (m ((c : Thread nD τ).loc main_arg1)) r ⟨128 * h.val + e.val, by omega⟩)
    (fun n => m ((c : Thread nD τ).loc main_arg4) (ix2 ⟨n % 4, by omega⟩ ⟨128 * h.val + e.val, by omega⟩)) a i _ rfl
    (fun i => (blk_aq m c t r h a hr hh i e).trans (hist_old _ _ _ _ i).symm)
    (fun i => (blk_q m c t r h a hr hh i e).trans (hist_new _ _ _ ⟨128 * h.val + e.val, by omega⟩ i).symm)
    (fun i => (blk_wq m c t h hh i e).trans (tap_at _ _ i))

/-- The keys a point's steps read. -/
theorem k_at (i : Fin 4) (d : Fin 128) : kvec (iblk m c 5 t) (iblk m c 1 t) (iblk m c 9 t) (ix2 ⟨8 * a.val + i.val, by omega⟩ d)
    = key (m ((c : Thread nD τ).loc main_arg0)) (m ((c : Thread nD τ).loc main_arg1)) (m ((c : Thread nD τ).loc main_arg4)) r h i.val d := by
  refine k_unit _ _ _ (fun e => mixedM m c r i.val ⟨1024 + 128 * h.val + e.val, by omega⟩) _ (fun e => ?_) d
  exact q_conv _ _ _ e (hist (m ((c : Thread nD τ).loc main_arg0)) (m ((c : Thread nD τ).loc main_arg1)) r ⟨1024 + 128 * h.val + e.val, by omega⟩)
    (fun n => m ((c : Thread nD τ).loc main_arg4) (ix2 ⟨n % 4, by omega⟩ ⟨1024 + 128 * h.val + e.val, by omega⟩)) a i _ rfl
    (fun i => (blk_ak m c t r h a hr hh i e).trans (hist_old _ _ _ _ i).symm)
    (fun i => (blk_k m c t r h a hr hh i e).trans (hist_new _ _ _ ⟨1024 + 128 * h.val + e.val, by omega⟩ i).symm)
    (fun i => (blk_wk m c t h hh i e).trans (tap_at _ _ i))

/-- The values a point's steps read. -/
theorem v_at (i : Fin 4) (e : Fin 256) : vvec (iblk m c 6 t) (iblk m c 2 t) (iblk m c 10 t) (ix2 ⟨8 * a.val + i.val, by omega⟩ e)
    = mixedM m c r i.val ⟨2048 + 256 * h.val + e.val, by omega⟩ :=
  v_conv _ _ _ e (hist (m ((c : Thread nD τ).loc main_arg0)) (m ((c : Thread nD τ).loc main_arg1)) r ⟨2048 + 256 * h.val + e.val, by omega⟩)
    (fun n => m ((c : Thread nD τ).loc main_arg4) (ix2 ⟨n % 4, by omega⟩ ⟨2048 + 256 * h.val + e.val, by omega⟩)) a i _ rfl
    (fun i => (blk_av m c t r h a hr hh i e).trans (hist_old _ _ _ _ i).symm)
    (fun i => (blk_v m c t r h a hr hh i e).trans (hist_new _ _ _ ⟨2048 + 256 * h.val + e.val, by omega⟩ i).symm)
    (fun i => (blk_wv m c t h hh i e).trans (tap_at _ _ i))

/-- An entry of the states a point leaves. -/
theorem state_at (y : S1x8x2x128x128.Idx) (j : Fin 2) (d e : Fin 128) (h1 : (y 1).val = a.val) (h2 : (y 2).val = j.val) (h3 : (y 3).val = d.val)
    (h4 : (y 4).val = e.val) : (outsAt0 m c t).2 y
      = states (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) r
        ⟨2 * h.val + j.val, by omega⟩ 4 d e := by
  unfold outsAt0
  refine (congrFun (state_eq c (grid0.coords t) _ _ _ _ _ _ _ _ _ _ _ _ _ _ _ _ _ _ _ _ _ _ _ _ _ _ _ _ _ _ _ _ _ _ _ _ _ _ _ _ _ _ _ _ _ _ _ _ _ _ _ h
    ((coord_h t).trans hh)) y).trans ?_
  unfold blockState
  obtain rfl : y 1 = a := Fin.ext h1
  obtain rfl : y 2 = j := Fin.ext h2
  obtain rfl : y 3 = d := Fin.ext h3
  obtain rfl : y 4 = e := Fin.ext h4
  exact bstate_eq (k_at m c t r h _ hr hh) (v_at m c t r h _ hr hh) (blk_g m c t r h _ hr hh) (blk_b m c t r h _ hr hh)
    (blk_s m c t r h _ hr hh) _ 4 (le_refl _) _ _

/-- An entry of the outputs a point leaves. -/
theorem out_at (y : S64x256.Idx) (i : Fin 8) (j : Fin 2) (e : Fin 128) (h0 : (y 0).val = 8 * a.val + i.val)
    (h1 : (y 1).val = 128 * j.val + e.val) : (outsAt0 m c t).1 y
      = if i.val < 4 then outs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) r ⟨2 * h.val + j.val, by omega⟩ i.val e else 0 := by
  unfold outsAt0
  refine (congrFun (out_eq c (grid0.coords t) _ _ _ _ _ _ _ _ _ _ _ _ _ _ _ _ _ _ _ _ _ _ _ _ _ _ _ _ _ _ _ _ _ _ _ _ _ _ _ _ _ _ _ _ _ _ _ _ _ _ _ h
    ((coord_h t).trans hh)) y).trans ?_
  refine (blockOut_at _ _ _ _ _ _ _ _ y a i j e h0 h1).trans ?_
  refine bout_eq (k_at m c t r h a hr hh) (q_at m c t r h a hr hh) (v_at m c t r h a hr hh) (blk_z m c t r h a hr hh) (blk_g m c t r h a hr hh)
    (blk_b m c t r h a hr hh) (blk_s m c t r h a hr hh) (fun e => ?_) i j e
  have key := blk_n m c t e
  generalize iblk m c 11 t = z at key ⊢
  refine Eq.trans ?_ key
  pointwise [k0_pay211]
end

section
variable (m : (ℓ : Loc nD τ sig) → Buf (Elt Ideal) ℓ)

/-- The outputs of the reference's arguments. -/
abbrev outM (c : Dev nD) : S1024x2048.Idx → EReal :=
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The states of the reference's arguments. -/
abbrev stateM (c : Dev nD) : S2x128x16x128x128.Idx → EReal :=
  stateAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg7))

/-- A point's outputs are the specification's. -/
theorem out_point (c : Dev nD) (t : Fin cfg0.N) (y : S64x256.Idx) (z : S1024x2048.Idx) (h0 : (z 0).val = t.val / 8 * 64 + (y 0).val)
    (h1 : (z 1).val = t.val % 8 * 256 + (y 1).val) : (outsAt0 m c t).1 y = outM m c z := by
  have hy0 : (y 0).val < 64 := (y 0).isLt
  have hy1 : (y 1).val < 256 := (y 1).isLt
  have ht : t.val < 128 := t.isLt
  refine (out_at m c t ⟨(z 0).val / 8, by omega⟩ ⟨t.val % 8, by omega⟩ ⟨(y 0).val / 8, by omega⟩
    (show (z 0).val / 8 = 8 * (t.val / 8) + (y 0).val / 8 by omega) rfl y ⟨(y 0).val % 8, by omega⟩ ⟨(y 1).val / 128, by omega⟩
    ⟨(y 1).val % 128, by omega⟩ (show (y 0).val = 8 * ((y 0).val / 8) + (y 0).val % 8 by omega)
    (show (y 1).val = 128 * ((y 1).val / 128) + (y 1).val % 128 by omega)).trans ?_
  unfold outM outAt
  have e0 : (y 0).val % 8 = (z 0).val % 8 := by omega
  have e1 : (⟨2 * (t.val % 8) + (y 1).val / 128, by omega⟩ : Fin 16) = ⟨(z 1).val / 128, by omega⟩ :=
    Fin.ext (show 2 * (t.val % 8) + (y 1).val / 128 = (z 1).val / 128 by omega)
  have e2 : (⟨(y 1).val % 128, by omega⟩ : Fin 128) = ⟨(z 1).val % 128, by omega⟩ :=
    Fin.ext (show (y 1).val % 128 = (z 1).val % 128 by omega)
  simp only [e0, e1, e2]

/-- The outputs' array after the run is the specification's. -/
theorem final_out (c : Dev nD) : (dats m 0 c).arrAt 13 cfg0.N = outM m c := by
  refine (dats m 0 c).arrAt_eq_of_covers 13 _ (by decide +kernel) fun t hf y => ?_
  blk_simp
  rw [after0_13]
  have e0 : ((win0_13.blk t).view.emb y 0).val = t.val / 8 * 64 + (y 0).val := by blk_simp [index_o t]
  have e1 : ((win0_13.blk t).view.emb y 1).val = t.val % 8 * 256 + (y 1).val := by blk_simp [index_o t]
  generalize (win0_13.blk t).view.emb y = z at e0 e1 ⊢
  exact out_point m c t y z e0 e1

/-- A point's states are the specification's. -/
theorem state_point (c : Dev nD) (t : Fin cfg0.N) (y : S1x8x2x128x128.Idx) (z : S2x128x16x128x128.Idx) (h0 : (z 0).val = 0)
    (h1 : (z 1).val = t.val / 8 * 8 + (y 1).val) (h2 : (z 2).val = t.val % 8 * 2 + (y 2).val) (h3 : (z 3).val = (y 3).val)
    (h4 : (z 4).val = (y 4).val) : (outsAt0 m c t).2 y = stateM m c z := by
  refine (state_at m c t (z 1) ⟨t.val % 8, by omega⟩ (y 1) (by omega) rfl y (y 2) (z 3) (z 4) rfl rfl h3.symm h4.symm).trans ?_
  unfold stateM stateAt
  rw [if_pos h0]
  have hy2 : (y 2).val < 2 := (y 2).isLt
  have e : (⟨2 * (t.val % 8) + (y 2).val, by omega⟩ : Fin 16) = z 2 := Fin.ext (show 2 * (t.val % 8) + (y 2).val = (z 2).val by omega)
  exact congrArg (fun h => states _ _ _ _ _ _ (z 1) h 4 (z 3) (z 4)) e

/-- The states' array after the run is the specification's: the points write the first layer's, the other's stay. -/
theorem final_state (c : Dev nD) : (dats m 0 c).arrAt 14 cfg0.N = stateM m c := by
  refine (dats m 0 c).arrAt_eq_of_coversWhere_of_agree 14 _ (fun β => β (0 : Fin 5) = 0) (by decide +kernel) (fun t hf y => ?_) (fun j hj => ?_)
  · blk_simp
    rw [after0_14]
    have e0 : ((win0_14.blk t).view.emb y 0).val = 0 := by blk_simp [index_r t]
    have e1 : ((win0_14.blk t).view.emb y 1).val = t.val / 8 * 8 + (y 1).val := by blk_simp [index_r t]
    have e2 : ((win0_14.blk t).view.emb y 2).val = t.val % 8 * 2 + (y 2).val := by blk_simp [index_r t]
    have e3 : ((win0_14.blk t).view.emb y 3).val = (y 3).val := by blk_simp [index_r t]
    have e4 : ((win0_14.blk t).view.emb y 4).val = (y 4).val := by blk_simp [index_r t]
    generalize (win0_14.blk t).view.emb y = z at e0 e1 e2 e3 e4 ⊢
    exact state_point m c t y z e0 e1 e2 e3 e4
  · blk_simp [Pipeline.Window.cell_apply] at hj ⊢
    have h0 : ¬ (j 0).val = 0 := fun h => hj (by omega)
    refine (congrFun ((A_eq m c 14).trans (entry_r m c)) j).trans ?_
    exact (if_neg h0).symm
end

/-- The two programs from equal arguments end with equal results. -/
theorem algebraic : Cert.algebraic_GdnIdeal_GdnRefIdeal (hGdnIdeal := Cert.GdnIdeal.Gen.facts)
    (hGdnRefIdeal := Cert.GdnRefIdeal.Gen.facts) := by
  intro m ρ m' ρ' _ hag
  refine ⟨fun c => outM m c, fun c => stateM m c, ?_, ?_⟩
  · exact (θ_run _ _ _).mono (fun r h c => ⟨(h c).1.trans (final_out m c), (h c).2.1.trans (final_state m c), (h c).2.2⟩)
      (Cert.GdnIdeal.Value.run_blocks m ρ)
  · refine (θ_run _ _ _).mono (fun r h c => ⟨(h c).1.trans ?_, (h c).2.1.trans ?_, (h c).2.2⟩) (Cert.GdnRefIdeal.Value.run m' ρ')
    · refine (Cert.GdnRefIdeal.Read.val_main_v199_eq (StableHlo.launchContents m' c)).trans ?_
      show Cert.GdnRefIdeal.Read.val_main_v199 (F := Ideal) (m' ((c : Thread nD τ).loc Cert.GdnRefIdeal.main_arg0)) (m' ((c : Thread nD τ).loc Cert.GdnRefIdeal.main_arg1)) (m' ((c : Thread nD τ).loc Cert.GdnRefIdeal.main_arg2))
        (m' ((c : Thread nD τ).loc Cert.GdnRefIdeal.main_arg3)) (m' ((c : Thread nD τ).loc Cert.GdnRefIdeal.main_arg4)) (m' ((c : Thread nD τ).loc Cert.GdnRefIdeal.main_arg5)) (m' ((c : Thread nD τ).loc Cert.GdnRefIdeal.main_arg6)) = _
      rw [(hag c).1, (hag c).2.1, (hag c).2.2.1, (hag c).2.2.2.1, (hag c).2.2.2.2.1, (hag c).2.2.2.2.2.1, (hag c).2.2.2.2.2.2.1]
      exact ref_out _ _ _ _ _ _ _
    · refine (Cert.GdnRefIdeal.Read.val_main_v202_eq (StableHlo.launchContents m' c)).trans ?_
      show Cert.GdnRefIdeal.Read.val_main_v202 (F := Ideal) (m' ((c : Thread nD τ).loc Cert.GdnRefIdeal.main_arg0)) (m' ((c : Thread nD τ).loc Cert.GdnRefIdeal.main_arg1)) (m' ((c : Thread nD τ).loc Cert.GdnRefIdeal.main_arg2))
        (m' ((c : Thread nD τ).loc Cert.GdnRefIdeal.main_arg3)) (m' ((c : Thread nD τ).loc Cert.GdnRefIdeal.main_arg4)) (m' ((c : Thread nD τ).loc Cert.GdnRefIdeal.main_arg6)) (m' ((c : Thread nD τ).loc Cert.GdnRefIdeal.main_arg7)) = _
      rw [(hag c).1, (hag c).2.1, (hag c).2.2.1, (hag c).2.2.2.1, (hag c).2.2.2.2.1, (hag c).2.2.2.2.2.2.1, (hag c).2.2.2.2.2.2.2]
      exact ref_states _ _ _ _ _ _ _

end Cert.Proof.Gdn

end
-- ==== Proof.Zproj.lean ====
/-
  The combined projection of an DeltaNet layer without its gates: the array that the blocked kernel leaves is the reference's product.
-/
module

public import proofs.«01_k».proof.Defs
public import proofs.«01_k».proof.Proof.Gen.ZprojIdeal.Value
public import proofs.«01_k».proof.Proof.Gen.ZprojRefIdeal.Read
public import Idealize.ShloMosaic.Lib.Pipeline.ValueKit.Point
public import Idealize.ShloMosaic.Lib.Pointwise

@[expose] public section

set_option maxRecDepth 16384

noncomputable section

namespace Cert.Proof.Zproj

open Idealize.ShloMosaic Idealize.ShloMosaic.TcCoe Idealize.SL.Sem
open Cert.ZprojIdeal Cert.ZprojIdeal.Gen

variable (m : (ℓ : Loc nD τ sig) → Buf (Elt Ideal) ℓ) (ρ : Dev nD → PrngReg)

/-- Row block `t` is what point `t` reads of the activations. -/
theorem index_x : ∀ t : Fin cfg0.N, win0_0.index t = ![t.val, 0] :=
  (by decide +kernel : ∀ t : Fin grid0.N, win0_0.index t = ![t.val, 0])

/-- Every point reads the whole weight. -/
theorem index_w : ∀ t : Fin cfg0.N, win0_1.index t = ![0, 0] :=
  (by decide +kernel : ∀ t : Fin grid0.N, win0_1.index t = ![0, 0])

/-- Row block `t` is what point `t` writes. -/
theorem index_o : ∀ t : Fin cfg0.N, win0_2.index t = ![t.val, 0] :=
  (by decide +kernel : ∀ t : Fin grid0.N, win0_2.index t = ![t.val, 0])

/-- The activations as the kernel finds them: the argument's two leading axes merged. -/
theorem entry_x (c : Dev nD) : V m c main_v0 = shapeCast _ (m ((c : Thread nD τ).loc main_arg0)) shapeCasts_S8x2048x1024_S16384x1024 := by
  entry_read
  rfl

/-- The weight's columns before the gates'. -/
def cut (w : S1024x6176.Idx → EReal) : S1024x6144.Idx → EReal := fun y => w (ix2 (y 0) ⟨(y 1).val, by idx_bounds y; omega⟩)

/-- The weight as the kernel finds it. -/
theorem entry_w (c : Dev nD) : V m c main_v2 = extractStridedSlice S1024x6144 ![0, 0] (m ((c : Thread nD τ).loc main_arg1)) slices_S1024x6176_S1024x6144_0_0 := by
  entry_read
  rfl

/-- Row `i` of row block `t` of the activations. -/
theorem xblk (c : Dev nD) (t : Fin cfg0.N) (i : Fin 256) (k : Fin 1024) (p : Fin 8) (r : Fin 2048)
    (h : t.val * 256 + i.val = p.val * 2048 + r.val) :
    iblk m c 0 t (ix2 i k) = m ((c : Thread nD τ).loc main_arg0) (ix3 p r k) := by
  have e : (win0_0.blk t).view.emb (ix2 i k) = (ix2 ⟨p.val * 2048 + r.val, by omega⟩ k : S16384x1024.Idx) := by
    blk_ext [index_x t]
  blk_simp [iblk]
  rw [entry_x, e]
  refine shapeCast_apply _ _ _ (ix3 p r k) ?_
  rw [Shape.rowMajor_val_three, Shape.rowMajor_val_two]
  rfl

/-- The weight's block is the weight. -/
theorem wblk (c : Dev nD) (t : Fin cfg0.N) (k : Fin 1024) (j : Fin 6144) :
    iblk m c 1 t (ix2 k j) = cut (m ((c : Thread nD τ).loc main_arg1)) (ix2 k j) := by
  have e : (win0_1.blk t).view.emb (ix2 k j) = (ix2 k j : S1024x6144.Idx) := by
    blk_ext [index_w t]
  blk_simp [iblk]
  rw [entry_w, e]
  pointwise
  rfl

/-- The product at row `i`, column `j`. -/
def prod (x : S8x2048x1024.Idx → EReal) (w : S1024x6144.Idx → EReal) : S16384x6144.Idx → EReal :=
  fun y => ∑ k : Fin 1024, x (ix3 ⟨(y 0).val / 2048, by idx_bounds y; omega⟩ ⟨(y 0).val % 2048, by omega⟩ k) * w (ix2 k (y 1))

/-- The reference's result is the product by the columns kept. -/
theorem ref_eq (x : S8x2048x1024.Idx → EReal) (w : S1024x6176.Idx → EReal) :
    Cert.ZprojRefIdeal.Read.val_main_v2 (F := Ideal) x w = prod x (cut w) := by
  funext y
  idx_vars y
  pointwise [Cert.ZprojRefIdeal.Read.val_main_v2, Cert.ZprojRefIdeal.Read.val_main_v1, Cert.ZprojRefIdeal.Read.val_main_v0, prod]
  rfl

/-- What a block's row `i` and the weight's column `j` give is the product at the array's row and column. -/
theorem tile (x : S8x2048x1024.Idx → EReal) (w : S1024x6144.Idx → EReal) (x0 : S256x1024.Idx → EReal) (x1 : S1024x6144.Idx → EReal)
    (t : ℕ) (hx : ∀ (i : Fin 256) (k : Fin 1024) (p : Fin 8) (r : Fin 2048), t * 256 + i.val = p.val * 2048 + r.val → x0 (ix2 i k) = x (ix3 p r k))
    (hw : ∀ (k : Fin 1024) (j : Fin 6144), x1 (ix2 k j) = w (ix2 k j)) (i : Fin 256) (j : Fin 6144) (z : S16384x6144.Idx)
    (h0 : (z 0).val = t * 256 + i.val) (h1 : (z 1).val = j.val) :
    ∑ k : Fin 1024, x0 (ix2 i k) * x1 (ix2 k j) = prod x w z := by
  idx_vars z
  obtain rfl : z1 = j := Fin.ext h1
  have h0' : z0.val = t * 256 + i.val := h0
  have hz : z0.val < 16384 := z0.isLt
  refine Finset.sum_congr rfl fun k _ => ?_
  rw [hx i k ⟨z0.val / 2048, by omega⟩ ⟨z0.val % 2048, by omega⟩ (by simp only; omega), hw]
  rfl

set_option maxHeartbeats 1000000 in
/-- The array after the run is the product of the activations by the weight: six column tiles of a row block each. -/
theorem final (c : Dev nD) : (dats m 0 c).arrAt 2 cfg0.N
    = prod (m ((c : Thread nD τ).loc main_arg0)) (cut (m ((c : Thread nD τ).loc main_arg1))) := by
  refine (dats m 0 c).arrAt_eq_of_covers 2 _ (by decide +kernel) fun t hf y => ?_
  blk_simp
  rw [after0_2]
  have e0 : ((win0_2.blk t).view.emb y 0).val = t.val * 256 + (y 0).val := by blk_simp [index_o t]
  have e1 : ((win0_2.blk t).view.emb y 1).val = (y 1).val := by blk_simp [index_o t]
  generalize (win0_2.blk t).view.emb y = z at e0 e1 ⊢
  have key := tile _ _ _ _ t.val (xblk m c t) (wblk m c t) ⟨(y 0).val, (y 0).isLt⟩ ⟨(y 1).val, (y 1).isLt⟩ z e0 e1
  canon_tiles x h using Gen.cover0_2 ..
  all_goals
    open_payloads
    pointwise
    simp only [h0, h1] at key
    exact key

/-- The two programs from equal arguments end with equal results. -/
theorem algebraic : Cert.algebraic_ZprojIdeal_ZprojRefIdeal (hZprojIdeal := Cert.ZprojIdeal.Gen.facts)
    (hZprojRefIdeal := Cert.ZprojRefIdeal.Gen.facts) := by
  intro m ρ m' ρ' _ hag
  refine ⟨fun c => prod (m ((c : Thread nD τ).loc main_arg0)) (cut (m ((c : Thread nD τ).loc main_arg1))), ?_, ?_⟩
  · exact (θ_run _ _ _).mono (fun r h c => ⟨(h c).1.trans (final m c), (h c).2⟩) (Cert.ZprojIdeal.Value.run_blocks m ρ)
  · refine (θ_run _ _ _).mono (fun r h c => ⟨(h c).1.trans ?_, (h c).2⟩) (Cert.ZprojRefIdeal.Value.run m' ρ')
    rw [(hag c).1, (hag c).2]
    exact ref_eq _ _

end Cert.Proof.Zproj

end
-- ==== Proof.PostNorm.lean ====
/-
  The residual sum scaled by the depth constant, then a layer norm along the model dimension: one row's formula.
-/
module

public import Idealize.ShloMosaic.PureOps.Ideal

@[expose] public section

noncomputable section

namespace Cert.Proof

open Idealize.ShloMosaic

/-- Entry `j` of the post-norm of one row: `x` is the row's residual, `h` the branch's output, `g` and `b` the norm's gain and
    shift. The three constants are the depth constant, the row's length and the variance's guard. -/
def postNorm (x h g b : Fin 1024 → EReal) (j : Fin 1024) : EReal :=
  (Ideal.ofBits FTy.f32 0x3FD744FD#32 * x j + h j
      - Ideal.div (∑ k, (Ideal.ofBits FTy.f32 0x3FD744FD#32 * x k + h k)) (Ideal.ofBits FTy.f32 0x44800000#32))
    * Ideal.rsqrt
      (Ideal.div
          (∑ k,
            (Ideal.ofBits FTy.f32 0x3FD744FD#32 * x k + h k
                - Ideal.div (∑ k, (Ideal.ofBits FTy.f32 0x3FD744FD#32 * x k + h k)) (Ideal.ofBits FTy.f32 0x44800000#32))
              * (Ideal.ofBits FTy.f32 0x3FD744FD#32 * x k + h k
                - Ideal.div (∑ k, (Ideal.ofBits FTy.f32 0x3FD744FD#32 * x k + h k)) (Ideal.ofBits FTy.f32 0x44800000#32)))
          (Ideal.ofBits FTy.f32 0x44800000#32)
        + Ideal.ofBits FTy.f32 0x3727C5AC#32)
    * g j + b j

end Cert.Proof

end
-- ==== Proof.Merge.lean ====
/-
  The output projection of a attention layer with its residual and layer norm: the blocked kernel's array is the reference's.
-/
module

public import proofs.«01_k».proof.Defs
public import proofs.«01_k».proof.Proof.PostNorm
public import proofs.«01_k».proof.Proof.Gen.MergeIdeal.Value
public import proofs.«01_k».proof.Proof.Gen.MergeRefIdeal.Read
public import Idealize.ShloMosaic.Lib.Pipeline.ValueKit.Point
public import Idealize.ShloMosaic.Lib.Pointwise

@[expose] public section

set_option maxRecDepth 16384

noncomputable section

namespace Cert.Proof.Merge

open Idealize.ShloMosaic Idealize.ShloMosaic.TcCoe Idealize.SL.Sem
open Cert.MergeIdeal Cert.MergeIdeal.Gen

/-- The result at a row and a column: the post-norm of the row's residual and its projection. -/
def spec (a : S16384x1024.Idx → EReal) (w : S1024x1024.Idx → EReal) (x : S8x2048x1024.Idx → EReal) (g b : S1024.Idx → EReal)
    (y : S16384x1024.Idx) : EReal :=
  postNorm (fun k => x (ix3 ⟨(y 0).val / 2048, by idx_bounds y; omega⟩ ⟨(y 0).val % 2048, by omega⟩ k))
    (fun k => ∑ q : Fin 1024, a (ix2 (y 0) q) * w (ix2 q k)) (fun k => g (ix1 k)) (fun k => b (ix1 k)) (y 1)

/-- The body's payload at a row and a column of the block. -/
theorem pay (v0 : Vec Ideal S1024x1024 .bf16) (v1 : Vec Ideal S1024x1024 .bf16) (v4 : Vec Ideal S1024x1024 .f32)
    (v9 v11 : Vec Ideal S1x1024 .f32) (i j : Fin 1024) :
    k0_pay1 (F := Ideal) v0 v1 v4 v9 v11 (ix2 i j)
      = postNorm (fun k => v4 (ix2 i k)) (fun k => ∑ q : Fin 1024, v0 (ix2 i q) * v1 (ix2 q k)) (fun k => v9 (ix2 0 k))
          (fun k => v11 (ix2 0 k)) j := by
  pointwise [k0_pay1]
  rfl

section
open Cert.MergeRefIdeal.Read

/-- The reference's result is the specification. -/
theorem ref_eq (a : Vec Ideal S16384x1024 .bf16) (w : Vec Ideal S1024x1024 .f32) (x : Vec Ideal S8x2048x1024 .f32) (g b : Vec Ideal S1024 .f32) :
    val_main_v30 (F := Ideal) a w x g b = spec a w x g b := by
  funext y
  idx_vars y
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4]
  rfl
end

variable (m : (ℓ : Loc nD τ sig) → Buf (Elt Ideal) ℓ) (ρ : Dev nD → PrngReg)

/-- Row block `t` is what point `t` reads of the branch's input. -/
theorem index_a : ∀ t : Fin cfg0.N, win0_0.index t = ![t.val, 0] :=
  (by decide +kernel : ∀ t : Fin grid0.N, win0_0.index t = ![t.val, 0])

/-- Every point reads the whole weight. -/
theorem index_w : ∀ t : Fin cfg0.N, win0_1.index t = ![0, 0] :=
  (by decide +kernel : ∀ t : Fin grid0.N, win0_1.index t = ![0, 0])

/-- Row block `t` is what point `t` reads of the residual. -/
theorem index_x : ∀ t : Fin cfg0.N, win0_2.index t = ![t.val, 0] :=
  (by decide +kernel : ∀ t : Fin grid0.N, win0_2.index t = ![t.val, 0])

/-- Every point reads the whole gain. -/
theorem index_g : ∀ t : Fin cfg0.N, win0_3.index t = ![0, 0] :=
  (by decide +kernel : ∀ t : Fin grid0.N, win0_3.index t = ![0, 0])

/-- Every point reads the whole shift. -/
theorem index_b : ∀ t : Fin cfg0.N, win0_4.index t = ![0, 0] :=
  (by decide +kernel : ∀ t : Fin grid0.N, win0_4.index t = ![0, 0])

/-- Row block `t` is what point `t` writes. -/
theorem index_o : ∀ t : Fin cfg0.N, win0_5.index t = ![t.val, 0] :=
  (by decide +kernel : ∀ t : Fin grid0.N, win0_5.index t = ![t.val, 0])

/-- The weight as the kernel finds it. -/
theorem entry_w (c : Dev nD) : V m c main_v0 = m ((c : Thread nD τ).loc main_arg1) := by
  entry_read
  rfl

/-- The residual as the kernel finds it: the argument's two leading axes merged. -/
theorem entry_x (c : Dev nD) : V m c main_v1 = shapeCast _ (m ((c : Thread nD τ).loc main_arg2)) shapeCasts_S8x2048x1024_S16384x1024 := by
  entry_read
  rfl

/-- The gain as the kernel finds it: one row. -/
theorem entry_g (c : Dev nD) : V m c main_v2 = broadcastInDim S1x1024 ![1] bcast_S1024_S1x1024_1 (m ((c : Thread nD τ).loc main_arg3)) := by
  entry_read
  rfl

/-- The shift as the kernel finds it: one row. -/
theorem entry_b (c : Dev nD) : V m c main_v3 = broadcastInDim S1x1024 ![1] bcast_S1024_S1x1024_1 (m ((c : Thread nD τ).loc main_arg4)) := by
  entry_read
  rfl

/-- Row `i` of row block `t` of the branch's input. -/
theorem ablk (c : Dev nD) (t : Fin cfg0.N) (i : Fin 1024) (k : Fin 1024) (r : Fin 16384) (h : t.val * 1024 + i.val = r.val) :
    iblk m c 0 t (ix2 i k) = m ((c : Thread nD τ).loc main_arg0) (ix2 r k) := by
  have e : (win0_0.blk t).view.emb (ix2 i k) = (ix2 r k : S16384x1024.Idx) := by
    blk_ext [index_a t]
  blk_simp [iblk]
  rw [V_main_arg0, e]

/-- The weight's block is the weight. -/
theorem wblk (c : Dev nD) (t : Fin cfg0.N) (k : Fin 1024) (j : Fin 1024) :
    iblk m c 1 t (ix2 k j) = m ((c : Thread nD τ).loc main_arg1) (ix2 k j) := by
  have e : (win0_1.blk t).view.emb (ix2 k j) = (ix2 k j : S1024x1024.Idx) := by
    blk_ext [index_w t]
  blk_simp [iblk]
  rw [entry_w, e]

/-- Row `i` of row block `t` of the residual. -/
theorem xblk (c : Dev nD) (t : Fin cfg0.N) (i : Fin 1024) (k : Fin 1024) (p : Fin 8) (r : Fin 2048)
    (h : t.val * 1024 + i.val = p.val * 2048 + r.val) :
    iblk m c 2 t (ix2 i k) = m ((c : Thread nD τ).loc main_arg2) (ix3 p r k) := by
  have e : (win0_2.blk t).view.emb (ix2 i k) = (ix2 ⟨p.val * 2048 + r.val, by omega⟩ k : S16384x1024.Idx) := by
    blk_ext [index_x t]
  blk_simp [iblk]
  rw [entry_x, e]
  refine shapeCast_apply _ _ _ (ix3 p r k) ?_
  rw [Shape.rowMajor_val_three, Shape.rowMajor_val_two]
  rfl

/-- The gain's block is the gain. -/
theorem gblk (c : Dev nD) (t : Fin cfg0.N) (j : Fin 1024) :
    iblk m c 3 t (ix2 0 j) = m ((c : Thread nD τ).loc main_arg3) (ix1 j) := by
  have e : (win0_3.blk t).view.emb (ix2 0 j) = (ix2 0 j : S1x1024.Idx) := by
    blk_ext [index_g t]
  blk_simp [iblk]
  rw [entry_g, e]
  pointwise

/-- The shift's block is the shift. -/
theorem bblk (c : Dev nD) (t : Fin cfg0.N) (j : Fin 1024) :
    iblk m c 4 t (ix2 0 j) = m ((c : Thread nD τ).loc main_arg4) (ix1 j) := by
  have e : (win0_4.blk t).view.emb (ix2 0 j) = (ix2 0 j : S1x1024.Idx) := by
    blk_ext [index_b t]
  blk_simp [iblk]
  rw [entry_b, e]
  pointwise

/-- What a body leaves at a row and a column of its block is the specification at the array's row and column. -/
theorem point (c : Dev nD) (t : Fin cfg0.N) (i j : Fin 1024) (z : S16384x1024.Idx)
    (h0 : (z 0).val = t.val * 1024 + i.val) (h1 : (z 1).val = j.val) :
    k0_pay1 (F := Ideal) (iblk m c 0 t) (iblk m c 1 t) (iblk m c 2 t) (iblk m c 3 t) (iblk m c 4 t) (ix2 i j)
      = spec (m ((c : Thread nD τ).loc main_arg0)) (m ((c : Thread nD τ).loc main_arg1)) (m ((c : Thread nD τ).loc main_arg2))
          (m ((c : Thread nD τ).loc main_arg3)) (m ((c : Thread nD τ).loc main_arg4)) z := by
  idx_vars z
  obtain rfl : z1 = j := Fin.ext h1
  have h0' : z0.val = t.val * 1024 + i.val := h0
  have hz : z0.val < 16384 := z0.isLt
  have hx : ∀ k, iblk m c 2 t (ix2 i k) = m ((c : Thread nD τ).loc main_arg2) (ix3 ⟨z0.val / 2048, by omega⟩ ⟨z0.val % 2048, by omega⟩ k) :=
    fun k => xblk m c t i k _ _ (by simp only; omega)
  have ha : ∀ k, iblk m c 0 t (ix2 i k) = m ((c : Thread nD τ).loc main_arg0) (ix2 z0 k) := fun k => ablk m c t i k z0 h0'.symm
  refine (pay _ _ _ _ _ _ _).trans ?_
  unfold spec
  rw [funext hx, funext (gblk m c t), funext (bblk m c t)]
  congr 1
  funext k
  exact Finset.sum_congr rfl fun q _ => congrArg₂ (· * ·) (ha q) (wblk m c t q k)

/-- The body reads and writes whole buffers: what it leaves is its payload. -/
theorem out_eq (x0 : Vec Ideal S1024x1024 .bf16) (x1 : Vec Ideal S1024x1024 .bf16) (x2 : Vec Ideal S1024x1024 .f32)
    (x3 x4 : Vec Ideal S1x1024 .f32) : out0_5 (F := Ideal) x0 x1 x2 x3 x4 = k0_pay1 x0 x1 x2 x3 x4 := by
  have h0 : (![0, 0] : Fin S1024x1024.rank → Nat) = fun _ => 0 := funext fun a => by fin_cases a <;> rfl
  have h1 : (![0, 0] : Fin S1024x1024.rank → Nat) = fun _ => 0 := funext fun a => by fin_cases a <;> rfl
  have h2 : (![0, 0] : Fin S1024x1024.rank → Nat) = fun _ => 0 := funext fun a => by fin_cases a <;> rfl
  have h3 : (![0, 0] : Fin S1x1024.rank → Nat) = fun _ => 0 := funext fun a => by fin_cases a <;> rfl
  unfold out0_5
  rw [View.canon_unit_zero h2, View.ld_unit_zero h0, View.ld_unit_zero h1, View.ld_unit_zero h2, View.ld_unit_zero h3, View.ld_unit_zero h3]

/-- … at an index's coordinates. -/
theorem out_at (x0 : Vec Ideal S1024x1024 .bf16) (x1 : Vec Ideal S1024x1024 .bf16) (x2 : Vec Ideal S1024x1024 .f32)
    (x3 x4 : Vec Ideal S1x1024 .f32) (y : S1024x1024.Idx) :
    out0_5 (F := Ideal) x0 x1 x2 x3 x4 y = k0_pay1 x0 x1 x2 x3 x4 (ix2 (y 0) (y 1)) :=
  (congrFun (out_eq x0 x1 x2 x3 x4) y).trans (congrArg (k0_pay1 x0 x1 x2 x3 x4) (eq_ix2 y))

/-- The array after the run is the specification. -/
theorem final (c : Dev nD) : (dats m 0 c).arrAt 5 cfg0.N
    = spec (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  have e0 : ((win0_5.blk t).view.emb y 0).val = t.val * 1024 + (y 0).val := by blk_simp [index_o t]
  have e1 : ((win0_5.blk t).view.emb y 1).val = (y 1).val := by blk_simp [index_o t]
  generalize (win0_5.blk t).view.emb y = z at e0 e1 ⊢
  have key := point m c t ⟨(y 0).val, (y 0).isLt⟩ ⟨(y 1).val, (y 1).isLt⟩ z e0 e1
  exact (out_at _ _ _ _ _ y).trans key

/-- The two programs from equal arguments end with equal results. -/
theorem algebraic : Cert.algebraic_MergeIdeal_MergeRefIdeal (hMergeIdeal := Cert.MergeIdeal.Gen.facts)
    (hMergeRefIdeal := Cert.MergeRefIdeal.Gen.facts) := by
  intro m ρ m' ρ' _ hag
  refine ⟨fun c => spec (m ((c : Thread nD τ).loc main_arg0)) (m ((c : Thread nD τ).loc main_arg1)) (m ((c : Thread nD τ).loc main_arg2))
          (m ((c : Thread nD τ).loc main_arg3)) (m ((c : Thread nD τ).loc main_arg4)), ?_, ?_⟩
  · exact (θ_run _ _ _).mono (fun r h c => ⟨(h c).1.trans (final m c), (h c).2⟩) (Cert.MergeIdeal.Value.run_blocks m ρ)
  · refine (θ_run _ _ _).mono (fun r h c => ⟨(h c).1.trans ?_, (h c).2⟩) (Cert.MergeRefIdeal.Value.run m' ρ')
    refine (Cert.MergeRefIdeal.Read.val_main_v30_eq m' c).trans ?_
    rw [(hag c).1, (hag c).2.1, (hag c).2.2.1, (hag c).2.2.2.1, (hag c).2.2.2.2]
    exact ref_eq _ _ _ _ _

end Cert.Proof.Merge

end
-- ==== Proof.Ffn.lean ====
/-
  A layer's feed-forward network with its residual and layer norm: the kernel's array, computed 256 rows and 256 hidden
  columns at a time, is the reference's.
-/
module

public import proofs.«01_k».proof.Defs
public import proofs.«01_k».proof.Proof.PostNorm
public import proofs.«01_k».proof.Proof.Gen.FfnIdeal.Value
public import proofs.«01_k».proof.Proof.Gen.FfnRefIdeal.Read
public import Idealize.ShloMosaic.Lib.Pipeline.ValueKit.Point
public import Idealize.ShloMosaic.Lib.Pointwise

@[expose] public section

set_option maxRecDepth 16384

noncomputable section

namespace Cert.Proof.Ffn

open Idealize.ShloMosaic Idealize.ShloMosaic.TcCoe Idealize.SL.Sem
open Cert.FfnIdeal Cert.FfnIdeal.Gen

/-- The gated hidden value of a row `x` with a gate column `w` and an up column `u`. -/
def act (x w u : Fin 1024 → EReal) : EReal :=
  (∑ k, x k * w k) * Ideal.div 1 (1 + Ideal.exp (-∑ k, x k * w k)) * ∑ k, x k * u k

/-- A row after the network, the residual and the norm. -/
def row (x : Fin 1024 → EReal) (w : S1024x5632.Idx → EReal) (v : S2816x1024.Idx → EReal) (g b : Fin 1024 → EReal) (j : Fin 1024) : EReal :=
  postNorm x
    (fun k => ∑ q : Fin 2816, act x (fun k => w (ix2 k ⟨q.val, by omega⟩)) (fun k => w (ix2 k ⟨2816 + q.val, by omega⟩)) * v (ix2 q k))
    g b j

/-- The result at a row and a column. -/
def spec (x : S8x2048x1024.Idx → EReal) (w : S1024x5632.Idx → EReal) (v : S2816x1024.Idx → EReal) (g b : S1024.Idx → EReal)
    (y : S16384x1024.Idx) : EReal :=
  row (fun k => x (ix3 ⟨(y 0).val / 2048, by idx_bounds y; omega⟩ ⟨(y 0).val % 2048, by omega⟩ k)) w v
    (fun k => g (ix1 k)) (fun k => b (ix1 k)) (y 1)

section
open Cert.FfnRefIdeal.Read

/-- The reference's result is the specification. -/
theorem ref_eq (x : Vec Ideal S8x2048x1024 .f32) (w : Vec Ideal S1024x5632 .f32) (v : Vec Ideal S2816x1024 .f32) (g b : Vec Ideal S1024 .f32) :
    val_main_v33 (F := Ideal) x w v g b = spec x w v g b := by
  funext y
  idx_vars y
  pointwise [val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_3, val_main_cst_4, val_main_call0_v5, val_main_call0_v4, val_main_call0_v3, val_main_call0_v2,
    val_main_call0_v1, val_main_call0_v0, val_main_call0_cst, val_main_call0_cst_0]
  rfl
end

/-- The hidden tile of a block of rows from a gate tile and an up tile. -/
theorem tile (v4 : Vec Ideal S256x1024 .f32) (a u : Vec Ideal S1024x256 .bf16) (i j : Fin 256) :
    k0_pay4 (F := Ideal) v4 a u (ix2 i j) = act (fun k => v4 (ix2 i k)) (fun k => a (ix2 k j)) (fun k => u (ix2 k j)) := by
  pointwise [k0_pay4, k0_pay3, k0_pay2]
  rw [zero_sub]
  rfl

/-- The hidden block of a block of rows. -/
def hid (v4 : S256x1024.Idx → EReal) (w : S1024x5632.Idx → EReal) (z : S256x2816.Idx) : EReal :=
  act (fun k => v4 (ix2 (z 0) k)) (fun k => w (ix2 k ⟨(z 1).val, by idx_bounds z; omega⟩))
    (fun k => w (ix2 k ⟨2816 + (z 1).val, by idx_bounds z; omega⟩))

/-- The tile from the columns at `o` and at `2816 + o` is the hidden block's at column `o`. -/
theorem tile_ld (v4 : Vec Ideal S256x1024 .f32) (w : Vec Ideal S1024x5632 .bf16) (o o' : Nat) (inb inb') (i j : Fin 256)
    (ho : o + 256 ≤ 2816) (ho' : o' = 2816 + o) :
    k0_pay4 (F := Ideal) v4 (View.ld w (Rect.unit ![0, o] ![1024, 256] inb)) (View.ld w (Rect.unit ![0, o'] ![1024, 256] inb')) (ix2 i j)
      = hid v4 w (ix2 i ⟨o + j.val, by omega⟩) := by
  subst ho'
  refine (tile _ _ _ _ _).trans ?_
  unfold hid
  congr 1 <;> funext k
  · refine View.ld_unit_apply_of _ _ _ _ _ _ fun a => ?_
    fin_cases a <;> simp
  · refine View.ld_unit_apply_of _ _ _ _ _ _ fun a => ?_
    fin_cases a <;> simp [Nat.add_assoc]

/-- Eleven tiles side by side are one block `G` when each is its columns. -/
theorem cat (G : S256x2816.Idx → EReal) (t0 t1 t2 t3 t4 t5 t6 t7 t8 t9 t10 : Vec Ideal S256x256 .bf16) (h)
    (H : ∀ (n : Nat) (hn : n < 11) (i j : Fin 256), [t0, t1, t2, t3, t4, t5, t6, t7, t8, t9, t10][n] (ix2 i j)
      = G (ix2 i ⟨n * 256 + j.val, by omega⟩)) :
    concatenate S256x2816 1 [⟨S256x256, t0⟩, ⟨S256x256, t1⟩, ⟨S256x256, t2⟩, ⟨S256x256, t3⟩, ⟨S256x256, t4⟩, ⟨S256x256, t5⟩,
      ⟨S256x256, t6⟩, ⟨S256x256, t7⟩, ⟨S256x256, t8⟩, ⟨S256x256, t9⟩, ⟨S256x256, t10⟩] h = G := by
  funext z
  idx_vars z
  have hz : z1.val < 2816 := z1.isLt
  have hn : z1.val / 256 < 11 := by omega
  have e : (⟨z1.val / 256 * 256 + (⟨z1.val % 256, by omega⟩ : Fin 256).val, by simp only; omega⟩ : Fin 2816) = z1 :=
    Fin.ext (by simp only; omega)
  have key := H (z1.val / 256) hn z0 ⟨z1.val % 256, by omega⟩
  rw [e] at key
  refine Eq.trans ?_ key
  refine concatenate_apply_piece (t := S256x2816) 1 _ h (ix2 z0 z1) (z1.val / 256) hn S256x256 _ ?_ rfl (z1.val / 256 * 256) ?_
    (ix2 z0 ⟨z1.val % 256, by omega⟩) ?_ ?_
  · generalize z1.val / 256 = n at hn
    interval_cases n <;> rfl
  · generalize z1.val / 256 = n at hn
    interval_cases n <;> rfl
  · intro b hb
    fin_cases b
    · rfl
    · exact absurd rfl hb
  · show z1.val / 256 * 256 + z1.val % 256 = z1.val
    omega

/-- A block of rows after the network and the norm, from the loaded rows and the whole weights. -/
def rows (v4 : Vec Ideal S256x1024 .f32) (w : Vec Ideal S1024x5632 .bf16) (v : Vec Ideal S2816x1024 .bf16) (g b : Vec Ideal S1x1024 .f32) :
    Vec Ideal S256x1024 .f32 := fun z =>
  postNorm (fun k => v4 (ix2 (z 0) k)) (fun k => ∑ q : Fin 2816, hid v4 w (ix2 (z 0) q) * v (ix2 q k)) (fun k => g (ix2 0 k))
    (fun k => b (ix2 0 k)) (z 1)

/-- The last product, the residual and the norm, from the tiles side by side. -/
theorem close (v4 : Vec Ideal S256x1024 .f32) (G : FVec Ideal S256x2816 .bf16) (v : Vec Ideal S2816x1024 .bf16) (g b : Vec Ideal S1x1024 .f32)
    (i : Fin 256) (j : Fin 1024) :
    k0_pay1 (F := Ideal) (addf (mulf (broadcast S256x1024 (Scalar.ofBits .f32 0x3FD744FD#32)) (k0_pay2 v4))
        (matmul (φ₁ := .bf16) (φ₂ := .bf16) dot_S256x2816_S2816x1024_S256x1024_1_0_0_1_n_n none G (shapeCast S2816x1024 (v : FVec Ideal S2816x1024 .bf16) shapeCasts_S2816x1024_S2816x1024)
          (constant S256x1024 .f32 0x00000000#32))) (k0_pay21 g) b (ix2 i j)
      = postNorm (fun k => v4 (ix2 i k)) (fun k => ∑ q : Fin 2816, G (ix2 i q) * v (ix2 q k)) (fun k => g (ix2 0 k))
          (fun k => b (ix2 0 k)) j := by
  pointwise [k0_pay1, k0_pay2, k0_pay21]
  rfl

section
variable (v4 : Vec Ideal S256x1024 .f32) (w : Vec Ideal S1024x5632 .bf16)

/-- Columns `o` to `o + 256` of the first weight. -/
abbrev cols (o : Nat) (inb : ∀ a, (![0, o] : Fin 2 → Nat) a + (![1024, 256] : Fin 2 → Nat) a ≤ S1024x5632.size a) : Vec Ideal S1024x256 .bf16 :=
  View.ld w (Rect.unit (s := S1024x5632) ![0, o] ![1024, 256] inb)
end

/-- One trip's stored block is `rows` of the loaded rows. -/
theorem trip_pay (v4 : Vec Ideal S256x1024 .f32) (w : Vec Ideal S1024x5632 .bf16) (v : Vec Ideal S2816x1024 .bf16) (g b : Vec Ideal S1x1024 .f32) :
    k0_pay1 (F := Ideal) (k0_pay20 (k0_pay2 v4) (k0_pay3 v4)
      (k0_pay4 v4 (cols w 0 inb_S1024x5632_S1024x256_0_0) (cols w 2816 inb_S1024x5632_S1024x256_0_2816))
      (k0_pay5 v4 (cols w 256 inb_S1024x5632_S1024x256_0_256) (cols w 3072 inb_S1024x5632_S1024x256_0_3072))
      (k0_pay6 (k0_pay3 v4) (cols w 512 inb_S1024x5632_S1024x256_0_512) (cols w 3328 inb_S1024x5632_S1024x256_0_3328))
      (k0_pay7 (k0_pay3 v4) (cols w 768 inb_S1024x5632_S1024x256_0_768) (cols w 3584 inb_S1024x5632_S1024x256_0_3584))
      (k0_pay10 (k0_pay3 v4) (k0_pay8 (k0_pay3 v4) (cols w 1024 inb_S1024x5632_S1024x256_0_1024))
        (k0_pay9 (cols w 3840 inb_S1024x5632_S1024x256_0_3840)) (constant S256x256 FTy.f32 0#32))
      (k0_pay11 (k0_pay3 v4) (cols w 1280 inb_S1024x5632_S1024x256_0_1280) (cols w 4096 inb_S1024x5632_S1024x256_0_4096))
      (k0_pay16 (k0_pay12 (k0_pay3 v4) (cols w 1536 inb_S1024x5632_S1024x256_0_1536))
        (k0_pay13 (k0_pay3 v4) (cols w 4352 inb_S1024x5632_S1024x256_0_4352))
        (k0_pay14 (k0_pay3 v4) (cols w 1536 inb_S1024x5632_S1024x256_0_1536)) k0_pay15)
      (k0_pay17 (k0_pay3 v4) (cols w 1792 inb_S1024x5632_S1024x256_0_1792) (cols w 4608 inb_S1024x5632_S1024x256_0_4608))
      (k0_pay18 (k0_pay3 v4) (cols w 2048 inb_S1024x5632_S1024x256_0_2048) (cols w 4864 inb_S1024x5632_S1024x256_0_4864))
      (k0_pay19 (k0_pay3 v4) (cols w 2304 inb_S1024x5632_S1024x256_0_2304)) (cols w 5120 inb_S1024x5632_S1024x256_0_5120)
      (cols w 2560 inb_S1024x5632_S1024x256_0_2560) (cols w 5376 inb_S1024x5632_S1024x256_0_5376) v) (k0_pay21 g) b
      = rows v4 w v g b := by
  have hG := cat (hid v4 w)
    (k0_pay4 v4 (cols w 0 inb_S1024x5632_S1024x256_0_0) (cols w 2816 inb_S1024x5632_S1024x256_0_2816))
    (k0_pay4 v4 (cols w 256 inb_S1024x5632_S1024x256_0_256) (cols w 3072 inb_S1024x5632_S1024x256_0_3072))
    (k0_pay4 v4 (cols w 512 inb_S1024x5632_S1024x256_0_512) (cols w 3328 inb_S1024x5632_S1024x256_0_3328))
    (k0_pay4 v4 (cols w 768 inb_S1024x5632_S1024x256_0_768) (cols w 3584 inb_S1024x5632_S1024x256_0_3584))
    (k0_pay4 v4 (cols w 1024 inb_S1024x5632_S1024x256_0_1024) (cols w 3840 inb_S1024x5632_S1024x256_0_3840))
    (k0_pay4 v4 (cols w 1280 inb_S1024x5632_S1024x256_0_1280) (cols w 4096 inb_S1024x5632_S1024x256_0_4096))
    (k0_pay4 v4 (cols w 1536 inb_S1024x5632_S1024x256_0_1536) (cols w 4352 inb_S1024x5632_S1024x256_0_4352))
    (k0_pay4 v4 (cols w 1792 inb_S1024x5632_S1024x256_0_1792) (cols w 4608 inb_S1024x5632_S1024x256_0_4608))
    (k0_pay4 v4 (cols w 2048 inb_S1024x5632_S1024x256_0_2048) (cols w 4864 inb_S1024x5632_S1024x256_0_4864))
    (k0_pay4 v4 (cols w 2304 inb_S1024x5632_S1024x256_0_2304) (cols w 5120 inb_S1024x5632_S1024x256_0_5120))
    (k0_pay4 v4 (cols w 2560 inb_S1024x5632_S1024x256_0_2560) (cols w 5376 inb_S1024x5632_S1024x256_0_5376))
    concatenates_S256x256_S256x256_S256x256_S256x256_S256x256_S256x256_S256x256_S256x256_S256x256_S256x256_S256x256_S256x2816_d1 (by
      intro n hn i j
      interval_cases n <;> exact tile_ld v4 w _ _ _ _ i j (by omega) rfl)
  funext z
  idx_vars z
  refine Eq.trans ?_ (close v4 (hid v4 w) v g b z0 z1)
  rw [← hG]
  rfl

/-- A point's block, from the blocks it reads. -/
def block (x0 : Vec Ideal S1024x1024 .f32) (w : Vec Ideal S1024x5632 .bf16) (v : Vec Ideal S2816x1024 .bf16) (g b : Vec Ideal S1x1024 .f32)
    (y : S1024x1024.Idx) : EReal :=
  row (fun k => x0 (ix2 (y 0) k)) w v (fun k => g (ix2 0 k)) (fun k => b (ix2 0 k)) (y 1)

/-- The rows from `o` on of that block are `rows` of the loaded rows, whatever `o`. -/
theorem rows_block (x0 : Vec Ideal S1024x1024 .f32) (w : Vec Ideal S1024x5632 .bf16) (v : Vec Ideal S2816x1024 .bf16) (g b : Vec Ideal S1x1024 .f32)
    (o : Nat) (inb : ∀ a, (![o, 0] : Fin 2 → Nat) a + (![256, 1024] : Fin 2 → Nat) a ≤ S1024x1024.size a)
    (x : (Rect.unit (s := S1024x1024) ![o, 0] ![256, 1024] inb).shape.Idx) :
    rows (View.ld x0 (Rect.unit (s := S1024x1024) ![o, 0] ![256, 1024] inb)) w v g b x
      = block x0 w v g b ((Rect.unit (s := S1024x1024) ![o, 0] ![256, 1024] inb).emb x) := by
  have h0 : ∀ k : Fin 1024, View.ld x0 (Rect.unit (s := S1024x1024) ![o, 0] ![256, 1024] inb) (ix2 (x 0) k)
      = x0 (ix2 ((Rect.unit (s := S1024x1024) ![o, 0] ![256, 1024] inb).emb x 0) k) := fun k => by
    refine View.ld_unit_apply_of _ _ _ _ _ _ fun a => ?_
    fin_cases a <;> simp
  have h1 : (Rect.unit (s := S1024x1024) ![o, 0] ![256, 1024] inb).emb x 1 = x 1 := Fin.ext (by simp)
  exact congrArg₂ (fun r j => row r w v (fun k => g (ix2 0 k)) (fun k => b (ix2 0 k)) j) (funext h0) h1.symm

section
variable (c : Dev nD) (i : grid0.Coords) (arg1 : Memref sig .tc .vmem S1024x1024 .f32) (harg1 : arg1.IsWhole)
  (arg2 : Memref sig .tc .vmem S1024x5632 .bf16) (harg2 : arg2.IsWhole) (arg3 : Memref sig .tc .vmem S2816x1024 .bf16) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1024x1024 .f32) (harg6 : arg6.IsWhole)
  (x0 : Vec Ideal S1024x1024 .f32) (x1 : Vec Ideal S1024x5632 .bf16) (x2 : Vec Ideal S2816x1024 .bf16) (x3 x4 : Vec Ideal S1x1024 .f32)

/-- What one trip stores are rows of the block. -/
theorem trip_block (k : Fin k0_t1_loop.trips) :
    ∀ p ∈ (trip_k0_t1 (F := Ideal) Variants.none c none i arg1 harg1 arg2 harg2 arg3 harg3 arg4 harg4 arg5 harg5 arg6 harg6
      (harg1.unread x0) (harg2.unread x1) (harg3.unread x2) (harg4.unread x3) (harg5.unread x4) k).1,
      ∀ x : p.1.shape.Idx, p.2 x = block x0 x1 x2 x3 x4 (p.1.emb x) := by
  unfold trip_k0_t1
  dsimp only
  sl_unfold_words
  simp only [View.readAt_eq_ld, harg1.read_unread, harg2.read_unread, harg3.read_unread, harg4.read_unread, harg5.read_unread]
  have h2 : (![0, 0] : Fin S2816x1024.rank → Nat) = fun _ => 0 := funext fun a => by fin_cases a <;> rfl
  have h3 : (![0, 0] : Fin S1x1024.rank → Nat) = fun _ => 0 := funext fun a => by fin_cases a <;> rfl
  refine List.forall_mem_singleton.2 fun x => ?_
  dsimp only
  rw [View.ld_unit_zero h2 _ x2, View.ld_unit_zero h3 _ x3, View.ld_unit_zero h3 _ x4]
  exact (congrFun (trip_pay _ x1 x2 x3 x4) x).trans (rows_block x0 x1 x2 x3 x4 _ _ x)

/-- … and so are all the trips' before `k`. -/
theorem trips_block : ∀ k : Nat, k ≤ k0_t1_loop.trips →
    ∀ p ∈ pb_k0_t1 (F := Ideal) Variants.none c none i arg1 harg1 arg2 harg2 arg3 harg3 arg4 harg4 arg5 harg5 arg6 harg6
      (harg1.unread x0) (harg2.unread x1) (harg3.unread x2) (harg4.unread x3) (harg5.unread x4) k,
      ∀ x : p.1.shape.Idx, p.2 x = block x0 x1 x2 x3 x4 (p.1.emb x)
  | 0, _ => fun p hp => absurd hp List.not_mem_nil
  | k + 1, h => fun p hp => by
    rw [show k + 1 = (⟨k, h⟩ : Fin k0_t1_loop.trips).val + 1 from rfl, pb_k0_t1_succ] at hp
    rcases List.mem_append.1 hp with hp | hp
    · exact trip_block c i arg1 harg1 arg2 harg2 arg3 harg3 arg4 harg4 arg5 harg5 arg6 harg6 x0 x1 x2 x3 x4 ⟨k, h⟩ p hp
    · exact trips_block k (Nat.le_of_succ_le h) p hp

/-- The body leaves the block. -/
theorem out_eq : out0_A_5 (F := Ideal) c i arg1 harg1 arg2 harg2 arg3 harg3 arg4 harg4 arg5 harg5 arg6 harg6 x0 x1 x2 x3 x4
    = block x0 x1 x2 x3 x4 := by
  funext y
  unfold out0_A_5
  rw [View.read_writes_eq_canon _ _ _ (cover0_A_5 c i arg1 harg1 arg2 harg2 arg3 harg3 arg4 harg4 arg5 harg5 arg6 harg6 x0 x1 x2 x3 x4)]
  refine View.canon_apply_of_pieces (block x0 x1 x2 x3 x4) _ ?_ y
    (cover0_A_5 c i arg1 harg1 arg2 harg2 arg3 harg3 arg4 harg4 arg5 harg5 arg6 harg6 x0 x1 x2 x3 x4 y)
  unfold kernelRun0_A
  dsimp only
  exact trips_block c i arg1 harg1 arg2 harg2 arg3 harg3 arg4 harg4 arg5 harg5 arg6 harg6 x0 x1 x2 x3 x4 _ (le_refl _)
end

variable (m : (ℓ : Loc nD τ sig) → Buf (Elt Ideal) ℓ) (ρ : Dev nD → PrngReg)

/-- Row block `t` is what point `t` reads of the input. -/
theorem index_x : ∀ t : Fin cfg0.N, win0_0.index t = ![t.val, 0] :=
  (by decide +kernel : ∀ t : Fin grid0.N, win0_0.index t = ![t.val, 0])

/-- Every point reads the whole first weight. -/
theorem index_w : ∀ t : Fin cfg0.N, win0_1.index t = ![0, 0] :=
  (by decide +kernel : ∀ t : Fin grid0.N, win0_1.index t = ![0, 0])

/-- Every point reads the whole second weight. -/
theorem index_v : ∀ t : Fin cfg0.N, win0_2.index t = ![0, 0] :=
  (by decide +kernel : ∀ t : Fin grid0.N, win0_2.index t = ![0, 0])

/-- Every point reads the whole gain. -/
theorem index_g : ∀ t : Fin cfg0.N, win0_3.index t = ![0, 0] :=
  (by decide +kernel : ∀ t : Fin grid0.N, win0_3.index t = ![0, 0])

/-- Every point reads the whole shift. -/
theorem index_b : ∀ t : Fin cfg0.N, win0_4.index t = ![0, 0] :=
  (by decide +kernel : ∀ t : Fin grid0.N, win0_4.index t = ![0, 0])

/-- Row block `t` is what point `t` writes. -/
theorem index_o : ∀ t : Fin cfg0.N, win0_5.index t = ![t.val, 0] :=
  (by decide +kernel : ∀ t : Fin grid0.N, win0_5.index t = ![t.val, 0])

/-- The input as the kernel finds it: the argument's two leading axes merged. -/
theorem entry_x (c : Dev nD) : V m c main_v0 = shapeCast _ (m ((c : Thread nD τ).loc main_arg0)) shapeCasts_S8x2048x1024_S16384x1024 := by
  entry_read
  rfl

/-- The first weight as the kernel finds it. -/
theorem entry_w (c : Dev nD) : V m c main_v1 = m ((c : Thread nD τ).loc main_arg1) := by
  entry_read
  rfl

/-- The second weight as the kernel finds it. -/
theorem entry_v (c : Dev nD) : V m c main_v2 = m ((c : Thread nD τ).loc main_arg2) := by
  entry_read
  rfl

/-- The gain as the kernel finds it: one row. -/
theorem entry_g (c : Dev nD) : V m c main_v3 = broadcastInDim S1x1024 ![1] bcast_S1024_S1x1024_1 (m ((c : Thread nD τ).loc main_arg3)) := by
  entry_read
  rfl

/-- The shift as the kernel finds it: one row. -/
theorem entry_b (c : Dev nD) : V m c main_v4 = broadcastInDim S1x1024 ![1] bcast_S1024_S1x1024_1 (m ((c : Thread nD τ).loc main_arg4)) := by
  entry_read
  rfl

/-- Row `i` of row block `t` of the input. -/
theorem xblk (c : Dev nD) (t : Fin cfg0.N) (i : Fin 1024) (k : Fin 1024) (p : Fin 8) (r : Fin 2048)
    (h : t.val * 1024 + i.val = p.val * 2048 + r.val) :
    iblk m c 0 t (ix2 i k) = m ((c : Thread nD τ).loc main_arg0) (ix3 p r k) := by
  have e : (win0_0.blk t).view.emb (ix2 i k) = (ix2 ⟨p.val * 2048 + r.val, by omega⟩ k : S16384x1024.Idx) := by
    blk_ext [index_x t]
  blk_simp [iblk]
  rw [entry_x, e]
  refine shapeCast_apply _ _ _ (ix3 p r k) ?_
  rw [Shape.rowMajor_val_three, Shape.rowMajor_val_two]
  rfl

/-- The first weight's block is the weight. -/
theorem wblk (c : Dev nD) (t : Fin cfg0.N) (k : Fin 1024) (j : Fin 5632) :
    iblk m c 1 t (ix2 k j) = m ((c : Thread nD τ).loc main_arg1) (ix2 k j) := by
  have e : (win0_1.blk t).view.emb (ix2 k j) = (ix2 k j : S1024x5632.Idx) := by
    blk_ext [index_w t]
  blk_simp [iblk]
  rw [entry_w, e]

/-- The second weight's block is the weight. -/
theorem vblk (c : Dev nD) (t : Fin cfg0.N) (k : Fin 2816) (j : Fin 1024) :
    iblk m c 2 t (ix2 k j) = m ((c : Thread nD τ).loc main_arg2) (ix2 k j) := by
  have e : (win0_2.blk t).view.emb (ix2 k j) = (ix2 k j : S2816x1024.Idx) := by
    blk_ext [index_v t]
  blk_simp [iblk]
  rw [entry_v, e]

/-- The gain's block is the gain. -/
theorem gblk (c : Dev nD) (t : Fin cfg0.N) (j : Fin 1024) :
    iblk m c 3 t (ix2 0 j) = m ((c : Thread nD τ).loc main_arg3) (ix1 j) := by
  have e : (win0_3.blk t).view.emb (ix2 0 j) = (ix2 0 j : S1x1024.Idx) := by
    blk_ext [index_g t]
  blk_simp [iblk]
  rw [entry_g, e]
  pointwise

/-- The shift's block is the shift. -/
theorem bblk (c : Dev nD) (t : Fin cfg0.N) (j : Fin 1024) :
    iblk m c 4 t (ix2 0 j) = m ((c : Thread nD τ).loc main_arg4) (ix1 j) := by
  have e : (win0_4.blk t).view.emb (ix2 0 j) = (ix2 0 j : S1x1024.Idx) := by
    blk_ext [index_b t]
  blk_simp [iblk]
  rw [entry_b, e]
  pointwise

/-- A row of the network reads its weights entry by entry. -/
theorem row_congr {x x' : Fin 1024 → EReal} {w w' : S1024x5632.Idx → EReal} {v v' : S2816x1024.Idx → EReal} {g g' b b' : Fin 1024 → EReal}
    (hx : ∀ k, x k = x' k) (hw : ∀ k j, w (ix2 k j) = w' (ix2 k j)) (hv : ∀ k j, v (ix2 k j) = v' (ix2 k j)) (hg : ∀ k, g k = g' k)
    (hb : ∀ k, b k = b' k) (j : Fin 1024) : row x w v g b j = row x' w' v' g' b' j := by
  obtain rfl : x = x' := funext hx
  obtain rfl : g = g' := funext hg
  obtain rfl : b = b' := funext hb
  unfold row
  simp only [hw, hv]

/-- What a body leaves at a row and a column of its block is the specification at the array's row and column. -/
theorem point (c : Dev nD) (t : Fin cfg0.N) (i j : Fin 1024) (z : S16384x1024.Idx)
    (h0 : (z 0).val = t.val * 1024 + i.val) (h1 : (z 1).val = j.val) :
    row (fun k => iblk m c 0 t (ix2 i k)) (iblk m c 1 t) (iblk m c 2 t) (fun k => iblk m c 3 t (ix2 0 k)) (fun k => iblk m c 4 t (ix2 0 k)) j
      = spec (m ((c : Thread nD τ).loc main_arg0)) (m ((c : Thread nD τ).loc main_arg1)) (m ((c : Thread nD τ).loc main_arg2))
          (m ((c : Thread nD τ).loc main_arg3)) (m ((c : Thread nD τ).loc main_arg4)) z := by
  idx_vars z
  obtain rfl : z1 = j := Fin.ext h1
  have h0' : z0.val = t.val * 1024 + i.val := h0
  have hz : z0.val < 16384 := z0.isLt
  exact row_congr (fun k => xblk m c t i k _ _ (by show t.val * 1024 + i.val = z0.val / 2048 * 2048 + z0.val % 2048; omega))
    (wblk m c t) (vblk m c t) (gblk m c t) (bblk m c t) z1

/-- The array after the run is the specification. -/
theorem final (c : Dev nD) : (dats m 0 c).arrAt 5 cfg0.N
    = spec (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  have e0 : ((win0_5.blk t).view.emb y 0).val = t.val * 1024 + (y 0).val := by blk_simp [index_o t]
  have e1 : ((win0_5.blk t).view.emb y 1).val = (y 1).val := by blk_simp [index_o t]
  generalize (win0_5.blk t).view.emb y = z at e0 e1 ⊢
  have key := point m c t ⟨(y 0).val, (y 0).isLt⟩ ⟨(y 1).val, (y 1).isLt⟩ z e0 e1
  unfold outsAt0
  exact (congrFun (out_eq c _ _ _ _ _ _ _ _ _ _ _ _ _ _ _ _ _ _) y).trans key

/-- The two programs from equal arguments end with equal results. -/
theorem algebraic : Cert.algebraic_FfnIdeal_FfnRefIdeal (hFfnIdeal := Cert.FfnIdeal.Gen.facts)
    (hFfnRefIdeal := Cert.FfnRefIdeal.Gen.facts) := by
  intro m ρ m' ρ' _ hag
  refine ⟨fun c => spec (m ((c : Thread nD τ).loc main_arg0)) (m ((c : Thread nD τ).loc main_arg1)) (m ((c : Thread nD τ).loc main_arg2))
          (m ((c : Thread nD τ).loc main_arg3)) (m ((c : Thread nD τ).loc main_arg4)), ?_, ?_⟩
  · exact (θ_run _ _ _).mono (fun r h c => ⟨(h c).1.trans (final m c), (h c).2⟩) (Cert.FfnIdeal.Value.run_blocks m ρ)
  · refine (θ_run _ _ _).mono (fun r h c => ⟨(h c).1.trans ?_, (h c).2⟩) (Cert.FfnRefIdeal.Value.run m' ρ')
    refine (Cert.FfnRefIdeal.Read.val_main_v33_eq m' c).trans ?_
    rw [(hag c).1, (hag c).2.1, (hag c).2.2.1, (hag c).2.2.2.1, (hag c).2.2.2.2]
    exact ref_eq _ _ _ _ _

end Cert.Proof.Ffn

end
-- ==== Proof.Proj.lean ====
/-
  The combined projection of an attention layer: the array that the blocked kernel leaves is the reference's product.
-/
module

public import proofs.«01_k».proof.Defs
public import proofs.«01_k».proof.Proof.Gen.ProjIdeal.Value
public import proofs.«01_k».proof.Proof.Gen.ProjRefIdeal.Read
public import Idealize.ShloMosaic.Lib.Pipeline.ValueKit.Point
public import Idealize.ShloMosaic.Lib.Pointwise

@[expose] public section

set_option maxRecDepth 16384

noncomputable section

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg)

/-- Row block `t` is what point `t` reads of the activations. -/
theorem index_x : ∀ t : Fin cfg0.N, win0_0.index t = ![t.val, 0] :=
  (by decide +kernel : ∀ t : Fin grid0.N, win0_0.index t = ![t.val, 0])

/-- Every point reads the whole weight. -/
theorem index_w : ∀ t : Fin cfg0.N, win0_1.index t = ![0, 0] :=
  (by decide +kernel : ∀ t : Fin grid0.N, win0_1.index t = ![0, 0])

/-- Row block `t` is what point `t` writes. -/
theorem index_o : ∀ t : Fin cfg0.N, win0_2.index t = ![t.val, 0] :=
  (by decide +kernel : ∀ t : Fin grid0.N, win0_2.index t = ![t.val, 0])

/-- The activations as the kernel finds them: the argument's two leading axes merged. -/
theorem entry_x (c : Dev nD) : V m c main_v0 = shapeCast _ (m ((c : Thread nD τ).loc main_arg0)) shapeCasts_S8x2048x1024_S16384x1024 := by
  entry_read
  rfl

/-- The weight as the kernel finds it. -/
theorem entry_w (c : Dev nD) : V m c main_v1 = m ((c : Thread nD τ).loc main_arg1) := by
  entry_read
  rfl

/-- Row `i` of row block `t` of the activations. -/
theorem xblk (c : Dev nD) (t : Fin cfg0.N) (i : Fin 256) (k : Fin 1024) (p : Fin 8) (r : Fin 2048)
    (h : t.val * 256 + i.val = p.val * 2048 + r.val) :
    iblk m c 0 t (ix2 i k) = m ((c : Thread nD τ).loc main_arg0) (ix3 p r k) := by
  have e : (win0_0.blk t).view.emb (ix2 i k) = (ix2 ⟨p.val * 2048 + r.val, by omega⟩ k : S16384x1024.Idx) := by
    blk_ext [index_x t]
  blk_simp [iblk]
  rw [entry_x, e]
  refine shapeCast_apply _ _ _ (ix3 p r k) ?_
  rw [Shape.rowMajor_val_three, Shape.rowMajor_val_two]
  rfl

/-- The weight's block is the weight. -/
theorem wblk (c : Dev nD) (t : Fin cfg0.N) (k : Fin 1024) (j : Fin 9216) :
    iblk m c 1 t (ix2 k j) = m ((c : Thread nD τ).loc main_arg1) (ix2 k j) := by
  have e : (win0_1.blk t).view.emb (ix2 k j) = (ix2 k j : S1024x9216.Idx) := by
    blk_ext [index_w t]
  blk_simp [iblk]
  rw [entry_w, e]

/-- The product at row `i`, column `j`. -/
def prod (x : S8x2048x1024.Idx → EReal) (w : S1024x9216.Idx → EReal) : S16384x9216.Idx → EReal :=
  fun y => ∑ k : Fin 1024, x (ix3 ⟨(y 0).val / 2048, by idx_bounds y; omega⟩ ⟨(y 0).val % 2048, by omega⟩ k) * w (ix2 k (y 1))

theorem ref_eq (x : S8x2048x1024.Idx → EReal) (w : S1024x9216.Idx → EReal) :
    Cert.ProjRefIdeal.Read.val_main_v1 (F := Ideal) x w = prod x w := by
  funext y
  idx_vars y
  pointwise [Cert.ProjRefIdeal.Read.val_main_v1, Cert.ProjRefIdeal.Read.val_main_v0, prod]

/-- What a block's row `i` and the weight's column `j` give is the product at the array's row and column. -/
theorem tile (x : S8x2048x1024.Idx → EReal) (w : S1024x9216.Idx → EReal) (x0 : S256x1024.Idx → EReal) (x1 : S1024x9216.Idx → EReal)
    (t : ℕ) (hx : ∀ (i : Fin 256) (k : Fin 1024) (p : Fin 8) (r : Fin 2048), t * 256 + i.val = p.val * 2048 + r.val → x0 (ix2 i k) = x (ix3 p r k))
    (hw : ∀ (k : Fin 1024) (j : Fin 9216), x1 (ix2 k j) = w (ix2 k j)) (i : Fin 256) (j : Fin 9216) (z : S16384x9216.Idx)
    (h0 : (z 0).val = t * 256 + i.val) (h1 : (z 1).val = j.val) :
    ∑ k : Fin 1024, x0 (ix2 i k) * x1 (ix2 k j) = prod x w z := by
  idx_vars z
  obtain rfl : z1 = j := Fin.ext h1
  have h0' : z0.val = t * 256 + i.val := h0
  have hz : z0.val < 16384 := z0.isLt
  refine Finset.sum_congr rfl fun k _ => ?_
  rw [hx i k ⟨z0.val / 2048, by omega⟩ ⟨z0.val % 2048, by omega⟩ (by simp only; omega), hw]
  rfl

set_option maxHeartbeats 1000000 in
/-- The array after the run is the product of the activations by the weight: nine column tiles of a row block each. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  have e0 : ((win0_2.blk t).view.emb y 0).val = t.val * 256 + (y 0).val := by blk_simp [index_o t]
  have e1 : ((win0_2.blk t).view.emb y 1).val = (y 1).val := by blk_simp [index_o t]
  generalize (win0_2.blk t).view.emb y = z at e0 e1 ⊢
  have key := tile _ _ _ _ t.val (xblk m c t) (wblk m c t) ⟨(y 0).val, (y 0).isLt⟩ ⟨(y 1).val, (y 1).isLt⟩ z e0 e1
  canon_tiles x h using Gen.cover0_2 ..
  all_goals
    open_payloads
    pointwise
    simp only [h0, h1] at key
    exact key

/-- The two programs from equal arguments end with equal results. -/
theorem algebraic : Cert.algebraic_ProjIdeal_ProjRefIdeal (hProjIdeal := Cert.ProjIdeal.Gen.facts)
    (hProjRefIdeal := Cert.ProjRefIdeal.Gen.facts) := by
  intro m ρ m' ρ' _ hag
  refine ⟨fun c => prod (m ((c : Thread nD τ).loc main_arg0)) (m ((c : Thread nD τ).loc main_arg1)), ?_, ?_⟩
  · exact (θ_run _ _ _).mono (fun r h c => ⟨(h c).1.trans (final m c), (h c).2⟩) (Cert.ProjIdeal.Value.run_blocks m ρ)
  · refine (θ_run _ _ _).mono (fun r h c => ⟨(h c).1.trans ?_, (h c).2⟩) (Cert.ProjRefIdeal.Value.run m' ρ')
    rw [(hag c).1, (hag c).2]
    exact ref_eq _ _

end Cert.Proof.Proj

end
-- ==== Proof.Out.lean ====
/-
  The output projection of a DeltaNet layer with its residual and layer norm: the blocked kernel's array is the reference's.
-/
module

public import proofs.«01_k».proof.Defs
public import proofs.«01_k».proof.Proof.PostNorm
public import proofs.«01_k».proof.Proof.Gen.OutIdeal.Value
public import proofs.«01_k».proof.Proof.Gen.OutRefIdeal.Read
public import Idealize.ShloMosaic.Lib.Pipeline.ValueKit.Point
public import Idealize.ShloMosaic.Lib.Pointwise

@[expose] public section

set_option maxRecDepth 16384

noncomputable section

namespace Cert.Proof.Out

open Idealize.ShloMosaic Idealize.ShloMosaic.TcCoe Idealize.SL.Sem
open Cert.OutIdeal Cert.OutIdeal.Gen

/-- The result at a row and a column: the post-norm of the row's residual and its projection. -/
def spec (a : S16384x2048.Idx → EReal) (w : S2048x1024.Idx → EReal) (x : S8x2048x1024.Idx → EReal) (g b : S1024.Idx → EReal)
    (y : S16384x1024.Idx) : EReal :=
  postNorm (fun k => x (ix3 ⟨(y 0).val / 2048, by idx_bounds y; omega⟩ ⟨(y 0).val % 2048, by omega⟩ k))
    (fun k => ∑ q : Fin 2048, a (ix2 (y 0) q) * w (ix2 q k)) (fun k => g (ix1 k)) (fun k => b (ix1 k)) (y 1)

/-- The body's payload at a row and a column of the block. -/
theorem pay (v0 : Vec Ideal S1024x2048 .bf16) (v1 : Vec Ideal S2048x1024 .bf16) (v4 : Vec Ideal S1024x1024 .f32)
    (v9 v11 : Vec Ideal S1x1024 .f32) (i j : Fin 1024) :
    k0_pay1 (F := Ideal) v0 v1 v4 v9 v11 (ix2 i j)
      = postNorm (fun k => v4 (ix2 i k)) (fun k => ∑ q : Fin 2048, v0 (ix2 i q) * v1 (ix2 q k)) (fun k => v9 (ix2 0 k))
          (fun k => v11 (ix2 0 k)) j := by
  pointwise [k0_pay1]
  rfl

section
open Cert.OutRefIdeal.Read

/-- The reference's result is the specification. -/
theorem ref_eq (a : Vec Ideal S16384x2048 .bf16) (w : Vec Ideal S2048x1024 .f32) (x : Vec Ideal S8x2048x1024 .f32) (g b : Vec Ideal S1024 .f32) :
    val_main_v30 (F := Ideal) a w x g b = spec a w x g b := by
  funext y
  idx_vars y
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4]
  rfl
end

variable (m : (ℓ : Loc nD τ sig) → Buf (Elt Ideal) ℓ) (ρ : Dev nD → PrngReg)

/-- Row block `t` is what point `t` reads of the branch's input. -/
theorem index_a : ∀ t : Fin cfg0.N, win0_0.index t = ![t.val, 0] :=
  (by decide +kernel : ∀ t : Fin grid0.N, win0_0.index t = ![t.val, 0])

/-- Every point reads the whole weight. -/
theorem index_w : ∀ t : Fin cfg0.N, win0_1.index t = ![0, 0] :=
  (by decide +kernel : ∀ t : Fin grid0.N, win0_1.index t = ![0, 0])

/-- Row block `t` is what point `t` reads of the residual. -/
theorem index_x : ∀ t : Fin cfg0.N, win0_2.index t = ![t.val, 0] :=
  (by decide +kernel : ∀ t : Fin grid0.N, win0_2.index t = ![t.val, 0])

/-- Every point reads the whole gain. -/
theorem index_g : ∀ t : Fin cfg0.N, win0_3.index t = ![0, 0] :=
  (by decide +kernel : ∀ t : Fin grid0.N, win0_3.index t = ![0, 0])

/-- Every point reads the whole shift. -/
theorem index_b : ∀ t : Fin cfg0.N, win0_4.index t = ![0, 0] :=
  (by decide +kernel : ∀ t : Fin grid0.N, win0_4.index t = ![0, 0])

/-- Row block `t` is what point `t` writes. -/
theorem index_o : ∀ t : Fin cfg0.N, win0_5.index t = ![t.val, 0] :=
  (by decide +kernel : ∀ t : Fin grid0.N, win0_5.index t = ![t.val, 0])

/-- The weight as the kernel finds it. -/
theorem entry_w (c : Dev nD) : V m c main_v0 = m ((c : Thread nD τ).loc main_arg1) := by
  entry_read
  rfl

/-- The residual as the kernel finds it: the argument's two leading axes merged. -/
theorem entry_x (c : Dev nD) : V m c main_v1 = shapeCast _ (m ((c : Thread nD τ).loc main_arg2)) shapeCasts_S8x2048x1024_S16384x1024 := by
  entry_read
  rfl

/-- The gain as the kernel finds it: one row. -/
theorem entry_g (c : Dev nD) : V m c main_v2 = broadcastInDim S1x1024 ![1] bcast_S1024_S1x1024_1 (m ((c : Thread nD τ).loc main_arg3)) := by
  entry_read
  rfl

/-- The shift as the kernel finds it: one row. -/
theorem entry_b (c : Dev nD) : V m c main_v3 = broadcastInDim S1x1024 ![1] bcast_S1024_S1x1024_1 (m ((c : Thread nD τ).loc main_arg4)) := by
  entry_read
  rfl

/-- Row `i` of row block `t` of the branch's input. -/
theorem ablk (c : Dev nD) (t : Fin cfg0.N) (i : Fin 1024) (k : Fin 2048) (r : Fin 16384) (h : t.val * 1024 + i.val = r.val) :
    iblk m c 0 t (ix2 i k) = m ((c : Thread nD τ).loc main_arg0) (ix2 r k) := by
  have e : (win0_0.blk t).view.emb (ix2 i k) = (ix2 r k : S16384x2048.Idx) := by
    blk_ext [index_a t]
  blk_simp [iblk]
  rw [V_main_arg0, e]

/-- The weight's block is the weight. -/
theorem wblk (c : Dev nD) (t : Fin cfg0.N) (k : Fin 2048) (j : Fin 1024) :
    iblk m c 1 t (ix2 k j) = m ((c : Thread nD τ).loc main_arg1) (ix2 k j) := by
  have e : (win0_1.blk t).view.emb (ix2 k j) = (ix2 k j : S2048x1024.Idx) := by
    blk_ext [index_w t]
  blk_simp [iblk]
  rw [entry_w, e]

/-- Row `i` of row block `t` of the residual. -/
theorem xblk (c : Dev nD) (t : Fin cfg0.N) (i : Fin 1024) (k : Fin 1024) (p : Fin 8) (r : Fin 2048)
    (h : t.val * 1024 + i.val = p.val * 2048 + r.val) :
    iblk m c 2 t (ix2 i k) = m ((c : Thread nD τ).loc main_arg2) (ix3 p r k) := by
  have e : (win0_2.blk t).view.emb (ix2 i k) = (ix2 ⟨p.val * 2048 + r.val, by omega⟩ k : S16384x1024.Idx) := by
    blk_ext [index_x t]
  blk_simp [iblk]
  rw [entry_x, e]
  refine shapeCast_apply _ _ _ (ix3 p r k) ?_
  rw [Shape.rowMajor_val_three, Shape.rowMajor_val_two]
  rfl

/-- The gain's block is the gain. -/
theorem gblk (c : Dev nD) (t : Fin cfg0.N) (j : Fin 1024) :
    iblk m c 3 t (ix2 0 j) = m ((c : Thread nD τ).loc main_arg3) (ix1 j) := by
  have e : (win0_3.blk t).view.emb (ix2 0 j) = (ix2 0 j : S1x1024.Idx) := by
    blk_ext [index_g t]
  blk_simp [iblk]
  rw [entry_g, e]
  pointwise

/-- The shift's block is the shift. -/
theorem bblk (c : Dev nD) (t : Fin cfg0.N) (j : Fin 1024) :
    iblk m c 4 t (ix2 0 j) = m ((c : Thread nD τ).loc main_arg4) (ix1 j) := by
  have e : (win0_4.blk t).view.emb (ix2 0 j) = (ix2 0 j : S1x1024.Idx) := by
    blk_ext [index_b t]
  blk_simp [iblk]
  rw [entry_b, e]
  pointwise

/-- What a body leaves at a row and a column of its block is the specification at the array's row and column. -/
theorem point (c : Dev nD) (t : Fin cfg0.N) (i j : Fin 1024) (z : S16384x1024.Idx)
    (h0 : (z 0).val = t.val * 1024 + i.val) (h1 : (z 1).val = j.val) :
    k0_pay1 (F := Ideal) (iblk m c 0 t) (iblk m c 1 t) (iblk m c 2 t) (iblk m c 3 t) (iblk m c 4 t) (ix2 i j)
      = spec (m ((c : Thread nD τ).loc main_arg0)) (m ((c : Thread nD τ).loc main_arg1)) (m ((c : Thread nD τ).loc main_arg2))
          (m ((c : Thread nD τ).loc main_arg3)) (m ((c : Thread nD τ).loc main_arg4)) z := by
  idx_vars z
  obtain rfl : z1 = j := Fin.ext h1
  have h0' : z0.val = t.val * 1024 + i.val := h0
  have hz : z0.val < 16384 := z0.isLt
  have hx : ∀ k, iblk m c 2 t (ix2 i k) = m ((c : Thread nD τ).loc main_arg2) (ix3 ⟨z0.val / 2048, by omega⟩ ⟨z0.val % 2048, by omega⟩ k) :=
    fun k => xblk m c t i k _ _ (by simp only; omega)
  have ha : ∀ k, iblk m c 0 t (ix2 i k) = m ((c : Thread nD τ).loc main_arg0) (ix2 z0 k) := fun k => ablk m c t i k z0 h0'.symm
  refine (pay _ _ _ _ _ _ _).trans ?_
  unfold spec
  rw [funext hx, funext (gblk m c t), funext (bblk m c t)]
  congr 1
  funext k
  exact Finset.sum_congr rfl fun q _ => congrArg₂ (· * ·) (ha q) (wblk m c t q k)

/-- The body reads and writes whole buffers: what it leaves is its payload. -/
theorem out_eq (x0 : Vec Ideal S1024x2048 .bf16) (x1 : Vec Ideal S2048x1024 .bf16) (x2 : Vec Ideal S1024x1024 .f32)
    (x3 x4 : Vec Ideal S1x1024 .f32) : out0_5 (F := Ideal) x0 x1 x2 x3 x4 = k0_pay1 x0 x1 x2 x3 x4 := by
  have h0 : (![0, 0] : Fin S1024x2048.rank → Nat) = fun _ => 0 := funext fun a => by fin_cases a <;> rfl
  have h1 : (![0, 0] : Fin S2048x1024.rank → Nat) = fun _ => 0 := funext fun a => by fin_cases a <;> rfl
  have h2 : (![0, 0] : Fin S1024x1024.rank → Nat) = fun _ => 0 := funext fun a => by fin_cases a <;> rfl
  have h3 : (![0, 0] : Fin S1x1024.rank → Nat) = fun _ => 0 := funext fun a => by fin_cases a <;> rfl
  unfold out0_5
  rw [View.canon_unit_zero h2, View.ld_unit_zero h0, View.ld_unit_zero h1, View.ld_unit_zero h2, View.ld_unit_zero h3, View.ld_unit_zero h3]

/-- … at an index's coordinates. -/
theorem out_at (x0 : Vec Ideal S1024x2048 .bf16) (x1 : Vec Ideal S2048x1024 .bf16) (x2 : Vec Ideal S1024x1024 .f32)
    (x3 x4 : Vec Ideal S1x1024 .f32) (y : S1024x1024.Idx) :
    out0_5 (F := Ideal) x0 x1 x2 x3 x4 y = k0_pay1 x0 x1 x2 x3 x4 (ix2 (y 0) (y 1)) :=
  (congrFun (out_eq x0 x1 x2 x3 x4) y).trans (congrArg (k0_pay1 x0 x1 x2 x3 x4) (eq_ix2 y))

/-- The array after the run is the specification. -/
theorem final (c : Dev nD) : (dats m 0 c).arrAt 5 cfg0.N
    = spec (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  have e0 : ((win0_5.blk t).view.emb y 0).val = t.val * 1024 + (y 0).val := by blk_simp [index_o t]
  have e1 : ((win0_5.blk t).view.emb y 1).val = (y 1).val := by blk_simp [index_o t]
  generalize (win0_5.blk t).view.emb y = z at e0 e1 ⊢
  have key := point m c t ⟨(y 0).val, (y 0).isLt⟩ ⟨(y 1).val, (y 1).isLt⟩ z e0 e1
  exact (out_at _ _ _ _ _ y).trans key

/-- The two programs from equal arguments end with equal results. -/
theorem algebraic : Cert.algebraic_OutIdeal_OutRefIdeal (hOutIdeal := Cert.OutIdeal.Gen.facts)
    (hOutRefIdeal := Cert.OutRefIdeal.Gen.facts) := by
  intro m ρ m' ρ' _ hag
  refine ⟨fun c => spec (m ((c : Thread nD τ).loc main_arg0)) (m ((c : Thread nD τ).loc main_arg1)) (m ((c : Thread nD τ).loc main_arg2))
          (m ((c : Thread nD τ).loc main_arg3)) (m ((c : Thread nD τ).loc main_arg4)), ?_, ?_⟩
  · exact (θ_run _ _ _).mono (fun r h c => ⟨(h c).1.trans (final m c), (h c).2⟩) (Cert.OutIdeal.Value.run_blocks m ρ)
  · refine (θ_run _ _ _).mono (fun r h c => ⟨(h c).1.trans ?_, (h c).2⟩) (Cert.OutRefIdeal.Value.run m' ρ')
    refine (Cert.OutRefIdeal.Read.val_main_v30_eq m' c).trans ?_
    rw [(hag c).1, (hag c).2.1, (hag c).2.2.1, (hag c).2.2.2.1, (hag c).2.2.2.2]
    exact ref_eq _ _ _ _ _

end Cert.Proof.Out

end
-- ==== Proof.lean ====
module

public import proofs.«01_k».proof.Defs
public import proofs.«01_k».proof.Proof.Gen.Gdn.Frame
public import proofs.«01_k».proof.Proof.Gen.GdnIdeal.Value
public import proofs.«01_k».proof.Proof.Gen.GdnRefIdeal.Read
public import proofs.«01_k».proof.Proof.Gen.Ffn.Frame
public import proofs.«01_k».proof.Proof.Gen.FfnIdeal.Value
public import proofs.«01_k».proof.Proof.Gen.FfnRefIdeal.Read
public import proofs.«01_k».proof.Proof.Gen.Proj.Frame
public import proofs.«01_k».proof.Proof.Gen.ProjIdeal.Value
public import proofs.«01_k».proof.Proof.Gen.ProjRefIdeal.Read
public import proofs.«01_k».proof.Proof.Gen.Out.Frame
public import proofs.«01_k».proof.Proof.Gen.OutIdeal.Value
public import proofs.«01_k».proof.Proof.Gen.OutRefIdeal.Read
public import proofs.«01_k».proof.Proof.Gen.Zproj.Frame
public import proofs.«01_k».proof.Proof.Gen.ZprojIdeal.Value
public import proofs.«01_k».proof.Proof.Gen.ZprojRefIdeal.Read
public import proofs.«01_k».proof.Proof.Gen.Merge.Frame
public import proofs.«01_k».proof.Proof.Gen.MergeIdeal.Value
public import proofs.«01_k».proof.Proof.Gen.MergeRefIdeal.Read
public import proofs.«01_k».proof.Proof.Gen.Wina.Frame
public import proofs.«01_k».proof.Proof.Gen.WinaIdeal.Value
public import proofs.«01_k».proof.Proof.Gen.WinaRefIdeal.Read
public import proofs.«01_k».proof.Proof.Wina
public import proofs.«01_k».proof.Proof.Gen.Winb.Frame
public import proofs.«01_k».proof.Proof.Gen.WinbIdeal.Value
public import proofs.«01_k».proof.Proof.Gen.WinbRefIdeal.Read
public import proofs.«01_k».proof.Proof.Winb
public import proofs.«01_k».proof.Proof.Gen.Winc.Frame
public import proofs.«01_k».proof.Proof.Gen.WincIdeal.Value
public import proofs.«01_k».proof.Proof.Gen.WincRefIdeal.Read
public import proofs.«01_k».proof.Proof.Winc
public import proofs.«01_k».proof.Proof.Gen.Swa.Frame
public import proofs.«01_k».proof.Proof.Gen.SwaIdeal.Value
public import proofs.«01_k».proof.Proof.Gen.SwaRefIdeal.Read
public import proofs.«01_k».proof.Proof.Swa
public import proofs.«01_k».proof.Proof.Gdn
public import proofs.«01_k».proof.Proof.Zproj
public import proofs.«01_k».proof.Proof.Merge
public import proofs.«01_k».proof.Proof.Ffn
public import proofs.«01_k».proof.Proof.Proj
public import proofs.«01_k».proof.Proof.Out

@[expose] public section

noncomputable section

namespace Cert.Proof

open Idealize.ShloMosaic Idealize.SL.Sem

theorem claim : Cert.Claim :=
  ⟨Cert.Gdn.Gen.facts, Cert.GdnIdeal.Gen.facts, Cert.GdnRefIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Zproj.Gen.facts, Cert.ZprojIdeal.Gen.facts, Cert.ZprojRefIdeal.Gen.facts, Cert.Merge.Gen.facts, Cert.MergeIdeal.Gen.facts, Cert.MergeRefIdeal.Gen.facts, Cert.Wina.Gen.facts, Cert.WinaIdeal.Gen.facts, Cert.WinaRefIdeal.Gen.facts, Cert.Winb.Gen.facts, Cert.WinbIdeal.Gen.facts, Cert.WinbRefIdeal.Gen.facts, Cert.Winc.Gen.facts, Cert.WincIdeal.Gen.facts, Cert.WincRefIdeal.Gen.facts, Cert.Swa.Gen.facts, Cert.SwaIdeal.Gen.facts, Cert.SwaRefIdeal.Gen.facts, Swa.preFacts,
    fun m ρ _ => Cert.Gdn.Gen.frame m ρ,
    fun m ρ _ => Cert.GdnIdeal.Gen.frame m ρ,
    fun m ρ _ => (θ_run _ _ _).mono (fun r h => ⟨fun c => (h c).2.2, sem_eq_zero_of_no_sems rfl _⟩) (Cert.GdnRefIdeal.Value.run m ρ),
    fun m ρ _ => Cert.Ffn.Gen.frame m ρ,
    fun m ρ _ => Cert.FfnIdeal.Gen.frame m ρ,
    fun m ρ _ => (θ_run _ _ _).mono (fun r h => ⟨fun c => (h c).2, sem_eq_zero_of_no_sems rfl _⟩) (Cert.FfnRefIdeal.Value.run m ρ),
    fun m ρ _ => Cert.Proj.Gen.frame m ρ,
    fun m ρ _ => Cert.ProjIdeal.Gen.frame m ρ,
    fun m ρ _ => (θ_run _ _ _).mono (fun r h => ⟨fun c => (h c).2, sem_eq_zero_of_no_sems rfl _⟩) (Cert.ProjRefIdeal.Value.run m ρ),
    fun m ρ _ => Cert.Out.Gen.frame m ρ,
    fun m ρ _ => Cert.OutIdeal.Gen.frame m ρ,
    fun m ρ _ => (θ_run _ _ _).mono (fun r h => ⟨fun c => (h c).2, sem_eq_zero_of_no_sems rfl _⟩) (Cert.OutRefIdeal.Value.run m ρ),
    fun m ρ _ => Cert.Zproj.Gen.frame m ρ,
    fun m ρ _ => Cert.ZprojIdeal.Gen.frame m ρ,
    fun m ρ _ => (θ_run _ _ _).mono (fun r h => ⟨fun c => (h c).2, sem_eq_zero_of_no_sems rfl _⟩) (Cert.ZprojRefIdeal.Value.run m ρ),
    fun m ρ _ => Cert.Merge.Gen.frame m ρ,
    fun m ρ _ => Cert.MergeIdeal.Gen.frame m ρ,
    fun m ρ _ => (θ_run _ _ _).mono (fun r h => ⟨fun c => (h c).2, sem_eq_zero_of_no_sems rfl _⟩) (Cert.MergeRefIdeal.Value.run m ρ),
    fun m ρ _ => Cert.Wina.Gen.frame m ρ,
    fun m ρ _ => Cert.WinaIdeal.Gen.frame m ρ,
    fun m ρ _ => (θ_run _ _ _).mono (fun r h => ⟨fun c => (h c).2, sem_eq_zero_of_no_sems rfl _⟩) (Cert.WinaRefIdeal.Value.run m ρ),
    fun m ρ _ => Cert.Winb.Gen.frame m ρ,
    fun m ρ _ => Cert.WinbIdeal.Gen.frame m ρ,
    fun m ρ _ => (θ_run _ _ _).mono (fun r h => ⟨fun c => (h c).2, sem_eq_zero_of_no_sems rfl _⟩) (Cert.WinbRefIdeal.Value.run m ρ),
    fun m ρ _ => Cert.Winc.Gen.frame m ρ,
    fun m ρ _ => Cert.WincIdeal.Gen.frame m ρ,
    fun m ρ _ => (θ_run _ _ _).mono (fun r h => ⟨fun c => (h c).2, sem_eq_zero_of_no_sems rfl _⟩) (Cert.WincRefIdeal.Value.run m ρ),
    fun m ρ _ => Cert.Swa.Gen.frame m ρ,
    fun m ρ _ => Cert.SwaIdeal.Gen.frame m ρ,
    fun m ρ _ => Cert.SwaIdeal.Gen.frame m ρ,
    fun m ρ _ => (θ_run _ _ _).mono (fun r h => ⟨fun c => (h c).2, sem_eq_zero_of_no_sems rfl _⟩) (Cert.SwaRefIdeal.Value.run m ρ),
    fun m ρ _ => (θ_run _ _ _).mono (fun r h => ⟨fun c => (h c).2, sem_eq_zero_of_no_sems rfl _⟩) (Cert.SwaRefIdeal.Value.run m ρ),
    trivial, Gdn.algebraic,
    trivial, Ffn.algebraic,
    trivial, Proj.algebraic,
    trivial, Out.algebraic,
    trivial, Zproj.algebraic,
    trivial, Merge.algebraic,
    trivial, Wina.algebraic,
    trivial, Winb.algebraic,
    trivial, Winc.algebraic,
    trivial, Swa.algebraic⟩

end Cert.Proof

end
